-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_core4 : Cert.Pre_core4.Facts] (m : (ℓ : Loc Cert.Kernel4.nD Cert.Kernel4.τ Cert.Kernel4.sig) → Buf (Elt Bits) ℓ) : Prop :=
  ∀ c : Dev Cert.Kernel4.nD,
    (Cert.Pre_core4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2))) = (fun _ => 1#1)

def Pre_Kernel4Ideal [hPre_core4 : Cert.Pre_core4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_core4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_core4 [hPre_core4 : Cert.Pre_core4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_core4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 [hPre_core5 : Cert.Pre_core5.Facts] (m : (ℓ : Loc Cert.Kernel5.nD Cert.Kernel5.τ Cert.Kernel5.sig) → Buf (Elt Bits) ℓ) : Prop :=
  ∀ c : Dev Cert.Kernel5.nD,
    (Cert.Pre_core5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2))) = (fun _ => 1#1)

def Pre_Kernel5Ideal [hPre_core5 : Cert.Pre_core5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_core5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_core5 [hPre_core5 : Cert.Pre_core5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_core5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_core8 : Cert.Pre_core8.Facts] (m : (ℓ : Loc Cert.Kernel8.nD Cert.Kernel8.τ Cert.Kernel8.sig) → Buf (Elt Bits) ℓ) : Prop :=
  ∀ c : Dev Cert.Kernel8.nD,
    (Cert.Pre_core8.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3))) = (fun _ => 1#1)

def Pre_Kernel8Ideal [hPre_core8 : Cert.Pre_core8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_core8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_core8 [hPre_core8 : Cert.Pre_core8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_core8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 [hPre_core9 : Cert.Pre_core9.Facts] (m : (ℓ : Loc Cert.Kernel9.nD Cert.Kernel9.τ Cert.Kernel9.sig) → Buf (Elt Bits) ℓ) : Prop :=
  ∀ c : Dev Cert.Kernel9.nD,
    (Cert.Pre_core9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3))) = (fun _ => 1#1)

def Pre_Kernel9Ideal [hPre_core9 : Cert.Pre_core9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_core9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_core9 [hPre_core9 : Cert.Pre_core9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_core9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 [hPre_core14 : Cert.Pre_core14.Facts] (m : (ℓ : Loc Cert.Kernel14.nD Cert.Kernel14.τ Cert.Kernel14.sig) → Buf (Elt Bits) ℓ) : Prop :=
  ∀ c : Dev Cert.Kernel14.nD,
    (Cert.Pre_core14.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2))) = (fun _ => 1#1)

def Pre_Kernel14Ideal [hPre_core14 : Cert.Pre_core14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_core14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_core14 [hPre_core14 : Cert.Pre_core14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_core14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 [hPre_core15 : Cert.Pre_core15.Facts] (m : (ℓ : Loc Cert.Kernel15.nD Cert.Kernel15.τ Cert.Kernel15.sig) → Buf (Elt Bits) ℓ) : Prop :=
  ∀ c : Dev Cert.Kernel15.nD,
    (Cert.Pre_core15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3))) = (fun _ => 1#1)

def Pre_Kernel15Ideal [hPre_core15 : Cert.Pre_core15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_core15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_core15 [hPre_core15 : Cert.Pre_core15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_core15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 [hPre_core16 : Cert.Pre_core16.Facts] (m : (ℓ : Loc Cert.Kernel16.nD Cert.Kernel16.τ Cert.Kernel16.sig) → Buf (Elt Bits) ℓ) : Prop :=
  ∀ c : Dev Cert.Kernel16.nD,
    (Cert.Pre_core16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2))) = (fun _ => 1#1)

def Pre_Kernel16Ideal [hPre_core16 : Cert.Pre_core16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_core16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_core16 [hPre_core16 : Cert.Pre_core16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_core16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def Pre_Kernel17 [hPre_core17 : Cert.Pre_core17.Facts] (m : (ℓ : Loc Cert.Kernel17.nD Cert.Kernel17.τ Cert.Kernel17.sig) → Buf (Elt Bits) ℓ) : Prop :=
  ∀ c : Dev Cert.Kernel17.nD,
    (Cert.Pre_core17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3))) = (fun _ => 1#1)

def Pre_Kernel17Ideal [hPre_core17 : Cert.Pre_core17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_core17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_core17 [hPre_core17 : Cert.Pre_core17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_core17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_core4 : Cert.Pre_core4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] [hPre_core4 : Cert.Pre_core4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_core4 [hReference4Ideal : Cert.Reference4Ideal.Facts] [hPre_core4 : Cert.Pre_core4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_core4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] [hPre_core5 : Cert.Pre_core5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] [hPre_core5 : Cert.Pre_core5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_core5 [hReference5Ideal : Cert.Reference5Ideal.Facts] [hPre_core5 : Cert.Pre_core5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_core5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] [hPre_core8 : Cert.Pre_core8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] [hPre_core8 : Cert.Pre_core8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_core8 [hReference8Ideal : Cert.Reference8Ideal.Facts] [hPre_core8 : Cert.Pre_core8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_core8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] [hPre_core9 : Cert.Pre_core9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] [hPre_core9 : Cert.Pre_core9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_core9 [hReference9Ideal : Cert.Reference9Ideal.Facts] [hPre_core9 : Cert.Pre_core9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_core9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] [hPre_core14 : Cert.Pre_core14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] [hPre_core14 : Cert.Pre_core14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_core14 [hReference14Ideal : Cert.Reference14Ideal.Facts] [hPre_core14 : Cert.Pre_core14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_core14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] [hPre_core15 : Cert.Pre_core15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] [hPre_core15 : Cert.Pre_core15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_core15 [hReference15Ideal : Cert.Reference15Ideal.Facts] [hPre_core15 : Cert.Pre_core15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_core15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] [hPre_core16 : Cert.Pre_core16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] [hPre_core16 : Cert.Pre_core16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_core16 [hReference16Ideal : Cert.Reference16Ideal.Facts] [hPre_core16 : Cert.Pre_core16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_core16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] [hPre_core17 : Cert.Pre_core17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] [hPre_core17 : Cert.Pre_core17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_core17 [hReference17Ideal : Cert.Reference17Ideal.Facts] [hPre_core17 : Cert.Pre_core17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_core17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] [hPre_core4 : Cert.Pre_core4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] [hPre_core5 : Cert.Pre_core5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] [hPre_core8 : Cert.Pre_core8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] [hPre_core9 : Cert.Pre_core9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] [hPre_core14 : Cert.Pre_core14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] [hPre_core15 : Cert.Pre_core15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v13) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] [hPre_core16 : Cert.Pre_core16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] [hPre_core17 : Cert.Pre_core17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v35) = v1 c
          ∧ r.2.mem ((c.tc : Thread Cert.Reference24Ideal.nD Cert.Reference24Ideal.τ).loc Cert.Reference24Ideal.main_v17) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg1) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v28) = v0 c
          ∧ r.2.mem ((c.tc : Thread Cert.Reference26Ideal.nD Cert.Reference26Ideal.τ).loc Cert.Reference26Ideal.main_v9) = v1 c
          ∧ r.2.mem ((c.tc : Thread Cert.Reference26Ideal.nD Cert.Reference26Ideal.τ).loc Cert.Reference26Ideal.main_v15) = v2 c
          ∧ r.2.mem ((c.tc : Thread Cert.Reference26Ideal.nD Cert.Reference26Ideal.τ).loc Cert.Reference26Ideal.main_v33) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v5) = v1 c
          ∧ r.2.mem ((c.tc : Thread Cert.Reference27Ideal.nD Cert.Reference27Ideal.τ).loc Cert.Reference27Ideal.main_v11) = v2 c
          ∧ r.2.mem ((c.tc : Thread Cert.Reference27Ideal.nD Cert.Reference27Ideal.τ).loc Cert.Reference27Ideal.main_v25) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v28) = v0 c
          ∧ r.2.mem ((c.tc : Thread Cert.Reference28Ideal.nD Cert.Reference28Ideal.τ).loc Cert.Reference28Ideal.main_v9) = v1 c
          ∧ r.2.mem ((c.tc : Thread Cert.Reference28Ideal.nD Cert.Reference28Ideal.τ).loc Cert.Reference28Ideal.main_v15) = v2 c
          ∧ r.2.mem ((c.tc : Thread Cert.Reference28Ideal.nD Cert.Reference28Ideal.τ).loc Cert.Reference28Ideal.main_v33) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg1) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg1) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v28) = v0 c
          ∧ r.2.mem ((c.tc : Thread Cert.Reference31Ideal.nD Cert.Reference31Ideal.τ).loc Cert.Reference31Ideal.main_v9) = v1 c
          ∧ r.2.mem ((c.tc : Thread Cert.Reference31Ideal.nD Cert.Reference31Ideal.τ).loc Cert.Reference31Ideal.main_v15) = v2 c
          ∧ r.2.mem ((c.tc : Thread Cert.Reference31Ideal.nD Cert.Reference31Ideal.τ).loc Cert.Reference31Ideal.main_v33) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg1) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v34) = v0 c
          ∧ r.2.mem ((c.tc : Thread Cert.Reference33Ideal.nD Cert.Reference33Ideal.τ).loc Cert.Reference33Ideal.main_v17) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts) (hPre_core4 : Cert.Pre_core4.Facts) (hPre_core5 : Cert.Pre_core5.Facts) (hPre_core8 : Cert.Pre_core8.Facts) (hPre_core9 : Cert.Pre_core9.Facts) (hPre_core14 : Cert.Pre_core14.Facts) (hPre_core15 : Cert.Pre_core15.Facts) (hPre_core16 : Cert.Pre_core16.Facts) (hPre_core17 : Cert.Pre_core17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_core4 := hPre_core4)
    ∧ quiescent_Kernel4Ideal (hKernel4Ideal := hKernel4Ideal) (hPre_core4 := hPre_core4)
    ∧ quiescent_Reference4Ideal (hReference4Ideal := hReference4Ideal)
    ∧ quiescent_Reference4Ideal_pre_core4 (hReference4Ideal := hReference4Ideal) (hPre_core4 := hPre_core4)
    ∧ quiescent_Kernel5 (hKernel5 := hKernel5) (hPre_core5 := hPre_core5)
    ∧ quiescent_Kernel5Ideal (hKernel5Ideal := hKernel5Ideal) (hPre_core5 := hPre_core5)
    ∧ quiescent_Reference5Ideal (hReference5Ideal := hReference5Ideal)
    ∧ quiescent_Reference5Ideal_pre_core5 (hReference5Ideal := hReference5Ideal) (hPre_core5 := hPre_core5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_core8 := hPre_core8)
    ∧ quiescent_Kernel8Ideal (hKernel8Ideal := hKernel8Ideal) (hPre_core8 := hPre_core8)
    ∧ quiescent_Reference8Ideal (hReference8Ideal := hReference8Ideal)
    ∧ quiescent_Reference8Ideal_pre_core8 (hReference8Ideal := hReference8Ideal) (hPre_core8 := hPre_core8)
    ∧ quiescent_Kernel9 (hKernel9 := hKernel9) (hPre_core9 := hPre_core9)
    ∧ quiescent_Kernel9Ideal (hKernel9Ideal := hKernel9Ideal) (hPre_core9 := hPre_core9)
    ∧ quiescent_Reference9Ideal (hReference9Ideal := hReference9Ideal)
    ∧ quiescent_Reference9Ideal_pre_core9 (hReference9Ideal := hReference9Ideal) (hPre_core9 := hPre_core9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14) (hPre_core14 := hPre_core14)
    ∧ quiescent_Kernel14Ideal (hKernel14Ideal := hKernel14Ideal) (hPre_core14 := hPre_core14)
    ∧ quiescent_Reference14Ideal (hReference14Ideal := hReference14Ideal)
    ∧ quiescent_Reference14Ideal_pre_core14 (hReference14Ideal := hReference14Ideal) (hPre_core14 := hPre_core14)
    ∧ quiescent_Kernel15 (hKernel15 := hKernel15) (hPre_core15 := hPre_core15)
    ∧ quiescent_Kernel15Ideal (hKernel15Ideal := hKernel15Ideal) (hPre_core15 := hPre_core15)
    ∧ quiescent_Reference15Ideal (hReference15Ideal := hReference15Ideal)
    ∧ quiescent_Reference15Ideal_pre_core15 (hReference15Ideal := hReference15Ideal) (hPre_core15 := hPre_core15)
    ∧ quiescent_Kernel16 (hKernel16 := hKernel16) (hPre_core16 := hPre_core16)
    ∧ quiescent_Kernel16Ideal (hKernel16Ideal := hKernel16Ideal) (hPre_core16 := hPre_core16)
    ∧ quiescent_Reference16Ideal (hReference16Ideal := hReference16Ideal)
    ∧ quiescent_Reference16Ideal_pre_core16 (hReference16Ideal := hReference16Ideal) (hPre_core16 := hPre_core16)
    ∧ quiescent_Kernel17 (hKernel17 := hKernel17) (hPre_core17 := hPre_core17)
    ∧ quiescent_Kernel17Ideal (hKernel17Ideal := hKernel17Ideal) (hPre_core17 := hPre_core17)
    ∧ quiescent_Reference17Ideal (hReference17Ideal := hReference17Ideal)
    ∧ quiescent_Reference17Ideal_pre_core17 (hReference17Ideal := hReference17Ideal) (hPre_core17 := hPre_core17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_core4 := hPre_core4)
    ∧ preserves_Kernel5_Kernel5Ideal
    ∧ algebraic_Kernel5Ideal_Reference5Ideal (hKernel5Ideal := hKernel5Ideal) (hReference5Ideal := hReference5Ideal) (hPre_core5 := hPre_core5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_core8 := hPre_core8)
    ∧ preserves_Kernel9_Kernel9Ideal
    ∧ algebraic_Kernel9Ideal_Reference9Ideal (hKernel9Ideal := hKernel9Ideal) (hReference9Ideal := hReference9Ideal) (hPre_core9 := hPre_core9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal) (hPre_core14 := hPre_core14)
    ∧ preserves_Kernel15_Kernel15Ideal
    ∧ algebraic_Kernel15Ideal_Reference15Ideal (hKernel15Ideal := hKernel15Ideal) (hReference15Ideal := hReference15Ideal) (hPre_core15 := hPre_core15)
    ∧ preserves_Kernel16_Kernel16Ideal
    ∧ algebraic_Kernel16Ideal_Reference16Ideal (hKernel16Ideal := hKernel16Ideal) (hReference16Ideal := hReference16Ideal) (hPre_core16 := hPre_core16)
    ∧ preserves_Kernel17_Kernel17Ideal
    ∧ algebraic_Kernel17Ideal_Reference17Ideal (hKernel17Ideal := hKernel17Ideal) (hReference17Ideal := hReference17Ideal) (hPre_core17 := hPre_core17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_core14.lean ====
abbrev S1 : Shape := ⟨1, ![1]⟩
abbrev S2048x2048 : Shape := ⟨2, ![2048, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2048x2048 .bf16) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core15.lean ====
abbrev S1 : Shape := ⟨1, ![1]⟩
abbrev S2048x2048 : Shape := ⟨2, ![2048, 2048]⟩
abbrev S4x512x1024 : Shape := ⟨3, ![4, 512, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2048x2048 .bf16) (main_arg3 : FVec F S4x512x1024 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core16.lean ====
abbrev S1 : Shape := ⟨1, ![1]⟩
abbrev S2048x2048 : Shape := ⟨2, ![2048, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2048x2048 .bf16) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core17.lean ====
abbrev S1 : Shape := ⟨1, ![1]⟩
abbrev S2048x2048 : Shape := ⟨2, ![2048, 2048]⟩
abbrev S4x1024x512 : Shape := ⟨3, ![4, 1024, 512]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2048x2048 .bf16) (main_arg3 : FVec F S4x1024x512 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core4.lean ====
abbrev S1 : Shape := ⟨1, ![1]⟩
abbrev S2048x5632 : Shape := ⟨2, ![2048, 5632]⟩
abbrev S2048x2048 : Shape := ⟨2, ![2048, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x5632 .bf16) (main_arg2 : FVec F S2048x2048 .bf16) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core5.lean ====
abbrev S1 : Shape := ⟨1, ![1]⟩
abbrev S2048x2048 : Shape := ⟨2, ![2048, 2048]⟩
abbrev S2x2048x5632 : Shape := ⟨3, ![2, 2048, 5632]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2x2048x5632 .bf16) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core8.lean ====
abbrev S1 : Shape := ⟨1, ![1]⟩
abbrev S2048x5632 : Shape := ⟨2, ![2048, 5632]⟩
abbrev S2048x2048 : Shape := ⟨2, ![2048, 2048]⟩
abbrev S4x1408x1024 : Shape := ⟨3, ![4, 1408, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x5632 .bf16) (main_arg2 : FVec F S2048x2048 .bf16) (main_arg3 : FVec F S4x1408x1024 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core9.lean ====
abbrev S1 : Shape := ⟨1, ![1]⟩
abbrev S2048x2048 : Shape := ⟨2, ![2048, 2048]⟩
abbrev S2x2048x5632 : Shape := ⟨3, ![2, 2048, 5632]⟩
abbrev S4x1024x2816 : Shape := ⟨3, ![4, 1024, 2816]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2048x2048 .bf16) (main_arg2 : FVec F S2x2048x5632 .bf16) (main_arg3 : FVec F S4x1024x2816 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_finite.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  main_v18

def fn {F : FTy → Type} [FloatOps F] (main_arg0 : FVec F S2048x11264 .f32) (main_arg1 : FVec F S3x11264 .f32) (main_arg2 : FVec F S11264 .f32) (main_arg3 : FVec F S2048x5632 .f32) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S11264 .f32 := Host.absf main_arg2
  let main_cst_2 : FVec F S_ .f32 := constant S_ .f32 0x7F800000#32
  let main_v10 : FVec F S11264 .f32 := broadcastInDim S11264 ![] bcast_S_S11264 main_cst_2
  let main_v11 : IVec S11264 1 := cmpf .olt main_v9 main_v10
  let main_c_3 : IVec S_ 1 := constantI S_ 1 1#1
  let main_v12 : IVec S_ 1 := (fun x v => Host.reduce IntOp.andi x v reducesTo_S11264_S_d0 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_v13 main_v16
-- ==== Kernel.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩
abbrev S8x11264 : Shape := ⟨2, ![8, 11264]⟩
abbrev S1x11264 : Shape := ⟨2, ![1, 11264]⟩
abbrev S2x2048x5632 : Shape := ⟨3, ![2, 2048, 5632]⟩
abbrev S2x8x5632 : Shape := ⟨3, ![2, 8, 5632]⟩
abbrev S2x1x5632 : Shape := ⟨3, ![2, 1, 5632]⟩
abbrev S2048x512 : Shape := ⟨2, ![2048, 512]⟩
abbrev S8x512 : Shape := ⟨2, ![8, 512]⟩
abbrev S1x512 : Shape := ⟨2, ![1, 512]⟩
abbrev S2x2048x512 : Shape := ⟨3, ![2, 2048, 512]⟩
abbrev S2x8x512 : Shape := ⟨3, ![2, 8, 512]⟩
abbrev S2x1x512 : Shape := ⟨3, ![2, 1, 512]⟩
abbrev S8x128 : Shape := ⟨2, ![8, 128]⟩
abbrev S1x128 : Shape := ⟨2, ![1, 128]⟩
abbrev S512x128 : Shape := ⟨2, ![512, 128]⟩
abbrev S528x128 : Shape := ⟨2, ![528, 128]⟩
abbrev S520x128 : Shape := ⟨2, ![520, 128]⟩
abbrev S1x512x128 : Shape := ⟨3, ![1, 512, 128]⟩
abbrev S64x8x128 : Shape := ⟨3, ![64, 8, 128]⟩
abbrev S128 : Shape := ⟨1, ![128]⟩
abbrev S1x1x128 : Shape := ⟨3, ![1, 1, 128]⟩
abbrev S1x8x128 : Shape := ⟨3, ![1, 8, 128]⟩

abbrev nBuf : Space → Nat
  | .hbm => 11
  | .vmem => 20
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S2048x5632, .f32⟩
  | .hbm, ⟨4, _⟩ => ⟨S_, .i32⟩
  | .hbm, ⟨5, _⟩ => ⟨S_, .f32⟩
  | .hbm, ⟨6, _⟩ => ⟨S8x11264, .f32⟩
  | .hbm, ⟨7, _⟩ => ⟨S1x11264, .f32⟩
  | .hbm, ⟨8, _⟩ => ⟨S2x2048x5632, .bf16⟩
  | .hbm, ⟨9, _⟩ => ⟨S2x8x5632, .f32⟩
  | .hbm, ⟨10, _⟩ => ⟨S2x1x5632, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S2048x512, .f32⟩
  | .local _ .vmem, ⟨13, _⟩ => ⟨S2048x512, .f32⟩
  | .local _ .vmem, ⟨14, _⟩ => ⟨S2x2048x512, .bf16⟩
  | .local _ .vmem, ⟨15, _⟩ => ⟨S2x2048x512, .bf16⟩
  | .local _ .vmem, ⟨16, _⟩ => ⟨S2x8x512, .f32⟩
  | .local _ .vmem, ⟨17, _⟩ => ⟨S2x8x512, .f32⟩
  | .local _ .vmem, ⟨18, _⟩ => ⟨S2x1x512, .f32⟩
  | .local _ .vmem, ⟨19, _⟩ => ⟨S2x1x512, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c4_i32 : BitVec 32 := 4#32
  let v12 : BitVec 32 := Scalar.addi c0_i32 c4_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  v300
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  v303
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  let v304 : BitVec 32 := v303
  let v305 : Index := Scalar.indexCast v304
  let c0_167 : Index := 0#32
  ![v305.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let v311 : Index := Scalar.indexCast v301
  let c0_171 : Index := 0#32
  ![v311.toNat, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  v314
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  let v315 : BitVec 32 := v314
  let v316 : Index := Scalar.indexCast v315
  let c0_173 : Index := 0#32
  ![v316.toNat, 0]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let c8_i32_178 : BitVec 32 := 8#32
  let v328 : BitVec 32 := Scalar.subi v301 c8_i32_178
  let c0_i32_179 : BitVec 32 := 0#32
  let v329 : BitVec 32 := Scalar.maxsi v328 c0_i32_179
  v329
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let c512_i32_185 : BitVec 32 := 512#32
  let v339 : BitVec 32 := Scalar.addi v301 c512_i32_185
  let c2040_i32_186 : BitVec 32 := 2040#32
  let v340 : BitVec 32 := Scalar.minsi v339 c2040_i32_186
  v340
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let c512_i32_194 : BitVec 32 := 512#32
  let v356 : BitVec 32 := Scalar.addi v301 c512_i32_194
  let c2040_i32_195 : BitVec 32 := 2040#32
  let v357 : BitVec 32 := Scalar.minsi v356 c2040_i32_195
  v357
def k0_off4 (k0_t1 : Fin k0_t1_loop.trips) : Fin 3 → Nat :=
  let c0_202 : Index := 0#32
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let v420 : Index := Scalar.indexCast v301
  let c0_203 : Index := 0#32
  ![0, v420.toNat, 0]
def k0_off5 (k0_t1 : Fin k0_t1_loop.trips) : Fin 3 → Nat :=
  let c1_210 : Index := 1#32
  let c0_i32 : BitVec 32 := 0#32
  let c1_i32 : BitVec 32 := 1#32
  let arg11 : BitVec 32 := Scf.iv c0_i32 c1_i32 k0_t1
  let c512_i32 : BitVec 32 := 512#32
  let v300 : BitVec 32 := Scalar.muli arg11 c512_i32
  let v301 : BitVec 32 := v300
  let v460 : Index := Scalar.indexCast v301
  let c0_211 : Index := 0#32
  ![1, v460.toNat, 0]
@[reducible] def k0_t2_loop : Scf.Loop 32 :=
  let c0_i32_48 : BitVec 32 := 0#32
  let c4_i32_49 : BitVec 32 := 4#32
  let v87 : BitVec 32 := Scalar.addi c0_i32_48 c4_i32_49
  let c1_i32_50 : BitVec 32 := 1#32
  ⟨c0_i32_48, v87, c1_i32_50⟩
def k0_mult7 (k0_t2 : Fin k0_t2_loop.trips) : BitVec 32 :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  v300
def k0_mult8 (k0_t2 : Fin k0_t2_loop.trips) : BitVec 32 :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  v303
def k0_off6 (k0_t2 : Fin k0_t2_loop.trips) : Fin 2 → Nat :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  let v304 : BitVec 32 := v303
  let v305 : Index := Scalar.indexCast v304
  let c128_167 : Index := 128#32
  ![v305.toNat, 128]
def k0_off7 (k0_t2 : Fin k0_t2_loop.trips) : Fin 2 → Nat :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let v311 : Index := Scalar.indexCast v301
  let c128_171 : Index := 128#32
  ![v311.toNat, 128]
def k0_mult9 (k0_t2 : Fin k0_t2_loop.trips) : BitVec 32 :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  v314
def k0_off8 (k0_t2 : Fin k0_t2_loop.trips) : Fin 2 → Nat :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  let v315 : BitVec 32 := v314
  let v316 : Index := Scalar.indexCast v315
  let c128_173 : Index := 128#32
  ![v316.toNat, 128]
def k0_mult10 (k0_t2 : Fin k0_t2_loop.trips) : BitVec 32 :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let c8_i32_178 : BitVec 32 := 8#32
  let v328 : BitVec 32 := Scalar.subi v301 c8_i32_178
  let c0_i32_179 : BitVec 32 := 0#32
  let v329 : BitVec 32 := Scalar.maxsi v328 c0_i32_179
  v329
def k0_mult11 (k0_t2 : Fin k0_t2_loop.trips) : BitVec 32 :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let c512_i32_185 : BitVec 32 := 512#32
  let v339 : BitVec 32 := Scalar.addi v301 c512_i32_185
  let c2040_i32_186 : BitVec 32 := 2040#32
  let v340 : BitVec 32 := Scalar.minsi v339 c2040_i32_186
  v340
def k0_mult12 (k0_t2 : Fin k0_t2_loop.trips) : BitVec 32 :=
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let c512_i32_194 : BitVec 32 := 512#32
  let v356 : BitVec 32 := Scalar.addi v301 c512_i32_194
  let c2040_i32_195 : BitVec 32 := 2040#32
  let v357 : BitVec 32 := Scalar.minsi v356 c2040_i32_195
  v357
def k0_off9 (k0_t2 : Fin k0_t2_loop.trips) : Fin 3 → Nat :=
  let c0_202 : Index := 0#32
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let v420 : Index := Scalar.indexCast v301
  let c128_203 : Index := 128#32
  ![0, v420.toNat, 128]
def k0_off10 (k0_t2 : Fin k0_t2_loop.trips) : Fin 3 → Nat :=
  let c1_210 : Index := 1#32
  let c0_i32_48 : BitVec 32 := 0#32
  let c1_i32_50 : BitVec 32 := 1#32
  let arg11 : BitVec 32 := Scf.iv c0_i32_48 c1_i32_50 k0_t2
  let c512_i32 : BitVec 32 := 512#32
  let v300 : BitVec 32 := Scalar.muli arg11 c512_i32
  let v301 : BitVec 32 := v300
  let v460 : Index := Scalar.indexCast v301
  let c128_211 : Index := 128#32
  ![1, v460.toNat, 128]
@[reducible] def k0_t3_loop : Scf.Loop 32 :=
  let c0_i32_91 : BitVec 32 := 0#32
  let c4_i32_92 : BitVec 32 := 4#32
  let v162 : BitVec 32 := Scalar.addi c0_i32_91 c4_i32_92
  let c1_i32_93 : BitVec 32 := 1#32
  ⟨c0_i32_91, v162, c1_i32_93⟩
def k0_mult13 (k0_t3 : Fin k0_t3_loop.trips) : BitVec 32 :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  v300
def k0_mult14 (k0_t3 : Fin k0_t3_loop.trips) : BitVec 32 :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  v303
def k0_off11 (k0_t3 : Fin k0_t3_loop.trips) : Fin 2 → Nat :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  let v304 : BitVec 32 := v303
  let v305 : Index := Scalar.indexCast v304
  let c256_167 : Index := 256#32
  ![v305.toNat, 256]
def k0_off12 (k0_t3 : Fin k0_t3_loop.trips) : Fin 2 → Nat :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let v311 : Index := Scalar.indexCast v301
  let c256_171 : Index := 256#32
  ![v311.toNat, 256]
def k0_mult15 (k0_t3 : Fin k0_t3_loop.trips) : BitVec 32 :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  v314
def k0_off13 (k0_t3 : Fin k0_t3_loop.trips) : Fin 2 → Nat :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  let v315 : BitVec 32 := v314
  let v316 : Index := Scalar.indexCast v315
  let c256_173 : Index := 256#32
  ![v316.toNat, 256]
def k0_mult16 (k0_t3 : Fin k0_t3_loop.trips) : BitVec 32 :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let c8_i32_178 : BitVec 32 := 8#32
  let v328 : BitVec 32 := Scalar.subi v301 c8_i32_178
  let c0_i32_179 : BitVec 32 := 0#32
  let v329 : BitVec 32 := Scalar.maxsi v328 c0_i32_179
  v329
def k0_mult17 (k0_t3 : Fin k0_t3_loop.trips) : BitVec 32 :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let c512_i32_185 : BitVec 32 := 512#32
  let v339 : BitVec 32 := Scalar.addi v301 c512_i32_185
  let c2040_i32_186 : BitVec 32 := 2040#32
  let v340 : BitVec 32 := Scalar.minsi v339 c2040_i32_186
  v340
def k0_mult18 (k0_t3 : Fin k0_t3_loop.trips) : BitVec 32 :=
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let c512_i32_194 : BitVec 32 := 512#32
  let v356 : BitVec 32 := Scalar.addi v301 c512_i32_194
  let c2040_i32_195 : BitVec 32 := 2040#32
  let v357 : BitVec 32 := Scalar.minsi v356 c2040_i32_195
  v357
def k0_off14 (k0_t3 : Fin k0_t3_loop.trips) : Fin 3 → Nat :=
  let c0_202 : Index := 0#32
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let v420 : Index := Scalar.indexCast v301
  let c256_203 : Index := 256#32
  ![0, v420.toNat, 256]
def k0_off15 (k0_t3 : Fin k0_t3_loop.trips) : Fin 3 → Nat :=
  let c1_210 : Index := 1#32
  let c0_i32_91 : BitVec 32 := 0#32
  let c1_i32_93 : BitVec 32 := 1#32
  let arg11 : BitVec 32 := Scf.iv c0_i32_91 c1_i32_93 k0_t3
  let c512_i32 : BitVec 32 := 512#32
  let v300 : BitVec 32 := Scalar.muli arg11 c512_i32
  let v301 : BitVec 32 := v300
  let v460 : Index := Scalar.indexCast v301
  let c256_211 : Index := 256#32
  ![1, v460.toNat, 256]
@[reducible] def k0_t4_loop : Scf.Loop 32 :=
  let c0_i32_134 : BitVec 32 := 0#32
  let c4_i32_135 : BitVec 32 := 4#32
  let v237 : BitVec 32 := Scalar.addi c0_i32_134 c4_i32_135
  let c1_i32_136 : BitVec 32 := 1#32
  ⟨c0_i32_134, v237, c1_i32_136⟩
def k0_mult19 (k0_t4 : Fin k0_t4_loop.trips) : BitVec 32 :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  v300
def k0_mult20 (k0_t4 : Fin k0_t4_loop.trips) : BitVec 32 :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  v303
def k0_off16 (k0_t4 : Fin k0_t4_loop.trips) : Fin 2 → Nat :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let c8_i32 : BitVec 32 := 8#32
  let v302 : BitVec 32 := Scalar.subi v301 c8_i32
  let c0_i32_166 : BitVec 32 := 0#32
  let v303 : BitVec 32 := Scalar.maxsi v302 c0_i32_166
  let v304 : BitVec 32 := v303
  let v305 : Index := Scalar.indexCast v304
  let c384_167 : Index := 384#32
  ![v305.toNat, 384]
def k0_off17 (k0_t4 : Fin k0_t4_loop.trips) : Fin 2 → Nat :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let v311 : Index := Scalar.indexCast v301
  let c384_171 : Index := 384#32
  ![v311.toNat, 384]
def k0_mult21 (k0_t4 : Fin k0_t4_loop.trips) : BitVec 32 :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  v314
def k0_off18 (k0_t4 : Fin k0_t4_loop.trips) : Fin 2 → Nat :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let c512_i32_172 : BitVec 32 := 512#32
  let v313 : BitVec 32 := Scalar.addi v301 c512_i32_172
  let c2040_i32 : BitVec 32 := 2040#32
  let v314 : BitVec 32 := Scalar.minsi v313 c2040_i32
  let v315 : BitVec 32 := v314
  let v316 : Index := Scalar.indexCast v315
  let c384_173 : Index := 384#32
  ![v316.toNat, 384]
def k0_mult22 (k0_t4 : Fin k0_t4_loop.trips) : BitVec 32 :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let c8_i32_178 : BitVec 32 := 8#32
  let v328 : BitVec 32 := Scalar.subi v301 c8_i32_178
  let c0_i32_179 : BitVec 32 := 0#32
  let v329 : BitVec 32 := Scalar.maxsi v328 c0_i32_179
  v329
def k0_mult23 (k0_t4 : Fin k0_t4_loop.trips) : BitVec 32 :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let c512_i32_185 : BitVec 32 := 512#32
  let v339 : BitVec 32 := Scalar.addi v301 c512_i32_185
  let c2040_i32_186 : BitVec 32 := 2040#32
  let v340 : BitVec 32 := Scalar.minsi v339 c2040_i32_186
  v340
def k0_mult24 (k0_t4 : Fin k0_t4_loop.trips) : BitVec 32 :=
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let c512_i32_194 : BitVec 32 := 512#32
  let v356 : BitVec 32 := Scalar.addi v301 c512_i32_194
  let c2040_i32_195 : BitVec 32 := 2040#32
  let v357 : BitVec 32 := Scalar.minsi v356 c2040_i32_195
  v357
def k0_off19 (k0_t4 : Fin k0_t4_loop.trips) : Fin 3 → Nat :=
  let c0_202 : Index := 0#32
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let v420 : Index := Scalar.indexCast v301
  let c384_203 : Index := 384#32
  ![0, v420.toNat, 384]
def k0_off20 (k0_t4 : Fin k0_t4_loop.trips) : Fin 3 → Nat :=
  let c1_210 : Index := 1#32
  let c0_i32_134 : BitVec 32 := 0#32
  let c1_i32_136 : BitVec 32 := 1#32
  let arg11 : BitVec 32 := Scf.iv c0_i32_134 c1_i32_136 k0_t4
  let c512_i32 : BitVec 32 := 512#32
  let v300 : BitVec 32 := Scalar.muli arg11 c512_i32
  let v301 : BitVec 32 := v300
  let v460 : Index := Scalar.indexCast v301
  let c384_211 : Index := 384#32
  ![1, v460.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S1x2048x5632 : Shape := ⟨3, ![1, 2048, 5632]⟩
abbrev S2x2048x5632 : Shape := ⟨3, ![2, 2048, 5632]⟩
abbrev S8x11264 : Shape := ⟨2, ![8, 11264]⟩
abbrev S8x5632 : Shape := ⟨2, ![8, 5632]⟩
abbrev S1x8x5632 : Shape := ⟨3, ![1, 8, 5632]⟩
abbrev S2x8x5632 : Shape := ⟨3, ![2, 8, 5632]⟩
abbrev S1x5632 : Shape := ⟨2, ![1, 5632]⟩
abbrev S1x1x5632 : Shape := ⟨3, ![1, 1, 5632]⟩
abbrev S2x1x5632 : Shape := ⟨3, ![2, 1, 5632]⟩

abbrev nBuf : Space → Nat
  | .hbm => 128
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S2048x5632, .f32⟩
  | .hbm, ⟨4, _⟩ => ⟨S_, .f32⟩
  | .hbm, ⟨5, _⟩ => ⟨S2x11264, .f32⟩
  | .hbm, ⟨6, _⟩ => ⟨S2050x11264, .f32⟩
  | .hbm, ⟨7, _⟩ => ⟨S_, .f32⟩
  | .hbm, ⟨8, _⟩ => ⟨S2x11264, .f32⟩
  | .hbm, ⟨9, _⟩ => ⟨S2048x11264, .f32⟩
  | .hbm, ⟨10, _⟩ => ⟨S1x11264, .f32⟩
  | .hbm, ⟨11, _⟩ => ⟨S11264, .f32⟩
  | .hbm, ⟨12, _⟩ => ⟨S1x11264, .f32⟩
  | .hbm, ⟨13, _⟩ => ⟨S2048x11264, .f32⟩
  | .hbm, ⟨14, _⟩ => ⟨S2048x11264, .f32⟩
  | .hbm, ⟨15, _⟩ => ⟨S_, .f32⟩
  | .hbm, ⟨16, _⟩ => ⟨S2048x11264, .f32⟩
  | .hbm, ⟨17, _⟩ => ⟨S2048x11264, .f32⟩
  | .hbm, ⟨18, _⟩ => ⟨S2048x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S2048x11264, .f32⟩
  | .hbm, ⟨23, _⟩ => ⟨S2048x11264, .f32⟩
  | .hbm, ⟨24, _⟩ => ⟨S2048x11264, .f32⟩
  | .hbm, ⟨25, _⟩ => ⟨S2048x11264, .f32⟩
  | .hbm, ⟨26, _⟩ => ⟨S1x11264, .f32⟩
  | .hbm, ⟨27, _⟩ => ⟨S11264, .f32⟩
  | .hbm, ⟨28, _⟩ => ⟨S1x11264, .f32⟩
  | .hbm, ⟨29, _⟩ => ⟨S2048x11264, .f32⟩
  | .hbm, ⟨30, _⟩ => ⟨S2048x11264, .f32⟩
  | .hbm, ⟨31, _⟩ => ⟨S2048x11264, .f32⟩
  | .hbm, ⟨32, _⟩ => ⟨S1x11264, .f32⟩
  | .hbm, ⟨33, _⟩ => ⟨S2048x11264, .f32⟩
  | .hbm, ⟨34, _⟩ => ⟨S2048x11264, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S2048x5632, .f32⟩
  | .hbm, ⟨44, _⟩ => ⟨S2048x5632, .f32⟩
  | .hbm, ⟨45, _⟩ => ⟨S_, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x11264, .f32⟩
  | .hbm, ⟨58, _⟩ => ⟨S_, .f32⟩
  | .hbm, ⟨59, _⟩ => ⟨S11264, .f32⟩
  | .hbm, ⟨60, _⟩ => ⟨S1x11264, .f32⟩
  | .hbm, ⟨61, _⟩ => ⟨S_, .f32⟩
  | .hbm, ⟨62, _⟩ => ⟨S11264, .f32⟩
  | .hbm, ⟨63, _⟩ => ⟨S2048x11264, .f32⟩
  | .hbm, ⟨64, _⟩ => ⟨S_, .f32⟩
  | .hbm, ⟨65, _⟩ => ⟨S11264, .f32⟩
  | .hbm, ⟨66, _⟩ => ⟨S1x11264, .f32⟩
  | .hbm, ⟨67, _⟩ => ⟨S2048x11264, .f32⟩
  | .hbm, ⟨68, _⟩ => ⟨S2048x11264, .f32⟩
  | .hbm, ⟨69, _⟩ => ⟨S_, .f32⟩
  | .hbm, ⟨70, _⟩ => ⟨S11264, .f32⟩
  | .hbm, ⟨71, _⟩ => ⟨S1x11264, .f32⟩
  | .hbm, ⟨72, _⟩ => ⟨S_, .f32⟩
  | .hbm, ⟨73, _⟩ => ⟨S3x11264, .f32⟩
  | .hbm, ⟨74, _⟩ => ⟨S_, .f32⟩
  | .hbm, ⟨75, _⟩ => ⟨S2050x11264, .f32⟩
  | .hbm, ⟨76, _⟩ => ⟨S2048x11264, .f32⟩
  | .hbm, ⟨77, _⟩ => ⟨S_, .f32⟩
  | .hbm, ⟨78, _⟩ => ⟨S11264, .f32⟩
  | .hbm, ⟨79, _⟩ => ⟨S1x11264, .f32⟩
  | .hbm, ⟨80, _⟩ => ⟨S2048x11264, .f32⟩
  | .hbm, ⟨81, _⟩ => ⟨S2048x11264, .f32⟩
  | .hbm, ⟨82, _⟩ => ⟨S_, .f32⟩
  | .hbm, ⟨83, _⟩ => ⟨S11264, .f32⟩
  | .hbm, ⟨84, _⟩ => ⟨S1x11264, .f32⟩
  | .hbm, ⟨85, _⟩ => ⟨S_, .f32⟩
  | .hbm, ⟨86, _⟩ => ⟨S3x11264, .f32⟩
  | .hbm, ⟨87, _⟩ => ⟨S3x11264, .f32⟩
  | .hbm, ⟨88, _⟩ => ⟨S_, .f32⟩
  | .hbm, ⟨89, _⟩ => ⟨S2050x11264, .f32⟩
  | .hbm, ⟨90, _⟩ => ⟨S2050x11264, .f32⟩
  | .hbm, ⟨91, _⟩ => ⟨S2048x11264, .f32⟩
  | .hbm, ⟨92, _⟩ => ⟨S_, .f32⟩
  | .hbm, ⟨93, _⟩ => ⟨S11264, .f32⟩
  | .hbm, ⟨94, _⟩ => ⟨S1x11264, .f32⟩
  | .hbm, ⟨95, _⟩ => ⟨S2048x11264, .f32⟩
  | .hbm, ⟨96, _⟩ => ⟨S2048x11264, .f32⟩
  | .hbm, ⟨97, _⟩ => ⟨S_, .f32⟩
  | .hbm, ⟨98, _⟩ => ⟨S11264, .f32⟩
  | .hbm, ⟨99, _⟩ => ⟨S1x11264, .f32⟩
  | .hbm, ⟨100, _⟩ => ⟨S_, .f32⟩
  | .hbm, ⟨101, _⟩ => ⟨S3x11264, .f32⟩
  | .hbm, ⟨102, _⟩ => ⟨S3x11264, .f32⟩
  | .hbm, ⟨103, _⟩ => ⟨S_, .f32⟩
  | .hbm, ⟨104, _⟩ => ⟨S2050x11264, .f32⟩
  | .hbm, ⟨105, _⟩ => ⟨S2050x11264, .f32⟩
  | .hbm, ⟨106, _⟩ => ⟨S2x11264, .f32⟩
  | .hbm, ⟨107, _⟩ => ⟨S2048x11264, .f32⟩
  | .hbm, ⟨108, _⟩ => ⟨S2048x11264, .bf16⟩
  | .hbm, ⟨109, _⟩ => ⟨S2048x5632, .bf16⟩
  | .hbm, ⟨110, _⟩ => ⟨S2048x5632, .bf16⟩
  | .hbm, ⟨111, _⟩ => ⟨S1x2048x5632, .bf16⟩
  | .hbm, ⟨112, _⟩ => ⟨S1x2048x5632, .bf16⟩
  | .hbm, ⟨113, _⟩ => ⟨S2x2048x5632, .bf16⟩
  | .hbm, ⟨114, _⟩ => ⟨S_, .i32⟩
  | .hbm, ⟨115, _⟩ => ⟨S_, .f32⟩
  | .hbm, ⟨116, _⟩ => ⟨S8x11264, .f32⟩
  | .hbm, ⟨117, _⟩ => ⟨S8x5632, .f32⟩
  | .hbm, ⟨118, _⟩ => ⟨S8x5632, .f32⟩
  | .hbm, ⟨119, _⟩ => ⟨S1x8x5632, .f32⟩
  | .hbm, ⟨120, _⟩ => ⟨S1x8x5632, .f32⟩
  | .hbm, ⟨121, _⟩ => ⟨S2x8x5632, .f32⟩
  | .hbm, ⟨122, _⟩ => ⟨S1x11264, .f32⟩
  | .hbm, ⟨123, _⟩ => ⟨S1x5632, .f32⟩
  | .hbm, ⟨124, _⟩ => ⟨S1x5632, .f32⟩
  | .hbm, ⟨125, _⟩ => ⟨S1x1x5632, .f32⟩
  | .hbm, ⟨126, _⟩ => ⟨S1x1x5632, .f32⟩
  | .hbm, ⟨127, _⟩ => ⟨S2x1x5632, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c : Ref sig .tc := ⟨.hbm, 114, rfl⟩
abbrev main_call2_v0 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]
-- ==== Kernel2.lean ====
abbrev S5632x2048 : Shape := ⟨2, ![5632, 2048]⟩
abbrev S2048x2048 : Shape := ⟨2, ![2048, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S5632x2048, .bf16⟩
  | .hbm, ⟨1, _⟩ => ⟨S2048x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S5632x2048 : Shape := ⟨2, ![5632, 2048]⟩
abbrev S2048x2048 : Shape := ⟨2, ![2048, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S2048x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2048x11264 : Shape := ⟨2, ![2048, 11264]⟩
abbrev S2x2048x5632 : Shape := ⟨3, ![2, 2048, 5632]⟩
abbrev S2048x2048 : Shape := ⟨2, ![2048, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2x2048x5632, .bf16⟩
  | .hbm, ⟨2, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x11264 : Shape := ⟨2, ![2048, 11264]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2x2048x5632, .bf16⟩
  | .hbm, ⟨2, _⟩ => ⟨S1x2048x5632, .bf16⟩
  | .hbm, ⟨3, _⟩ => ⟨S2048x5632, .bf16⟩
  | .hbm, ⟨4, _⟩ => ⟨S1x2048x5632, .bf16⟩
  | .hbm, ⟨5, _⟩ => ⟨S2048x5632, .bf16⟩
  | .hbm, ⟨6, _⟩ => ⟨S2048x11264, .bf16⟩
  | .hbm, ⟨7, _⟩ => ⟨S_, .f32⟩
  | .hbm, ⟨8, _⟩ => ⟨S2048x2048, .f32⟩
  | .hbm, ⟨9, _⟩ => ⟨S2048x11264, .f32⟩
  | .hbm, ⟨10, _⟩ => ⟨S2048x11264, .f32⟩
  | .hbm, ⟨11, _⟩ => ⟨S2048x11264, .f32⟩
  | .hbm, ⟨12, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S1 : Shape := ⟨1, ![1]⟩
abbrev S2048x5632 : Shape := ⟨2, ![2048, 5632]⟩
abbrev S2048x2048 : Shape := ⟨2, ![2048, 2048]⟩
abbrev S4x1408x1024 : Shape := ⟨3, ![4, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 5
  | .smem => 1
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1x1408x1024, .f32⟩
  | .local _ .vmem, ⟨4, _⟩ => ⟨S1x1408x1024, .f32⟩
  | .local _ .smem, ⟨0, _⟩ => ⟨S1, .i32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference4Ideal.lean ====
abbrev S1 : Shape := ⟨1, ![1]⟩
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S5632x1024 : Shape := ⟨2, ![5632, 1024]⟩
abbrev S4x1408x1024 : Shape := ⟨3, ![4, 1408, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x5632, .bf16⟩
  | .hbm, ⟨2, _⟩ => ⟨S2048x2048, .bf16⟩
  | .hbm, ⟨3, _⟩ => ⟨S_, .f32⟩
  | .hbm, ⟨4, _⟩ => ⟨S5632x2048, .f32⟩
  | .hbm, ⟨5, _⟩ => ⟨S2048x5632, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S5632x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S5632x1024, .f32⟩
  | .hbm, ⟨14, _⟩ => ⟨S5632x1024, .f32⟩
  | .hbm, ⟨15, _⟩ => ⟨S5632x1024, .f32⟩
  | .hbm, ⟨16, _⟩ => ⟨S4x1408x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S1 : Shape := ⟨1, ![1]⟩
abbrev S2048x2048 : Shape := ⟨2, ![2048, 2048]⟩
abbrev S2x2048x5632 : Shape := ⟨3, ![2, 2048, 5632]⟩
abbrev S4x1024x2816 : Shape := ⟨3, ![4, 1024, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x1024x2816, .f32⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x1024x1408, .f32⟩
  | .local _ .vmem, ⟨4, _⟩ => ⟨S1x1024x1408, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![c0_i32.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference5Ideal.lean ====
abbrev S1 : Shape := ⟨1, ![1]⟩
abbrev S2048x2048 : Shape := ⟨2, ![2048, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S1024x11264 : Shape := ⟨2, ![1024, 11264]⟩
abbrev S1024x4x2816 : Shape := ⟨3, ![1024, 4, 2816]⟩
abbrev S4x1024x2816 : Shape := ⟨3, ![4, 1024, 2816]⟩

abbrev nBuf : Space → Nat
  | .hbm => 23
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2x2048x5632, .bf16⟩
  | .hbm, ⟨3, _⟩ => ⟨S1x2048x5632, .bf16⟩
  | .hbm, ⟨4, _⟩ => ⟨S2048x5632, .bf16⟩
  | .hbm, ⟨5, _⟩ => ⟨S1x2048x5632, .bf16⟩
  | .hbm, ⟨6, _⟩ => ⟨S2048x5632, .bf16⟩
  | .hbm, ⟨7, _⟩ => ⟨S2048x11264, .bf16⟩
  | .hbm, ⟨8, _⟩ => ⟨S_, .f32⟩
  | .hbm, ⟨9, _⟩ => ⟨S2048x11264, .f32⟩
  | .hbm, ⟨10, _⟩ => ⟨S2048x2048, .f32⟩
  | .hbm, ⟨11, _⟩ => ⟨S2048x11264, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1024x11264, .f32⟩
  | .hbm, ⟨19, _⟩ => ⟨S1024x11264, .f32⟩
  | .hbm, ⟨20, _⟩ => ⟨S1024x11264, .f32⟩
  | .hbm, ⟨21, _⟩ => ⟨S1024x4x2816, .f32⟩
  | .hbm, ⟨22, _⟩ => ⟨S4x1024x2816, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel6.lean ====
abbrev S2048x2048 : Shape := ⟨2, ![2048, 2048]⟩
abbrev S2048x11264 : Shape := ⟨2, ![2048, 11264]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2048x2048 : Shape := ⟨2, ![2048, 2048]⟩
abbrev S2048x5632 : Shape := ⟨2, ![2048, 5632]⟩
abbrev S5632x2048 : Shape := ⟨2, ![5632, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x5632, .bf16⟩
  | .hbm, ⟨2, _⟩ => ⟨S5632x2048, .bf16⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .bf16⟩
  | .hbm, ⟨2, _⟩ => ⟨S5632x2048, .bf16⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S1 : Shape := ⟨1, ![1]⟩
abbrev S2048x5632 : Shape := ⟨2, ![2048, 5632]⟩
abbrev S2048x2048 : Shape := ⟨2, ![2048, 2048]⟩
abbrev S4x1408x1024 : Shape := ⟨3, ![4, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 5
  | .vmem => 9
  | .smem => 1
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x1024, .f32⟩
  | .hbm, ⟨3, _⟩ => ⟨S4x1408x1024, .f32⟩
  | .hbm, ⟨4, _⟩ => ⟨S4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1x1408x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1x1408x1024, .f32⟩
  | .local _ .vmem, ⟨7, _⟩ => ⟨S1x1408x1024, .bf16⟩
  | .local _ .vmem, ⟨8, _⟩ => ⟨S1x1408x1024, .bf16⟩
  | .local _ .smem, ⟨0, _⟩ => ⟨S1, .i32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference8Ideal.lean ====
abbrev S1 : Shape := ⟨1, ![1]⟩
abbrev S2048x5632 : Shape := ⟨2, ![2048, 5632]⟩
abbrev S2048x2048 : Shape := ⟨2, ![2048, 2048]⟩
abbrev S4x1408x1024 : Shape := ⟨3, ![4, 1408, 1024]⟩
abbrev S_ : Shape := ⟨0, ![]⟩
abbrev S5632x2048 : Shape := ⟨2, ![5632, 2048]⟩
abbrev S5632x1024 : Shape := ⟨2, ![5632, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x5632, .bf16⟩
  | .hbm, ⟨2, _⟩ => ⟨S2048x2048, .bf16⟩
  | .hbm, ⟨3, _⟩ => ⟨S4x1408x1024, .f32⟩
  | .hbm, ⟨4, _⟩ => ⟨S_, .f32⟩
  | .hbm, ⟨5, _⟩ => ⟨S5632x2048, .f32⟩
  | .hbm, ⟨6, _⟩ => ⟨S2048x5632, .f32⟩
  | .hbm, ⟨7, _⟩ => ⟨S2048x2048, .f32⟩
  | .hbm, ⟨8, _⟩ => ⟨S2048x2048, .f32⟩
  | .hbm, ⟨9, _⟩ => ⟨S2048x5632, .f32⟩
  | .hbm, ⟨10, _⟩ => ⟨S5632x2048, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S5632x1024, .f32⟩
  | .hbm, ⟨15, _⟩ => ⟨S5632x1024, .f32⟩
  | .hbm, ⟨16, _⟩ => ⟨S5632x1024, .f32⟩
  | .hbm, ⟨17, _⟩ => ⟨S4x1408x1024, .f32⟩
  | .hbm, ⟨18, _⟩ => ⟨S4x1408x1024, .f32⟩
  | .hbm, ⟨19, _⟩ => ⟨S4x1408x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S1 : Shape := ⟨1, ![1]⟩
abbrev S2048x2048 : Shape := ⟨2, ![2048, 2048]⟩
abbrev S2x2048x5632 : Shape := ⟨3, ![2, 2048, 5632]⟩
abbrev S4x1024x2816 : Shape := ⟨3, ![4, 1024, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 5
  | .vmem => 9
  | .smem => 1
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x1024x2816, .f32⟩
  | .hbm, ⟨3, _⟩ => ⟨S4x1024x2816, .f32⟩
  | .hbm, ⟨4, _⟩ => ⟨S4x1024x2816, .bf16⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x1024x1408, .f32⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .f32⟩
  | .local _ .vmem, ⟨7, _⟩ => ⟨S1x1024x1408, .bf16⟩
  | .local _ .vmem, ⟨8, _⟩ => ⟨S1x1024x1408, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![c0_i32.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference9Ideal.lean ====
abbrev S1 : Shape := ⟨1, ![1]⟩
abbrev S2048x2048 : Shape := ⟨2, ![2048, 2048]⟩
abbrev S2x2048x5632 : Shape := ⟨3, ![2, 2048, 5632]⟩
abbrev S4x1024x2816 : Shape := ⟨3, ![4, 1024, 2816]⟩
abbrev S1x2048x5632 : Shape := ⟨3, ![1, 2048, 5632]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S1024x11264 : Shape := ⟨2, ![1024, 11264]⟩
abbrev S1024x4x2816 : Shape := ⟨3, ![1024, 4, 2816]⟩

abbrev nBuf : Space → Nat
  | .hbm => 26
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2x2048x5632, .bf16⟩
  | .hbm, ⟨3, _⟩ => ⟨S4x1024x2816, .f32⟩
  | .hbm, ⟨4, _⟩ => ⟨S1x2048x5632, .bf16⟩
  | .hbm, ⟨5, _⟩ => ⟨S2048x5632, .bf16⟩
  | .hbm, ⟨6, _⟩ => ⟨S1x2048x5632, .bf16⟩
  | .hbm, ⟨7, _⟩ => ⟨S2048x5632, .bf16⟩
  | .hbm, ⟨8, _⟩ => ⟨S2048x11264, .bf16⟩
  | .hbm, ⟨9, _⟩ => ⟨S_, .f32⟩
  | .hbm, ⟨10, _⟩ => ⟨S2048x11264, .f32⟩
  | .hbm, ⟨11, _⟩ => ⟨S2048x2048, .f32⟩
  | .hbm, ⟨12, _⟩ => ⟨S2048x11264, .f32⟩
  | .hbm, ⟨13, _⟩ => ⟨S2048x11264, .f32⟩
  | .hbm, ⟨14, _⟩ => ⟨S11264x2048, .f32⟩
  | .hbm, ⟨15, _⟩ => ⟨S2048x11264, .f32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S1024x11264, .f32⟩
  | .hbm, ⟨20, _⟩ => ⟨S1024x11264, .f32⟩
  | .hbm, ⟨21, _⟩ => ⟨S1024x11264, .f32⟩
  | .hbm, ⟨22, _⟩ => ⟨S1024x4x2816, .f32⟩
  | .hbm, ⟨23, _⟩ => ⟨S4x1024x2816, .f32⟩
  | .hbm, ⟨24, _⟩ => ⟨S4x1024x2816, .f32⟩
  | .hbm, ⟨25, _⟩ => ⟨S4x1024x2816, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel10.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S1 : Shape := ⟨1, ![1]⟩
abbrev S2048x2048 : Shape := ⟨2, ![2048, 2048]⟩
abbrev S4x512x1024 : Shape := ⟨3, ![4, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .f32⟩
  | .local _ .vmem, ⟨4, _⟩ => ⟨S1x512x1024, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference14Ideal.lean ====
abbrev S1 : Shape := ⟨1, ![1]⟩
abbrev S2048x2048 : Shape := ⟨2, ![2048, 2048]⟩
abbrev S_ : Shape := ⟨0, ![]⟩
abbrev S2048x1024 : Shape := ⟨2, ![2048, 1024]⟩
abbrev S4x512x1024 : Shape := ⟨3, ![4, 512, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S4x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel15.lean ====
abbrev S1 : Shape := ⟨1, ![1]⟩
abbrev S2048x2048 : Shape := ⟨2, ![2048, 2048]⟩
abbrev S4x512x1024 : Shape := ⟨3, ![4, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 5
  | .vmem => 9
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x1024, .f32⟩
  | .hbm, ⟨3, _⟩ => ⟨S4x512x1024, .f32⟩
  | .hbm, ⟨4, _⟩ => ⟨S4x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .bf16⟩
  | .local _ .vmem, ⟨8, _⟩ => ⟨S1x512x1024, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference15Ideal.lean ====
abbrev S1 : Shape := ⟨1, ![1]⟩
abbrev S2048x2048 : Shape := ⟨2, ![2048, 2048]⟩
abbrev S4x512x1024 : Shape := ⟨3, ![4, 512, 1024]⟩
abbrev S_ : Shape := ⟨0, ![]⟩
abbrev S2048x1024 : Shape := ⟨2, ![2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x2048, .bf16⟩
  | .hbm, ⟨3, _⟩ => ⟨S4x512x1024, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S4x512x1024, .f32⟩
  | .hbm, ⟨18, _⟩ => ⟨S4x512x1024, .f32⟩
  | .hbm, ⟨19, _⟩ => ⟨S4x512x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel16.lean ====
abbrev S1 : Shape := ⟨1, ![1]⟩
abbrev S2048x2048 : Shape := ⟨2, ![2048, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x1024x512, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .f32⟩
  | .local _ .vmem, ⟨4, _⟩ => ⟨S1x1024x512, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference16Ideal.lean ====
abbrev S1 : Shape := ⟨1, ![1]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 18
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x4x512, .f32⟩
  | .hbm, ⟨17, _⟩ => ⟨S4x1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S1 : Shape := ⟨1, ![1]⟩
abbrev S2048x2048 : Shape := ⟨2, ![2048, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 9
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x1024x512, .f32⟩
  | .hbm, ⟨3, _⟩ => ⟨S4x1024x512, .f32⟩
  | .hbm, ⟨4, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .bf16⟩
  | .local _ .vmem, ⟨8, _⟩ => ⟨S1x1024x512, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference17Ideal.lean ====
abbrev S1 : Shape := ⟨1, ![1]⟩
abbrev S2048x2048 : Shape := ⟨2, ![2048, 2048]⟩
abbrev S4x1024x512 : Shape := ⟨3, ![4, 1024, 512]⟩
abbrev S_ : Shape := ⟨0, ![]⟩
abbrev S1024x2048 : Shape := ⟨2, ![1024, 2048]⟩
abbrev S1024x4x512 : Shape := ⟨3, ![1024, 4, 512]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x2048, .bf16⟩
  | .hbm, ⟨3, _⟩ => ⟨S4x1024x512, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x4x512, .f32⟩
  | .hbm, ⟨18, _⟩ => ⟨S4x1024x512, .f32⟩
  | .hbm, ⟨19, _⟩ => ⟨S4x1024x512, .f32⟩
  | .hbm, ⟨20, _⟩ => ⟨S4x1024x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel18.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x512, .f32⟩
  | .hbm, ⟨3, _⟩ => ⟨S512x2048, .f32⟩
  | .hbm, ⟨4, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2048x256 : Shape := ⟨2, ![2048, 256]⟩
abbrev S256x2048 : Shape := ⟨2, ![256, 2048]⟩
abbrev S2048x2048 : Shape := ⟨2, ![2048, 2048]⟩
abbrev S1024x256 : Shape := ⟨2, ![1024, 256]⟩
abbrev S256x1024 : Shape := ⟨2, ![256, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S2048x256, .f32⟩
  | .hbm, ⟨3, _⟩ => ⟨S256x2048, .f32⟩
  | .hbm, ⟨4, _⟩ => ⟨S2048x2048, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S512x2048 : Shape := ⟨2, ![512, 2048]⟩
abbrev S2048x2048 : Shape := ⟨2, ![2048, 2048]⟩
abbrev S2048x512 : Shape := ⟨2, ![2048, 512]⟩
abbrev S1024x2048 : Shape := ⟨2, ![1024, 2048]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S512x2048 : Shape := ⟨2, ![512, 2048]⟩
abbrev S2048x2048 : Shape := ⟨2, ![2048, 2048]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S_, .f32⟩
  | .hbm, ⟨3, _⟩ => ⟨S2048x512, .f32⟩
  | .hbm, ⟨4, _⟩ => ⟨S512x2048, .f32⟩
  | .hbm, ⟨5, _⟩ => ⟨S2048x2048, .f32⟩
  | .hbm, ⟨6, _⟩ => ⟨S2048x2048, .f32⟩
  | .hbm, ⟨7, _⟩ => ⟨S2048x512, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S256x2048 : Shape := ⟨2, ![256, 2048]⟩
abbrev S2048x2048 : Shape := ⟨2, ![2048, 2048]⟩
abbrev S2048x256 : Shape := ⟨2, ![2048, 256]⟩
abbrev S1024x2048 : Shape := ⟨2, ![1024, 2048]⟩
abbrev S1024x256 : Shape := ⟨2, ![1024, 256]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S2048x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x2048 : Shape := ⟨2, ![256, 2048]⟩
abbrev S2048x2048 : Shape := ⟨2, ![2048, 2048]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S_, .f32⟩
  | .hbm, ⟨3, _⟩ => ⟨S2048x256, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x256, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S2048x1024 : Shape := ⟨2, ![2048, 1024]⟩
abbrev S1024x1024 : Shape := ⟨2, ![1024, 1024]⟩
abbrev S1x1024 : Shape := ⟨2, ![1, 1024]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel25.lean ====
abbrev S2048x2816 : Shape := ⟨2, ![2048, 2816]⟩
abbrev S256x2816 : Shape := ⟨2, ![256, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | .local _ .vmem, ⟨9, _⟩ => ⟨S256x2816, .f32⟩
  | .local _ .vmem, ⟨10, _⟩ => ⟨S256x2816, .f32⟩
  | .local _ .vmem, ⟨11, _⟩ => ⟨S256x2816, .f32⟩
  | .local _ .vmem, ⟨12, _⟩ => ⟨S256x2816, .f32⟩
  | .local _ .vmem, ⟨13, _⟩ => ⟨S256x2816, .f32⟩
  | .local _ .vmem, ⟨14, _⟩ => ⟨S256x2816, .f32⟩
  | .local _ .vmem, ⟨15, _⟩ => ⟨S256x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1408x2048 : Shape := ⟨2, ![1408, 2048]⟩
abbrev S2x1408x1024 : Shape := ⟨3, ![2, 1408, 1024]⟩
abbrev S704x1024 : Shape := ⟨2, ![704, 1024]⟩
abbrev S1x704x1024 : Shape := ⟨3, ![1, 704, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S2x1408x1024, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S704x1024, .f32⟩
  | .local _ .vmem, ⟨1, _⟩ => ⟨S704x1024, .f32⟩
  | .local _ .vmem, ⟨2, _⟩ => ⟨S1x704x1024, .f32⟩
  | .local _ .vmem, ⟨3, _⟩ => ⟨S1x704x1024, .f32⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .f32⟩
  | .local _ .vmem, ⟨13, _⟩ => ⟨S704x1024, .f32⟩
  | .local _ .vmem, ⟨14, _⟩ => ⟨S704x1024, .f32⟩
  | .local _ .vmem, ⟨15, _⟩ => ⟨S704x1024, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S1408x2048 : Shape := ⟨2, ![1408, 2048]⟩
abbrev S2x1408x1024 : Shape := ⟨3, ![2, 1408, 1024]⟩
abbrev S1x1408x1024 : Shape := ⟨3, ![1, 1408, 1024]⟩
abbrev S1408x1024 : Shape := ⟨2, ![1408, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S2x1408x1024, .f32⟩
  | .hbm, ⟨2, _⟩ => ⟨S1408x2048, .f32⟩
  | .hbm, ⟨3, _⟩ => ⟨S1408x2048, .f32⟩
  | .hbm, ⟨4, _⟩ => ⟨S1x1408x1024, .f32⟩
  | .hbm, ⟨5, _⟩ => ⟨S1408x1024, .f32⟩
  | .hbm, ⟨6, _⟩ => ⟨S1x1408x1024, .f32⟩
  | .hbm, ⟨7, _⟩ => ⟨S1408x1024, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S1408x2048, .f32⟩
  | .hbm, ⟨16, _⟩ => ⟨S_, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S1408x2048, .f32⟩
  | .hbm, ⟨31, _⟩ => ⟨S_, .f32⟩
  | .hbm, ⟨32, _⟩ => ⟨S1408x2048, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | .hbm, ⟨38, _⟩ => ⟨S1408x2048, .f32⟩
  | .hbm, ⟨39, _⟩ => ⟨S_, .f32⟩
  | .hbm, ⟨40, _⟩ => ⟨S1408x2048, .f32⟩
  | .hbm, ⟨41, _⟩ => ⟨S1408x2048, .f32⟩
  | .hbm, ⟨42, _⟩ => ⟨S1x1408x1024, .f32⟩
  | .hbm, ⟨43, _⟩ => ⟨S1408x1024, .f32⟩
  | .hbm, ⟨44, _⟩ => ⟨S1x1408x1024, .f32⟩
  | .hbm, ⟨45, _⟩ => ⟨S1408x1024, .f32⟩
  | .hbm, ⟨46, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel27.lean ====
abbrev S1856x512 : Shape := ⟨2, ![1856, 512]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S1856x512, .f32⟩
  | .hbm, ⟨1, _⟩ => ⟨S2048x512, .f32⟩
  | .hbm, ⟨2, _⟩ => ⟨S1856x512, .f32⟩
  | .hbm, ⟨3, _⟩ => ⟨S1856x512, .f32⟩
  | .hbm, ⟨4, _⟩ => ⟨S1856x512, .f32⟩
  | .hbm, ⟨5, _⟩ => ⟨S1856x512, .f32⟩
  | .hbm, ⟨6, _⟩ => ⟨S1856x512, .f32⟩
  | .hbm, ⟨7, _⟩ => ⟨S1856x512, .f32⟩
  | .local _ .vmem, ⟨0, _⟩ => ⟨S1856x512, .f32⟩
  | .local _ .vmem, ⟨1, _⟩ => ⟨S1856x512, .f32⟩
  | .local _ .vmem, ⟨2, _⟩ => ⟨S1856x512, .f32⟩
  | .local _ .vmem, ⟨3, _⟩ => ⟨S1856x512, .f32⟩
  | .local _ .vmem, ⟨4, _⟩ => ⟨S1856x512, .f32⟩
  | .local _ .vmem, ⟨5, _⟩ => ⟨S1856x512, .f32⟩
  | .local _ .vmem, ⟨6, _⟩ => ⟨S1856x512, .f32⟩
  | .local _ .vmem, ⟨7, _⟩ => ⟨S1856x512, .f32⟩
  | _, _ => ⟨S1856x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1856x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1856x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1856x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1856x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1856x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1856x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1856x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1856x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S1856x512 : Shape := ⟨2, ![1856, 512]⟩
abbrev S2048x512 : Shape := ⟨2, ![2048, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1856x512, .f32⟩
  | .hbm, ⟨1, _⟩ => ⟨S2048x512, .f32⟩
  | .hbm, ⟨2, _⟩ => ⟨S1856x512, .f32⟩
  | .hbm, ⟨3, _⟩ => ⟨S1856x512, .f32⟩
  | .hbm, ⟨4, _⟩ => ⟨S1856x512, .f32⟩
  | .hbm, ⟨5, _⟩ => ⟨S_, .f32⟩
  | .hbm, ⟨6, _⟩ => ⟨S1856x512, .f32⟩
  | .hbm, ⟨7, _⟩ => ⟨S1856x512, .f32⟩
  | .hbm, ⟨8, _⟩ => ⟨S_, .f32⟩
  | .hbm, ⟨9, _⟩ => ⟨S1856x512, .f32⟩
  | .hbm, ⟨10, _⟩ => ⟨S1856x512, .f32⟩
  | .hbm, ⟨11, _⟩ => ⟨S1856x512, .f32⟩
  | .hbm, ⟨12, _⟩ => ⟨S_, .f32⟩
  | .hbm, ⟨13, _⟩ => ⟨S1856x512, .f32⟩
  | .hbm, ⟨14, _⟩ => ⟨S1856x512, .f32⟩
  | .hbm, ⟨15, _⟩ => ⟨S1856x512, .f32⟩
  | .hbm, ⟨16, _⟩ => ⟨S_, .f32⟩
  | .hbm, ⟨17, _⟩ => ⟨S1856x512, .f32⟩
  | .hbm, ⟨18, _⟩ => ⟨S1856x512, .f32⟩
  | .hbm, ⟨19, _⟩ => ⟨S1856x512, .f32⟩
  | .hbm, ⟨20, _⟩ => ⟨S_, .f32⟩
  | .hbm, ⟨21, _⟩ => ⟨S1856x512, .f32⟩
  | .hbm, ⟨22, _⟩ => ⟨S1856x512, .f32⟩
  | .hbm, ⟨23, _⟩ => ⟨S_, .f32⟩
  | .hbm, ⟨24, _⟩ => ⟨S1856x512, .f32⟩
  | .hbm, ⟨25, _⟩ => ⟨S1856x512, .f32⟩
  | .hbm, ⟨26, _⟩ => ⟨S1856x512, .f32⟩
  | .hbm, ⟨27, _⟩ => ⟨S_, .f32⟩
  | .hbm, ⟨28, _⟩ => ⟨S1856x512, .f32⟩
  | .hbm, ⟨29, _⟩ => ⟨S1856x512, .f32⟩
  | .hbm, ⟨30, _⟩ => ⟨S1856x512, .f32⟩
  | .hbm, ⟨31, _⟩ => ⟨S_, .f32⟩
  | .hbm, ⟨32, _⟩ => ⟨S1856x512, .f32⟩
  | .hbm, ⟨33, _⟩ => ⟨S1856x512, .f32⟩
  | .hbm, ⟨34, _⟩ => ⟨S1856x512, .f32⟩
  | .hbm, ⟨35, _⟩ => ⟨S_, .f32⟩
  | .hbm, ⟨36, _⟩ => ⟨S1856x512, .f32⟩
  | .hbm, ⟨37, _⟩ => ⟨S1856x512, .f32⟩
  | .hbm, ⟨38, _⟩ => ⟨S1856x512, .f32⟩
  | _, _ => ⟨S1856x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel28.lean ====
abbrev S512x2048 : Shape := ⟨2, ![512, 2048]⟩
abbrev S2x512x1024 : Shape := ⟨3, ![2, 512, 1024]⟩
abbrev S512x1024 : Shape := ⟨2, ![512, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S2x512x1024, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S512x1024, .f32⟩
  | .local _ .vmem, ⟨1, _⟩ => ⟨S512x1024, .f32⟩
  | .local _ .vmem, ⟨2, _⟩ => ⟨S1x512x1024, .f32⟩
  | .local _ .vmem, ⟨3, _⟩ => ⟨S1x512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S512x2048 : Shape := ⟨2, ![512, 2048]⟩
abbrev S2x512x1024 : Shape := ⟨3, ![2, 512, 1024]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x512x1024, .f32⟩
  | .hbm, ⟨2, _⟩ => ⟨S512x2048, .f32⟩
  | .hbm, ⟨3, _⟩ => ⟨S512x2048, .f32⟩
  | .hbm, ⟨4, _⟩ => ⟨S1x512x1024, .f32⟩
  | .hbm, ⟨5, _⟩ => ⟨S512x1024, .f32⟩
  | .hbm, ⟨6, _⟩ => ⟨S1x512x1024, .f32⟩
  | .hbm, ⟨7, _⟩ => ⟨S512x1024, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S1x512x1024, .f32⟩
  | .hbm, ⟨43, _⟩ => ⟨S512x1024, .f32⟩
  | .hbm, ⟨44, _⟩ => ⟨S1x512x1024, .f32⟩
  | .hbm, ⟨45, _⟩ => ⟨S512x1024, .f32⟩
  | .hbm, ⟨46, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel29.lean ====
abbrev S512x384 : Shape := ⟨2, ![512, 384]⟩

abbrev nBuf : Space → Nat
  | .hbm => 8
  | .vmem => 8
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference29Ideal.lean ====
abbrev S512x384 : Shape := ⟨2, ![512, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S_, .f32⟩
  | .hbm, ⟨5, _⟩ => ⟨S512x384, .f32⟩
  | .hbm, ⟨6, _⟩ => ⟨S512x384, .f32⟩
  | .hbm, ⟨7, _⟩ => ⟨S_, .f32⟩
  | .hbm, ⟨8, _⟩ => ⟨S512x384, .f32⟩
  | .hbm, ⟨9, _⟩ => ⟨S512x384, .f32⟩
  | .hbm, ⟨10, _⟩ => ⟨S512x384, .f32⟩
  | .hbm, ⟨11, _⟩ => ⟨S_, .f32⟩
  | .hbm, ⟨12, _⟩ => ⟨S512x384, .f32⟩
  | .hbm, ⟨13, _⟩ => ⟨S512x384, .f32⟩
  | .hbm, ⟨14, _⟩ => ⟨S512x384, .f32⟩
  | .hbm, ⟨15, _⟩ => ⟨S_, .f32⟩
  | .hbm, ⟨16, _⟩ => ⟨S512x384, .f32⟩
  | .hbm, ⟨17, _⟩ => ⟨S512x384, .f32⟩
  | .hbm, ⟨18, _⟩ => ⟨S512x384, .f32⟩
  | .hbm, ⟨19, _⟩ => ⟨S_, .f32⟩
  | .hbm, ⟨20, _⟩ => ⟨S512x384, .f32⟩
  | .hbm, ⟨21, _⟩ => ⟨S512x384, .f32⟩
  | .hbm, ⟨22, _⟩ => ⟨S_, .f32⟩
  | .hbm, ⟨23, _⟩ => ⟨S512x384, .f32⟩
  | .hbm, ⟨24, _⟩ => ⟨S512x384, .f32⟩
  | .hbm, ⟨25, _⟩ => ⟨S512x384, .f32⟩
  | .hbm, ⟨26, _⟩ => ⟨S_, .f32⟩
  | .hbm, ⟨27, _⟩ => ⟨S512x384, .f32⟩
  | .hbm, ⟨28, _⟩ => ⟨S512x384, .f32⟩
  | .hbm, ⟨29, _⟩ => ⟨S512x384, .f32⟩
  | .hbm, ⟨30, _⟩ => ⟨S_, .f32⟩
  | .hbm, ⟨31, _⟩ => ⟨S512x384, .f32⟩
  | .hbm, ⟨32, _⟩ => ⟨S512x384, .f32⟩
  | .hbm, ⟨33, _⟩ => ⟨S512x384, .f32⟩
  | .hbm, ⟨34, _⟩ => ⟨S_, .f32⟩
  | .hbm, ⟨35, _⟩ => ⟨S512x384, .f32⟩
  | .hbm, ⟨36, _⟩ => ⟨S512x384, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference30Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S256x1024 : Shape := ⟨2, ![256, 1024]⟩
abbrev S2x256x512 : Shape := ⟨3, ![2, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S2x256x512, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1x256x512, .f32⟩
  | .local _ .vmem, ⟨3, _⟩ => ⟨S1x256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference31Ideal.lean ====
abbrev S256x1024 : Shape := ⟨2, ![256, 1024]⟩
abbrev S2x256x512 : Shape := ⟨3, ![2, 256, 512]⟩
abbrev S1x256x512 : Shape := ⟨3, ![1, 256, 512]⟩
abbrev S256x512 : Shape := ⟨2, ![256, 512]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2x256x512, .f32⟩
  | .hbm, ⟨2, _⟩ => ⟨S256x1024, .f32⟩
  | .hbm, ⟨3, _⟩ => ⟨S256x1024, .f32⟩
  | .hbm, ⟨4, _⟩ => ⟨S1x256x512, .f32⟩
  | .hbm, ⟨5, _⟩ => ⟨S256x512, .f32⟩
  | .hbm, ⟨6, _⟩ => ⟨S1x256x512, .f32⟩
  | .hbm, ⟨7, _⟩ => ⟨S256x512, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S1x256x512, .f32⟩
  | .hbm, ⟨43, _⟩ => ⟨S256x512, .f32⟩
  | .hbm, ⟨44, _⟩ => ⟨S1x256x512, .f32⟩
  | .hbm, ⟨45, _⟩ => ⟨S256x512, .f32⟩
  | .hbm, ⟨46, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel32.lean ====
abbrev S3x2816 : Shape := ⟨2, ![3, 2816]⟩

abbrev nBuf : Space → Nat
  | .hbm => 8
  | .vmem => 8
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S3x2816, .f32⟩
  | .hbm, ⟨5, _⟩ => ⟨S3x2816, .f32⟩
  | .hbm, ⟨6, _⟩ => ⟨S3x2816, .f32⟩
  | .hbm, ⟨7, _⟩ => ⟨S3x2816, .f32⟩
  | .local _ .vmem, ⟨0, _⟩ => ⟨S3x2816, .f32⟩
  | .local _ .vmem, ⟨1, _⟩ => ⟨S3x2816, .f32⟩
  | .local _ .vmem, ⟨2, _⟩ => ⟨S3x2816, .f32⟩
  | .local _ .vmem, ⟨3, _⟩ => ⟨S3x2816, .f32⟩
  | .local _ .vmem, ⟨4, _⟩ => ⟨S3x2816, .f32⟩
  | .local _ .vmem, ⟨5, _⟩ => ⟨S3x2816, .f32⟩
  | .local _ .vmem, ⟨6, _⟩ => ⟨S3x2816, .f32⟩
  | .local _ .vmem, ⟨7, _⟩ => ⟨S3x2816, .f32⟩
  | _, _ => ⟨S3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference32Ideal.lean ====
abbrev S3x2816 : Shape := ⟨2, ![3, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S_, .f32⟩
  | .hbm, ⟨5, _⟩ => ⟨S3x2816, .f32⟩
  | .hbm, ⟨6, _⟩ => ⟨S3x2816, .f32⟩
  | .hbm, ⟨7, _⟩ => ⟨S_, .f32⟩
  | .hbm, ⟨8, _⟩ => ⟨S3x2816, .f32⟩
  | .hbm, ⟨9, _⟩ => ⟨S3x2816, .f32⟩
  | .hbm, ⟨10, _⟩ => ⟨S3x2816, .f32⟩
  | .hbm, ⟨11, _⟩ => ⟨S_, .f32⟩
  | .hbm, ⟨12, _⟩ => ⟨S3x2816, .f32⟩
  | .hbm, ⟨13, _⟩ => ⟨S3x2816, .f32⟩
  | .hbm, ⟨14, _⟩ => ⟨S3x2816, .f32⟩
  | .hbm, ⟨15, _⟩ => ⟨S_, .f32⟩
  | .hbm, ⟨16, _⟩ => ⟨S3x2816, .f32⟩
  | .hbm, ⟨17, _⟩ => ⟨S3x2816, .f32⟩
  | .hbm, ⟨18, _⟩ => ⟨S3x2816, .f32⟩
  | .hbm, ⟨19, _⟩ => ⟨S_, .f32⟩
  | .hbm, ⟨20, _⟩ => ⟨S3x2816, .f32⟩
  | .hbm, ⟨21, _⟩ => ⟨S3x2816, .f32⟩
  | .hbm, ⟨22, _⟩ => ⟨S_, .f32⟩
  | .hbm, ⟨23, _⟩ => ⟨S3x2816, .f32⟩
  | .hbm, ⟨24, _⟩ => ⟨S3x2816, .f32⟩
  | .hbm, ⟨25, _⟩ => ⟨S3x2816, .f32⟩
  | .hbm, ⟨26, _⟩ => ⟨S_, .f32⟩
  | .hbm, ⟨27, _⟩ => ⟨S3x2816, .f32⟩
  | .hbm, ⟨28, _⟩ => ⟨S3x2816, .f32⟩
  | .hbm, ⟨29, _⟩ => ⟨S3x2816, .f32⟩
  | .hbm, ⟨30, _⟩ => ⟨S_, .f32⟩
  | .hbm, ⟨31, _⟩ => ⟨S3x2816, .f32⟩
  | .hbm, ⟨32, _⟩ => ⟨S3x2816, .f32⟩
  | .hbm, ⟨33, _⟩ => ⟨S3x2816, .f32⟩
  | .hbm, ⟨34, _⟩ => ⟨S_, .f32⟩
  | .hbm, ⟨35, _⟩ => ⟨S3x2816, .f32⟩
  | .hbm, ⟨36, _⟩ => ⟨S3x2816, .f32⟩
  | _, _ => ⟨S3x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference33Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Chunk.lean ====
/- One chunk of 512 rows and 128 lanes, as the kernel's loop body computes it: named functions of the loaded blocks. -/
module

public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]

/-- One or zero, as a bit says: the factor that keeps or drops a block of neighbouring rows. -/
def keep (b : BitVec 1) : F .f32 := Scalar.select b (Scalar.ofBits .f32 0x3F800000#32) (Scalar.ofBits .f32 0x00000000#32)

/-- The blocks that one chunk loads: eight rows before, the chunk's rows and eight rows after, of the gate half and of the
    value half of the input, and the chunk's rows and eight rows after of the cotangent. -/
structure Loads (F : FTy → Type) where
  gLo : Vec F S8x128 .f32
  gMid : Vec F S512x128 .f32
  gHi : Vec F S8x128 .f32
  vLo : Vec F S8x128 .f32
  vMid : Vec F S512x128 .f32
  vHi : Vec F S8x128 .f32
  dMid : Vec F S512x128 .f32
  dHi : Vec F S8x128 .f32

/-- A chunk between its neighbouring rows; no rows before chunk 0, none after chunk 3. -/
def withRows (ci : BitVec 32) (lo : Vec F S8x128 .f32) (mid : Vec F S512x128 .f32) (hi : Vec F S8x128 .f32) : FVec F S528x128 .f32 :=
  concatenate S528x128 0 [⟨S8x128, mulf lo (broadcast S8x128 (keep (Scalar.cmpi .sgt ci 0#32)))⟩, ⟨S512x128, mid⟩,
    ⟨S8x128, mulf hi (broadcast S8x128 (keep (Scalar.cmpi .slt ci 3#32)))⟩] concatenates_S8x128_S512x128_S8x128_S528x128_d0

/-- A chunk of the cotangent with the eight rows after it. -/
def withAfter (ci : BitVec 32) (mid : Vec F S512x128 .f32) (hi : Vec F S8x128 .f32) : FVec F S520x128 .f32 :=
  concatenate S520x128 0 [⟨S512x128, mid⟩, ⟨S8x128, mulf hi (broadcast S8x128 (keep (Scalar.cmpi .slt ci 3#32)))⟩]
    concatenates_S512x128_S8x128_S520x128_d0

/-- The input two rows back. -/
def back2 (x : FVec F S528x128 .f32) : FVec F S520x128 .f32 :=
  extractStridedSlice S520x128 ![8, 0] (dynamicRotate 0 2#32 none x rotates_S528x128_d0) slices_S528x128_o8_0_S520x128

/-- The input one row back. -/
def back1 (x : FVec F S528x128 .f32) : FVec F S520x128 .f32 :=
  extractStridedSlice S520x128 ![8, 0] (dynamicRotate 0 1#32 none x rotates_S528x128_d0) slices_S528x128_o8_0_S520x128

/-- The input at the row itself. -/
def back0 (x : FVec F S528x128 .f32) : FVec F S520x128 .f32 :=
  extractStridedSlice S520x128 ![8, 0] x slices_S528x128_o8_0_S520x128

/-- Row 0, 1, 2 of the weights. -/
def row0 (w : FVec F S8x128 .f32) : FVec F S1x128 .f32 := extractStridedSlice S1x128 ![0, 0] w slices_S8x128_o0_0_S1x128
@[inherit_doc row0] def row1 (w : FVec F S8x128 .f32) : FVec F S1x128 .f32 := extractStridedSlice S1x128 ![1, 0] w slices_S8x128_o1_0_S1x128
@[inherit_doc row0] def row2 (w : FVec F S8x128 .f32) : FVec F S1x128 .f32 := extractStridedSlice S1x128 ![2, 0] w slices_S8x128_o2_0_S1x128

/-- The convolution of a chunk, recomputed. -/
def conv (w : FVec F S8x128 .f32) (b : FVec F S1x128 .f32) (x : FVec F S528x128 .f32) : FVec F S520x128 .f32 :=
  addf (addf (addf (mulf (broadcastTo S520x128 (row0 w) broadcasts_S1x128_S520x128) (back2 x))
      (mulf (broadcastTo S520x128 (row1 w) broadcasts_S1x128_S520x128) (back1 x)))
      (mulf (broadcastTo S520x128 (row2 w) broadcasts_S1x128_S520x128) (back0 x)))
    (broadcastTo S520x128 b broadcasts_S1x128_S520x128)

/-- The cotangent of the gate. -/
def dGate (d g v : FVec F S520x128 .f32) : FVec F S520x128 .f32 :=
  mulf (mulf (mulf d v) (logistic g)) (addf (broadcast S520x128 (Scalar.ofBits .f32 0x3F800000#32))
    (mulf g (subf (broadcast S520x128 (Scalar.ofBits .f32 0x3F800000#32)) (logistic g))))

/-- The cotangent of the value. -/
def dVal (d g : FVec F S520x128 .f32) : FVec F S520x128 .f32 := mulf (mulf d g) (logistic g)

/-- The first 512 of 520 rows. -/
def head (x : FVec F S520x128 .f32) : FVec F S512x128 .f32 := extractStridedSlice S512x128 ![0, 0] x slices_S520x128_o0_0_S512x128

/-- The cotangent of the input from the cotangent of one half. -/
def dInput (w : FVec F S8x128 .f32) (d : FVec F S520x128 .f32) : FVec F S1x512x128 .bf16 :=
  shapeCast S1x512x128 (truncf .bf16 (addf (addf
      (mulf (broadcastTo S512x128 (row2 w) broadcasts_S1x128_S512x128) (head d))
      (mulf (broadcastTo S512x128 (row1 w) broadcasts_S1x128_S512x128) (head (dynamicRotate 0 519#32 none d rotates_S520x128_d0))))
      (mulf (broadcastTo S512x128 (row0 w) broadcasts_S1x128_S512x128) (head (dynamicRotate 0 518#32 none d rotates_S520x128_d0))))
    bitsLt_bf16_f32) shapeCasts_S512x128_S1x512x128

/-- The sum of 512 rows, eight by eight. -/
def fold (x : FVec F S512x128 .f32) : FVec F S8x128 .f32 :=
  multiReduction .add [0] S8x128 (shapeCast S64x8x128 x shapeCasts_S512x128_S64x8x128) 0x00000000#32 reduces_S64x8x128_S8x128 (.inl rfl) rfl

/-- The eight arrays that the loop carries. -/
abbrev Acc (F : FTy → Type) : Type :=
  FVec F S8x128 .f32 × FVec F S8x128 .f32 × FVec F S8x128 .f32 × FVec F S8x128 .f32 × FVec F S8x128 .f32 × FVec F S8x128 .f32 × FVec F S8x128 .f32 × FVec F S8x128 .f32

/-- The convolved gate and value of a chunk, and the cotangents of both. -/
def gateOf (ci : BitVec 32) (w : FVec F S8x128 .f32) (b : FVec F S1x128 .f32) (l : Loads F) : FVec F S520x128 .f32 :=
  conv w b (withRows ci l.gLo l.gMid l.gHi)
@[inherit_doc gateOf] def valOf (ci : BitVec 32) (w : FVec F S8x128 .f32) (b : FVec F S1x128 .f32) (l : Loads F) : FVec F S520x128 .f32 :=
  conv w b (withRows ci l.vLo l.vMid l.vHi)
@[inherit_doc gateOf] def dGateOf (ci : BitVec 32) (wg wv : FVec F S8x128 .f32) (bg bv : FVec F S1x128 .f32) (l : Loads F) : FVec F S520x128 .f32 :=
  dGate (withAfter ci l.dMid l.dHi) (gateOf ci wg bg l) (valOf ci wv bv l)
@[inherit_doc gateOf] def dValOf (ci : BitVec 32) (wg : FVec F S8x128 .f32) (bg : FVec F S1x128 .f32) (l : Loads F) : FVec F S520x128 .f32 :=
  dVal (withAfter ci l.dMid l.dHi) (gateOf ci wg bg l)

/-- What one chunk adds to the carried arrays. -/
def step (ci : BitVec 32) (wg wv : FVec F S8x128 .f32) (bg bv : FVec F S1x128 .f32) (l : Loads F) (a : Acc F) : Acc F :=
  (addf a.1 (fold (head (dGateOf ci wg wv bg bv l))),
   addf a.2.1 (fold (mulf (head (dGateOf ci wg wv bg bv l)) (head (back2 (withRows ci l.gLo l.gMid l.gHi))))),
   addf a.2.2.1 (fold (mulf (head (dGateOf ci wg wv bg bv l)) (head (back1 (withRows ci l.gLo l.gMid l.gHi))))),
   addf a.2.2.2.1 (fold (mulf (head (dGateOf ci wg wv bg bv l)) (head (back0 (withRows ci l.gLo l.gMid l.gHi))))),
   addf a.2.2.2.2.1 (fold (head (dValOf ci wg bg l))),
   addf a.2.2.2.2.2.1 (fold (mulf (head (dValOf ci wg bg l)) (head (back2 (withRows ci l.vLo l.vMid l.vHi))))),
   addf a.2.2.2.2.2.2.1 (fold (mulf (head (dValOf ci wg bg l)) (head (back1 (withRows ci l.vLo l.vMid l.vHi))))),
   addf a.2.2.2.2.2.2.2 (fold (mulf (head (dValOf ci wg bg l)) (head (back0 (withRows ci l.vLo l.vMid l.vHi))))))

/-- The induction variable of trip `k`. -/
abbrev ivOf (k : ℕ) : BitVec 32 := Scf.iv 0#32 1#32 k

end Cert.KernelIdeal.Hand

end
-- ==== Proof.Trips.lean ====
/- Each trip of the four loops over the chunks stores the two blocks that `dInput` names and adds what `step` names. -/
module

public import proofs.«01_k».proof.Proof.Chunk

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]
variable (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2x2048x512 .bf16) (harg8 : arg8.IsWhole) (arg9 : Memref sig .tc .vmem S2x8x512 .f32) (harg9 : arg9.IsWhole) (arg10 : Memref sig .tc .vmem S2x1x512 .f32) (harg10 : arg10.IsWhole)

/-- The weights, without the layout change that the kernel states. -/
abbrev wt (v : Vec F S8x128 .f32) : FVec F S8x128 .f32 := shapeCast S8x128 v shapeCasts_S8x128_S8x128
@[inherit_doc wt] abbrev bs (v : Vec F S1x128 .f32) : FVec F S1x128 .f32 := shapeCast S1x128 v shapeCasts_S1x128_S1x128

/-- The blocks that trip `k` of loop 1 loads. -/
def loads1 (arg1 arg2 arg7 : Memref sig .tc .vmem S2048x512 .f32) (X1 : BufTy.Contents (Elt F) arg1.view.ty) (X2 : BufTy.Contents (Elt F) arg2.view.ty) (X7 : BufTy.Contents (Elt F) arg7.view.ty) (k : Fin k0_t1_loop.trips) : Loads F where
  gLo := arg1.view.readAt (Elt F) (Rect.unit (s := S2048x512) (k0_off1 k) S8x128.size (k0_off1_inb k)).toLoadRect X1
  gMid := arg1.view.readAt (Elt F) (Rect.unit (s := S2048x512) (k0_off2 k) S512x128.size (k0_off2_inb k)).toLoadRect X1
  gHi := arg1.view.readAt (Elt F) (Rect.unit (s := S2048x512) (k0_off3 k) S8x128.size (k0_off3_inb k)).toLoadRect X1
  vLo := arg2.view.readAt (Elt F) (Rect.unit (s := S2048x512) (k0_off1 k) S8x128.size (k0_off1_inb k)).toLoadRect X2
  vMid := arg2.view.readAt (Elt F) (Rect.unit (s := S2048x512) (k0_off2 k) S512x128.size (k0_off2_inb k)).toLoadRect X2
  vHi := arg2.view.readAt (Elt F) (Rect.unit (s := S2048x512) (k0_off3 k) S8x128.size (k0_off3_inb k)).toLoadRect X2
  dMid := arg7.view.readAt (Elt F) (Rect.unit (s := S2048x512) (k0_off2 k) S512x128.size (k0_off2_inb k)).toLoadRect X7
  dHi := arg7.view.readAt (Elt F) (Rect.unit (s := S2048x512) (k0_off3 k) S8x128.size (k0_off3_inb k)).toLoadRect X7

theorem tripL1  (v0 v2 : Vec F S8x128 .f32) (v4 v6 : Vec F S1x128 .f32) (X1 : BufTy.Contents (Elt F) arg1.view.ty) (X2 : BufTy.Contents (Elt F) arg2.view.ty) (X7 : BufTy.Contents (Elt F) arg7.view.ty) (k : Fin k0_t1_loop.trips) (acc : Acc F) :
    tripL_k0_t1 (F := F) 𝒱 c bd i arg1 harg1 arg2 harg2 arg3 harg3 arg4 harg4 arg5 harg5 arg6 harg6 arg7 harg7 arg8 harg8 arg9 harg9 arg10 harg10  v0 v2 v4 v6 X1 X2 X7 k acc =
      [⟨Rect.unit (s := S2x2048x512) (k0_off5 k) S1x512x128.size (k0_off5_inb k), dInput (wt v2) (dValOf (ivOf k) (wt v0) (bs v4) (loads1 arg1 arg2 arg7 X1 X2 X7 k))⟩,
       ⟨Rect.unit (s := S2x2048x512) (k0_off4 k) S1x512x128.size (k0_off4_inb k), dInput (wt v0) (dGateOf (ivOf k) (wt v0) (wt v2) (bs v4) (bs v6) (loads1 arg1 arg2 arg7 X1 X2 X7 k))⟩] := by
  unfold tripL_k0_t1 trip_k0_t1
  sl_unfold_words
  rfl

theorem tripR1  (v0 v2 : Vec F S8x128 .f32) (v4 v6 : Vec F S1x128 .f32) (X1 : BufTy.Contents (Elt F) arg1.view.ty) (X2 : BufTy.Contents (Elt F) arg2.view.ty) (X7 : BufTy.Contents (Elt F) arg7.view.ty) (k : Fin k0_t1_loop.trips) (acc : Acc F) :
    tripR_k0_t1 (F := F) 𝒱 c bd i arg1 harg1 arg2 harg2 arg3 harg3 arg4 harg4 arg5 harg5 arg6 harg6 arg7 harg7 arg8 harg8 arg9 harg9 arg10 harg10  v0 v2 v4 v6 X1 X2 X7 k acc =
      step (ivOf k) (wt v0) (wt v2) (bs v4) (bs v6) (loads1 arg1 arg2 arg7 X1 X2 X7 k) acc := by
  unfold tripR_k0_t1 trip_k0_t1
  sl_unfold_words
  rfl

/-- The blocks that trip `k` of loop 2 loads. -/
def loads2 (arg1 arg2 arg7 : Memref sig .tc .vmem S2048x512 .f32) (X1 : BufTy.Contents (Elt F) arg1.view.ty) (X2 : BufTy.Contents (Elt F) arg2.view.ty) (X7 : BufTy.Contents (Elt F) arg7.view.ty) (k : Fin k0_t2_loop.trips) : Loads F where
  gLo := arg1.view.readAt (Elt F) (Rect.unit (s := S2048x512) (k0_off6 k) S8x128.size (k0_off6_inb k)).toLoadRect X1
  gMid := arg1.view.readAt (Elt F) (Rect.unit (s := S2048x512) (k0_off7 k) S512x128.size (k0_off7_inb k)).toLoadRect X1
  gHi := arg1.view.readAt (Elt F) (Rect.unit (s := S2048x512) (k0_off8 k) S8x128.size (k0_off8_inb k)).toLoadRect X1
  vLo := arg2.view.readAt (Elt F) (Rect.unit (s := S2048x512) (k0_off6 k) S8x128.size (k0_off6_inb k)).toLoadRect X2
  vMid := arg2.view.readAt (Elt F) (Rect.unit (s := S2048x512) (k0_off7 k) S512x128.size (k0_off7_inb k)).toLoadRect X2
  vHi := arg2.view.readAt (Elt F) (Rect.unit (s := S2048x512) (k0_off8 k) S8x128.size (k0_off8_inb k)).toLoadRect X2
  dMid := arg7.view.readAt (Elt F) (Rect.unit (s := S2048x512) (k0_off7 k) S512x128.size (k0_off7_inb k)).toLoadRect X7
  dHi := arg7.view.readAt (Elt F) (Rect.unit (s := S2048x512) (k0_off8 k) S8x128.size (k0_off8_inb k)).toLoadRect X7

theorem tripL2 (v71 : FVec F S8x128 .f32) (v75 v77 : Vec F S8x128 .f32) (v79 v81 : Vec F S1x128 .f32) (X1 : BufTy.Contents (Elt F) arg1.view.ty) (X2 : BufTy.Contents (Elt F) arg2.view.ty) (X7 : BufTy.Contents (Elt F) arg7.view.ty) (k : Fin k0_t2_loop.trips) (acc : Acc F) :
    tripL_k0_t2 (F := F) 𝒱 c bd i arg1 harg1 arg2 harg2 arg3 harg3 arg4 harg4 arg5 harg5 arg6 harg6 arg7 harg7 arg8 harg8 arg9 harg9 arg10 harg10 v71 v75 v77 v79 v81 X1 X2 X7 k acc =
      [⟨Rect.unit (s := S2x2048x512) (k0_off10 k) S1x512x128.size (k0_off10_inb k), dInput (wt v77) (dValOf (ivOf k) (wt v75) (bs v79) (loads2 arg1 arg2 arg7 X1 X2 X7 k))⟩,
       ⟨Rect.unit (s := S2x2048x512) (k0_off9 k) S1x512x128.size (k0_off9_inb k), dInput (wt v75) (dGateOf (ivOf k) (wt v75) (wt v77) (bs v79) (bs v81) (loads2 arg1 arg2 arg7 X1 X2 X7 k))⟩] := by
  unfold tripL_k0_t2 trip_k0_t2
  sl_unfold_words
  rfl

theorem tripR2 (v71 : FVec F S8x128 .f32) (v75 v77 : Vec F S8x128 .f32) (v79 v81 : Vec F S1x128 .f32) (X1 : BufTy.Contents (Elt F) arg1.view.ty) (X2 : BufTy.Contents (Elt F) arg2.view.ty) (X7 : BufTy.Contents (Elt F) arg7.view.ty) (k : Fin k0_t2_loop.trips) (acc : Acc F) :
    tripR_k0_t2 (F := F) 𝒱 c bd i arg1 harg1 arg2 harg2 arg3 harg3 arg4 harg4 arg5 harg5 arg6 harg6 arg7 harg7 arg8 harg8 arg9 harg9 arg10 harg10 v71 v75 v77 v79 v81 X1 X2 X7 k acc =
      step (ivOf k) (wt v75) (wt v77) (bs v79) (bs v81) (loads2 arg1 arg2 arg7 X1 X2 X7 k) acc := by
  unfold tripR_k0_t2 trip_k0_t2
  sl_unfold_words
  rfl

/-- The blocks that trip `k` of loop 3 loads. -/
def loads3 (arg1 arg2 arg7 : Memref sig .tc .vmem S2048x512 .f32) (X1 : BufTy.Contents (Elt F) arg1.view.ty) (X2 : BufTy.Contents (Elt F) arg2.view.ty) (X7 : BufTy.Contents (Elt F) arg7.view.ty) (k : Fin k0_t3_loop.trips) : Loads F where
  gLo := arg1.view.readAt (Elt F) (Rect.unit (s := S2048x512) (k0_off11 k) S8x128.size (k0_off11_inb k)).toLoadRect X1
  gMid := arg1.view.readAt (Elt F) (Rect.unit (s := S2048x512) (k0_off12 k) S512x128.size (k0_off12_inb k)).toLoadRect X1
  gHi := arg1.view.readAt (Elt F) (Rect.unit (s := S2048x512) (k0_off13 k) S8x128.size (k0_off13_inb k)).toLoadRect X1
  vLo := arg2.view.readAt (Elt F) (Rect.unit (s := S2048x512) (k0_off11 k) S8x128.size (k0_off11_inb k)).toLoadRect X2
  vMid := arg2.view.readAt (Elt F) (Rect.unit (s := S2048x512) (k0_off12 k) S512x128.size (k0_off12_inb k)).toLoadRect X2
  vHi := arg2.view.readAt (Elt F) (Rect.unit (s := S2048x512) (k0_off13 k) S8x128.size (k0_off13_inb k)).toLoadRect X2
  dMid := arg7.view.readAt (Elt F) (Rect.unit (s := S2048x512) (k0_off12 k) S512x128.size (k0_off12_inb k)).toLoadRect X7
  dHi := arg7.view.readAt (Elt F) (Rect.unit (s := S2048x512) (k0_off13 k) S8x128.size (k0_off13_inb k)).toLoadRect X7

theorem tripL3 (v146 : FVec F S8x128 .f32) (v150 v152 : Vec F S8x128 .f32) (v154 v156 : Vec F S1x128 .f32) (X1 : BufTy.Contents (Elt F) arg1.view.ty) (X2 : BufTy.Contents (Elt F) arg2.view.ty) (X7 : BufTy.Contents (Elt F) arg7.view.ty) (k : Fin k0_t3_loop.trips) (acc : Acc F) :
    tripL_k0_t3 (F := F) 𝒱 c bd i arg1 harg1 arg2 harg2 arg3 harg3 arg4 harg4 arg5 harg5 arg6 harg6 arg7 harg7 arg8 harg8 arg9 harg9 arg10 harg10 v146 v150 v152 v154 v156 X1 X2 X7 k acc =
      [⟨Rect.unit (s := S2x2048x512) (k0_off15 k) S1x512x128.size (k0_off15_inb k), dInput (wt v152) (dValOf (ivOf k) (wt v150) (bs v154) (loads3 arg1 arg2 arg7 X1 X2 X7 k))⟩,
       ⟨Rect.unit (s := S2x2048x512) (k0_off14 k) S1x512x128.size (k0_off14_inb k), dInput (wt v150) (dGateOf (ivOf k) (wt v150) (wt v152) (bs v154) (bs v156) (loads3 arg1 arg2 arg7 X1 X2 X7 k))⟩] := by
  unfold tripL_k0_t3 trip_k0_t3
  sl_unfold_words
  rfl

theorem tripR3 (v146 : FVec F S8x128 .f32) (v150 v152 : Vec F S8x128 .f32) (v154 v156 : Vec F S1x128 .f32) (X1 : BufTy.Contents (Elt F) arg1.view.ty) (X2 : BufTy.Contents (Elt F) arg2.view.ty) (X7 : BufTy.Contents (Elt F) arg7.view.ty) (k : Fin k0_t3_loop.trips) (acc : Acc F) :
    tripR_k0_t3 (F := F) 𝒱 c bd i arg1 harg1 arg2 harg2 arg3 harg3 arg4 harg4 arg5 harg5 arg6 harg6 arg7 harg7 arg8 harg8 arg9 harg9 arg10 harg10 v146 v150 v152 v154 v156 X1 X2 X7 k acc =
      step (ivOf k) (wt v150) (wt v152) (bs v154) (bs v156) (loads3 arg1 arg2 arg7 X1 X2 X7 k) acc := by
  unfold tripR_k0_t3 trip_k0_t3
  sl_unfold_words
  rfl

/-- The blocks that trip `k` of loop 4 loads. -/
def loads4 (arg1 arg2 arg7 : Memref sig .tc .vmem S2048x512 .f32) (X1 : BufTy.Contents (Elt F) arg1.view.ty) (X2 : BufTy.Contents (Elt F) arg2.view.ty) (X7 : BufTy.Contents (Elt F) arg7.view.ty) (k : Fin k0_t4_loop.trips) : Loads F where
  gLo := arg1.view.readAt (Elt F) (Rect.unit (s := S2048x512) (k0_off16 k) S8x128.size (k0_off16_inb k)).toLoadRect X1
  gMid := arg1.view.readAt (Elt F) (Rect.unit (s := S2048x512) (k0_off17 k) S512x128.size (k0_off17_inb k)).toLoadRect X1
  gHi := arg1.view.readAt (Elt F) (Rect.unit (s := S2048x512) (k0_off18 k) S8x128.size (k0_off18_inb k)).toLoadRect X1
  vLo := arg2.view.readAt (Elt F) (Rect.unit (s := S2048x512) (k0_off16 k) S8x128.size (k0_off16_inb k)).toLoadRect X2
  vMid := arg2.view.readAt (Elt F) (Rect.unit (s := S2048x512) (k0_off17 k) S512x128.size (k0_off17_inb k)).toLoadRect X2
  vHi := arg2.view.readAt (Elt F) (Rect.unit (s := S2048x512) (k0_off18 k) S8x128.size (k0_off18_inb k)).toLoadRect X2
  dMid := arg7.view.readAt (Elt F) (Rect.unit (s := S2048x512) (k0_off17 k) S512x128.size (k0_off17_inb k)).toLoadRect X7
  dHi := arg7.view.readAt (Elt F) (Rect.unit (s := S2048x512) (k0_off18 k) S8x128.size (k0_off18_inb k)).toLoadRect X7

theorem tripL4 (v202 : FVec F S1x128 .f32) (v216 : FVec F S8x128 .f32) (v218 : IVec S8x128 1) (v225 v227 : Vec F S8x128 .f32) (v229 v231 : Vec F S1x128 .f32) (X1 : BufTy.Contents (Elt F) arg1.view.ty) (X2 : BufTy.Contents (Elt F) arg2.view.ty) (X7 : BufTy.Contents (Elt F) arg7.view.ty) (k : Fin k0_t4_loop.trips) (acc : Acc F) :
    tripL_k0_t4 (F := F) 𝒱 c bd i arg1 harg1 arg2 harg2 arg3 harg3 arg4 harg4 arg5 harg5 arg6 harg6 arg7 harg7 arg8 harg8 arg9 harg9 arg10 harg10 v202 v216 v218 v225 v227 v229 v231 X1 X2 X7 k acc =
      [⟨Rect.unit (s := S2x2048x512) (k0_off20 k) S1x512x128.size (k0_off20_inb k), dInput (wt v227) (dValOf (ivOf k) (wt v225) (bs v229) (loads4 arg1 arg2 arg7 X1 X2 X7 k))⟩,
       ⟨Rect.unit (s := S2x2048x512) (k0_off19 k) S1x512x128.size (k0_off19_inb k), dInput (wt v225) (dGateOf (ivOf k) (wt v225) (wt v227) (bs v229) (bs v231) (loads4 arg1 arg2 arg7 X1 X2 X7 k))⟩] := by
  unfold tripL_k0_t4 trip_k0_t4
  sl_unfold_words
  rfl

theorem tripR4 (v202 : FVec F S1x128 .f32) (v216 : FVec F S8x128 .f32) (v218 : IVec S8x128 1) (v225 v227 : Vec F S8x128 .f32) (v229 v231 : Vec F S1x128 .f32) (X1 : BufTy.Contents (Elt F) arg1.view.ty) (X2 : BufTy.Contents (Elt F) arg2.view.ty) (X7 : BufTy.Contents (Elt F) arg7.view.ty) (k : Fin k0_t4_loop.trips) (acc : Acc F) :
    tripR_k0_t4 (F := F) 𝒱 c bd i arg1 harg1 arg2 harg2 arg3 harg3 arg4 harg4 arg5 harg5 arg6 harg6 arg7 harg7 arg8 harg8 arg9 harg9 arg10 harg10 v202 v216 v218 v225 v227 v229 v231 X1 X2 X7 k acc =
      step (ivOf k) (wt v225) (wt v227) (bs v229) (bs v231) (loads4 arg1 arg2 arg7 X1 X2 X7 k) acc := by
  unfold tripR_k0_t4 trip_k0_t4
  sl_unfold_words
  rfl

end Cert.KernelIdeal.Hand

end
-- ==== Proof.Column.lean ====
/- One column of the gradient of the gated convolution, over the extended reals: the rows are natural numbers, and the input
   is zero outside them. -/
module

public import Idealize.ShloMosaic.Lib.Pointwise

@[expose] public section

noncomputable section

namespace Cert.GatedConv

open Idealize.ShloMosaic

/-- The rows of an input, eight places later, zero outside them. -/
def late (x : ℕ → EReal) (n : ℕ) : EReal := if 8 ≤ n ∧ n < 2056 then x (n - 8) else 0

/-- The rows of a cotangent, zero after the last one. -/
def cut (d : ℕ → EReal) (n : ℕ) : EReal := if n < 2048 then d n else 0

/-- The convolution of width three at row `n`: the row itself takes weight 2, the rows before it weights 1 and 0. -/
def convAt (w : Fin 8 → EReal) (b : EReal) (x : ℕ → EReal) (n : ℕ) : EReal :=
  w 0 * late x (n + 6) + w 1 * late x (n + 7) + w 2 * late x (n + 8) + b

/-- What one column of the gradient is made of: the input's gate half and value half, the cotangent of the product, and the
    weights and the bias of both halves. -/
structure Column where
  xg : ℕ → EReal
  xv : ℕ → EReal
  d : ℕ → EReal
  wg : Fin 8 → EReal
  wv : Fin 8 → EReal
  bg : EReal
  bv : EReal

namespace Column
variable (c : Column)

/-- The gate and the value at row `n`. -/
def gate (n : ℕ) : EReal := convAt c.wg c.bg c.xg n
@[inherit_doc gate] def val (n : ℕ) : EReal := convAt c.wv c.bv c.xv n

/-- The cotangents of the gate and of the value at row `n`, as the kernel writes them. -/
def dGate (n : ℕ) : EReal :=
  cut c.d n * c.val n * Ideal.logistic (c.gate n) * (1 + c.gate n * (1 - Ideal.logistic (c.gate n)))
@[inherit_doc dGate] def dVal (n : ℕ) : EReal := cut c.d n * c.gate n * Ideal.logistic (c.gate n)

end Column

/-- The cotangent of the input at row `n`, from the cotangent of one half: row `n` reached rows `n`, `n + 1`, `n + 2`. -/
def dInputAt (w : Fin 8 → EReal) (D : ℕ → EReal) (n : ℕ) : EReal := w 2 * D n + w 1 * D (n + 1) + w 0 * D (n + 2)

/-- A sum over the rows of the chunks before chunk `k`, chunk by chunk and eight by eight: the part at sublane `s`. -/
def partialSum (f : ℕ → EReal) (k : ℕ) (s : ℕ) : EReal :=
  ∑ i ∈ Finset.range k, ∑ q : Fin 64, f (512 * i + (q.val * 8 + s))

theorem partialSum_zero (f : ℕ → EReal) (s : ℕ) : partialSum f 0 s = 0 := by simp [partialSum]

theorem partialSum_succ (f : ℕ → EReal) (k s : ℕ) :
    partialSum f (k + 1) s = partialSum f k s + ∑ q : Fin 64, f (512 * k + (q.val * 8 + s)) := by
  simp [partialSum, Finset.sum_range_succ]

/-- The parts at the eight sublanes make up the sum over all rows. -/
theorem sum_partialSum (f : ℕ → EReal) : ∑ s : Fin 8, partialSum f 4 s = ∑ n : Fin 2048, f n := by
  have h1 : ∀ k : ℕ, ∑ q : Fin 64, ∑ s : Fin 8, f (512 * k + (q.val * 8 + s.val)) = ∑ i ∈ Finset.range 512, f (512 * k + i) := by
    intro k
    rw [Finset.sum_range (fun i => f (512 * k + i)), ← Fintype.sum_prod_type']
    refine Fintype.sum_equiv (finProdFinEquiv (m := 64) (n := 8)) _ (fun i : Fin 512 => f (512 * k + i.val)) (fun x => ?_)
    show _ = f (512 * k + (finProdFinEquiv x).val)
    rw [finProdFinEquiv_apply_val, Nat.add_comm (x.2 : ℕ), Nat.mul_comm 8]
  have h2 : ∀ k : ℕ, ∑ i ∈ Finset.range k, ∑ r ∈ Finset.range 512, f (512 * i + r) = ∑ n ∈ Finset.range (512 * k), f n := by
    intro k
    induction k with
    | zero => simp
    | succ k ih => rw [Finset.sum_range_succ, ih, Nat.mul_succ, Finset.sum_range_add]
  rw [← Finset.sum_range (fun n => f n), show (2048 : ℕ) = 512 * 4 from rfl, ← h2]
  unfold partialSum
  rw [Finset.sum_comm]
  refine Finset.sum_congr rfl fun k _ => ?_
  rw [Finset.sum_comm, h1]

end Cert.GatedConv

end
-- ==== Proof.ChunkValue.lean ====
/- What one chunk of the kernel computes over the extended reals: the columns' gradient at the chunk's rows. -/
module

public import proofs.«01_k».proof.Proof.Chunk
public import proofs.«01_k».proof.Proof.Column

@[expose] public section

noncomputable section

namespace Cert.KernelIdeal.Hand

open Cert.KernelIdeal Cert.KernelIdeal.Gen Idealize.ShloMosaic Idealize.ShloMosaic.TcCoe Cert.GatedConv

/-- The loaded blocks are rows of the columns: those of chunk `k`, eight before and eight after where there are such. -/
structure Loads.Holds (l : Loads Ideal) (k : ℕ) (col : Fin 128 → Column) : Prop where
  gLo : 0 < k → ∀ p j, l.gLo (ix2 p j) = (col j).xg (512 * k - 8 + p.val)
  gMid : ∀ p j, l.gMid (ix2 p j) = (col j).xg (512 * k + p.val)
  gHi : k < 3 → ∀ p j, l.gHi (ix2 p j) = (col j).xg (512 * k + 512 + p.val)
  vLo : 0 < k → ∀ p j, l.vLo (ix2 p j) = (col j).xv (512 * k - 8 + p.val)
  vMid : ∀ p j, l.vMid (ix2 p j) = (col j).xv (512 * k + p.val)
  vHi : k < 3 → ∀ p j, l.vHi (ix2 p j) = (col j).xv (512 * k + 512 + p.val)
  dMid : ∀ p j, l.dMid (ix2 p j) = (col j).d (512 * k + p.val)
  dHi : k < 3 → ∀ p j, l.dHi (ix2 p j) = (col j).d (512 * k + 512 + p.val)

/-- The loaded weights and biases are those of the columns. -/
structure Weights (wg wv : FVec Ideal S8x128 .f32) (bg bv : FVec Ideal S1x128 .f32) (col : Fin 128 → Column) : Prop where
  wg : ∀ r j, wg (ix2 r j) = (col j).wg r
  wv : ∀ r j, wv (ix2 r j) = (col j).wv r
  bg : ∀ j, bg (ix2 0 j) = (col j).bg
  bv : ∀ j, bv (ix2 0 j) = (col j).bv

variable {k : ℕ} (hk : k < 4)

include hk in
theorem keep_before : keep (F := Ideal) (Scalar.cmpi .sgt (ivOf k) 0#32) = if 0 < k then (1 : EReal) else 0 := by
  have h : Scalar.cmpi .sgt (ivOf k) 0#32 = if 0 < k then 1#1 else 0#1 := by interval_cases k <;> decide
  rw [h, keep]
  split_ifs
  · exact Ideal.ofBits_one_f32
  · exact Ideal.ofBits_zero_f32

include hk in
theorem keep_after : keep (F := Ideal) (Scalar.cmpi .slt (ivOf k) 3#32) = if k < 3 then (1 : EReal) else 0 := by
  have h : Scalar.cmpi .slt (ivOf k) 3#32 = if k < 3 then 1#1 else 0#1 := by interval_cases k <;> decide
  rw [h, keep]
  split_ifs
  · exact Ideal.ofBits_one_f32
  · exact Ideal.ofBits_zero_f32

include hk in
theorem withRows_apply (x : Fin 128 → ℕ → EReal) (lo : Vec Ideal S8x128 .f32) (mid : Vec Ideal S512x128 .f32) (hi : Vec Ideal S8x128 .f32)
    (hlo : 0 < k → ∀ p j, lo (ix2 p j) = x j (512 * k - 8 + p.val)) (hmid : ∀ p j, mid (ix2 p j) = x j (512 * k + p.val))
    (hhi : k < 3 → ∀ p j, hi (ix2 p j) = x j (512 * k + 512 + p.val)) (p : Fin 528) (j : Fin 128) :
    withRows (ivOf k) lo mid hi (ix2 p j) = late (x j) (512 * k + p.val) := by
  pointwise [withRows]
  rw [keep_before hk, keep_after hk]
  have hp := p.isLt
  by_cases h1 : p.val < 8
  · rw [dif_pos h1]
    by_cases h0 : 0 < k
    · rw [if_pos h0, mul_one, hlo h0]; exact (congrArg (x j) (by dsimp only; omega)).trans (if_pos (by omega)).symm
    · rw [if_neg h0, mul_zero, late, if_neg (by omega)]
  · rw [dif_neg h1]
    by_cases h2 : p.val - 8 < 512
    · rw [dif_pos h2, hmid]; exact (congrArg (x j) (by dsimp only; omega)).trans (if_pos (by omega)).symm
    · rw [dif_neg h2]
      by_cases h3 : k < 3
      · rw [if_pos h3, mul_one, hhi h3]; exact (congrArg (x j) (by dsimp only; omega)).trans (if_pos (by omega)).symm
      · rw [if_neg h3, mul_zero, late, if_neg (by omega)]

include hk in
theorem withAfter_apply (x : Fin 128 → ℕ → EReal) (mid : Vec Ideal S512x128 .f32) (hi : Vec Ideal S8x128 .f32)
    (hmid : ∀ p j, mid (ix2 p j) = x j (512 * k + p.val))
    (hhi : k < 3 → ∀ p j, hi (ix2 p j) = x j (512 * k + 512 + p.val)) (p : Fin 520) (j : Fin 128) :
    withAfter (ivOf k) mid hi (ix2 p j) = cut (x j) (512 * k + p.val) := by
  pointwise [withAfter]
  rw [keep_after hk]
  have hp := p.isLt
  by_cases h1 : p.val < 512
  · rw [dif_pos h1, hmid]; exact (if_pos (by omega)).symm
  · rw [dif_neg h1]
    by_cases h3 : k < 3
    · rw [if_pos h3, mul_one, hhi h3]; exact (congrArg (x j) (by dsimp only; omega)).trans (if_pos (by omega)).symm
    · rw [if_neg h3, mul_zero, cut, if_neg (by omega)]

theorem back2_apply {x : FVec Ideal S528x128 .f32} {f : ℕ → EReal} {j : Fin 128} (h : ∀ p : Fin 528, x (ix2 p j) = f (512 * k + p.val)) (p : Fin 520) :
    back2 x (ix2 p j) = f (512 * k + p.val + 6) := by
  have hp := p.isLt
  pointwise [back2]
  rw [h]; congr 1; dsimp only; omega

theorem back1_apply {x : FVec Ideal S528x128 .f32} {f : ℕ → EReal} {j : Fin 128} (h : ∀ p : Fin 528, x (ix2 p j) = f (512 * k + p.val)) (p : Fin 520) :
    back1 x (ix2 p j) = f (512 * k + p.val + 7) := by
  have hp := p.isLt
  pointwise [back1]
  rw [h]; congr 1; dsimp only; omega

theorem back0_apply {x : FVec Ideal S528x128 .f32} {f : ℕ → EReal} {j : Fin 128} (h : ∀ p : Fin 528, x (ix2 p j) = f (512 * k + p.val)) (p : Fin 520) :
    back0 x (ix2 p j) = f (512 * k + p.val + 8) := by
  have hp := p.isLt
  pointwise [back0]
  rw [h]; congr 1; dsimp only; omega

theorem conv_apply {w : FVec Ideal S8x128 .f32} {b : FVec Ideal S1x128 .f32} {x : FVec Ideal S528x128 .f32} {f : ℕ → EReal} {j : Fin 128}
    {W : Fin 8 → EReal} {B : EReal} (hw : ∀ r, w (ix2 r j) = W r) (hb : b (ix2 0 j) = B)
    (h : ∀ p : Fin 528, x (ix2 p j) = late f (512 * k + p.val)) (p : Fin 520) :
    conv w b x (ix2 p j) = convAt W B f (512 * k + p.val) := by
  pointwise [conv, row0, row1, row2]
  rw [back2_apply h, back1_apply h, back0_apply h, hw, hw, hw, hb, convAt]

theorem fold_head_apply {d : FVec Ideal S520x128 .f32} {D : ℕ → EReal} {j : Fin 128} (h : ∀ p : Fin 520, d (ix2 p j) = D (512 * k + p.val)) (s : Fin 8) :
    fold (head d) (ix2 s j) = ∑ q : Fin 64, D (512 * k + (q.val * 8 + s.val)) := by
  pointwise [fold, head]
  exact Finset.sum_congr rfl fun q _ => by rw [h]

theorem fold_mul_apply {d e : FVec Ideal S520x128 .f32} {D E : ℕ → EReal} {j : Fin 128} (h : ∀ p : Fin 520, d (ix2 p j) = D (512 * k + p.val))
    (h' : ∀ p : Fin 520, e (ix2 p j) = E (512 * k + p.val)) (s : Fin 8) :
    fold (mulf (head d) (head e)) (ix2 s j) = ∑ q : Fin 64, D (512 * k + (q.val * 8 + s.val)) * E (512 * k + (q.val * 8 + s.val)) := by
  pointwise [fold, head]
  exact Finset.sum_congr rfl fun q _ => by rw [h, h']

theorem dInput_apply {w : FVec Ideal S8x128 .f32} {d : FVec Ideal S520x128 .f32} {D : ℕ → EReal} {W : Fin 8 → EReal} {j : Fin 128}
    (hw : ∀ r, w (ix2 r j) = W r) (h : ∀ p : Fin 520, d (ix2 p j) = D (512 * k + p.val)) (z : Fin 1) (p : Fin 512) :
    dInput w d (ix3 z p j) = dInputAt W D (512 * k + p.val) := by
  have hp := p.isLt
  pointwise [dInput, head, row0, row1, row2]
  rw [h, h, h, hw, hw, hw, dInputAt]
  exact congrArg₂ (· + ·) (congrArg₂ (· + ·) (congrArg (W 2 * D ·) rfl) (congrArg (W 1 * D ·) (by dsimp only; omega)))
    (congrArg (W 0 * D ·) (by dsimp only; omega))

section Chunk
variable {l : Loads Ideal} {wg wv : FVec Ideal S8x128 .f32} {bg bv : FVec Ideal S1x128 .f32} {col : Fin 128 → Column}
  (hl : l.Holds k col) (hw : Weights wg wv bg bv col)

include hk hl in
theorem gRows (p : Fin 528) (j : Fin 128) : withRows (ivOf k) l.gLo l.gMid l.gHi (ix2 p j) = late (col j).xg (512 * k + p.val) :=
  withRows_apply hk (fun j => (col j).xg) _ _ _ hl.gLo hl.gMid hl.gHi p j

include hk hl in
theorem vRows (p : Fin 528) (j : Fin 128) : withRows (ivOf k) l.vLo l.vMid l.vHi (ix2 p j) = late (col j).xv (512 * k + p.val) :=
  withRows_apply hk (fun j => (col j).xv) _ _ _ hl.vLo hl.vMid hl.vHi p j

include hk hl hw in
theorem gateOf_apply (p : Fin 520) (j : Fin 128) : gateOf (ivOf k) wg bg l (ix2 p j) = (col j).gate (512 * k + p.val) :=
  conv_apply (fun r => hw.wg r j) (hw.bg j) (fun p => gRows hk hl p j) p

include hk hl hw in
theorem valOf_apply (p : Fin 520) (j : Fin 128) : valOf (ivOf k) wv bv l (ix2 p j) = (col j).val (512 * k + p.val) :=
  conv_apply (fun r => hw.wv r j) (hw.bv j) (fun p => vRows hk hl p j) p

include hk hl hw in
theorem dGateOf_apply (p : Fin 520) (j : Fin 128) : dGateOf (ivOf k) wg wv bg bv l (ix2 p j) = (col j).dGate (512 * k + p.val) := by
  pointwise [dGateOf, dGate]
  rw [withAfter_apply hk (fun j => (col j).d) _ _ hl.dMid hl.dHi, gateOf_apply hk hl hw, valOf_apply hk hl hw, Column.dGate]

include hk hl hw in
theorem dValOf_apply (p : Fin 520) (j : Fin 128) : dValOf (ivOf k) wg bg l (ix2 p j) = (col j).dVal (512 * k + p.val) := by
  pointwise [dValOf, dVal]
  rw [withAfter_apply hk (fun j => (col j).d) _ _ hl.dMid hl.dHi, gateOf_apply hk hl hw, Column.dVal]

/-- The carried arrays hold the sums over the chunks before chunk `k`. -/
structure Acc.Holds (a : Acc Ideal) (k : ℕ) (col : Fin 128 → Column) : Prop where
  g : ∀ s j, a.1 (ix2 s j) = partialSum (col j).dGate k s.val
  g0 : ∀ s j, a.2.1 (ix2 s j) = partialSum (fun n => (col j).dGate n * late (col j).xg (n + 6)) k s.val
  g1 : ∀ s j, a.2.2.1 (ix2 s j) = partialSum (fun n => (col j).dGate n * late (col j).xg (n + 7)) k s.val
  g2 : ∀ s j, a.2.2.2.1 (ix2 s j) = partialSum (fun n => (col j).dGate n * late (col j).xg (n + 8)) k s.val
  v : ∀ s j, a.2.2.2.2.1 (ix2 s j) = partialSum (col j).dVal k s.val
  v0 : ∀ s j, a.2.2.2.2.2.1 (ix2 s j) = partialSum (fun n => (col j).dVal n * late (col j).xv (n + 6)) k s.val
  v1 : ∀ s j, a.2.2.2.2.2.2.1 (ix2 s j) = partialSum (fun n => (col j).dVal n * late (col j).xv (n + 7)) k s.val
  v2 : ∀ s j, a.2.2.2.2.2.2.2 (ix2 s j) = partialSum (fun n => (col j).dVal n * late (col j).xv (n + 8)) k s.val

include hk hl hw in
/-- One more chunk. -/
theorem step_holds {a : Acc Ideal} (ha : Acc.Holds a k col) : Acc.Holds (step (ivOf k) wg wv bg bv l a) (k + 1) col := by
  have dg := fun j (p : Fin 520) => dGateOf_apply hk hl hw p j
  have dv := fun j (p : Fin 520) => dValOf_apply hk hl hw p j
  have xg := fun j (p : Fin 528) => gRows hk hl p j
  have xv := fun j (p : Fin 528) => vRows hk hl p j
  constructor <;> intro s j <;> rw [partialSum_succ]
  · rw [← ha.g, ← fold_head_apply (dg j) s]; rfl
  · rw [← ha.g0, ← fold_mul_apply (E := fun n => late (col j).xg (n + 6)) (dg j) (back2_apply (xg j)) s]; rfl
  · rw [← ha.g1, ← fold_mul_apply (E := fun n => late (col j).xg (n + 7)) (dg j) (back1_apply (xg j)) s]; rfl
  · rw [← ha.g2, ← fold_mul_apply (E := fun n => late (col j).xg (n + 8)) (dg j) (back0_apply (xg j)) s]; rfl
  · rw [← ha.v, ← fold_head_apply (dv j) s]; rfl
  · rw [← ha.v0, ← fold_mul_apply (E := fun n => late (col j).xv (n + 6)) (dv j) (back2_apply (xv j)) s]; rfl
  · rw [← ha.v1, ← fold_mul_apply (E := fun n => late (col j).xv (n + 7)) (dv j) (back1_apply (xv j)) s]; rfl
  · rw [← ha.v2, ← fold_mul_apply (E := fun n => late (col j).xv (n + 8)) (dv j) (back0_apply (xv j)) s]; rfl

end Chunk

end Cert.KernelIdeal.Hand

end
-- ==== Proof.Block.lean ====
/- The columns of one block of 512 lanes, and the three blocks that the kernel leaves there, as functions of the seven input blocks. -/
module

public import proofs.«01_k».proof.Proof.Trips
public import proofs.«01_k».proof.Proof.ChunkValue

@[expose] public section

set_option maxRecDepth 16384

noncomputable section

namespace Cert.KernelIdeal.Hand

open Cert.KernelIdeal Cert.KernelIdeal.Gen Idealize.ShloMosaic Idealize.ShloMosaic.TcCoe Cert.GatedConv

/-- Column `q` of an array of 2048 rows, zero below the last row. -/
def rowsOf {C : ℕ} (x : (⟨2, ![2048, C]⟩ : Shape).Idx → EReal) (q : Fin C) (n : ℕ) : EReal :=
  if h : n < 2048 then x (ix2 ⟨n, h⟩ q) else 0

theorem rowsOf_lt {C : ℕ} (x : (⟨2, ![2048, C]⟩ : Shape).Idx → EReal) (q : Fin C) {n : ℕ} (h : n < 2048) : rowsOf x q n = x (ix2 ⟨n, h⟩ q) :=
  dif_pos h

/-- The seven input blocks of one grid point. -/
structure Ins where
  x0 : Vec Ideal S2048x512 .f32
  x1 : Vec Ideal S2048x512 .f32
  x2 : Vec Ideal S8x512 .f32
  x3 : Vec Ideal S8x512 .f32
  x4 : Vec Ideal S1x512 .f32
  x5 : Vec Ideal S1x512 .f32
  x6 : Vec Ideal S2048x512 .f32

/-- Column `q` of the block. -/
def Ins.col (b : Ins) (q : Fin 512) : Column where
  xg := rowsOf b.x0 q
  xv := rowsOf b.x1 q
  d := rowsOf b.x6 q
  wg r := b.x2 (ix2 r q)
  wv r := b.x3 (ix2 r q)
  bg := b.x4 (ix2 0 q)
  bv := b.x5 (ix2 0 q)

/-- The columns of lane tile `l`. -/
def Ins.tile (b : Ins) (l : Fin 4) (j : Fin 128) : Column := b.col ⟨128 * l.val + j.val, by omega⟩

/-- The block of the input's cotangent. -/
def Ins.da (b : Ins) (y : S2x2048x512.Idx) : EReal :=
  if (y 0).val = 0 then dInputAt (b.col (y 2)).wg (b.col (y 2)).dGate (y 1).val
  else dInputAt (b.col (y 2)).wv (b.col (y 2)).dVal (y 1).val

/-- The sum over the rows of a cotangent times the input at `t` places from eight rows back. -/
def tapSum (D x : ℕ → EReal) (t : ℕ) : EReal := ∑ n : Fin 2048, D n * late x (n + t)

/-- The block of the weights' cotangent: three rows of sums, then zeros. -/
def dwAt (D x : ℕ → EReal) (r : ℕ) : EReal :=
  if r = 2 then tapSum D x 8 else if r = 1 then tapSum D x 7 else if r = 0 then tapSum D x 6 else 0
@[inherit_doc dwAt] def Ins.dw (b : Ins) (y : S2x8x512.Idx) : EReal :=
  if (y 0).val = 0 then dwAt (b.col (y 2)).dGate (b.col (y 2)).xg (y 1).val
  else dwAt (b.col (y 2)).dVal (b.col (y 2)).xv (y 1).val

/-- The block of the bias's cotangent. -/
def Ins.db (b : Ins) (y : S2x1x512.Idx) : EReal :=
  if (y 0).val = 0 then ∑ n : Fin 2048, (b.col (y 2)).dGate n else ∑ n : Fin 2048, (b.col (y 2)).dVal n

/-- A load of rows and lanes, read at an index. -/
theorem load_apply {R C r : ℕ} {arg : Memref sig .tc .vmem ⟨2, ![R, C]⟩ .f32} (harg : arg.IsWhole) (x : Vec Ideal ⟨2, ![R, C]⟩ .f32)
    {off : Fin 2 → ℕ} {o l : ℕ} (h : off = ![o, l]) (inb : ∀ a, off a + (![r, 128] : Fin 2 → ℕ) a ≤ (![R, C] : Fin 2 → ℕ) a)
    (p : Fin r) (j : Fin 128) (h0 : o + p.val < R) (h1 : l + j.val < C) :
    arg.view.readAt (Elt Ideal) (Rect.unit (s := ⟨2, ![R, C]⟩) off (![r, 128]) inb).toLoadRect (harg.unread x) (ix2 p j)
      = x (ix2 ⟨o + p.val, h0⟩ ⟨l + j.val, h1⟩) := by
  subst h
  rw [View.readAt_eq_ld, harg.read_unread]
  pointwise
  congr 1
  funext a
  fin_cases a <;> rfl

/-- The same for an array of 2048 rows, as rows of a column. -/
theorem load_rows {r : ℕ} {arg : Memref sig .tc .vmem S2048x512 .f32} (harg : arg.IsWhole) (x : Vec Ideal S2048x512 .f32)
    {off : Fin 2 → ℕ} {o : ℕ} {l : Fin 4} (h : off = ![o, 128 * l.val]) (inb : ∀ a, off a + (![r, 128] : Fin 2 → ℕ) a ≤ (![2048, 512] : Fin 2 → ℕ) a)
    (p : Fin r) (j : Fin 128) (n : ℕ) (hn : n = o + p.val) (h0 : n < 2048) :
    arg.view.readAt (Elt Ideal) (Rect.unit (s := S2048x512) off (![r, 128]) inb).toLoadRect (harg.unread x) (ix2 p j)
      = rowsOf x ⟨128 * l.val + j.val, by omega⟩ n := by
  subst hn
  rw [rowsOf_lt _ _ h0]
  exact load_apply harg x h inb p j h0 (by omega)

/-- The loaded weights are those of the lane tile. -/
theorem weights_tile (b : Ins) (l : Fin 4) {arg3 : Memref sig .tc .vmem S8x512 .f32} (harg3 : arg3.IsWhole) {arg4 : Memref sig .tc .vmem S8x512 .f32} (harg4 : arg4.IsWhole)
    {arg5 : Memref sig .tc .vmem S1x512 .f32} (harg5 : arg5.IsWhole) {arg6 : Memref sig .tc .vmem S1x512 .f32} (harg6 : arg6.IsWhole)
    {off : Fin 2 → ℕ} (h : off = ![0, 128 * l.val])
    (inb : ∀ a, off a + (![8, 128] : Fin 2 → ℕ) a ≤ (![8, 512] : Fin 2 → ℕ) a) (inb' : ∀ a, off a + (![1, 128] : Fin 2 → ℕ) a ≤ (![1, 512] : Fin 2 → ℕ) a) :
    Weights (wt (arg3.view.readAt (Elt Ideal) (Rect.unit (s := S8x512) off ![8, 128] inb).toLoadRect (harg3.unread b.x2)))
      (wt (arg4.view.readAt (Elt Ideal) (Rect.unit (s := S8x512) off ![8, 128] inb).toLoadRect (harg4.unread b.x3)))
      (bs (arg5.view.readAt (Elt Ideal) (Rect.unit (s := S1x512) off ![1, 128] inb').toLoadRect (harg5.unread b.x4)))
      (bs (arg6.view.readAt (Elt Ideal) (Rect.unit (s := S1x512) off ![1, 128] inb').toLoadRect (harg6.unread b.x5))) (b.tile l) := by
  have e8 : ∀ r : Fin 8, (⟨0 + r.val, by omega⟩ : Fin 8) = r := fun r => Fin.ext (Nat.zero_add _)
  constructor
  · intro r j
    rw [wt, shapeCast_self]
    exact (load_apply harg3 b.x2 h inb r j (by omega) (by omega)).trans (by rw [e8]; rfl)
  · intro r j
    rw [wt, shapeCast_self]
    exact (load_apply harg4 b.x3 h inb r j (by omega) (by omega)).trans (by rw [e8]; rfl)
  · intro j
    rw [bs, shapeCast_self]
    exact load_apply harg5 b.x4 h inb' 0 j (by decide) (by omega)
  · intro j
    rw [bs, shapeCast_self]
    exact load_apply harg6 b.x5 h inb' 0 j (by decide) (by omega)

/-- The carried arrays before the first chunk. -/
theorem zero_holds (col : Fin 128 → Column) {z : FVec Ideal S8x128 .f32} (hz : ∀ y, z y = 0) :
    Acc.Holds (z, z, z, z, z, z, z, z) 0 col := by
  constructor <;> intro s j <;> rw [partialSum_zero] <;> exact hz _

/-- A stored block of 512 rows and 128 lanes, as a piece of the block of the input's cotangent. -/
theorem piece_da (b : Ins) {off : Fin 3 → ℕ} {half : Fin 2} {k : ℕ} (hk : k < 4) {l : Fin 4} (h : off = ![half.val, 512 * k, 128 * l.val])
    (inb : ∀ a, off a + (![1, 512, 128] : Fin 3 → ℕ) a ≤ (![2, 2048, 512] : Fin 3 → ℕ) a) (pay : FVec Ideal S1x512x128 .bf16)
    (hp : ∀ (z : Fin 1) (p : Fin 512) (j : Fin 128), pay (ix3 z p j) = if half.val = 0
      then dInputAt (b.tile l j).wg (b.tile l j).dGate (512 * k + p.val) else dInputAt (b.tile l j).wv (b.tile l j).dVal (512 * k + p.val))
    (x : S1x512x128.Idx) : pay x = b.da ((Rect.unit (s := S2x2048x512) off ![1, 512, 128] inb).emb x) := by
  subst h
  refine (congrArg pay (eq_ix3 x)).trans ((hp (x 0) (x 1) (x 2)).trans ?_)
  have e0 : ∀ y : S2x2048x512.Idx, (y 0).val = half.val → (y 1).val = 512 * k + (x 1).val → (y 2).val = 128 * l.val + (x 2).val →
      b.da y = if half.val = 0 then dInputAt (b.tile l (x 2)).wg (b.tile l (x 2)).dGate (512 * k + (x 1).val)
        else dInputAt (b.tile l (x 2)).wv (b.tile l (x 2)).dVal (512 * k + (x 1).val) := by
    intro y h0 h1 h2
    have e2 : b.col (y 2) = b.tile l (x 2) := congrArg b.col (Fin.ext h2)
    rw [Ins.da, h0, h1, e2]
  refine (e0 _ ?_ ?_ ?_).symm
  · show half.val + 1 * (x 0).val = _
    have : (x 0).val < 1 := (x 0).isLt
    omega
  · show 512 * k + 1 * (x 1).val = _
    omega
  · show 128 * l.val + 1 * (x 2).val = _
    omega

end Cert.KernelIdeal.Hand

end
-- ==== Proof.LoopValue.lean ====
/- The four loops over the chunks, one for each tile of 128 lanes: after `n` chunks the carried arrays hold the sums over those
   chunks, and every block stored is a block of the input's cotangent. -/
module

public import proofs.«01_k».proof.Proof.Block

@[expose] public section

set_option maxRecDepth 16384

noncomputable section

namespace Cert.KernelIdeal.Hand

open Cert.KernelIdeal Cert.KernelIdeal.Gen Idealize.ShloMosaic Idealize.ShloMosaic.TcCoe Cert.GatedConv

variable (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2x2048x512 .bf16) (harg8 : arg8.IsWhole) (arg9 : Memref sig .tc .vmem S2x8x512 .f32) (harg9 : arg9.IsWhole) (arg10 : Memref sig .tc .vmem S2x1x512 .f32) (harg10 : arg10.IsWhole)

theorem lt_four1 (k : Fin k0_t1_loop.trips) : k.val < 4 := Nat.lt_of_lt_of_le k.isLt k0_t1_abs.2.1

theorem off1_eq : ∀ k : Fin k0_t1_loop.trips, k0_off1 k = ![512 * k.val - 8, 0] := by decide +kernel

theorem off2_eq : ∀ k : Fin k0_t1_loop.trips, k0_off2 k = ![512 * k.val, 0] := by decide +kernel

theorem off3_eq : ∀ k : Fin k0_t1_loop.trips, k0_off3 k = ![min (512 * k.val + 512) 2040, 0] := by decide +kernel

theorem off4_eq : ∀ k : Fin k0_t1_loop.trips, k0_off4 k = ![0, 512 * k.val, 0] := by decide +kernel

theorem off5_eq : ∀ k : Fin k0_t1_loop.trips, k0_off5 k = ![1, 512 * k.val, 0] := by decide +kernel

/-- Trip `k` of loop 1 loads the rows of chunk `k`. -/
theorem loads1_holds (b : Ins) {arg1 arg2 arg7 : Memref sig .tc .vmem S2048x512 .f32} (harg1 : arg1.IsWhole) (harg2 : arg2.IsWhole) (harg7 : arg7.IsWhole)
    (k : Fin k0_t1_loop.trips) :
    (loads1 (F := Ideal) arg1 arg2 arg7 (harg1.unread b.x0) (harg2.unread b.x1) (harg7.unread b.x6) k).Holds k.val (b.tile 0) where
  gLo h p j := load_rows harg1 b.x0 (l := 0) (off1_eq k) _ p j _ rfl (by have := p.isLt; have := lt_four1 k; omega)
  gMid p j := load_rows harg1 b.x0 (l := 0) (off2_eq k) _ p j _ rfl (by have := p.isLt; have := lt_four1 k; omega)
  gHi h p j := load_rows harg1 b.x0 (l := 0) (off3_eq k) _ p j _ (by omega) (by have := p.isLt; omega)
  vLo h p j := load_rows harg2 b.x1 (l := 0) (off1_eq k) _ p j _ rfl (by have := p.isLt; have := lt_four1 k; omega)
  vMid p j := load_rows harg2 b.x1 (l := 0) (off2_eq k) _ p j _ rfl (by have := p.isLt; have := lt_four1 k; omega)
  vHi h p j := load_rows harg2 b.x1 (l := 0) (off3_eq k) _ p j _ (by omega) (by have := p.isLt; omega)
  dMid p j := load_rows harg7 b.x6 (l := 0) (off2_eq k) _ p j _ rfl (by have := p.isLt; have := lt_four1 k; omega)
  dHi h p j := load_rows harg7 b.x6 (l := 0) (off3_eq k) _ p j _ (by omega) (by have := p.isLt; omega)

theorem loop1_holds (b : Ins)  (n : ℕ) (hn : n ≤ 4) :
    Acc.Holds (st_k0_t1 (F := Ideal) Variants.none c none i arg1 harg1 arg2 harg2 arg3 harg3 arg4 harg4 arg5 harg5 arg6 harg6 arg7 harg7 arg8 harg8 arg9 harg9 arg10 harg10  (arg3.view.readAt (Elt Ideal) (Rect.unit (s := S8x512) ![0, 0] ![8, 128] inb_S8x512_S8x128_0_0).toLoadRect (harg3.unread b.x2)) (arg4.view.readAt (Elt Ideal) (Rect.unit (s := S8x512) ![0, 0] ![8, 128] inb_S8x512_S8x128_0_0).toLoadRect (harg4.unread b.x3)) (arg5.view.readAt (Elt Ideal) (Rect.unit (s := S1x512) ![0, 0] ![1, 128] inb_S1x512_S1x128_0_0).toLoadRect (harg5.unread b.x4)) (arg6.view.readAt (Elt Ideal) (Rect.unit (s := S1x512) ![0, 0] ![1, 128] inb_S1x512_S1x128_0_0).toLoadRect (harg6.unread b.x5)) (harg1.unread b.x0) (harg2.unread b.x1) (harg7.unread b.x6) (k0_pay126, k0_pay127, k0_pay128, k0_pay129, k0_pay126, k0_pay127, k0_pay128, k0_pay129) n).1 n (b.tile 0) ∧ ∀ p ∈ (st_k0_t1 (F := Ideal) Variants.none c none i arg1 harg1 arg2 harg2 arg3 harg3 arg4 harg4 arg5 harg5 arg6 harg6 arg7 harg7 arg8 harg8 arg9 harg9 arg10 harg10  (arg3.view.readAt (Elt Ideal) (Rect.unit (s := S8x512) ![0, 0] ![8, 128] inb_S8x512_S8x128_0_0).toLoadRect (harg3.unread b.x2)) (arg4.view.readAt (Elt Ideal) (Rect.unit (s := S8x512) ![0, 0] ![8, 128] inb_S8x512_S8x128_0_0).toLoadRect (harg4.unread b.x3)) (arg5.view.readAt (Elt Ideal) (Rect.unit (s := S1x512) ![0, 0] ![1, 128] inb_S1x512_S1x128_0_0).toLoadRect (harg5.unread b.x4)) (arg6.view.readAt (Elt Ideal) (Rect.unit (s := S1x512) ![0, 0] ![1, 128] inb_S1x512_S1x128_0_0).toLoadRect (harg6.unread b.x5)) (harg1.unread b.x0) (harg2.unread b.x1) (harg7.unread b.x6) (k0_pay126, k0_pay127, k0_pay128, k0_pay129, k0_pay126, k0_pay127, k0_pay128, k0_pay129) n).2, ∀ x, p.2 x = b.da (p.1.emb x) := by
  have hw := weights_tile b 0 harg3 harg4 harg5 harg6 (off := ![0, 0]) rfl inb_S8x512_S8x128_0_0 inb_S1x512_S1x128_0_0
  induction n with
  | zero => exact ⟨zero_holds _ fun _ => Ideal.ofBits_zero_f32, fun p hp => absurd hp List.not_mem_nil⟩
  | succ n ih =>
    obtain ⟨ih1, ih2⟩ := ih (by omega)
    have hl := loads1_holds b harg1 harg2 harg7 ⟨n, hn⟩
    have h4 : n < 4 := hn
    rw [st_k0_t1_succ _ _ _ _ _ _ _ _ _ _ _ _ _ _ _ _ _ _ _ _ _ _ _ _ _ _ _ _ _ _ _ _ ⟨n, hn⟩]
    refine ⟨?_, ?_⟩
    · dsimp only
      rw [tripR1]
      exact step_holds h4 hl hw ih1
    · dsimp only
      rw [tripL1]
      intro p hp
      rcases List.mem_append.mp hp with hp | hp
      · rcases List.mem_cons.mp hp with rfl | hp
        · exact piece_da b (half := 1) h4 (l := 0) (off5_eq ⟨n, hn⟩) (k0_off5_inb ⟨n, hn⟩) _ fun z p j =>
            (dInput_apply (fun r => hw.wv r j) (fun p => dValOf_apply h4 hl hw p j) z p).trans (if_neg (by decide)).symm
        · rcases List.mem_cons.mp hp with rfl | hp
          · exact piece_da b (half := 0) h4 (l := 0) (off4_eq ⟨n, hn⟩) (k0_off4_inb ⟨n, hn⟩) _ fun z p j =>
              (dInput_apply (fun r => hw.wg r j) (fun p => dGateOf_apply h4 hl hw p j) z p).trans (if_pos rfl).symm
          · exact absurd hp List.not_mem_nil
      · exact ih2 p hp

theorem lt_four2 (k : Fin k0_t2_loop.trips) : k.val < 4 := Nat.lt_of_lt_of_le k.isLt k0_t2_abs.2.1

theorem off6_eq : ∀ k : Fin k0_t2_loop.trips, k0_off6 k = ![512 * k.val - 8, 128] := by decide +kernel

theorem off7_eq : ∀ k : Fin k0_t2_loop.trips, k0_off7 k = ![512 * k.val, 128] := by decide +kernel

theorem off8_eq : ∀ k : Fin k0_t2_loop.trips, k0_off8 k = ![min (512 * k.val + 512) 2040, 128] := by decide +kernel

theorem off9_eq : ∀ k : Fin k0_t2_loop.trips, k0_off9 k = ![0, 512 * k.val, 128] := by decide +kernel

theorem off10_eq : ∀ k : Fin k0_t2_loop.trips, k0_off10 k = ![1, 512 * k.val, 128] := by decide +kernel

/-- Trip `k` of loop 2 loads the rows of chunk `k`. -/
theorem loads2_holds (b : Ins) {arg1 arg2 arg7 : Memref sig .tc .vmem S2048x512 .f32} (harg1 : arg1.IsWhole) (harg2 : arg2.IsWhole) (harg7 : arg7.IsWhole)
    (k : Fin k0_t2_loop.trips) :
    (loads2 (F := Ideal) arg1 arg2 arg7 (harg1.unread b.x0) (harg2.unread b.x1) (harg7.unread b.x6) k).Holds k.val (b.tile 1) where
  gLo h p j := load_rows harg1 b.x0 (l := 1) (off6_eq k) _ p j _ rfl (by have := p.isLt; have := lt_four2 k; omega)
  gMid p j := load_rows harg1 b.x0 (l := 1) (off7_eq k) _ p j _ rfl (by have := p.isLt; have := lt_four2 k; omega)
  gHi h p j := load_rows harg1 b.x0 (l := 1) (off8_eq k) _ p j _ (by omega) (by have := p.isLt; omega)
  vLo h p j := load_rows harg2 b.x1 (l := 1) (off6_eq k) _ p j _ rfl (by have := p.isLt; have := lt_four2 k; omega)
  vMid p j := load_rows harg2 b.x1 (l := 1) (off7_eq k) _ p j _ rfl (by have := p.isLt; have := lt_four2 k; omega)
  vHi h p j := load_rows harg2 b.x1 (l := 1) (off8_eq k) _ p j _ (by omega) (by have := p.isLt; omega)
  dMid p j := load_rows harg7 b.x6 (l := 1) (off7_eq k) _ p j _ rfl (by have := p.isLt; have := lt_four2 k; omega)
  dHi h p j := load_rows harg7 b.x6 (l := 1) (off8_eq k) _ p j _ (by omega) (by have := p.isLt; omega)

theorem loop2_holds (b : Ins) (v71 : FVec Ideal S8x128 .f32) (n : ℕ) (hn : n ≤ 4) :
    Acc.Holds (st_k0_t2 (F := Ideal) Variants.none c none i arg1 harg1 arg2 harg2 arg3 harg3 arg4 harg4 arg5 harg5 arg6 harg6 arg7 harg7 arg8 harg8 arg9 harg9 arg10 harg10 v71 (arg3.view.readAt (Elt Ideal) (Rect.unit (s := S8x512) ![0, 128] ![8, 128] inb_S8x512_S8x128_0_128).toLoadRect (harg3.unread b.x2)) (arg4.view.readAt (Elt Ideal) (Rect.unit (s := S8x512) ![0, 128] ![8, 128] inb_S8x512_S8x128_0_128).toLoadRect (harg4.unread b.x3)) (arg5.view.readAt (Elt Ideal) (Rect.unit (s := S1x512) ![0, 128] ![1, 128] inb_S1x512_S1x128_0_128).toLoadRect (harg5.unread b.x4)) (arg6.view.readAt (Elt Ideal) (Rect.unit (s := S1x512) ![0, 128] ![1, 128] inb_S1x512_S1x128_0_128).toLoadRect (harg6.unread b.x5)) (harg1.unread b.x0) (harg2.unread b.x1) (harg7.unread b.x6) (k0_pay144, k0_pay145, k0_pay146, k0_pay147, k0_pay144, k0_pay145, k0_pay146, k0_pay147) n).1 n (b.tile 1) ∧ ∀ p ∈ (st_k0_t2 (F := Ideal) Variants.none c none i arg1 harg1 arg2 harg2 arg3 harg3 arg4 harg4 arg5 harg5 arg6 harg6 arg7 harg7 arg8 harg8 arg9 harg9 arg10 harg10 v71 (arg3.view.readAt (Elt Ideal) (Rect.unit (s := S8x512) ![0, 128] ![8, 128] inb_S8x512_S8x128_0_128).toLoadRect (harg3.unread b.x2)) (arg4.view.readAt (Elt Ideal) (Rect.unit (s := S8x512) ![0, 128] ![8, 128] inb_S8x512_S8x128_0_128).toLoadRect (harg4.unread b.x3)) (arg5.view.readAt (Elt Ideal) (Rect.unit (s := S1x512) ![0, 128] ![1, 128] inb_S1x512_S1x128_0_128).toLoadRect (harg5.unread b.x4)) (arg6.view.readAt (Elt Ideal) (Rect.unit (s := S1x512) ![0, 128] ![1, 128] inb_S1x512_S1x128_0_128).toLoadRect (harg6.unread b.x5)) (harg1.unread b.x0) (harg2.unread b.x1) (harg7.unread b.x6) (k0_pay144, k0_pay145, k0_pay146, k0_pay147, k0_pay144, k0_pay145, k0_pay146, k0_pay147) n).2, ∀ x, p.2 x = b.da (p.1.emb x) := by
  have hw := weights_tile b 1 harg3 harg4 harg5 harg6 (off := ![0, 128]) rfl inb_S8x512_S8x128_0_128 inb_S1x512_S1x128_0_128
  induction n with
  | zero => exact ⟨zero_holds _ fun _ => Ideal.ofBits_zero_f32, fun p hp => absurd hp List.not_mem_nil⟩
  | succ n ih =>
    obtain ⟨ih1, ih2⟩ := ih (by omega)
    have hl := loads2_holds b harg1 harg2 harg7 ⟨n, hn⟩
    have h4 : n < 4 := hn
    rw [st_k0_t2_succ _ _ _ _ _ _ _ _ _ _ _ _ _ _ _ _ _ _ _ _ _ _ _ _ _ _ _ _ _ _ _ _ _ ⟨n, hn⟩]
    refine ⟨?_, ?_⟩
    · dsimp only
      rw [tripR2]
      exact step_holds h4 hl hw ih1
    · dsimp only
      rw [tripL2]
      intro p hp
      rcases List.mem_append.mp hp with hp | hp
      · rcases List.mem_cons.mp hp with rfl | hp
        · exact piece_da b (half := 1) h4 (l := 1) (off10_eq ⟨n, hn⟩) (k0_off10_inb ⟨n, hn⟩) _ fun z p j =>
            (dInput_apply (fun r => hw.wv r j) (fun p => dValOf_apply h4 hl hw p j) z p).trans (if_neg (by decide)).symm
        · rcases List.mem_cons.mp hp with rfl | hp
          · exact piece_da b (half := 0) h4 (l := 1) (off9_eq ⟨n, hn⟩) (k0_off9_inb ⟨n, hn⟩) _ fun z p j =>
              (dInput_apply (fun r => hw.wg r j) (fun p => dGateOf_apply h4 hl hw p j) z p).trans (if_pos rfl).symm
          · exact absurd hp List.not_mem_nil
      · exact ih2 p hp

theorem lt_four3 (k : Fin k0_t3_loop.trips) : k.val < 4 := Nat.lt_of_lt_of_le k.isLt k0_t3_abs.2.1

theorem off11_eq : ∀ k : Fin k0_t3_loop.trips, k0_off11 k = ![512 * k.val - 8, 256] := by decide +kernel

theorem off12_eq : ∀ k : Fin k0_t3_loop.trips, k0_off12 k = ![512 * k.val, 256] := by decide +kernel

theorem off13_eq : ∀ k : Fin k0_t3_loop.trips, k0_off13 k = ![min (512 * k.val + 512) 2040, 256] := by decide +kernel

theorem off14_eq : ∀ k : Fin k0_t3_loop.trips, k0_off14 k = ![0, 512 * k.val, 256] := by decide +kernel

theorem off15_eq : ∀ k : Fin k0_t3_loop.trips, k0_off15 k = ![1, 512 * k.val, 256] := by decide +kernel

/-- Trip `k` of loop 3 loads the rows of chunk `k`. -/
theorem loads3_holds (b : Ins) {arg1 arg2 arg7 : Memref sig .tc .vmem S2048x512 .f32} (harg1 : arg1.IsWhole) (harg2 : arg2.IsWhole) (harg7 : arg7.IsWhole)
    (k : Fin k0_t3_loop.trips) :
    (loads3 (F := Ideal) arg1 arg2 arg7 (harg1.unread b.x0) (harg2.unread b.x1) (harg7.unread b.x6) k).Holds k.val (b.tile 2) where
  gLo h p j := load_rows harg1 b.x0 (l := 2) (off11_eq k) _ p j _ rfl (by have := p.isLt; have := lt_four3 k; omega)
  gMid p j := load_rows harg1 b.x0 (l := 2) (off12_eq k) _ p j _ rfl (by have := p.isLt; have := lt_four3 k; omega)
  gHi h p j := load_rows harg1 b.x0 (l := 2) (off13_eq k) _ p j _ (by omega) (by have := p.isLt; omega)
  vLo h p j := load_rows harg2 b.x1 (l := 2) (off11_eq k) _ p j _ rfl (by have := p.isLt; have := lt_four3 k; omega)
  vMid p j := load_rows harg2 b.x1 (l := 2) (off12_eq k) _ p j _ rfl (by have := p.isLt; have := lt_four3 k; omega)
  vHi h p j := load_rows harg2 b.x1 (l := 2) (off13_eq k) _ p j _ (by omega) (by have := p.isLt; omega)
  dMid p j := load_rows harg7 b.x6 (l := 2) (off12_eq k) _ p j _ rfl (by have := p.isLt; have := lt_four3 k; omega)
  dHi h p j := load_rows harg7 b.x6 (l := 2) (off13_eq k) _ p j _ (by omega) (by have := p.isLt; omega)

theorem loop3_holds (b : Ins) (v146 : FVec Ideal S8x128 .f32) (n : ℕ) (hn : n ≤ 4) :
    Acc.Holds (st_k0_t3 (F := Ideal) Variants.none c none i arg1 harg1 arg2 harg2 arg3 harg3 arg4 harg4 arg5 harg5 arg6 harg6 arg7 harg7 arg8 harg8 arg9 harg9 arg10 harg10 v146 (arg3.view.readAt (Elt Ideal) (Rect.unit (s := S8x512) ![0, 256] ![8, 128] inb_S8x512_S8x128_0_256).toLoadRect (harg3.unread b.x2)) (arg4.view.readAt (Elt Ideal) (Rect.unit (s := S8x512) ![0, 256] ![8, 128] inb_S8x512_S8x128_0_256).toLoadRect (harg4.unread b.x3)) (arg5.view.readAt (Elt Ideal) (Rect.unit (s := S1x512) ![0, 256] ![1, 128] inb_S1x512_S1x128_0_256).toLoadRect (harg5.unread b.x4)) (arg6.view.readAt (Elt Ideal) (Rect.unit (s := S1x512) ![0, 256] ![1, 128] inb_S1x512_S1x128_0_256).toLoadRect (harg6.unread b.x5)) (harg1.unread b.x0) (harg2.unread b.x1) (harg7.unread b.x6) (k0_pay164, k0_pay165, k0_pay166, k0_pay167, k0_pay164, k0_pay165, k0_pay166, k0_pay167) n).1 n (b.tile 2) ∧ ∀ p ∈ (st_k0_t3 (F := Ideal) Variants.none c none i arg1 harg1 arg2 harg2 arg3 harg3 arg4 harg4 arg5 harg5 arg6 harg6 arg7 harg7 arg8 harg8 arg9 harg9 arg10 harg10 v146 (arg3.view.readAt (Elt Ideal) (Rect.unit (s := S8x512) ![0, 256] ![8, 128] inb_S8x512_S8x128_0_256).toLoadRect (harg3.unread b.x2)) (arg4.view.readAt (Elt Ideal) (Rect.unit (s := S8x512) ![0, 256] ![8, 128] inb_S8x512_S8x128_0_256).toLoadRect (harg4.unread b.x3)) (arg5.view.readAt (Elt Ideal) (Rect.unit (s := S1x512) ![0, 256] ![1, 128] inb_S1x512_S1x128_0_256).toLoadRect (harg5.unread b.x4)) (arg6.view.readAt (Elt Ideal) (Rect.unit (s := S1x512) ![0, 256] ![1, 128] inb_S1x512_S1x128_0_256).toLoadRect (harg6.unread b.x5)) (harg1.unread b.x0) (harg2.unread b.x1) (harg7.unread b.x6) (k0_pay164, k0_pay165, k0_pay166, k0_pay167, k0_pay164, k0_pay165, k0_pay166, k0_pay167) n).2, ∀ x, p.2 x = b.da (p.1.emb x) := by
  have hw := weights_tile b 2 harg3 harg4 harg5 harg6 (off := ![0, 256]) rfl inb_S8x512_S8x128_0_256 inb_S1x512_S1x128_0_256
  induction n with
  | zero => exact ⟨zero_holds _ fun _ => Ideal.ofBits_zero_f32, fun p hp => absurd hp List.not_mem_nil⟩
  | succ n ih =>
    obtain ⟨ih1, ih2⟩ := ih (by omega)
    have hl := loads3_holds b harg1 harg2 harg7 ⟨n, hn⟩
    have h4 : n < 4 := hn
    rw [st_k0_t3_succ _ _ _ _ _ _ _ _ _ _ _ _ _ _ _ _ _ _ _ _ _ _ _ _ _ _ _ _ _ _ _ _ _ ⟨n, hn⟩]
    refine ⟨?_, ?_⟩
    · dsimp only
      rw [tripR3]
      exact step_holds h4 hl hw ih1
    · dsimp only
      rw [tripL3]
      intro p hp
      rcases List.mem_append.mp hp with hp | hp
      · rcases List.mem_cons.mp hp with rfl | hp
        · exact piece_da b (half := 1) h4 (l := 2) (off15_eq ⟨n, hn⟩) (k0_off15_inb ⟨n, hn⟩) _ fun z p j =>
            (dInput_apply (fun r => hw.wv r j) (fun p => dValOf_apply h4 hl hw p j) z p).trans (if_neg (by decide)).symm
        · rcases List.mem_cons.mp hp with rfl | hp
          · exact piece_da b (half := 0) h4 (l := 2) (off14_eq ⟨n, hn⟩) (k0_off14_inb ⟨n, hn⟩) _ fun z p j =>
              (dInput_apply (fun r => hw.wg r j) (fun p => dGateOf_apply h4 hl hw p j) z p).trans (if_pos rfl).symm
          · exact absurd hp List.not_mem_nil
      · exact ih2 p hp

theorem lt_four4 (k : Fin k0_t4_loop.trips) : k.val < 4 := Nat.lt_of_lt_of_le k.isLt k0_t4_abs.2.1

theorem off16_eq : ∀ k : Fin k0_t4_loop.trips, k0_off16 k = ![512 * k.val - 8, 384] := by decide +kernel

theorem off17_eq : ∀ k : Fin k0_t4_loop.trips, k0_off17 k = ![512 * k.val, 384] := by decide +kernel

theorem off18_eq : ∀ k : Fin k0_t4_loop.trips, k0_off18 k = ![min (512 * k.val + 512) 2040, 384] := by decide +kernel

theorem off19_eq : ∀ k : Fin k0_t4_loop.trips, k0_off19 k = ![0, 512 * k.val, 384] := by decide +kernel

theorem off20_eq : ∀ k : Fin k0_t4_loop.trips, k0_off20 k = ![1, 512 * k.val, 384] := by decide +kernel

/-- Trip `k` of loop 4 loads the rows of chunk `k`. -/
theorem loads4_holds (b : Ins) {arg1 arg2 arg7 : Memref sig .tc .vmem S2048x512 .f32} (harg1 : arg1.IsWhole) (harg2 : arg2.IsWhole) (harg7 : arg7.IsWhole)
    (k : Fin k0_t4_loop.trips) :
    (loads4 (F := Ideal) arg1 arg2 arg7 (harg1.unread b.x0) (harg2.unread b.x1) (harg7.unread b.x6) k).Holds k.val (b.tile 3) where
  gLo h p j := load_rows harg1 b.x0 (l := 3) (off16_eq k) _ p j _ rfl (by have := p.isLt; have := lt_four4 k; omega)
  gMid p j := load_rows harg1 b.x0 (l := 3) (off17_eq k) _ p j _ rfl (by have := p.isLt; have := lt_four4 k; omega)
  gHi h p j := load_rows harg1 b.x0 (l := 3) (off18_eq k) _ p j _ (by omega) (by have := p.isLt; omega)
  vLo h p j := load_rows harg2 b.x1 (l := 3) (off16_eq k) _ p j _ rfl (by have := p.isLt; have := lt_four4 k; omega)
  vMid p j := load_rows harg2 b.x1 (l := 3) (off17_eq k) _ p j _ rfl (by have := p.isLt; have := lt_four4 k; omega)
  vHi h p j := load_rows harg2 b.x1 (l := 3) (off18_eq k) _ p j _ (by omega) (by have := p.isLt; omega)
  dMid p j := load_rows harg7 b.x6 (l := 3) (off17_eq k) _ p j _ rfl (by have := p.isLt; have := lt_four4 k; omega)
  dHi h p j := load_rows harg7 b.x6 (l := 3) (off18_eq k) _ p j _ (by omega) (by have := p.isLt; omega)

theorem loop4_holds (b : Ins) (v202 : FVec Ideal S1x128 .f32) (v216 : FVec Ideal S8x128 .f32) (v218 : IVec S8x128 1) (n : ℕ) (hn : n ≤ 4) :
    Acc.Holds (st_k0_t4 (F := Ideal) Variants.none c none i arg1 harg1 arg2 harg2 arg3 harg3 arg4 harg4 arg5 harg5 arg6 harg6 arg7 harg7 arg8 harg8 arg9 harg9 arg10 harg10 v202 v216 v218 (arg3.view.readAt (Elt Ideal) (Rect.unit (s := S8x512) ![0, 384] ![8, 128] inb_S8x512_S8x128_0_384).toLoadRect (harg3.unread b.x2)) (arg4.view.readAt (Elt Ideal) (Rect.unit (s := S8x512) ![0, 384] ![8, 128] inb_S8x512_S8x128_0_384).toLoadRect (harg4.unread b.x3)) (arg5.view.readAt (Elt Ideal) (Rect.unit (s := S1x512) ![0, 384] ![1, 128] inb_S1x512_S1x128_0_384).toLoadRect (harg5.unread b.x4)) (arg6.view.readAt (Elt Ideal) (Rect.unit (s := S1x512) ![0, 384] ![1, 128] inb_S1x512_S1x128_0_384).toLoadRect (harg6.unread b.x5)) (harg1.unread b.x0) (harg2.unread b.x1) (harg7.unread b.x6) (k0_pay185, k0_pay186, k0_pay187, k0_pay188, k0_pay185, k0_pay186, k0_pay187, k0_pay188) n).1 n (b.tile 3) ∧ ∀ p ∈ (st_k0_t4 (F := Ideal) Variants.none c none i arg1 harg1 arg2 harg2 arg3 harg3 arg4 harg4 arg5 harg5 arg6 harg6 arg7 harg7 arg8 harg8 arg9 harg9 arg10 harg10 v202 v216 v218 (arg3.view.readAt (Elt Ideal) (Rect.unit (s := S8x512) ![0, 384] ![8, 128] inb_S8x512_S8x128_0_384).toLoadRect (harg3.unread b.x2)) (arg4.view.readAt (Elt Ideal) (Rect.unit (s := S8x512) ![0, 384] ![8, 128] inb_S8x512_S8x128_0_384).toLoadRect (harg4.unread b.x3)) (arg5.view.readAt (Elt Ideal) (Rect.unit (s := S1x512) ![0, 384] ![1, 128] inb_S1x512_S1x128_0_384).toLoadRect (harg5.unread b.x4)) (arg6.view.readAt (Elt Ideal) (Rect.unit (s := S1x512) ![0, 384] ![1, 128] inb_S1x512_S1x128_0_384).toLoadRect (harg6.unread b.x5)) (harg1.unread b.x0) (harg2.unread b.x1) (harg7.unread b.x6) (k0_pay185, k0_pay186, k0_pay187, k0_pay188, k0_pay185, k0_pay186, k0_pay187, k0_pay188) n).2, ∀ x, p.2 x = b.da (p.1.emb x) := by
  have hw := weights_tile b 3 harg3 harg4 harg5 harg6 (off := ![0, 384]) rfl inb_S8x512_S8x128_0_384 inb_S1x512_S1x128_0_384
  induction n with
  | zero => exact ⟨zero_holds _ fun _ => Ideal.ofBits_zero_f32, fun p hp => absurd hp List.not_mem_nil⟩
  | succ n ih =>
    obtain ⟨ih1, ih2⟩ := ih (by omega)
    have hl := loads4_holds b harg1 harg2 harg7 ⟨n, hn⟩
    have h4 : n < 4 := hn
    rw [st_k0_t4_succ _ _ _ _ _ _ _ _ _ _ _ _ _ _ _ _ _ _ _ _ _ _ _ _ _ _ _ _ _ _ _ _ _ _ _ ⟨n, hn⟩]
    refine ⟨?_, ?_⟩
    · dsimp only
      rw [tripR4]
      exact step_holds h4 hl hw ih1
    · dsimp only
      rw [tripL4]
      intro p hp
      rcases List.mem_append.mp hp with hp | hp
      · rcases List.mem_cons.mp hp with rfl | hp
        · exact piece_da b (half := 1) h4 (l := 3) (off20_eq ⟨n, hn⟩) (k0_off20_inb ⟨n, hn⟩) _ fun z p j =>
            (dInput_apply (fun r => hw.wv r j) (fun p => dValOf_apply h4 hl hw p j) z p).trans (if_neg (by decide)).symm
        · rcases List.mem_cons.mp hp with rfl | hp
          · exact piece_da b (half := 0) h4 (l := 3) (off19_eq ⟨n, hn⟩) (k0_off19_inb ⟨n, hn⟩) _ fun z p j =>
              (dInput_apply (fun r => hw.wg r j) (fun p => dGateOf_apply h4 hl hw p j) z p).trans (if_pos rfl).symm
          · exact absurd hp List.not_mem_nil
      · exact ih2 p hp

end Cert.KernelIdeal.Hand

end
-- ==== Proof.Stores.lean ====
/- What one grid point stores: the blocks of the four loops, and after each loop the two blocks of the weights' cotangent and the
   two of the bias's, from the carried sums. -/
module

public import proofs.«01_k».proof.Proof.LoopValue

@[expose] public section

set_option maxRecDepth 16384

noncomputable section

namespace Cert.KernelIdeal.Hand

open Cert.KernelIdeal Cert.KernelIdeal.Gen Idealize.ShloMosaic Idealize.ShloMosaic.TcCoe Cert.GatedConv

/-- The sum over the eight sublanes. -/
def total (x : FVec Ideal S8x128 .f32) : FVec Ideal S1x128 .f32 :=
  shapeCast S1x128 (multiReduction .add [0] S128 x 0x00000000#32 reduces_S8x128_S128 (.inl rfl) rfl) shapeCasts_S128_S1x128

/-- The stored block of the bias's cotangent. -/
def dbBlock (x : FVec Ideal S8x128 .f32) : FVec Ideal S1x1x128 .f32 := shapeCast S1x1x128 (total x) shapeCasts_S1x128_S1x1x128

/-- One sum, in the row `r` of eight; the other rows are `rest`'s. -/
def inRow (r : BitVec 32) (x : FVec Ideal S8x128 .f32) (rest : FVec Ideal S8x128 .f32) : FVec Ideal S8x128 .f32 :=
  select (cmpi .eq (iota .tc S8x128 32 [0] iota_S8x128_d0_w32) (broadcast S8x128 r))
    (broadcastTo S8x128 (shapeCast S1x128 (total x) shapeCasts_S1x128_S1x128) broadcasts_S1x128_S8x128) rest

/-- The stored block of the weights' cotangent. -/
def dwBlock (t0 t1 t2 : FVec Ideal S8x128 .f32) : FVec Ideal S1x8x128 .f32 :=
  shapeCast S1x8x128 (inRow 2#32 t2 (inRow 1#32 t1 (inRow 0#32 t0 (broadcast S8x128 (Scalar.ofBits .f32 0x00000000#32))))) shapeCasts_S8x128_S1x8x128

variable (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2x2048x512 .bf16) (harg8 : arg8.IsWhole) (arg9 : Memref sig .tc .vmem S2x8x512 .f32) (harg9 : arg9.IsWhole) (arg10 : Memref sig .tc .vmem S2x1x512 .f32) (harg10 : arg10.IsWhole)

/-- The state after loop 1. -/
def after1 (b : Ins)  : Acc Ideal × List (View.Piece (Elt Ideal) S2x2048x512 .bf16) :=
  st_k0_t1 (F := Ideal) Variants.none c none i arg1 harg1 arg2 harg2 arg3 harg3 arg4 harg4 arg5 harg5 arg6 harg6 arg7 harg7 arg8 harg8 arg9 harg9 arg10 harg10  (arg3.view.readAt (Elt Ideal) (Rect.unit (s := S8x512) ![0, 0] ![8, 128] inb_S8x512_S8x128_0_0).toLoadRect (harg3.unread b.x2)) (arg4.view.readAt (Elt Ideal) (Rect.unit (s := S8x512) ![0, 0] ![8, 128] inb_S8x512_S8x128_0_0).toLoadRect (harg4.unread b.x3)) (arg5.view.readAt (Elt Ideal) (Rect.unit (s := S1x512) ![0, 0] ![1, 128] inb_S1x512_S1x128_0_0).toLoadRect (harg5.unread b.x4)) (arg6.view.readAt (Elt Ideal) (Rect.unit (s := S1x512) ![0, 0] ![1, 128] inb_S1x512_S1x128_0_0).toLoadRect (harg6.unread b.x5)) (harg1.unread b.x0) (harg2.unread b.x1) (harg7.unread b.x6) (k0_pay126, k0_pay127, k0_pay128, k0_pay129, k0_pay126, k0_pay127, k0_pay128, k0_pay129) 4

theorem after1_holds (b : Ins)  :
    Acc.Holds (after1 c i arg1 harg1 arg2 harg2 arg3 harg3 arg4 harg4 arg5 harg5 arg6 harg6 arg7 harg7 arg8 harg8 arg9 harg9 arg10 harg10 b ).1 4 (b.tile 0) ∧ ∀ p ∈ (after1 c i arg1 harg1 arg2 harg2 arg3 harg3 arg4 harg4 arg5 harg5 arg6 harg6 arg7 harg7 arg8 harg8 arg9 harg9 arg10 harg10 b ).2, ∀ x, p.2 x = b.da (p.1.emb x) :=
  loop1_holds c i arg1 harg1 arg2 harg2 arg3 harg3 arg4 harg4 arg5 harg5 arg6 harg6 arg7 harg7 arg8 harg8 arg9 harg9 arg10 harg10 b  4 le_rfl

/-- The state after loop 2. -/
def after2 (b : Ins) (v71 : FVec Ideal S8x128 .f32) : Acc Ideal × List (View.Piece (Elt Ideal) S2x2048x512 .bf16) :=
  st_k0_t2 (F := Ideal) Variants.none c none i arg1 harg1 arg2 harg2 arg3 harg3 arg4 harg4 arg5 harg5 arg6 harg6 arg7 harg7 arg8 harg8 arg9 harg9 arg10 harg10 v71 (arg3.view.readAt (Elt Ideal) (Rect.unit (s := S8x512) ![0, 128] ![8, 128] inb_S8x512_S8x128_0_128).toLoadRect (harg3.unread b.x2)) (arg4.view.readAt (Elt Ideal) (Rect.unit (s := S8x512) ![0, 128] ![8, 128] inb_S8x512_S8x128_0_128).toLoadRect (harg4.unread b.x3)) (arg5.view.readAt (Elt Ideal) (Rect.unit (s := S1x512) ![0, 128] ![1, 128] inb_S1x512_S1x128_0_128).toLoadRect (harg5.unread b.x4)) (arg6.view.readAt (Elt Ideal) (Rect.unit (s := S1x512) ![0, 128] ![1, 128] inb_S1x512_S1x128_0_128).toLoadRect (harg6.unread b.x5)) (harg1.unread b.x0) (harg2.unread b.x1) (harg7.unread b.x6) (k0_pay144, k0_pay145, k0_pay146, k0_pay147, k0_pay144, k0_pay145, k0_pay146, k0_pay147) 4

theorem after2_holds (b : Ins) (v71 : FVec Ideal S8x128 .f32) :
    Acc.Holds (after2 c i arg1 harg1 arg2 harg2 arg3 harg3 arg4 harg4 arg5 harg5 arg6 harg6 arg7 harg7 arg8 harg8 arg9 harg9 arg10 harg10 b v71).1 4 (b.tile 1) ∧ ∀ p ∈ (after2 c i arg1 harg1 arg2 harg2 arg3 harg3 arg4 harg4 arg5 harg5 arg6 harg6 arg7 harg7 arg8 harg8 arg9 harg9 arg10 harg10 b v71).2, ∀ x, p.2 x = b.da (p.1.emb x) :=
  loop2_holds c i arg1 harg1 arg2 harg2 arg3 harg3 arg4 harg4 arg5 harg5 arg6 harg6 arg7 harg7 arg8 harg8 arg9 harg9 arg10 harg10 b v71 4 le_rfl

/-- The state after loop 3. -/
def after3 (b : Ins) (v146 : FVec Ideal S8x128 .f32) : Acc Ideal × List (View.Piece (Elt Ideal) S2x2048x512 .bf16) :=
  st_k0_t3 (F := Ideal) Variants.none c none i arg1 harg1 arg2 harg2 arg3 harg3 arg4 harg4 arg5 harg5 arg6 harg6 arg7 harg7 arg8 harg8 arg9 harg9 arg10 harg10 v146 (arg3.view.readAt (Elt Ideal) (Rect.unit (s := S8x512) ![0, 256] ![8, 128] inb_S8x512_S8x128_0_256).toLoadRect (harg3.unread b.x2)) (arg4.view.readAt (Elt Ideal) (Rect.unit (s := S8x512) ![0, 256] ![8, 128] inb_S8x512_S8x128_0_256).toLoadRect (harg4.unread b.x3)) (arg5.view.readAt (Elt Ideal) (Rect.unit (s := S1x512) ![0, 256] ![1, 128] inb_S1x512_S1x128_0_256).toLoadRect (harg5.unread b.x4)) (arg6.view.readAt (Elt Ideal) (Rect.unit (s := S1x512) ![0, 256] ![1, 128] inb_S1x512_S1x128_0_256).toLoadRect (harg6.unread b.x5)) (harg1.unread b.x0) (harg2.unread b.x1) (harg7.unread b.x6) (k0_pay164, k0_pay165, k0_pay166, k0_pay167, k0_pay164, k0_pay165, k0_pay166, k0_pay167) 4

theorem after3_holds (b : Ins) (v146 : FVec Ideal S8x128 .f32) :
    Acc.Holds (after3 c i arg1 harg1 arg2 harg2 arg3 harg3 arg4 harg4 arg5 harg5 arg6 harg6 arg7 harg7 arg8 harg8 arg9 harg9 arg10 harg10 b v146).1 4 (b.tile 2) ∧ ∀ p ∈ (after3 c i arg1 harg1 arg2 harg2 arg3 harg3 arg4 harg4 arg5 harg5 arg6 harg6 arg7 harg7 arg8 harg8 arg9 harg9 arg10 harg10 b v146).2, ∀ x, p.2 x = b.da (p.1.emb x) :=
  loop3_holds c i arg1 harg1 arg2 harg2 arg3 harg3 arg4 harg4 arg5 harg5 arg6 harg6 arg7 harg7 arg8 harg8 arg9 harg9 arg10 harg10 b v146 4 le_rfl

/-- The state after loop 4. -/
def after4 (b : Ins) (v202 : FVec Ideal S1x128 .f32) (v216 : FVec Ideal S8x128 .f32) (v218 : IVec S8x128 1) : Acc Ideal × List (View.Piece (Elt Ideal) S2x2048x512 .bf16) :=
  st_k0_t4 (F := Ideal) Variants.none c none i arg1 harg1 arg2 harg2 arg3 harg3 arg4 harg4 arg5 harg5 arg6 harg6 arg7 harg7 arg8 harg8 arg9 harg9 arg10 harg10 v202 v216 v218 (arg3.view.readAt (Elt Ideal) (Rect.unit (s := S8x512) ![0, 384] ![8, 128] inb_S8x512_S8x128_0_384).toLoadRect (harg3.unread b.x2)) (arg4.view.readAt (Elt Ideal) (Rect.unit (s := S8x512) ![0, 384] ![8, 128] inb_S8x512_S8x128_0_384).toLoadRect (harg4.unread b.x3)) (arg5.view.readAt (Elt Ideal) (Rect.unit (s := S1x512) ![0, 384] ![1, 128] inb_S1x512_S1x128_0_384).toLoadRect (harg5.unread b.x4)) (arg6.view.readAt (Elt Ideal) (Rect.unit (s := S1x512) ![0, 384] ![1, 128] inb_S1x512_S1x128_0_384).toLoadRect (harg6.unread b.x5)) (harg1.unread b.x0) (harg2.unread b.x1) (harg7.unread b.x6) (k0_pay185, k0_pay186, k0_pay187, k0_pay188, k0_pay185, k0_pay186, k0_pay187, k0_pay188) 4

theorem after4_holds (b : Ins) (v202 : FVec Ideal S1x128 .f32) (v216 : FVec Ideal S8x128 .f32) (v218 : IVec S8x128 1) :
    Acc.Holds (after4 c i arg1 harg1 arg2 harg2 arg3 harg3 arg4 harg4 arg5 harg5 arg6 harg6 arg7 harg7 arg8 harg8 arg9 harg9 arg10 harg10 b v202 v216 v218).1 4 (b.tile 3) ∧ ∀ p ∈ (after4 c i arg1 harg1 arg2 harg2 arg3 harg3 arg4 harg4 arg5 harg5 arg6 harg6 arg7 harg7 arg8 harg8 arg9 harg9 arg10 harg10 b v202 v216 v218).2, ∀ x, p.2 x = b.da (p.1.emb x) :=
  loop4_holds c i arg1 harg1 arg2 harg2 arg3 harg3 arg4 harg4 arg5 harg5 arg6 harg6 arg7 harg7 arg8 harg8 arg9 harg9 arg10 harg10 b v202 v216 v218 4 le_rfl

/-- The stores of one grid point, last first. -/
theorem stores (b : Ins) : ∃  (v71 : FVec Ideal S8x128 .f32) (v146 : FVec Ideal S8x128 .f32) (v202 : FVec Ideal S1x128 .f32) (v216 : FVec Ideal S8x128 .f32) (v218 : IVec S8x128 1),
    (kernelRun0_A (F := Ideal) c i arg1 harg1 arg2 harg2 arg3 harg3 arg4 harg4 arg5 harg5 arg6 harg6 arg7 harg7 arg8 harg8 arg9 harg9 arg10 harg10 b.x0 b.x1 b.x2 b.x3 b.x4 b.x5 b.x6).1 = (after4 c i arg1 harg1 arg2 harg2 arg3 harg3 arg4 harg4 arg5 harg5 arg6 harg6 arg7 harg7 arg8 harg8 arg9 harg9 arg10 harg10 b v202 v216 v218).2 ++ ((after3 c i arg1 harg1 arg2 harg2 arg3 harg3 arg4 harg4 arg5 harg5 arg6 harg6 arg7 harg7 arg8 harg8 arg9 harg9 arg10 harg10 b v146).2 ++ ((after2 c i arg1 harg1 arg2 harg2 arg3 harg3 arg4 harg4 arg5 harg5 arg6 harg6 arg7 harg7 arg8 harg8 arg9 harg9 arg10 harg10 b v71).2 ++ (after1 c i arg1 harg1 arg2 harg2 arg3 harg3 arg4 harg4 arg5 harg5 arg6 harg6 arg7 harg7 arg8 harg8 arg9 harg9 arg10 harg10 b ).2))
    ∧ (kernelRun0_A (F := Ideal) c i arg1 harg1 arg2 harg2 arg3 harg3 arg4 harg4 arg5 harg5 arg6 harg6 arg7 harg7 arg8 harg8 arg9 harg9 arg10 harg10 b.x0 b.x1 b.x2 b.x3 b.x4 b.x5 b.x6).2.1 = [⟨Rect.unit (s := S2x8x512) ![1, 0, 384] ![1, 8, 128] inb_S2x8x512_S1x8x128_1_0_384, dwBlock (after4 c i arg1 harg1 arg2 harg2 arg3 harg3 arg4 harg4 arg5 harg5 arg6 harg6 arg7 harg7 arg8 harg8 arg9 harg9 arg10 harg10 b v202 v216 v218).1.2.2.2.2.2.1 (after4 c i arg1 harg1 arg2 harg2 arg3 harg3 arg4 harg4 arg5 harg5 arg6 harg6 arg7 harg7 arg8 harg8 arg9 harg9 arg10 harg10 b v202 v216 v218).1.2.2.2.2.2.2.1 (after4 c i arg1 harg1 arg2 harg2 arg3 harg3 arg4 harg4 arg5 harg5 arg6 harg6 arg7 harg7 arg8 harg8 arg9 harg9 arg10 harg10 b v202 v216 v218).1.2.2.2.2.2.2.2⟩,
      ⟨Rect.unit (s := S2x8x512) ![0, 0, 384] ![1, 8, 128] inb_S2x8x512_S1x8x128_0_0_384, dwBlock (after4 c i arg1 harg1 arg2 harg2 arg3 harg3 arg4 harg4 arg5 harg5 arg6 harg6 arg7 harg7 arg8 harg8 arg9 harg9 arg10 harg10 b v202 v216 v218).1.2.1 (after4 c i arg1 harg1 arg2 harg2 arg3 harg3 arg4 harg4 arg5 harg5 arg6 harg6 arg7 harg7 arg8 harg8 arg9 harg9 arg10 harg10 b v202 v216 v218).1.2.2.1 (after4 c i arg1 harg1 arg2 harg2 arg3 harg3 arg4 harg4 arg5 harg5 arg6 harg6 arg7 harg7 arg8 harg8 arg9 harg9 arg10 harg10 b v202 v216 v218).1.2.2.2.1⟩,
      ⟨Rect.unit (s := S2x8x512) ![1, 0, 256] ![1, 8, 128] inb_S2x8x512_S1x8x128_1_0_256, dwBlock (after3 c i arg1 harg1 arg2 harg2 arg3 harg3 arg4 harg4 arg5 harg5 arg6 harg6 arg7 harg7 arg8 harg8 arg9 harg9 arg10 harg10 b v146).1.2.2.2.2.2.1 (after3 c i arg1 harg1 arg2 harg2 arg3 harg3 arg4 harg4 arg5 harg5 arg6 harg6 arg7 harg7 arg8 harg8 arg9 harg9 arg10 harg10 b v146).1.2.2.2.2.2.2.1 (after3 c i arg1 harg1 arg2 harg2 arg3 harg3 arg4 harg4 arg5 harg5 arg6 harg6 arg7 harg7 arg8 harg8 arg9 harg9 arg10 harg10 b v146).1.2.2.2.2.2.2.2⟩,
      ⟨Rect.unit (s := S2x8x512) ![0, 0, 256] ![1, 8, 128] inb_S2x8x512_S1x8x128_0_0_256, dwBlock (after3 c i arg1 harg1 arg2 harg2 arg3 harg3 arg4 harg4 arg5 harg5 arg6 harg6 arg7 harg7 arg8 harg8 arg9 harg9 arg10 harg10 b v146).1.2.1 (after3 c i arg1 harg1 arg2 harg2 arg3 harg3 arg4 harg4 arg5 harg5 arg6 harg6 arg7 harg7 arg8 harg8 arg9 harg9 arg10 harg10 b v146).1.2.2.1 (after3 c i arg1 harg1 arg2 harg2 arg3 harg3 arg4 harg4 arg5 harg5 arg6 harg6 arg7 harg7 arg8 harg8 arg9 harg9 arg10 harg10 b v146).1.2.2.2.1⟩,
      ⟨Rect.unit (s := S2x8x512) ![1, 0, 128] ![1, 8, 128] inb_S2x8x512_S1x8x128_1_0_128, dwBlock (after2 c i arg1 harg1 arg2 harg2 arg3 harg3 arg4 harg4 arg5 harg5 arg6 harg6 arg7 harg7 arg8 harg8 arg9 harg9 arg10 harg10 b v71).1.2.2.2.2.2.1 (after2 c i arg1 harg1 arg2 harg2 arg3 harg3 arg4 harg4 arg5 harg5 arg6 harg6 arg7 harg7 arg8 harg8 arg9 harg9 arg10 harg10 b v71).1.2.2.2.2.2.2.1 (after2 c i arg1 harg1 arg2 harg2 arg3 harg3 arg4 harg4 arg5 harg5 arg6 harg6 arg7 harg7 arg8 harg8 arg9 harg9 arg10 harg10 b v71).1.2.2.2.2.2.2.2⟩,
      ⟨Rect.unit (s := S2x8x512) ![0, 0, 128] ![1, 8, 128] inb_S2x8x512_S1x8x128_0_0_128, dwBlock (after2 c i arg1 harg1 arg2 harg2 arg3 harg3 arg4 harg4 arg5 harg5 arg6 harg6 arg7 harg7 arg8 harg8 arg9 harg9 arg10 harg10 b v71).1.2.1 (after2 c i arg1 harg1 arg2 harg2 arg3 harg3 arg4 harg4 arg5 harg5 arg6 harg6 arg7 harg7 arg8 harg8 arg9 harg9 arg10 harg10 b v71).1.2.2.1 (after2 c i arg1 harg1 arg2 harg2 arg3 harg3 arg4 harg4 arg5 harg5 arg6 harg6 arg7 harg7 arg8 harg8 arg9 harg9 arg10 harg10 b v71).1.2.2.2.1⟩,
      ⟨Rect.unit (s := S2x8x512) ![1, 0, 0] ![1, 8, 128] inb_S2x8x512_S1x8x128_1_0_0, dwBlock (after1 c i arg1 harg1 arg2 harg2 arg3 harg3 arg4 harg4 arg5 harg5 arg6 harg6 arg7 harg7 arg8 harg8 arg9 harg9 arg10 harg10 b ).1.2.2.2.2.2.1 (after1 c i arg1 harg1 arg2 harg2 arg3 harg3 arg4 harg4 arg5 harg5 arg6 harg6 arg7 harg7 arg8 harg8 arg9 harg9 arg10 harg10 b ).1.2.2.2.2.2.2.1 (after1 c i arg1 harg1 arg2 harg2 arg3 harg3 arg4 harg4 arg5 harg5 arg6 harg6 arg7 harg7 arg8 harg8 arg9 harg9 arg10 harg10 b ).1.2.2.2.2.2.2.2⟩,
      ⟨Rect.unit (s := S2x8x512) ![0, 0, 0] ![1, 8, 128] inb_S2x8x512_S1x8x128_0_0_0, dwBlock (after1 c i arg1 harg1 arg2 harg2 arg3 harg3 arg4 harg4 arg5 harg5 arg6 harg6 arg7 harg7 arg8 harg8 arg9 harg9 arg10 harg10 b ).1.2.1 (after1 c i arg1 harg1 arg2 harg2 arg3 harg3 arg4 harg4 arg5 harg5 arg6 harg6 arg7 harg7 arg8 harg8 arg9 harg9 arg10 harg10 b ).1.2.2.1 (after1 c i arg1 harg1 arg2 harg2 arg3 harg3 arg4 harg4 arg5 harg5 arg6 harg6 arg7 harg7 arg8 harg8 arg9 harg9 arg10 harg10 b ).1.2.2.2.1⟩]
    ∧ (kernelRun0_A (F := Ideal) c i arg1 harg1 arg2 harg2 arg3 harg3 arg4 harg4 arg5 harg5 arg6 harg6 arg7 harg7 arg8 harg8 arg9 harg9 arg10 harg10 b.x0 b.x1 b.x2 b.x3 b.x4 b.x5 b.x6).2.2.1 = [⟨Rect.unit (s := S2x1x512) ![1, 0, 384] ![1, 1, 128] inb_S2x1x512_S1x1x128_1_0_384, dbBlock (after4 c i arg1 harg1 arg2 harg2 arg3 harg3 arg4 harg4 arg5 harg5 arg6 harg6 arg7 harg7 arg8 harg8 arg9 harg9 arg10 harg10 b v202 v216 v218).1.2.2.2.2.1⟩,
      ⟨Rect.unit (s := S2x1x512) ![0, 0, 384] ![1, 1, 128] inb_S2x1x512_S1x1x128_0_0_384, dbBlock (after4 c i arg1 harg1 arg2 harg2 arg3 harg3 arg4 harg4 arg5 harg5 arg6 harg6 arg7 harg7 arg8 harg8 arg9 harg9 arg10 harg10 b v202 v216 v218).1.1⟩,
      ⟨Rect.unit (s := S2x1x512) ![1, 0, 256] ![1, 1, 128] inb_S2x1x512_S1x1x128_1_0_256, dbBlock (after3 c i arg1 harg1 arg2 harg2 arg3 harg3 arg4 harg4 arg5 harg5 arg6 harg6 arg7 harg7 arg8 harg8 arg9 harg9 arg10 harg10 b v146).1.2.2.2.2.1⟩,
      ⟨Rect.unit (s := S2x1x512) ![0, 0, 256] ![1, 1, 128] inb_S2x1x512_S1x1x128_0_0_256, dbBlock (after3 c i arg1 harg1 arg2 harg2 arg3 harg3 arg4 harg4 arg5 harg5 arg6 harg6 arg7 harg7 arg8 harg8 arg9 harg9 arg10 harg10 b v146).1.1⟩,
      ⟨Rect.unit (s := S2x1x512) ![1, 0, 128] ![1, 1, 128] inb_S2x1x512_S1x1x128_1_0_128, dbBlock (after2 c i arg1 harg1 arg2 harg2 arg3 harg3 arg4 harg4 arg5 harg5 arg6 harg6 arg7 harg7 arg8 harg8 arg9 harg9 arg10 harg10 b v71).1.2.2.2.2.1⟩,
      ⟨Rect.unit (s := S2x1x512) ![0, 0, 128] ![1, 1, 128] inb_S2x1x512_S1x1x128_0_0_128, dbBlock (after2 c i arg1 harg1 arg2 harg2 arg3 harg3 arg4 harg4 arg5 harg5 arg6 harg6 arg7 harg7 arg8 harg8 arg9 harg9 arg10 harg10 b v71).1.1⟩,
      ⟨Rect.unit (s := S2x1x512) ![1, 0, 0] ![1, 1, 128] inb_S2x1x512_S1x1x128_1_0_0, dbBlock (after1 c i arg1 harg1 arg2 harg2 arg3 harg3 arg4 harg4 arg5 harg5 arg6 harg6 arg7 harg7 arg8 harg8 arg9 harg9 arg10 harg10 b ).1.2.2.2.2.1⟩,
      ⟨Rect.unit (s := S2x1x512) ![0, 0, 0] ![1, 1, 128] inb_S2x1x512_S1x1x128_0_0_0, dbBlock (after1 c i arg1 harg1 arg2 harg2 arg3 harg3 arg4 harg4 arg5 harg5 arg6 harg6 arg7 harg7 arg8 harg8 arg9 harg9 arg10 harg10 b ).1.1⟩] := by
  unfold kernelRun0_A
  sl_unfold_words
  dsimp only
  exact ⟨_, _, _, _, _, rfl, rfl, rfl⟩

end Cert.KernelIdeal.Hand

end
-- ==== Proof.OutBlock.lean ====
/- What one grid point leaves in its three output blocks. -/
module

public import proofs.«01_k».proof.Proof.Stores
public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Cert.GatedConv

theorem total_apply (x : FVec Ideal S8x128 .f32) (z : Fin 1) (j : Fin 128) : total x (ix2 z j) = ∑ s : Fin 8, x (ix2 s j) := by
  obtain rfl : z = 0 := Subsingleton.elim _ _
  pointwise [total]

/-- Carried partial sums, summed. -/
theorem total_partialSum (x : FVec Ideal S8x128 .f32) (f : ℕ → EReal) (z : Fin 1) (j : Fin 128) (h : ∀ s : Fin 8, x (ix2 s j) = partialSum f 4 s.val) :
    total x (ix2 z j) = ∑ n : Fin 2048, f n := by
  rw [total_apply, ← sum_partialSum]
  exact Finset.sum_congr rfl fun s _ => h s

theorem dbBlock_apply (x : FVec Ideal S8x128 .f32) (z z' : Fin 1) (j : Fin 128) : dbBlock x (ix3 z z' j) = total x (ix2 0 j) := by
  pointwise [dbBlock]

theorem inRow_apply (r : ℕ) (hr : r < 2 ^ 32) (x rest : FVec Ideal S8x128 .f32) (s : Fin 8) (j : Fin 128) :
    inRow (BitVec.ofNat 32 r) x rest (ix2 s j) = if s.val = r then total x (ix2 0 j) else rest (ix2 s j) := by
  pointwise [inRow]
  have hs : s.val < 2 ^ 32 := by omega
  rw [WordCmp.cmpi_eq_ofNat hs hr, WordCmp.select_ofBool]
  simp only [decide_eq_true_eq]

theorem dwBlock_apply (t0 t1 t2 : FVec Ideal S8x128 .f32) (z : Fin 1) (s : Fin 8) (j : Fin 128) :
    dwBlock t0 t1 t2 (ix3 z s j)
      = if s.val = 2 then total t2 (ix2 0 j) else if s.val = 1 then total t1 (ix2 0 j) else if s.val = 0 then total t0 (ix2 0 j) else 0 := by
  pointwise [dwBlock]
  rw [inRow_apply 2 (by decide), inRow_apply 1 (by decide), inRow_apply 0 (by decide)]
  pointwise []

/-- Three carried sums, as a column of the weights' cotangent. -/
theorem dwBlock_sums {t0 t1 t2 : FVec Ideal S8x128 .f32} {D x : ℕ → EReal} {j : Fin 128}
    (h0 : ∀ s : Fin 8, t0 (ix2 s j) = partialSum (fun n => D n * late x (n + 6)) 4 s.val)
    (h1 : ∀ s : Fin 8, t1 (ix2 s j) = partialSum (fun n => D n * late x (n + 7)) 4 s.val)
    (h2 : ∀ s : Fin 8, t2 (ix2 s j) = partialSum (fun n => D n * late x (n + 8)) 4 s.val) (z : Fin 1) (s : Fin 8) :
    dwBlock t0 t1 t2 (ix3 z s j) = dwAt D x s.val := by
  rw [dwBlock_apply, total_partialSum t0 _ 0 j h0, total_partialSum t1 _ 0 j h1, total_partialSum t2 _ 0 j h2]
  rfl

/-- A stored block of the weights' cotangent, as a piece. -/
theorem piece_dw (b : Ins) {off : Fin 3 → ℕ} {half : Fin 2} {l : Fin 4} (h : off = ![half.val, 0, 128 * l.val])
    (inb : ∀ a, off a + (![1, 8, 128] : Fin 3 → ℕ) a ≤ (![2, 8, 512] : Fin 3 → ℕ) a) (pay : FVec Ideal S1x8x128 .f32)
    (hp : ∀ (z : Fin 1) (s : Fin 8) (j : Fin 128), pay (ix3 z s j) = if half.val = 0
      then dwAt (b.tile l j).dGate (b.tile l j).xg s.val else dwAt (b.tile l j).dVal (b.tile l j).xv s.val)
    (x : S1x8x128.Idx) : pay x = b.dw ((Rect.unit (s := S2x8x512) off ![1, 8, 128] inb).emb x) := by
  subst h
  refine (congrArg pay (eq_ix3 x)).trans ((hp (x 0) (x 1) (x 2)).trans ?_)
  have e0 : ∀ y : S2x8x512.Idx, (y 0).val = half.val → (y 1).val = (x 1).val → (y 2).val = 128 * l.val + (x 2).val →
      b.dw y = if half.val = 0 then dwAt (b.tile l (x 2)).dGate (b.tile l (x 2)).xg (x 1).val
        else dwAt (b.tile l (x 2)).dVal (b.tile l (x 2)).xv (x 1).val := by
    intro y h0 h1 h2
    have e2 : b.col (y 2) = b.tile l (x 2) := congrArg b.col (Fin.ext h2)
    rw [Ins.dw, h0, h1, e2]
  refine (e0 _ ?_ ?_ ?_).symm
  · show half.val + 1 * (x 0).val = _
    have : (x 0).val < 1 := (x 0).isLt
    omega
  · show 0 + 1 * (x 1).val = _
    omega
  · show 128 * l.val + 1 * (x 2).val = _
    omega

/-- A stored block of the bias's cotangent, as a piece. -/
theorem piece_db (b : Ins) {off : Fin 3 → ℕ} {half : Fin 2} {l : Fin 4} (h : off = ![half.val, 0, 128 * l.val])
    (inb : ∀ a, off a + (![1, 1, 128] : Fin 3 → ℕ) a ≤ (![2, 1, 512] : Fin 3 → ℕ) a) (pay : FVec Ideal S1x1x128 .f32)
    (hp : ∀ (z z' : Fin 1) (j : Fin 128), pay (ix3 z z' j) = if half.val = 0
      then ∑ n : Fin 2048, (b.tile l j).dGate n else ∑ n : Fin 2048, (b.tile l j).dVal n)
    (x : S1x1x128.Idx) : pay x = b.db ((Rect.unit (s := S2x1x512) off ![1, 1, 128] inb).emb x) := by
  subst h
  refine (congrArg pay (eq_ix3 x)).trans ((hp (x 0) (x 1) (x 2)).trans ?_)
  have e0 : ∀ y : S2x1x512.Idx, (y 0).val = half.val → (y 2).val = 128 * l.val + (x 2).val →
      b.db y = if half.val = 0 then ∑ n : Fin 2048, (b.tile l (x 2)).dGate n else ∑ n : Fin 2048, (b.tile l (x 2)).dVal n := by
    intro y h0 h2
    have e2 : b.col (y 2) = b.tile l (x 2) := congrArg b.col (Fin.ext h2)
    rw [Ins.db, h0, e2]
  refine (e0 _ ?_ ?_).symm
  · show half.val + 1 * (x 0).val = _
    have : (x 0).val < 1 := (x 0).isLt
    omega
  · show 128 * l.val + 1 * (x 2).val = _
    omega

section
variable {a : Acc Ideal} {b : Ins} {l : Fin 4} (ha : a.Holds 4 (b.tile l))
include ha

theorem piece_dwGate {off : Fin 3 → ℕ} (h : off = ![0, 0, 128 * l.val]) (inb : ∀ a, off a + (![1, 8, 128] : Fin 3 → ℕ) a ≤ (![2, 8, 512] : Fin 3 → ℕ) a)
    (x : S1x8x128.Idx) : dwBlock a.2.1 a.2.2.1 a.2.2.2.1 x = b.dw ((Rect.unit (s := S2x8x512) off ![1, 8, 128] inb).emb x) :=
  piece_dw b (half := 0) h inb _ (fun z s j => dwBlock_sums (fun s => ha.g0 s j) (fun s => ha.g1 s j) (fun s => ha.g2 s j) z s) x

theorem piece_dwVal {off : Fin 3 → ℕ} (h : off = ![1, 0, 128 * l.val]) (inb : ∀ a, off a + (![1, 8, 128] : Fin 3 → ℕ) a ≤ (![2, 8, 512] : Fin 3 → ℕ) a)
    (x : S1x8x128.Idx) :
    dwBlock a.2.2.2.2.2.1 a.2.2.2.2.2.2.1 a.2.2.2.2.2.2.2 x = b.dw ((Rect.unit (s := S2x8x512) off ![1, 8, 128] inb).emb x) :=
  piece_dw b (half := 1) h inb _ (fun z s j => dwBlock_sums (fun s => ha.v0 s j) (fun s => ha.v1 s j) (fun s => ha.v2 s j) z s) x

theorem piece_dbGate {off : Fin 3 → ℕ} (h : off = ![0, 0, 128 * l.val]) (inb : ∀ a, off a + (![1, 1, 128] : Fin 3 → ℕ) a ≤ (![2, 1, 512] : Fin 3 → ℕ) a)
    (x : S1x1x128.Idx) : dbBlock a.1 x = b.db ((Rect.unit (s := S2x1x512) off ![1, 1, 128] inb).emb x) :=
  piece_db b (half := 0) h inb _ (fun z z' j => (dbBlock_apply _ z z' j).trans (total_partialSum _ _ 0 j fun s => ha.g s j)) x

theorem piece_dbVal {off : Fin 3 → ℕ} (h : off = ![1, 0, 128 * l.val]) (inb : ∀ a, off a + (![1, 1, 128] : Fin 3 → ℕ) a ≤ (![2, 1, 512] : Fin 3 → ℕ) a)
    (x : S1x1x128.Idx) : dbBlock a.2.2.2.2.1 x = b.db ((Rect.unit (s := S2x1x512) off ![1, 1, 128] inb).emb x) :=
  piece_db b (half := 1) h inb _ (fun z z' j => (dbBlock_apply _ z z' j).trans (total_partialSum _ _ 0 j fun s => ha.v s j)) x

end

variable (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2x2048x512 .bf16) (harg8 : arg8.IsWhole) (arg9 : Memref sig .tc .vmem S2x8x512 .f32) (harg9 : arg9.IsWhole) (arg10 : Memref sig .tc .vmem S2x1x512 .f32) (harg10 : arg10.IsWhole)

/-- The block of the input's cotangent. -/
theorem out_da (b : Ins) : out0_A_7 (F := Ideal) c i arg1 harg1 arg2 harg2 arg3 harg3 arg4 harg4 arg5 harg5 arg6 harg6 arg7 harg7 arg8 harg8 arg9 harg9 arg10 harg10 b.x0 b.x1 b.x2 b.x3 b.x4 b.x5 b.x6 = b.da := by
  obtain ⟨e2, e3, e4, f4, g4, h, -, -⟩ := stores c i arg1 harg1 arg2 harg2 arg3 harg3 arg4 harg4 arg5 harg5 arg6 harg6 arg7 harg7 arg8 harg8 arg9 harg9 arg10 harg10 b
  unfold out0_A_7
  rw [View.read_writes_junk_eq_canon]
  funext y
  refine View.canon_apply_of_pieces b.da _ ?_ y (cover0_A_7 c i arg1 harg1 arg2 harg2 arg3 harg3 arg4 harg4 arg5 harg5 arg6 harg6 arg7 harg7 arg8 harg8 arg9 harg9 arg10 harg10 b.x0 b.x1 b.x2 b.x3 b.x4 b.x5 b.x6 y)
  rw [h]
  intro p hp
  rcases List.mem_append.mp hp with hp | hp
  · exact (after4_holds c i arg1 harg1 arg2 harg2 arg3 harg3 arg4 harg4 arg5 harg5 arg6 harg6 arg7 harg7 arg8 harg8 arg9 harg9 arg10 harg10 b e4 f4 g4).2 p hp
  rcases List.mem_append.mp hp with hp | hp
  · exact (after3_holds c i arg1 harg1 arg2 harg2 arg3 harg3 arg4 harg4 arg5 harg5 arg6 harg6 arg7 harg7 arg8 harg8 arg9 harg9 arg10 harg10 b e3).2 p hp
  rcases List.mem_append.mp hp with hp | hp
  · exact (after2_holds c i arg1 harg1 arg2 harg2 arg3 harg3 arg4 harg4 arg5 harg5 arg6 harg6 arg7 harg7 arg8 harg8 arg9 harg9 arg10 harg10 b e2).2 p hp
  · exact (after1_holds c i arg1 harg1 arg2 harg2 arg3 harg3 arg4 harg4 arg5 harg5 arg6 harg6 arg7 harg7 arg8 harg8 arg9 harg9 arg10 harg10 b).2 p hp

/-- The block of the weights' cotangent. -/
theorem out_dw (b : Ins) : out0_A_8 (F := Ideal) c i arg1 harg1 arg2 harg2 arg3 harg3 arg4 harg4 arg5 harg5 arg6 harg6 arg7 harg7 arg8 harg8 arg9 harg9 arg10 harg10 b.x0 b.x1 b.x2 b.x3 b.x4 b.x5 b.x6 = b.dw := by
  obtain ⟨e2, e3, e4, f4, g4, -, h, -⟩ := stores c i arg1 harg1 arg2 harg2 arg3 harg3 arg4 harg4 arg5 harg5 arg6 harg6 arg7 harg7 arg8 harg8 arg9 harg9 arg10 harg10 b
  unfold out0_A_8
  rw [View.read_writes_junk_eq_canon]
  funext y
  refine View.canon_apply_of_pieces b.dw _ ?_ y (cover0_A_8 c i arg1 harg1 arg2 harg2 arg3 harg3 arg4 harg4 arg5 harg5 arg6 harg6 arg7 harg7 arg8 harg8 arg9 harg9 arg10 harg10 b.x0 b.x1 b.x2 b.x3 b.x4 b.x5 b.x6 y)
  rw [h]
  simp only [List.forall_mem_cons, List.forall_mem_nil, and_true]
  exact ⟨piece_dwVal (after4_holds c i arg1 harg1 arg2 harg2 arg3 harg3 arg4 harg4 arg5 harg5 arg6 harg6 arg7 harg7 arg8 harg8 arg9 harg9 arg10 harg10 b e4 f4 g4).1 rfl _,
    piece_dwGate (after4_holds c i arg1 harg1 arg2 harg2 arg3 harg3 arg4 harg4 arg5 harg5 arg6 harg6 arg7 harg7 arg8 harg8 arg9 harg9 arg10 harg10 b e4 f4 g4).1 rfl _,
    piece_dwVal (after3_holds c i arg1 harg1 arg2 harg2 arg3 harg3 arg4 harg4 arg5 harg5 arg6 harg6 arg7 harg7 arg8 harg8 arg9 harg9 arg10 harg10 b e3).1 rfl _,
    piece_dwGate (after3_holds c i arg1 harg1 arg2 harg2 arg3 harg3 arg4 harg4 arg5 harg5 arg6 harg6 arg7 harg7 arg8 harg8 arg9 harg9 arg10 harg10 b e3).1 rfl _,
    piece_dwVal (after2_holds c i arg1 harg1 arg2 harg2 arg3 harg3 arg4 harg4 arg5 harg5 arg6 harg6 arg7 harg7 arg8 harg8 arg9 harg9 arg10 harg10 b e2).1 rfl _,
    piece_dwGate (after2_holds c i arg1 harg1 arg2 harg2 arg3 harg3 arg4 harg4 arg5 harg5 arg6 harg6 arg7 harg7 arg8 harg8 arg9 harg9 arg10 harg10 b e2).1 rfl _,
    piece_dwVal (after1_holds c i arg1 harg1 arg2 harg2 arg3 harg3 arg4 harg4 arg5 harg5 arg6 harg6 arg7 harg7 arg8 harg8 arg9 harg9 arg10 harg10 b).1 rfl _,
    piece_dwGate (after1_holds c i arg1 harg1 arg2 harg2 arg3 harg3 arg4 harg4 arg5 harg5 arg6 harg6 arg7 harg7 arg8 harg8 arg9 harg9 arg10 harg10 b).1 rfl _, fun _ h => absurd h List.not_mem_nil⟩

/-- The block of the bias's cotangent. -/
theorem out_db (b : Ins) : out0_A_9 (F := Ideal) c i arg1 harg1 arg2 harg2 arg3 harg3 arg4 harg4 arg5 harg5 arg6 harg6 arg7 harg7 arg8 harg8 arg9 harg9 arg10 harg10 b.x0 b.x1 b.x2 b.x3 b.x4 b.x5 b.x6 = b.db := by
  obtain ⟨e2, e3, e4, f4, g4, -, -, h⟩ := stores c i arg1 harg1 arg2 harg2 arg3 harg3 arg4 harg4 arg5 harg5 arg6 harg6 arg7 harg7 arg8 harg8 arg9 harg9 arg10 harg10 b
  unfold out0_A_9
  rw [View.read_writes_junk_eq_canon]
  funext y
  refine View.canon_apply_of_pieces b.db _ ?_ y (cover0_A_9 c i arg1 harg1 arg2 harg2 arg3 harg3 arg4 harg4 arg5 harg5 arg6 harg6 arg7 harg7 arg8 harg8 arg9 harg9 arg10 harg10 b.x0 b.x1 b.x2 b.x3 b.x4 b.x5 b.x6 y)
  rw [h]
  simp only [List.forall_mem_cons, List.forall_mem_nil, and_true]
  exact ⟨piece_dbVal (after4_holds c i arg1 harg1 arg2 harg2 arg3 harg3 arg4 harg4 arg5 harg5 arg6 harg6 arg7 harg7 arg8 harg8 arg9 harg9 arg10 harg10 b e4 f4 g4).1 rfl _,
    piece_dbGate (after4_holds c i arg1 harg1 arg2 harg2 arg3 harg3 arg4 harg4 arg5 harg5 arg6 harg6 arg7 harg7 arg8 harg8 arg9 harg9 arg10 harg10 b e4 f4 g4).1 rfl _,
    piece_dbVal (after3_holds c i arg1 harg1 arg2 harg2 arg3 harg3 arg4 harg4 arg5 harg5 arg6 harg6 arg7 harg7 arg8 harg8 arg9 harg9 arg10 harg10 b e3).1 rfl _,
    piece_dbGate (after3_holds c i arg1 harg1 arg2 harg2 arg3 harg3 arg4 harg4 arg5 harg5 arg6 harg6 arg7 harg7 arg8 harg8 arg9 harg9 arg10 harg10 b e3).1 rfl _,
    piece_dbVal (after2_holds c i arg1 harg1 arg2 harg2 arg3 harg3 arg4 harg4 arg5 harg5 arg6 harg6 arg7 harg7 arg8 harg8 arg9 harg9 arg10 harg10 b e2).1 rfl _,
    piece_dbGate (after2_holds c i arg1 harg1 arg2 harg2 arg3 harg3 arg4 harg4 arg5 harg5 arg6 harg6 arg7 harg7 arg8 harg8 arg9 harg9 arg10 harg10 b e2).1 rfl _,
    piece_dbVal (after1_holds c i arg1 harg1 arg2 harg2 arg3 harg3 arg4 harg4 arg5 harg5 arg6 harg6 arg7 harg7 arg8 harg8 arg9 harg9 arg10 harg10 b).1 rfl _,
    piece_dbGate (after1_holds c i arg1 harg1 arg2 harg2 arg3 harg3 arg4 harg4 arg5 harg5 arg6 harg6 arg7 harg7 arg8 harg8 arg9 harg9 arg10 harg10 b).1 rfl _, fun _ h => absurd h List.not_mem_nil⟩

end Cert.KernelIdeal.Hand

end
-- ==== Proof.Arrays.lean ====
/- The three result arrays as functions of the four argument arrays. -/
module

public import proofs.«01_k».proof.Proof.OutBlock

@[expose] public section

set_option maxRecDepth 16384

noncomputable section

namespace Cert.KernelIdeal.Hand

open Cert.KernelIdeal Cert.KernelIdeal.Gen Cert.KernelIdeal.Value Idealize.ShloMosaic Idealize.ShloMosaic.TcCoe Idealize.SL.Sem Cert.GatedConv

/-- Column `q` of a pair of halves: the gate's column `q`, the value's column `q + 5632`. -/
def argCol (a : Vec Ideal S2048x11264 .f32) (w : Vec Ideal S3x11264 .f32) (b : Vec Ideal S11264 .f32) (d : Vec Ideal S2048x5632 .f32)
    (q : Fin 5632) : Column where
  xg := rowsOf a ⟨q.val, by omega⟩
  xv := rowsOf a ⟨q.val + 5632, by omega⟩
  d := rowsOf d q
  wg r := if h : r.val < 3 then w (ix2 ⟨r.val, h⟩ ⟨q.val, by omega⟩) else 0
  wv r := if h : r.val < 3 then w (ix2 ⟨r.val, h⟩ ⟨q.val + 5632, by omega⟩) else 0
  bg := b (ix1 ⟨q.val, by omega⟩)
  bv := b (ix1 ⟨q.val + 5632, by omega⟩)

/-- The input's cotangent, of all columns. -/
def daOf (col : Fin 5632 → Column) (y : S2x2048x5632.Idx) : EReal :=
  if (y 0).val = 0 then dInputAt (col (y 2)).wg (col (y 2)).dGate (y 1).val
  else dInputAt (col (y 2)).wv (col (y 2)).dVal (y 1).val

/-- The weights' cotangent, of all columns. -/
def dwOf (col : Fin 5632 → Column) (y : S2x8x5632.Idx) : EReal :=
  if (y 0).val = 0 then dwAt (col (y 2)).dGate (col (y 2)).xg (y 1).val
  else dwAt (col (y 2)).dVal (col (y 2)).xv (y 1).val

/-- The bias's cotangent, of all columns. -/
def dbOf (col : Fin 5632 → Column) (y : S2x1x5632.Idx) : EReal :=
  if (y 0).val = 0 then ∑ n : Fin 2048, (col (y 2)).dGate n else ∑ n : Fin 2048, (col (y 2)).dVal n

variable (m : (ℓ : Loc nD τ sig) → Buf (Elt Ideal) ℓ) (ρ : Dev nD → PrngReg) (c : Dev nD)

/-- Device `c`'s columns. -/
def cols : Fin 5632 → Column :=
  argCol (m ((c : Thread nD τ).loc main_arg0)) (m ((c : Thread nD τ).loc main_arg1)) (m ((c : Thread nD τ).loc main_arg2)) (m ((c : Thread nD τ).loc main_arg3))

/-- The padded weights. -/
theorem V_weights : V m c main_v0 = pad S8x11264 ![0, 0] ![5, 0] ![0, 0] (m ((c : Thread nD τ).loc main_arg1))
    (sitofp (F := Ideal) .f32 (constantI S_ 32 0#32)) pads_S3x11264_S8x11264_050_000 h_S_ := by
  unfold_abbrev_sides
  simp only [hostOps0, hostOps0_1, hostOps0_2, List.flatten_cons, List.flatten_nil, List.append_nil, List.cons_append, List.nil_append]
  after_results
  rfl

/-- The bias as one row. -/
theorem V_bias : V m c main_v1 = broadcastInDim S1x11264 ![1] bcast_S11264_S1x11264_1 (m ((c : Thread nD τ).loc main_arg2)) := by
  unfold_abbrev_sides
  simp only [hostOps0, hostOps0_1, hostOps0_2, List.flatten_cons, List.flatten_nil, List.append_nil, List.cons_append, List.nil_append]
  after_results

theorem padded_apply (x : Vec Ideal S3x11264 .f32) (r : Fin 8) (q : Fin 11264) :
    pad S8x11264 ![0, 0] ![5, 0] ![0, 0] x (sitofp (F := Ideal) .f32 (constantI S_ 32 0#32)) pads_S3x11264_S8x11264_050_000 h_S_ (ix2 r q)
      = if h : r.val < 3 then x (ix2 ⟨r.val, h⟩ q) else (0 : EReal) := by
  pointwise []
  refine dite_congr rfl (fun _ => rfl) (fun _ => ?_)
  show (((0#32 : BitVec 32).toInt : ℝ) : EReal) = 0
  simp

theorem V_weights_apply (r : Fin 8) (q : Fin 11264) : (V m c main_v0 : Vec Ideal S8x11264 .f32) (ix2 r q)
    = if h : r.val < 3 then (m ((c : Thread nD τ).loc main_arg1) : Vec Ideal S3x11264 .f32) (ix2 ⟨r.val, h⟩ q) else (0 : EReal) := by
  rw [V_weights]
  exact padded_apply _ r q

theorem V_bias_apply (z : Fin 1) (q : Fin 11264) : (V m c main_v1 : Vec Ideal S1x11264 .f32) (ix2 z q)
    = (m ((c : Thread nD τ).loc main_arg2) : Vec Ideal S11264 .f32) (ix1 q) := by
  rw [V_bias]
  pointwise []

/-- The seven input blocks of point `t`. -/
def ins (t : Fin cfg0.N) : Ins := ⟨iblk m c 0 t, iblk m c 1 t, iblk m c 2 t, iblk m c 3 t, iblk m c 4 t, iblk m c 5 t, iblk m c 6 t⟩

/-- The block indices: the last axis moves with the point, the second halves' 11 blocks on. -/
theorem lt_points (t : Fin cfg0.N) : t.val < 11 := N_0 ▸ t.isLt
theorem index0 : ∀ t : Fin cfg0.N, win0_0.index t (0 : Fin 2) = 0 ∧ win0_0.index t (1 : Fin 2) = t.val :=
  (by decide +kernel : ∀ t : Fin grid0.N, _)
theorem index1 : ∀ t : Fin cfg0.N, win0_1.index t (0 : Fin 2) = 0 ∧ win0_1.index t (1 : Fin 2) = t.val + 11 :=
  (by decide +kernel : ∀ t : Fin grid0.N, _)
theorem index2 : ∀ t : Fin cfg0.N, win0_2.index t (0 : Fin 2) = 0 ∧ win0_2.index t (1 : Fin 2) = t.val :=
  (by decide +kernel : ∀ t : Fin grid0.N, _)
theorem index3 : ∀ t : Fin cfg0.N, win0_3.index t (0 : Fin 2) = 0 ∧ win0_3.index t (1 : Fin 2) = t.val + 11 :=
  (by decide +kernel : ∀ t : Fin grid0.N, _)
theorem index4 : ∀ t : Fin cfg0.N, win0_4.index t (0 : Fin 2) = 0 ∧ win0_4.index t (1 : Fin 2) = t.val :=
  (by decide +kernel : ∀ t : Fin grid0.N, _)
theorem index5 : ∀ t : Fin cfg0.N, win0_5.index t (0 : Fin 2) = 0 ∧ win0_5.index t (1 : Fin 2) = t.val + 11 :=
  (by decide +kernel : ∀ t : Fin grid0.N, _)
theorem index6 : ∀ t : Fin cfg0.N, win0_6.index t (0 : Fin 2) = 0 ∧ win0_6.index t (1 : Fin 2) = t.val :=
  (by decide +kernel : ∀ t : Fin grid0.N, _)
theorem index7 : ∀ t : Fin cfg0.N, win0_7.index t (0 : Fin 3) = 0 ∧ win0_7.index t (1 : Fin 3) = 0 ∧ win0_7.index t (2 : Fin 3) = t.val :=
  (by decide +kernel : ∀ t : Fin grid0.N, _)
theorem index8 : ∀ t : Fin cfg0.N, win0_8.index t (0 : Fin 3) = 0 ∧ win0_8.index t (1 : Fin 3) = 0 ∧ win0_8.index t (2 : Fin 3) = t.val :=
  (by decide +kernel : ∀ t : Fin grid0.N, _)
theorem index9 : ∀ t : Fin cfg0.N, win0_9.index t (0 : Fin 3) = 0 ∧ win0_9.index t (1 : Fin 3) = 0 ∧ win0_9.index t (2 : Fin 3) = t.val :=
  (by decide +kernel : ∀ t : Fin grid0.N, _)

/-- Each input block, read at an index. -/
theorem iblk0_apply (t : Fin cfg0.N) (n : Fin 2048) (q : Fin 512) : iblk m c 0 t (ix2 n q)
    = (V m c main_arg0 : Vec Ideal S2048x11264 .f32) (ix2 n ⟨512 * t.val + q.val, by have := lt_points t; omega⟩) := by
  obtain ⟨e0, e1⟩ := index0 t
  show (V m c main_arg0 : Vec Ideal S2048x11264 .f32) (((cfg0.win 0).blk t).view.emb (ix2 n q)) = _
  refine congrArg (V m c main_arg0 : Vec Ideal S2048x11264 .f32) (funext fun a => Fin.ext ?_)
  match a with
  | ⟨0, _⟩ => show win0_0.index t (0 : Fin 2) * 2048 + 1 * n.val = n.val; omega
  | ⟨1, _⟩ => show win0_0.index t (1 : Fin 2) * 512 + 1 * q.val = 512 * t.val + q.val; omega

theorem iblk1_apply (t : Fin cfg0.N) (n : Fin 2048) (q : Fin 512) : iblk m c 1 t (ix2 n q)
    = (V m c main_arg0 : Vec Ideal S2048x11264 .f32) (ix2 n ⟨512 * t.val + q.val + 5632, by have := lt_points t; omega⟩) := by
  obtain ⟨e0, e1⟩ := index1 t
  show (V m c main_arg0 : Vec Ideal S2048x11264 .f32) (((cfg0.win 1).blk t).view.emb (ix2 n q)) = _
  refine congrArg (V m c main_arg0 : Vec Ideal S2048x11264 .f32) (funext fun a => Fin.ext ?_)
  match a with
  | ⟨0, _⟩ => show win0_1.index t (0 : Fin 2) * 2048 + 1 * n.val = n.val; omega
  | ⟨1, _⟩ => show win0_1.index t (1 : Fin 2) * 512 + 1 * q.val = 512 * t.val + q.val + 5632; omega

theorem iblk2_apply (t : Fin cfg0.N) (n : Fin 8) (q : Fin 512) : iblk m c 2 t (ix2 n q)
    = (V m c main_v0 : Vec Ideal S8x11264 .f32) (ix2 n ⟨512 * t.val + q.val, by have := lt_points t; omega⟩) := by
  obtain ⟨e0, e1⟩ := index2 t
  show (V m c main_v0 : Vec Ideal S8x11264 .f32) (((cfg0.win 2).blk t).view.emb (ix2 n q)) = _
  refine congrArg (V m c main_v0 : Vec Ideal S8x11264 .f32) (funext fun a => Fin.ext ?_)
  match a with
  | ⟨0, _⟩ => show win0_2.index t (0 : Fin 2) * 8 + 1 * n.val = n.val; omega
  | ⟨1, _⟩ => show win0_2.index t (1 : Fin 2) * 512 + 1 * q.val = 512 * t.val + q.val; omega

theorem iblk3_apply (t : Fin cfg0.N) (n : Fin 8) (q : Fin 512) : iblk m c 3 t (ix2 n q)
    = (V m c main_v0 : Vec Ideal S8x11264 .f32) (ix2 n ⟨512 * t.val + q.val + 5632, by have := lt_points t; omega⟩) := by
  obtain ⟨e0, e1⟩ := index3 t
  show (V m c main_v0 : Vec Ideal S8x11264 .f32) (((cfg0.win 3).blk t).view.emb (ix2 n q)) = _
  refine congrArg (V m c main_v0 : Vec Ideal S8x11264 .f32) (funext fun a => Fin.ext ?_)
  match a with
  | ⟨0, _⟩ => show win0_3.index t (0 : Fin 2) * 8 + 1 * n.val = n.val; omega
  | ⟨1, _⟩ => show win0_3.index t (1 : Fin 2) * 512 + 1 * q.val = 512 * t.val + q.val + 5632; omega

theorem iblk4_apply (t : Fin cfg0.N) (n : Fin 1) (q : Fin 512) : iblk m c 4 t (ix2 n q)
    = (V m c main_v1 : Vec Ideal S1x11264 .f32) (ix2 n ⟨512 * t.val + q.val, by have := lt_points t; omega⟩) := by
  obtain ⟨e0, e1⟩ := index4 t
  show (V m c main_v1 : Vec Ideal S1x11264 .f32) (((cfg0.win 4).blk t).view.emb (ix2 n q)) = _
  refine congrArg (V m c main_v1 : Vec Ideal S1x11264 .f32) (funext fun a => Fin.ext ?_)
  match a with
  | ⟨0, _⟩ => show win0_4.index t (0 : Fin 2) * 1 + 1 * n.val = n.val; omega
  | ⟨1, _⟩ => show win0_4.index t (1 : Fin 2) * 512 + 1 * q.val = 512 * t.val + q.val; omega

theorem iblk5_apply (t : Fin cfg0.N) (n : Fin 1) (q : Fin 512) : iblk m c 5 t (ix2 n q)
    = (V m c main_v1 : Vec Ideal S1x11264 .f32) (ix2 n ⟨512 * t.val + q.val + 5632, by have := lt_points t; omega⟩) := by
  obtain ⟨e0, e1⟩ := index5 t
  show (V m c main_v1 : Vec Ideal S1x11264 .f32) (((cfg0.win 5).blk t).view.emb (ix2 n q)) = _
  refine congrArg (V m c main_v1 : Vec Ideal S1x11264 .f32) (funext fun a => Fin.ext ?_)
  match a with
  | ⟨0, _⟩ => show win0_5.index t (0 : Fin 2) * 1 + 1 * n.val = n.val; omega
  | ⟨1, _⟩ => show win0_5.index t (1 : Fin 2) * 512 + 1 * q.val = 512 * t.val + q.val + 5632; omega

theorem iblk6_apply (t : Fin cfg0.N) (n : Fin 2048) (q : Fin 512) : iblk m c 6 t (ix2 n q)
    = (V m c main_arg3 : Vec Ideal S2048x5632 .f32) (ix2 n ⟨512 * t.val + q.val, by have := lt_points t; omega⟩) := by
  obtain ⟨e0, e1⟩ := index6 t
  show (V m c main_arg3 : Vec Ideal S2048x5632 .f32) (((cfg0.win 6).blk t).view.emb (ix2 n q)) = _
  refine congrArg (V m c main_arg3 : Vec Ideal S2048x5632 .f32) (funext fun a => Fin.ext ?_)
  match a with
  | ⟨0, _⟩ => show win0_6.index t (0 : Fin 2) * 2048 + 1 * n.val = n.val; omega
  | ⟨1, _⟩ => show win0_6.index t (1 : Fin 2) * 512 + 1 * q.val = 512 * t.val + q.val; omega

/-- The columns of point `t`'s blocks are the arrays' columns from `512 t`. -/
theorem ins_col (t : Fin cfg0.N) (q : Fin 512) : (ins m c t).col q = cols m c ⟨512 * t.val + q.val, by have := lt_points t; omega⟩ := by
  have r0 : ∀ n, rowsOf (ins m c t).x0 q n = rowsOf (m ((c : Thread nD τ).loc main_arg0) : Vec Ideal S2048x11264 .f32) ⟨512 * t.val + q.val, by have := lt_points t; omega⟩ n := by
    intro n
    unfold rowsOf
    split
    · exact (iblk0_apply m c t _ q).trans (by rw [V_main_arg0])
    · rfl
  have r1 : ∀ n, rowsOf (ins m c t).x1 q n = rowsOf (m ((c : Thread nD τ).loc main_arg0) : Vec Ideal S2048x11264 .f32) ⟨512 * t.val + q.val + 5632, by have := lt_points t; omega⟩ n := by
    intro n
    unfold rowsOf
    split
    · exact (iblk1_apply m c t _ q).trans (by rw [V_main_arg0])
    · rfl
  have r6 : ∀ n, rowsOf (ins m c t).x6 q n = rowsOf (m ((c : Thread nD τ).loc main_arg3) : Vec Ideal S2048x5632 .f32) ⟨512 * t.val + q.val, by have := lt_points t; omega⟩ n := by
    intro n
    unfold rowsOf
    split
    · exact (iblk6_apply m c t _ q).trans (by rw [V_main_arg3])
    · rfl
  have r2 : ∀ r, (ins m c t).x2 (ix2 r q) = _ := fun r => (iblk2_apply m c t r q).trans (V_weights_apply m c r _)
  have r3 : ∀ r, (ins m c t).x3 (ix2 r q) = _ := fun r => (iblk3_apply m c t r q).trans (V_weights_apply m c r _)
  have r4 : (ins m c t).x4 (ix2 0 q) = _ := (iblk4_apply m c t 0 q).trans (V_bias_apply m c 0 _)
  have r5 : (ins m c t).x5 (ix2 0 q) = _ := (iblk5_apply m c t 0 q).trans (V_bias_apply m c 0 _)
  unfold Ins.col cols argCol
  rw [funext r0, funext r1, funext r6, funext r2, funext r3, r4, r5]

/-- What point `t` writes back is its block of the whole array. -/
theorem flushed_da (t : Fin cfg0.N) : (dats m 0 c).flushed 7 t = ((cfg0.win 7).blk t).view.read (Elt Ideal) (daOf (cols m c)) := by
  rw [flushed7_A]
  funext y
  show out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ins m c t).x0 (ins m c t).x1 (ins m c t).x2 (ins m c t).x3 (ins m c t).x4 (ins m c t).x5 (ins m c t).x6 y
    = daOf (cols m c) (((cfg0.win 7).blk t).view.emb y)
  rw [out_da]
  obtain ⟨e0, e1, e2⟩ := index7 t
  have key : ∀ (y : S2x2048x512.Idx) (z : S2x2048x5632.Idx), (z 0).val = (y (0 : Fin 3)).val → (z 1).val = (y (1 : Fin 3)).val → (z 2).val = 512 * t.val + (y (2 : Fin 3)).val → (ins m c t).da y = daOf (cols m c) z := by
    intro y z h0 h1 h2
    unfold Ins.da daOf
    have ec : (ins m c t).col (y 2) = cols m c (z 2) := (ins_col m c t (y 2)).trans (congrArg (cols m c) (Fin.ext h2.symm))
    rw [ec, h0, h1]
  refine key y _ ?_ ?_ ?_
  · show win0_7.index t (0 : Fin 3) * 2 + 1 * (y (0 : Fin 3)).val = (y (0 : Fin 3)).val; omega
  · show win0_7.index t (1 : Fin 3) * 2048 + 1 * (y (1 : Fin 3)).val = (y (1 : Fin 3)).val; omega
  · show win0_7.index t (2 : Fin 3) * 512 + 1 * (y (2 : Fin 3)).val = 512 * t.val + (y (2 : Fin 3)).val; omega

/-- The blocks cover the array. -/
theorem covered_da (i : S2x2048x5632.Idx) : ∃ t : Fin cfg0.N, (cfg0.win 7).flush t = true ∧ i ∈ ((cfg0.win 7).blk t).view.set := by
  have hi : (i (2 : Fin 3)).val < 5632 := (i (2 : Fin 3)).isLt
  let t : Fin cfg0.N := ⟨(i (2 : Fin 3)).val / 512, by show _ < grid0.N; rw [N_0]; omega⟩
  obtain ⟨e0, e1, e2⟩ := index7 t
  have ht : t.val = (i (2 : Fin 3)).val / 512 := rfl
  refine ⟨t, flush0_7 t, (congrArg (· ∈ ((cfg0.win 7).blk t).view.set) (funext fun a => Fin.ext ?_)).mp (((cfg0.win 7).blk t).view.emb_mem_set (ix3 (i (0 : Fin 3)) (i (1 : Fin 3)) ⟨(i (2 : Fin 3)).val % 512, Nat.mod_lt _ (by decide)⟩))⟩
  match a with
  | ⟨0, _⟩ => show win0_7.index t (0 : Fin 3) * 2 + 1 * (i (0 : Fin 3)).val = (i (0 : Fin 3)).val; omega
  | ⟨1, _⟩ => show win0_7.index t (1 : Fin 3) * 2048 + 1 * (i (1 : Fin 3)).val = (i (1 : Fin 3)).val; omega
  | ⟨2, _⟩ => show win0_7.index t (2 : Fin 3) * 512 + 1 * ((i (2 : Fin 3)).val % 512) = (i (2 : Fin 3)).val; omega

theorem final_da : (dats m 0 c).arrAt 7 cfg0.N = daOf (cols m c) :=
  (dats m 0 c).arrAt_eq_of_cover 7 (daOf (cols m c)) (fun t _ => flushed_da m c t) covered_da

/-- What point `t` writes back is its block of the whole array. -/
theorem flushed_dw (t : Fin cfg0.N) : (dats m 0 c).flushed 8 t = ((cfg0.win 8).blk t).view.read (Elt Ideal) (dwOf (cols m c)) := by
  rw [flushed8_A]
  funext y
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ins m c t).x0 (ins m c t).x1 (ins m c t).x2 (ins m c t).x3 (ins m c t).x4 (ins m c t).x5 (ins m c t).x6 y
    = dwOf (cols m c) (((cfg0.win 8).blk t).view.emb y)
  rw [out_dw]
  obtain ⟨e0, e1, e2⟩ := index8 t
  have key : ∀ (y : S2x8x512.Idx) (z : S2x8x5632.Idx), (z 0).val = (y (0 : Fin 3)).val → (z 1).val = (y (1 : Fin 3)).val → (z 2).val = 512 * t.val + (y (2 : Fin 3)).val → (ins m c t).dw y = dwOf (cols m c) z := by
    intro y z h0 h1 h2
    unfold Ins.dw dwOf
    have ec : (ins m c t).col (y 2) = cols m c (z 2) := (ins_col m c t (y 2)).trans (congrArg (cols m c) (Fin.ext h2.symm))
    rw [ec, h0, h1]
  refine key y _ ?_ ?_ ?_
  · show win0_8.index t (0 : Fin 3) * 2 + 1 * (y (0 : Fin 3)).val = (y (0 : Fin 3)).val; omega
  · show win0_8.index t (1 : Fin 3) * 8 + 1 * (y (1 : Fin 3)).val = (y (1 : Fin 3)).val; omega
  · show win0_8.index t (2 : Fin 3) * 512 + 1 * (y (2 : Fin 3)).val = 512 * t.val + (y (2 : Fin 3)).val; omega

/-- The blocks cover the array. -/
theorem covered_dw (i : S2x8x5632.Idx) : ∃ t : Fin cfg0.N, (cfg0.win 8).flush t = true ∧ i ∈ ((cfg0.win 8).blk t).view.set := by
  have hi : (i (2 : Fin 3)).val < 5632 := (i (2 : Fin 3)).isLt
  let t : Fin cfg0.N := ⟨(i (2 : Fin 3)).val / 512, by show _ < grid0.N; rw [N_0]; omega⟩
  obtain ⟨e0, e1, e2⟩ := index8 t
  have ht : t.val = (i (2 : Fin 3)).val / 512 := rfl
  refine ⟨t, flush0_8 t, (congrArg (· ∈ ((cfg0.win 8).blk t).view.set) (funext fun a => Fin.ext ?_)).mp (((cfg0.win 8).blk t).view.emb_mem_set (ix3 (i (0 : Fin 3)) (i (1 : Fin 3)) ⟨(i (2 : Fin 3)).val % 512, Nat.mod_lt _ (by decide)⟩))⟩
  match a with
  | ⟨0, _⟩ => show win0_8.index t (0 : Fin 3) * 2 + 1 * (i (0 : Fin 3)).val = (i (0 : Fin 3)).val; omega
  | ⟨1, _⟩ => show win0_8.index t (1 : Fin 3) * 8 + 1 * (i (1 : Fin 3)).val = (i (1 : Fin 3)).val; omega
  | ⟨2, _⟩ => show win0_8.index t (2 : Fin 3) * 512 + 1 * ((i (2 : Fin 3)).val % 512) = (i (2 : Fin 3)).val; omega

theorem final_dw : (dats m 0 c).arrAt 8 cfg0.N = dwOf (cols m c) :=
  (dats m 0 c).arrAt_eq_of_cover 8 (dwOf (cols m c)) (fun t _ => flushed_dw m c t) covered_dw

/-- What point `t` writes back is its block of the whole array. -/
theorem flushed_db (t : Fin cfg0.N) : (dats m 0 c).flushed 9 t = ((cfg0.win 9).blk t).view.read (Elt Ideal) (dbOf (cols m c)) := by
  rw [flushed9_A]
  funext y
  show out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ins m c t).x0 (ins m c t).x1 (ins m c t).x2 (ins m c t).x3 (ins m c t).x4 (ins m c t).x5 (ins m c t).x6 y
    = dbOf (cols m c) (((cfg0.win 9).blk t).view.emb y)
  rw [out_db]
  obtain ⟨e0, e1, e2⟩ := index9 t
  have key : ∀ (y : S2x1x512.Idx) (z : S2x1x5632.Idx), (z 0).val = (y (0 : Fin 3)).val → (z 1).val = (y (1 : Fin 3)).val → (z 2).val = 512 * t.val + (y (2 : Fin 3)).val → (ins m c t).db y = dbOf (cols m c) z := by
    intro y z h0 h1 h2
    unfold Ins.db dbOf
    have ec : (ins m c t).col (y 2) = cols m c (z 2) := (ins_col m c t (y 2)).trans (congrArg (cols m c) (Fin.ext h2.symm))
    rw [ec, h0]
  refine key y _ ?_ ?_ ?_
  · show win0_9.index t (0 : Fin 3) * 2 + 1 * (y (0 : Fin 3)).val = (y (0 : Fin 3)).val; omega
  · show win0_9.index t (1 : Fin 3) * 1 + 1 * (y (1 : Fin 3)).val = (y (1 : Fin 3)).val; omega
  · show win0_9.index t (2 : Fin 3) * 512 + 1 * (y (2 : Fin 3)).val = 512 * t.val + (y (2 : Fin 3)).val; omega

/-- The blocks cover the array. -/
theorem covered_db (i : S2x1x5632.Idx) : ∃ t : Fin cfg0.N, (cfg0.win 9).flush t = true ∧ i ∈ ((cfg0.win 9).blk t).view.set := by
  have hi : (i (2 : Fin 3)).val < 5632 := (i (2 : Fin 3)).isLt
  let t : Fin cfg0.N := ⟨(i (2 : Fin 3)).val / 512, by show _ < grid0.N; rw [N_0]; omega⟩
  obtain ⟨e0, e1, e2⟩ := index9 t
  have ht : t.val = (i (2 : Fin 3)).val / 512 := rfl
  refine ⟨t, flush0_9 t, (congrArg (· ∈ ((cfg0.win 9).blk t).view.set) (funext fun a => Fin.ext ?_)).mp (((cfg0.win 9).blk t).view.emb_mem_set (ix3 (i (0 : Fin 3)) (i (1 : Fin 3)) ⟨(i (2 : Fin 3)).val % 512, Nat.mod_lt _ (by decide)⟩))⟩
  match a with
  | ⟨0, _⟩ => show win0_9.index t (0 : Fin 3) * 2 + 1 * (i (0 : Fin 3)).val = (i (0 : Fin 3)).val; omega
  | ⟨1, _⟩ => show win0_9.index t (1 : Fin 3) * 1 + 1 * (i (1 : Fin 3)).val = (i (1 : Fin 3)).val; omega
  | ⟨2, _⟩ => show win0_9.index t (2 : Fin 3) * 512 + 1 * ((i (2 : Fin 3)).val % 512) = (i (2 : Fin 3)).val; omega

theorem final_db : (dats m 0 c).arrAt 9 cfg0.N = dbOf (cols m c) :=
  (dats m 0 c).arrAt_eq_of_cover 9 (dbOf (cols m c)) (fun t _ => flushed_db m c t) covered_db

/-- The run, its results as functions of the arguments. -/
theorem run : θ_run defs (onTc (τ := τ) (main (F := Ideal))) ⟨m, fun _ => 0, ρ⟩ fun r => ∀ c : Dev nD,
      r.2.mem ((c : Thread nD τ).loc main_v2_0) = daOf (cols m c)
      ∧ r.2.mem ((c : Thread nD τ).loc main_v2_1) = dwOf (cols m c)
      ∧ r.2.mem ((c : Thread nD τ).loc main_v2_2) = dbOf (cols m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_da m c), (h c).2.1.trans (final_dw m c), (h c).2.2.1.trans (final_db m c), (h c).2.2.2⟩)
    (run_blocks m ρ)

end Cert.KernelIdeal.Hand

end
-- ==== Proof.Finite.lean ====
/- The precondition, read: every argument holds real numbers. -/
module

public import proofs.«01_k».proof.Proof.Arrays
public import proofs.«01_k».proof.Pre_finite
public import Idealize.ShloMosaic.Lib.ReduceAll

@[expose] public section

set_option maxRecDepth 16384

noncomputable section

namespace Cert.Pre_finite.Hand

open Cert.Pre_finite Idealize.ShloMosaic Idealize.ShloMosaic.TcCoe

/-- A value below plus infinity in size is a real number. -/
theorem real_of_abs_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  have h2 : max x (-x) < ⊤ := by
    by_contra hn
    simp only [Ideal.cmp, decide_eq_false hn] at h
    exact absurd h (by decide)
  rcases max_lt_iff.1 h2 with ⟨h3, h4⟩
  refine ⟨x.toReal, (EReal.coe_toReal h3.ne ?_).symm⟩
  rintro rfl
  simp at h4

/-- The four arguments of a memory that meets the precondition hold real numbers. -/
theorem finite_args [hF : Cert.Pre_finite.Facts] (a : Vec Ideal S2048x11264 .f32) (w : Vec Ideal S3x11264 .f32) (b : Vec Ideal S11264 .f32) (d : Vec Ideal S2048x5632 .f32)
    (h : fn (F := Ideal) a w b d = fun _ => 1#1) :
    (∀ i, ∃ r : ℝ, a i = r) ∧ (∀ i, ∃ r : ℝ, w i = r) ∧ (∀ i, ∃ r : ℝ, b i = r) ∧ (∀ i, ∃ r : ℝ, d i = r) := by
  have h1 := congrFun h (Shape.Idx.first hF.h_S_)
  dsimp only [fn, fn_part1] at h1
  haveI : Subsingleton S_.Idx := ⟨fun i j => funext fun k => k.elim0⟩
  obtain ⟨h2, hd⟩ := IntOp.andi_eq_one.1 h1
  obtain ⟨h3, hb⟩ := IntOp.andi_eq_one.1 h2
  obtain ⟨ha, hw⟩ := IntOp.andi_eq_one.1 h3
  exact ⟨fun i => real_of_abs_lt (Host.reduce_andi_all _ _ _ _ _ ha i), fun i => real_of_abs_lt (Host.reduce_andi_all _ _ _ _ _ hw i),
    fun i => real_of_abs_lt (Host.reduce_andi_all _ _ _ _ _ hb i), fun i => real_of_abs_lt (Host.reduce_andi_all _ _ _ _ _ hd i)⟩

end Cert.Pre_finite.Hand

end
-- ==== Proof.RefValue.lean ====
/- The reference's arrays, column by column. -/
module

public import proofs.«01_k».proof.Proof.Gen.ReferenceIdeal.Read
public import proofs.«01_k».proof.Proof.Arrays

@[expose] public section

set_option maxRecDepth 16384

noncomputable section

namespace Cert.ReferenceIdeal.Hand

open Cert.ReferenceIdeal Cert.ReferenceIdeal.Read Idealize.ShloMosaic Idealize.ShloMosaic.TcCoe Cert.GatedConv
open Cert.KernelIdeal.Hand (rowsOf rowsOf_lt tapSum dwAt argCol daOf dwOf dbOf)

variable (a : Vec Ideal S2048x11264 .f32) (w : Vec Ideal S3x11264 .f32) (b : Vec Ideal S11264 .f32) (d : Vec Ideal S2048x5632 .f32)

/-! ## The convolution -/

/-- The input with two rows of zeros before it. -/
theorem v1_apply (n : Fin 2050) (Q : Fin 11264) : val_main_v1 (F := Ideal) a (ix2 n Q) = late (rowsOf a Q) (n.val + 6) := by
  unfold late rowsOf
  pointwise [val_main_v1, val_main_v0, val_main_cst]
  by_cases h : n.val < 2
  · rw [dif_pos h, if_neg (by omega)]
  · have e : (if 2 ≤ n.val ∧ n.val + 6 < 2056 then if h : n.val + 6 - 8 < 2048 then a (ix2 ⟨n.val + 6 - 8, h⟩ Q) else 0 else 0)
        = a (ix2 ⟨n.val + 6 - 8, by omega⟩ Q) := (if_pos (by omega)).trans (dif_pos (by omega))
    have e2 : (⟨n.val - 2, by omega⟩ : Fin 2048) = ⟨n.val + 6 - 8, by omega⟩ := Fin.ext (by dsimp only; omega)
    exact (dif_neg h).trans ((congrArg (fun k => a (ix2 k Q)) e2).trans e.symm)

theorem v3_apply (n : Fin 2048) (Q : Fin 11264) : val_main_v3 (F := Ideal) a (ix2 n Q) = late (rowsOf a Q) (n.val + 6) := by
  pointwise [val_main_v3]
  exact (v1_apply a _ Q).trans rfl

theorem v11_apply (n : Fin 2048) (Q : Fin 11264) : val_main_v11 (F := Ideal) a (ix2 n Q) = late (rowsOf a Q) (n.val + 7) := by
  pointwise [val_main_v11]
  exact (v1_apply a _ Q).trans (congrArg (late (rowsOf a Q)) (by dsimp only; omega))

theorem v18_apply (n : Fin 2048) (Q : Fin 11264) : val_main_v18 (F := Ideal) a (ix2 n Q) = late (rowsOf a Q) (n.val + 8) := by
  pointwise [val_main_v18]
  exact (v1_apply a _ Q).trans (congrArg (late (rowsOf a Q)) (by dsimp only; omega))

theorem v7_apply (n : Fin 2048) (Q : Fin 11264) : val_main_v7 (F := Ideal) w (ix2 n Q) = w (ix2 0 Q) := by
  pointwise [val_main_v7, val_main_v6, val_main_v5, val_main_v4]

theorem v15_apply (n : Fin 2048) (Q : Fin 11264) : val_main_v15 (F := Ideal) w (ix2 n Q) = w (ix2 1 Q) := by
  pointwise [val_main_v15, val_main_v14, val_main_v13, val_main_v12]

theorem v22_apply (n : Fin 2048) (Q : Fin 11264) : val_main_v22 (F := Ideal) w (ix2 n Q) = w (ix2 2 Q) := by
  pointwise [val_main_v22, val_main_v21, val_main_v20, val_main_v19]

theorem v62_apply (n : Fin 2048) (Q : Fin 11264) : val_main_v62 (F := Ideal) w (ix2 n Q) = w (ix2 0 Q) := by
  pointwise [val_main_v62, val_main_v6, val_main_v5, val_main_v4]

theorem v51_apply (n : Fin 2048) (Q : Fin 11264) : val_main_v51 (F := Ideal) w (ix2 n Q) = w (ix2 1 Q) := by
  pointwise [val_main_v51, val_main_v14, val_main_v13, val_main_v12]

theorem v42_apply (n : Fin 2048) (Q : Fin 11264) : val_main_v42 (F := Ideal) w (ix2 n Q) = w (ix2 2 Q) := by
  pointwise [val_main_v42, val_main_v21, val_main_v20, val_main_v19]

theorem v26_apply (n : Fin 2048) (Q : Fin 11264) : val_main_v26 (F := Ideal) b (ix2 n Q) = b (ix1 Q) := by
  pointwise [val_main_v26, val_main_v25]

theorem v9_apply (n : Fin 2048) (Q : Fin 11264) : val_main_v9 (F := Ideal) (ix2 n Q) = 0 := by
  pointwise [val_main_v9, val_main_cst_1]

/-- The convolution. -/
theorem v27_apply (n : Fin 2048) (Q : Fin 11264) (W : Fin 8 → EReal) (h0 : W 0 = w (ix2 0 Q)) (h1 : W 1 = w (ix2 1 Q)) (h2 : W 2 = w (ix2 2 Q)) :
    val_main_v27 (F := Ideal) a w b (ix2 n Q) = convAt W (b (ix1 Q)) (rowsOf a Q) n.val := by
  rw [val_main_v27_apply, val_main_v24_apply, val_main_v17_apply, val_main_v10_apply, val_main_v8_apply, val_main_v16_apply, val_main_v23_apply,
    v9_apply, v3_apply, v7_apply, v11_apply, v15_apply, v18_apply, v22_apply, v26_apply]
  simp only [Ideal.addf_def, Ideal.mulf_def]
  rw [convAt, h0, h1, h2, zero_add, mul_comm (w (ix2 0 Q)), mul_comm (w (ix2 1 Q)), mul_comm (w (ix2 2 Q))]

/-- The gate and the value. -/
theorem v28_apply (n : Fin 2048) (q : Fin 5632) : val_main_v28 (F := Ideal) a w b (ix2 n q) = (argCol a w b d q).gate n.val := by
  pointwise [val_main_v28]
  exact (v27_apply a w b _ _ (argCol a w b d q).wg rfl rfl rfl)

theorem v29_apply (n : Fin 2048) (q : Fin 5632) : val_main_v29 (F := Ideal) a w b (ix2 n q) = (argCol a w b d q).val n.val := by
  pointwise [val_main_v29]
  exact (congrArg (fun k => val_main_v27 (F := Ideal) a w b (ix2 n k)) (Fin.ext (by dsimp only; omega))).trans (v27_apply a w b n ⟨q.val + 5632, by omega⟩ (argCol a w b d q).wv rfl rfl rfl)

/-- The sigmoid of the gate. -/
theorem v30_2_apply (n : Fin 2048) (q : Fin 5632) : val_main_v30_2 (F := Ideal) a w b (ix2 n q) = Ideal.logistic ((argCol a w b d q).gate n.val) := by
  pointwise [val_main_v30_2, val_main_call0_v3, val_main_call0_v1, val_main_call0_v0, val_main_call0_v4, val_main_call0_v2, val_main_call0_cst, val_main_call0_cst_0]
  rw [v28_apply a w b d]
  rfl

/-- The cotangent of the value, at a row. -/
theorem v32_apply (n : Fin 2048) (q : Fin 5632) : val_main_v32 (F := Ideal) a w b d (ix2 n q) = (argCol a w b d q).dVal n.val := by
  rw [val_main_v32_apply, val_main_v30_0_apply, v28_apply a w b d, v30_2_apply a w b d]
  simp only [Ideal.mulf_def]
  rw [Column.dVal, cut, if_pos n.isLt, mul_comm, ← mul_assoc]
  exact congrArg (· * _ * _) (rowsOf_lt d q n.isLt).symm

/-- The cotangent of the gate, at a row, as the reference writes it. -/
theorem v34_apply (n : Fin 2048) (q : Fin 5632) : val_main_v34 (F := Ideal) a w b d (ix2 n q)
    = d (ix2 n q) * (argCol a w b d q).val n.val * Ideal.logistic ((argCol a w b d q).gate n.val)
      + (argCol a w b d q).gate n.val * (d (ix2 n q) * (argCol a w b d q).val n.val)
        * (Ideal.logistic ((argCol a w b d q).gate n.val) * (1 - Ideal.logistic ((argCol a w b d q).gate n.val))) := by
  rw [val_main_v34_apply, val_main_call1_v1_apply, val_main_call1_v2_apply, val_main_call1_v0_apply, val_main_v30_1_apply, val_main_call0_v7_apply,
    val_main_v33_apply, v28_apply a w b d, v29_apply a w b d, v30_2_apply a w b d]
  pointwise [val_main_call0_v6, val_main_call0_cst_1]

end Cert.ReferenceIdeal.Hand

end
-- ==== Proof.RefGrad.lean ====
/- What the reference's three gradients hold in one column, from the cotangent of that column's convolution. -/
module

public import proofs.«01_k».proof.Proof.RefValue

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Cert.GatedConv
open Cert.KernelIdeal.Hand (rowsOf rowsOf_lt tapSum dwAt argCol daOf dwOf dbOf)

variable (a : Vec Ideal S2048x11264 .f32) (w : Vec Ideal S3x11264 .f32) (b : Vec Ideal S11264 .f32) (d : Vec Ideal S2048x5632 .f32)

/-! ## Padding with zeros -/

theorem pad_row2 (x : Vec Ideal S1x11264 .f32) (z : Vec Ideal S_ .f32) (hz : z (Shape.Idx.first h_S_) = 0) (r : Fin 3) (Q : Fin 11264) :
    pad S3x11264 ![2, 0] ![0, 0] ![0, 0] x z pads_S1x11264_S3x11264_200_000 h_S_ (ix2 r Q) = if r.val = 2 then x (ix2 0 Q) else 0 := by
  pointwise []
  by_cases h : r.val = 2
  · have e : (⟨r.val - 2, by omega⟩ : Fin 1) = 0 := Fin.ext (by show r.val - 2 = 0; omega)
    exact (dif_pos (by omega)).trans ((congrArg (fun k => x (ix2 k Q)) e).trans (if_pos h).symm)
  · exact (dif_neg (by omega)).trans (hz.trans (if_neg h).symm)

theorem pad_row1 (x : Vec Ideal S1x11264 .f32) (z : Vec Ideal S_ .f32) (hz : z (Shape.Idx.first h_S_) = 0) (r : Fin 3) (Q : Fin 11264) :
    pad S3x11264 ![1, 0] ![1, 0] ![0, 0] x z pads_S1x11264_S3x11264_110_000 h_S_ (ix2 r Q) = if r.val = 1 then x (ix2 0 Q) else 0 := by
  pointwise []
  by_cases h : r.val = 1
  · have e : (⟨r.val - 1, by omega⟩ : Fin 1) = 0 := Fin.ext (by show r.val - 1 = 0; omega)
    exact (dif_pos (by omega)).trans ((congrArg (fun k => x (ix2 k Q)) e).trans (if_pos h).symm)
  · exact (dif_neg (by omega)).trans (hz.trans (if_neg h).symm)

theorem pad_row0 (x : Vec Ideal S1x11264 .f32) (z : Vec Ideal S_ .f32) (hz : z (Shape.Idx.first h_S_) = 0) (r : Fin 3) (Q : Fin 11264) :
    pad S3x11264 ![0, 0] ![2, 0] ![0, 0] x z pads_S1x11264_S3x11264_020_000 h_S_ (ix2 r Q) = if r.val = 0 then x (ix2 0 Q) else 0 := by
  pointwise []
  by_cases h : r.val = 0
  · have e : (⟨r.val, by omega⟩ : Fin 1) = 0 := Fin.ext (by show r.val = 0; omega)
    exact (dif_pos (by omega)).trans ((congrArg (fun k => x (ix2 k Q)) e).trans (if_pos h).symm)
  · exact (dif_neg (by omega)).trans (hz.trans (if_neg h).symm)

/-- A column among two more rows. -/
theorem pad_col2 (x : Vec Ideal S2048x11264 .f32) (z : Vec Ideal S_ .f32) (hz : z (Shape.Idx.first h_S_) = 0) (D : ℕ → EReal) (Q : Fin 11264)
    (hD : ∀ n : Fin 2048, x (ix2 n Q) = D n.val) (r : Fin 2050) :
    pad S2050x11264 ![2, 0] ![0, 0] ![0, 0] x z pads_S2048x11264_S2050x11264_200_000 h_S_ (ix2 r Q) = if 2 ≤ r.val then D (r.val - 2) else 0 := by
  pointwise []
  by_cases h : 2 ≤ r.val
  · exact (dif_pos (by omega)).trans ((hD _).trans (if_pos h).symm)
  · exact (dif_neg (by omega)).trans (hz.trans (if_neg h).symm)

theorem pad_col1 (x : Vec Ideal S2048x11264 .f32) (z : Vec Ideal S_ .f32) (hz : z (Shape.Idx.first h_S_) = 0) (D : ℕ → EReal) (Q : Fin 11264)
    (hD : ∀ n : Fin 2048, x (ix2 n Q) = D n.val) (r : Fin 2050) :
    pad S2050x11264 ![1, 0] ![1, 0] ![0, 0] x z pads_S2048x11264_S2050x11264_110_000 h_S_ (ix2 r Q) = if 1 ≤ r.val ∧ r.val < 2049 then D (r.val - 1) else 0 := by
  pointwise []
  by_cases h : 1 ≤ r.val ∧ r.val < 2049
  · exact (dif_pos (by omega)).trans ((hD _).trans (if_pos h).symm)
  · exact (dif_neg (by omega)).trans (hz.trans (if_neg h).symm)

theorem pad_col0 (x : Vec Ideal S2048x11264 .f32) (z : Vec Ideal S_ .f32) (hz : z (Shape.Idx.first h_S_) = 0) (D : ℕ → EReal) (Q : Fin 11264)
    (hD : ∀ n : Fin 2048, x (ix2 n Q) = D n.val) (r : Fin 2050) :
    pad S2050x11264 ![0, 0] ![2, 0] ![0, 0] x z pads_S2048x11264_S2050x11264_020_000 h_S_ (ix2 r Q) = if r.val < 2048 then D (r.val) else 0 := by
  pointwise []
  by_cases h : r.val < 2048
  · exact (dif_pos (by omega)).trans ((hD _).trans (if_pos h).symm)
  · exact (dif_neg (by omega)).trans (hz.trans (if_neg h).symm)

/-! ## The sums over the rows -/

theorem v38_col (D : ℕ → EReal) (Q : Fin 11264) (hD : ∀ n : Fin 2048, val_main_v35 (F := Ideal) a w b d (ix2 n Q) = D n.val) :
    val_main_v38 (F := Ideal) a w b d (ix1 Q) = ∑ n : Fin 2048, D n.val := by
  rw [val_main_v38_apply, val_main_cst_3_apply]
  rw [show (FloatOps.ofBits .f32 0x00000000#32 : Ideal .f32) = 0 from Ideal.ofBits_zero_f32, zero_add, Fin.sum_univ_one]
  rw [val_main_v37_apply, val_main_v36_apply, val_main_cst_2_apply]
  rw [show (FloatOps.ofBits .f32 0x00000000#32 : Ideal .f32) = 0 from Ideal.ofBits_zero_f32, zero_add]
  refine Finset.sum_congr rfl fun n _ => ?_
  have e : idx_main_v36 (idx_main_v37 (idx_main_v38 (ix1 Q) 0)) n = ix2 n Q := by
    funext c
    match c with
    | ⟨0, _⟩ => rfl
    | ⟨1, _⟩ => exact Fin.ext (by show 0 * 11264 + Q.val = Q.val; omega)
  rw [e]
  exact hD n

theorem v44_col (D : ℕ → EReal) (Q : Fin 11264) (hD : ∀ n : Fin 2048, val_main_v35 (F := Ideal) a w b d (ix2 n Q) = D n.val) :
    val_main_v44 (F := Ideal) a w b d (ix1 Q) = ∑ n : Fin 2048, D n.val * late (rowsOf a Q) (n.val + 8) := by
  rw [val_main_v44_apply, val_main_cst_5_apply]
  rw [show (FloatOps.ofBits .f32 0x00000000#32 : Ideal .f32) = 0 from Ideal.ofBits_zero_f32, zero_add, Fin.sum_univ_one]
  rw [val_main_v41_apply, val_main_v40_apply, val_main_cst_4_apply]
  rw [show (FloatOps.ofBits .f32 0x00000000#32 : Ideal .f32) = 0 from Ideal.ofBits_zero_f32, zero_add]
  refine Finset.sum_congr rfl fun n _ => ?_
  have e : idx_main_v40 (idx_main_v41 (idx_main_v44 (ix1 Q) 0)) n = ix2 n Q := by
    funext c
    match c with
    | ⟨0, _⟩ => rfl
    | ⟨1, _⟩ => exact Fin.ext (by show 0 * 11264 + Q.val = Q.val; omega)
  rw [e]
  rw [val_main_v39_apply, Ideal.mulf_def, v18_apply, hD, mul_comm]

theorem v53_col (D : ℕ → EReal) (Q : Fin 11264) (hD : ∀ n : Fin 2048, val_main_v35 (F := Ideal) a w b d (ix2 n Q) = D n.val) :
    val_main_v53 (F := Ideal) a w b d (ix1 Q) = ∑ n : Fin 2048, D n.val * late (rowsOf a Q) (n.val + 7) := by
  rw [val_main_v53_apply, val_main_cst_9_apply]
  rw [show (FloatOps.ofBits .f32 0x00000000#32 : Ideal .f32) = 0 from Ideal.ofBits_zero_f32, zero_add, Fin.sum_univ_one]
  rw [val_main_v50_apply, val_main_v49_apply, val_main_cst_8_apply]
  rw [show (FloatOps.ofBits .f32 0x00000000#32 : Ideal .f32) = 0 from Ideal.ofBits_zero_f32, zero_add]
  refine Finset.sum_congr rfl fun n _ => ?_
  have e : idx_main_v49 (idx_main_v50 (idx_main_v53 (ix1 Q) 0)) n = ix2 n Q := by
    funext c
    match c with
    | ⟨0, _⟩ => rfl
    | ⟨1, _⟩ => exact Fin.ext (by show 0 * 11264 + Q.val = Q.val; omega)
  rw [e]
  rw [val_main_v48_apply, Ideal.mulf_def, v11_apply, hD, mul_comm]

theorem v64_col (D : ℕ → EReal) (Q : Fin 11264) (hD : ∀ n : Fin 2048, val_main_v35 (F := Ideal) a w b d (ix2 n Q) = D n.val) :
    val_main_v64 (F := Ideal) a w b d (ix1 Q) = ∑ n : Fin 2048, D n.val * late (rowsOf a Q) (n.val + 6) := by
  rw [val_main_v64_apply, val_main_cst_13_apply]
  rw [show (FloatOps.ofBits .f32 0x00000000#32 : Ideal .f32) = 0 from Ideal.ofBits_zero_f32, zero_add, Fin.sum_univ_one]
  rw [val_main_v61_apply, val_main_v60_apply, val_main_cst_12_apply]
  rw [show (FloatOps.ofBits .f32 0x00000000#32 : Ideal .f32) = 0 from Ideal.ofBits_zero_f32, zero_add]
  refine Finset.sum_congr rfl fun n _ => ?_
  have e : idx_main_v60 (idx_main_v61 (idx_main_v64 (ix1 Q) 0)) n = ix2 n Q := by
    funext c
    match c with
    | ⟨0, _⟩ => rfl
    | ⟨1, _⟩ => exact Fin.ext (by show 0 * 11264 + Q.val = Q.val; omega)
  rw [e]
  rw [val_main_v59_apply, Ideal.mulf_def, v3_apply, hD, mul_comm]

theorem v45_col (D : ℕ → EReal) (Q : Fin 11264) (hD : ∀ n : Fin 2048, val_main_v35 (F := Ideal) a w b d (ix2 n Q) = D n.val) :
    val_main_v45 (F := Ideal) a w b d (ix2 0 Q) = tapSum D (rowsOf a Q) 8 := by
  rw [val_main_v45_apply, show idx_main_v45 (ix2 0 Q) = ix1 Q from funext fun c => match c with | ⟨0, _⟩ => rfl]
  exact v44_col a w b d D Q hD

theorem v54_col (D : ℕ → EReal) (Q : Fin 11264) (hD : ∀ n : Fin 2048, val_main_v35 (F := Ideal) a w b d (ix2 n Q) = D n.val) :
    val_main_v54 (F := Ideal) a w b d (ix2 0 Q) = tapSum D (rowsOf a Q) 7 := by
  rw [val_main_v54_apply, show idx_main_v54 (ix2 0 Q) = ix1 Q from funext fun c => match c with | ⟨0, _⟩ => rfl]
  exact v53_col a w b d D Q hD

theorem v65_col (D : ℕ → EReal) (Q : Fin 11264) (hD : ∀ n : Fin 2048, val_main_v35 (F := Ideal) a w b d (ix2 n Q) = D n.val) :
    val_main_v65 (F := Ideal) a w b d (ix2 0 Q) = tapSum D (rowsOf a Q) 6 := by
  rw [val_main_v65_apply, show idx_main_v65 (ix2 0 Q) = ix1 Q from funext fun c => match c with | ⟨0, _⟩ => rfl]
  exact v64_col a w b d D Q hD

/-! ## The three gradients of one column -/

/-- The weights' gradient: eight rows, of which three hold something. -/
theorem v78_col (D : ℕ → EReal) (Q : Fin 11264) (hD : ∀ n : Fin 2048, val_main_v35 (F := Ideal) a w b d (ix2 n Q) = D n.val) (r : Fin 8) :
    val_main_v78 (F := Ideal) a w b d (ix2 r Q) = dwAt D (rowsOf a Q) r.val := by
  have e67 : ∀ r : Fin 3, val_main_v67 (F := Ideal) a w b d (ix2 r Q) = dwAt D (rowsOf a Q) r.val := by
    intro r
    rw [val_main_v67_apply, val_main_v56_apply, Ideal.addf_def, Ideal.addf_def]
    have h2 : val_main_v46 (F := Ideal) a w b d (ix2 r Q) = _ := pad_row2 _ _ Ideal.ofBits_zero_f32 r Q
    have h1 : val_main_v55 (F := Ideal) a w b d (ix2 r Q) = _ := pad_row1 _ _ Ideal.ofBits_zero_f32 r Q
    have h0 : val_main_v66 (F := Ideal) a w b d (ix2 r Q) = _ := pad_row0 _ _ Ideal.ofBits_zero_f32 r Q
    rw [h2, h1, h0, v45_col a w b d D Q hD, v54_col a w b d D Q hD, v65_col a w b d D Q hD, dwAt]
    fin_cases r <;> simp
  unfold val_main_v78
  generalize val_main_v67 (F := Ideal) a w b d = y at e67
  pointwise [val_main_call2_v0, val_main_c]
  by_cases h : r.val < 3
  · exact (dif_pos h).trans (e67 ⟨r.val, h⟩)
  · have e : dwAt D (rowsOf a Q) r.val = 0 := by
      rw [dwAt, if_neg (by omega), if_neg (by omega), if_neg (by omega)]
    rw [e]
    refine (dif_neg h).trans ?_
    show (((0#32 : BitVec 32).toInt : ℝ) : EReal) = 0
    simp

/-- The input's gradient. -/
theorem v71_col (D : ℕ → EReal) (Q : Fin 11264) (hD : ∀ n : Fin 2048, val_main_v35 (F := Ideal) a w b d (ix2 n Q) = D n.val) (h0 : ∀ n, 2048 ≤ n → D n = 0)
    (W : Fin 8 → EReal) (w0 : W 0 = w (ix2 0 Q)) (w1 : W 1 = w (ix2 1 Q)) (w2 : W 2 = w (ix2 2 Q)) (n : Fin 2048) :
    val_main_v71 (F := Ideal) a w b d (ix2 n Q) = dInputAt W D n.val := by
  have e : val_main_v71 (F := Ideal) a w b d (ix2 n Q) = val_main_v69 (F := Ideal) a w b d (ix2 ⟨n.val + 2, by omega⟩ Q) := by
    unfold val_main_v71
    generalize val_main_v69 (F := Ideal) a w b d = y
    pointwise []
    exact congrArg (fun k => y (ix2 k Q)) (Fin.ext (Nat.add_comm 2 n.val))
  have h2 : val_main_v47 (F := Ideal) a w b d (ix2 ⟨n.val + 2, by omega⟩ Q) = _ :=
    pad_col2 _ _ Ideal.ofBits_zero_f32 (fun k => D k * w (ix2 2 Q)) Q (fun k => by rw [val_main_v43_apply, Ideal.mulf_def, hD, v42_apply]) _
  have h1 : val_main_v57 (F := Ideal) a w b d (ix2 ⟨n.val + 2, by omega⟩ Q) = _ :=
    pad_col1 _ _ Ideal.ofBits_zero_f32 (fun k => D k * w (ix2 1 Q)) Q (fun k => by rw [val_main_v52_apply, Ideal.mulf_def, hD, v51_apply]) _
  have h00 : val_main_v68 (F := Ideal) a w b d (ix2 ⟨n.val + 2, by omega⟩ Q) = _ :=
    pad_col0 _ _ Ideal.ofBits_zero_f32 (fun k => D k * w (ix2 0 Q)) Q (fun k => by rw [val_main_v63_apply, Ideal.mulf_def, hD, v62_apply]) _
  rw [e, val_main_v69_apply, val_main_v58_apply, Ideal.addf_def, Ideal.addf_def, h2, h1, h00, dInputAt, w0, w1, w2]
  dsimp only
  rw [if_pos (by omega), mul_comm (w (ix2 2 Q)), mul_comm (w (ix2 1 Q)), mul_comm (w (ix2 0 Q))]
  refine congrArg₂ (· + ·) (congrArg₂ (· + ·) rfl ?_) ?_
  · by_cases h : n.val + 1 < 2048
    · exact if_pos (by omega)
    · rw [h0 (n.val + 1) (by omega), zero_mul]
      exact if_neg (by omega)
  · by_cases h : n.val + 2 < 2048
    · exact if_pos h
    · rw [h0 (n.val + 2) (by omega), zero_mul]
      exact if_neg h

end Cert.ReferenceIdeal.Hand

end
-- ==== Proof.RefFinal.lean ====
/- The reference's three results, at finite arguments, are the gradients of every column. -/
module

public import proofs.«01_k».proof.Proof.RefGrad

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Cert.GatedConv
open Cert.KernelIdeal.Hand (rowsOf rowsOf_lt tapSum dwAt argCol daOf dwOf dbOf)

/-! ## Real columns -/

/-- Rows of real numbers. -/
theorem rowsOf_real {C : ℕ} (x : (⟨2, ![2048, C]⟩ : Shape).Idx → EReal) (hx : ∀ i, ∃ r : ℝ, x i = r) (q : Fin C) (n : ℕ) : ∃ r : ℝ, rowsOf x q n = r := by
  unfold rowsOf
  by_cases h : n < 2048
  · obtain ⟨r, hr⟩ := hx (ix2 ⟨n, h⟩ q)
    exact ⟨r, (dif_pos h).trans hr⟩
  · exact ⟨0, (dif_neg h).trans rfl⟩

/-- A delayed real sequence is real. -/
theorem late_real {x : ℕ → EReal} (hx : ∀ n, ∃ r : ℝ, x n = r) (n : ℕ) : ∃ r : ℝ, late x n = r := by
  unfold late
  by_cases h : 8 ≤ n ∧ n < 2056
  · rw [if_pos h]
    exact hx _
  · rw [if_neg h]
    exact ⟨0, rfl⟩

/-- A convolution of real numbers is real. -/
theorem convAt_real {W : Fin 8 → EReal} {b : EReal} {x : ℕ → EReal} (h0 : ∃ r : ℝ, W 0 = r) (h1 : ∃ r : ℝ, W 1 = r) (h2 : ∃ r : ℝ, W 2 = r) (hb : ∃ r : ℝ, b = r)
    (hx : ∀ n, ∃ r : ℝ, x n = r) (n : ℕ) : ∃ r : ℝ, convAt W b x n = r := by
  obtain ⟨w0, e0⟩ := h0
  obtain ⟨w1, e1⟩ := h1
  obtain ⟨w2, e2⟩ := h2
  obtain ⟨b0, eb⟩ := hb
  obtain ⟨x0, f0⟩ := late_real hx (n + 6)
  obtain ⟨x1, f1⟩ := late_real hx (n + 7)
  obtain ⟨x2, f2⟩ := late_real hx (n + 8)
  refine ⟨w0 * x0 + w1 * x1 + w2 * x2 + b0, ?_⟩
  rw [convAt, e0, e1, e2, eb, f0, f1, f2]
  norm_cast

/-- The gate's cotangent as the chain rule writes it and in one product, over the reals. -/
theorem gate_grad {d v g : EReal} (hd : ∃ r : ℝ, d = r) (hv : ∃ r : ℝ, v = r) (hg : ∃ r : ℝ, g = r) :
    d * v * Ideal.logistic g + g * (d * v) * (Ideal.logistic g * (1 - Ideal.logistic g)) = d * v * Ideal.logistic g * (1 + g * (1 - Ideal.logistic g)) := by
  obtain ⟨d, rfl⟩ := hd
  obtain ⟨v, rfl⟩ := hv
  obtain ⟨g, rfl⟩ := hg
  rw [Ideal.logistic_coe]
  generalize (1 + Real.exp (-g))⁻¹ = s
  have e : d * v * s + g * (d * v) * (s * (1 - s)) = d * v * s * (1 + g * (1 - s)) := by ring
  exact_mod_cast congrArg (fun r : ℝ => (r : EReal)) e

variable (a : Vec Ideal S2048x11264 .f32) (w : Vec Ideal S3x11264 .f32) (b : Vec Ideal S11264 .f32) (d : Vec Ideal S2048x5632 .f32)
variable (ha : ∀ i, ∃ r : ℝ, a i = r) (hw : ∀ i, ∃ r : ℝ, w i = r) (hb : ∀ i, ∃ r : ℝ, b i = r) (hd : ∀ i, ∃ r : ℝ, d i = r)
include ha hw hb hd

/-- The gate's cotangent. -/
theorem v34_real (n : Fin 2048) (q : Fin 5632) : val_main_v34 (F := Ideal) a w b d (ix2 n q) = (argCol a w b d q).dGate n.val := by
  have hg : ∃ r : ℝ, (argCol a w b d q).gate n.val = r := convAt_real (hw _) (hw _) (hw _) (hb _) (rowsOf_real a ha _) _
  have hv : ∃ r : ℝ, (argCol a w b d q).val n.val = r := convAt_real (hw _) (hw _) (hw _) (hb _) (rowsOf_real a ha _) _
  rw [v34_apply, gate_grad (hd _) hv hg, Column.dGate, cut, if_pos n.isLt]
  exact congrArg (· * _ * _ * _) (rowsOf_lt d q n.isLt).symm

omit ha hw hb hd in
/-- The cotangents are zero after the last row. -/
theorem dGate_zero (c : Column) (n : ℕ) (h : 2048 ≤ n) : c.dGate n = 0 := by
  rw [Column.dGate, cut, if_neg (by omega), zero_mul, zero_mul, zero_mul]

omit ha hw hb hd in
theorem dVal_zero (c : Column) (n : ℕ) (h : 2048 ≤ n) : c.dVal n = 0 := by
  rw [Column.dVal, cut, if_neg (by omega), zero_mul, zero_mul]

/-- The convolution's cotangent, in the gate's half. -/
theorem v35_gate (q : Fin 5632) (n : Fin 2048) : val_main_v35 (F := Ideal) a w b d (ix2 n ⟨q.val, by omega⟩) = (argCol a w b d q).dGate n.val := by
  rw [← v34_real a w b d ha hw hb hd]
  unfold val_main_v35
  generalize val_main_v34 (F := Ideal) a w b d = y
  generalize val_main_v32 (F := Ideal) a w b d = z
  pointwise []

omit ha hw hb hd in
/-- The convolution's cotangent, in the value's half. -/
theorem v35_val (q : Fin 5632) (n : Fin 2048) : val_main_v35 (F := Ideal) a w b d (ix2 n ⟨q.val + 5632, by omega⟩) = (argCol a w b d q).dVal n.val := by
  rw [← v32_apply a w b d]
  unfold val_main_v35
  generalize val_main_v34 (F := Ideal) a w b d = y
  generalize val_main_v32 (F := Ideal) a w b d = z
  pointwise []
  exact (dif_neg (by omega)).trans (congrArg (fun k => z (ix2 n k)) (Fin.ext (Nat.add_sub_cancel q.val 5632)))

/-! ## The results -/

/-- The input's gradient. -/
theorem v77_eq : val_main_v77 (F := Ideal) a w b d = daOf (argCol a w b d) := by
  funext y
  obtain ⟨z, n, q, rfl⟩ : ∃ z n q, y = ix3 z n q := ⟨y 0, y 1, y 2, funext fun c => match c with | ⟨0, _⟩ => rfl | ⟨1, _⟩ => rfl | ⟨2, _⟩ => rfl⟩
  have hg := v71_col a w b d _ _ (v35_gate a w b d ha hw hb hd q) (dGate_zero _) (argCol a w b d q).wg rfl rfl rfl n
  have hv := v71_col a w b d _ _ (v35_val a w b d q) (dVal_zero _) (argCol a w b d q).wv rfl rfl rfl n
  unfold val_main_v77 val_main_v76 val_main_v75 val_main_v74 val_main_v73 val_main_v72
  generalize val_main_v71 (F := Ideal) a w b d = y at hg hv ⊢
  pointwise []
  by_cases h : z.val < 1
  · exact (dif_pos h).trans (hg.trans (if_pos (show z.val = 0 by omega)).symm)
  · exact (dif_neg h).trans ((congrArg (fun k => y (ix2 n k)) (Fin.ext (Nat.add_comm 5632 q.val))).trans (hv.trans (if_neg (show ¬ z.val = 0 by omega)).symm))

/-- The weights' gradient. -/
theorem v83_eq : val_main_v83 (F := Ideal) a w b d = dwOf (argCol a w b d) := by
  funext y
  obtain ⟨z, n, q, rfl⟩ : ∃ z n q, y = ix3 z n q := ⟨y 0, y 1, y 2, funext fun c => match c with | ⟨0, _⟩ => rfl | ⟨1, _⟩ => rfl | ⟨2, _⟩ => rfl⟩
  have hg := v78_col a w b d _ _ (v35_gate a w b d ha hw hb hd q) n
  have hv := v78_col a w b d _ _ (v35_val a w b d q) n
  unfold val_main_v83 val_main_v82 val_main_v81 val_main_v80 val_main_v79
  generalize val_main_v78 (F := Ideal) a w b d = y at hg hv ⊢
  pointwise []
  by_cases h : z.val < 1
  · exact (dif_pos h).trans (hg.trans (if_pos (show z.val = 0 by omega)).symm)
  · exact (dif_neg h).trans ((congrArg (fun k => y (ix2 n k)) (Fin.ext (Nat.add_comm 5632 q.val))).trans (hv.trans (if_neg (show ¬ z.val = 0 by omega)).symm))

/-- The bias's gradient. -/
theorem v89_eq : val_main_v89 (F := Ideal) a w b d = dbOf (argCol a w b d) := by
  funext y
  obtain ⟨z, n, q, rfl⟩ : ∃ z n q, y = ix3 z n q := ⟨y 0, y 1, y 2, funext fun c => match c with | ⟨0, _⟩ => rfl | ⟨1, _⟩ => rfl | ⟨2, _⟩ => rfl⟩
  have hg := v38_col a w b d _ _ (v35_gate a w b d ha hw hb hd q)
  have hv := v38_col a w b d _ _ (v35_val a w b d q)
  unfold val_main_v89 val_main_v88 val_main_v87 val_main_v86 val_main_v85 val_main_v84
  generalize val_main_v38 (F := Ideal) a w b d = y at hg hv ⊢
  pointwise []
  by_cases h : z.val < 1
  · exact (dif_pos h).trans (hg.trans (if_pos (show z.val = 0 by omega)).symm)
  · exact (dif_neg h).trans ((congrArg (fun k => y (ix1 k)) (Fin.ext (Nat.add_comm 5632 q.val))).trans (hv.trans (if_neg (show ¬ z.val = 0 by omega)).symm))

end Cert.ReferenceIdeal.Hand

end
-- ==== Proof.Equal.lean ====
/- Kernel and reference, run from memories that agree on finite arguments, end with the same results. -/
module

public import proofs.«01_k».proof.Defs
public import proofs.«01_k».proof.Proof.Finite
public import proofs.«01_k».proof.Proof.RefFinal
public import proofs.«01_k».proof.Proof.Gen.Pre_finite
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2.2, sem_eq_zero_of_no_sems rfl r.2⟩) (Cert.ReferenceIdeal.Value.run m ρ)

/-- The reference's results, at finite arguments. -/
theorem run (h : ∀ c : Dev nD, Cert.Pre_finite.fn (F := Ideal) (m ((c : Thread nD τ).loc main_arg0)) (m ((c : Thread nD τ).loc main_arg1))
      (m ((c : Thread nD τ).loc main_arg2)) (m ((c : Thread nD τ).loc main_arg3)) = fun _ => 1#1) :
    θ_run defs (onTc (τ := τ) (main (F := Ideal))) ⟨m, fun _ => 0, ρ⟩ fun r => ∀ c : Dev nD,
      r.2.mem ((c : Thread nD τ).loc main_v77) = Cert.KernelIdeal.Hand.daOf (Cert.KernelIdeal.Hand.argCol (m ((c : Thread nD τ).loc main_arg0)) (m ((c : Thread nD τ).loc main_arg1))
          (m ((c : Thread nD τ).loc main_arg2)) (m ((c : Thread nD τ).loc main_arg3)))
      ∧ r.2.mem ((c : Thread nD τ).loc main_v83) = Cert.KernelIdeal.Hand.dwOf (Cert.KernelIdeal.Hand.argCol (m ((c : Thread nD τ).loc main_arg0)) (m ((c : Thread nD τ).loc main_arg1))
          (m ((c : Thread nD τ).loc main_arg2)) (m ((c : Thread nD τ).loc main_arg3)))
      ∧ r.2.mem ((c : Thread nD τ).loc main_v89) = Cert.KernelIdeal.Hand.dbOf (Cert.KernelIdeal.Hand.argCol (m ((c : Thread nD τ).loc main_arg0)) (m ((c : Thread nD τ).loc main_arg1))
          (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r hr c => ?_) (Cert.ReferenceIdeal.Value.run m ρ)
  obtain ⟨ha, hw, hb, hd⟩ := Cert.Pre_finite.Hand.finite_args _ _ _ _ (h c)
  exact ⟨((hr c).1.trans (Read.val_main_v77_eq (StableHlo.launchContents m c))).trans (v77_eq _ _ _ _ ha hw hb hd),
    ((hr c).2.1.trans (Read.val_main_v83_eq (StableHlo.launchContents m c))).trans (v83_eq _ _ _ _ ha hw hb hd),
    ((hr c).2.2.1.trans (Read.val_main_v89_eq (StableHlo.launchContents m c))).trans (v89_eq _ _ _ _ ha hw hb hd),
    (hr c).2.2.2⟩

end Cert.ReferenceIdeal.Hand

namespace Cert.Hand

open Idealize.ShloMosaic Idealize.ShloMosaic.TcCoe

/-- Equal results. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hagree
  refine ⟨fun c => Cert.KernelIdeal.Hand.daOf (Cert.KernelIdeal.Hand.cols m c), fun c => Cert.KernelIdeal.Hand.dwOf (Cert.KernelIdeal.Hand.cols m c),
    fun c => Cert.KernelIdeal.Hand.dbOf (Cert.KernelIdeal.Hand.cols m c), Cert.KernelIdeal.Hand.run m g, ?_⟩
  refine (θ_run _ _ _).mono (fun r hr c => ?_) (Cert.ReferenceIdeal.Hand.run m' g' fun c => ?_)
  · obtain ⟨h0, h1, h2, h3⟩ := hagree c
    have hc := hr c
    rw [h0, h1, h2, h3] at hc ⊢
    exact hc
  · obtain ⟨h0, h1, h2, h3⟩ := hagree c
    rw [h0, h1, h2, h3]
    exact hpre c

end Cert.Hand

end
-- ==== Proof.DownDx.lean ====
/- The gradient of the down projection's input: the kernel's blocks and the array they make up. -/
module

public import proofs.«01_k».proof.Proof.Gen.Kernel2Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel2Ideal.Hand

open Cert.Kernel2Ideal Cert.Kernel2Ideal.Gen Cert.Kernel2Ideal.Value Idealize.ShloMosaic Idealize.ShloMosaic.TcCoe Idealize.SL.Sem

theorem hz : (![0, 0] : Fin 2 → Nat) = fun _ => 0 := funext fun a => by fin_cases a <;> rfl

/-- The product of the cotangent with the transposed weights. -/
def result (w : Vec Ideal S5632x2048 .bf16) (ct : Vec Ideal S2048x2048 .bf16) (i : S2048x5632.Idx) : EReal :=
  ∑ k : Fin 2048, (ct (ix2 (i 0) k) * w (ix2 (i 1) k) : EReal)

/-- What a point leaves in its block: the product of its two input blocks. -/
theorem out_A (c : Dev nD) (i : grid0.Coords) (a3 : Memref sig .tc .vmem S1024x2048 .bf16) (h3 : a3.IsWhole) (a4 : Memref sig .tc .vmem S512x2048 .bf16) (h4 : a4.IsWhole)
    (a5 : Memref sig .tc .vmem S1024x512 .f32) (h5 : a5.IsWhole) (a6 : Memref sig .tc .vmem S8x128 .f32) (h6 : a6.IsWhole)
    (x0 : Vec Ideal S1024x2048 .bf16) (x1 : Vec Ideal S512x2048 .bf16) (r : Fin 1024) (q : Fin 512) :
    out0_A_2 (F := Ideal) c i a3 h3 a4 h4 a5 h5 a6 h6 x0 x1 (ix2 r q) = (∑ k : Fin 2048, (x0 (ix2 r k) * x1 (ix2 q k) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x2048) hz, View.ld_unit_zero (S := S512x2048) hz, shapeCast_self]
  refine (Ideal.matmul_transposedRhs_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s product. -/
def resultOf : S2048x5632.Idx → EReal := result (m ((c : Thread nD τ).loc main_arg0)) (m ((c : Thread nD τ).loc main_arg1))

/-- The block indices: the eleven blocks of weights within each of the two blocks of rows. -/
theorem lt_points (t : Fin cfg0.N) : t.val < 22 := N_0 ▸ t.isLt
theorem index0 : ∀ t : Fin cfg0.N, win0_0.index t (0 : Fin 2) = t.val / 11 ∧ win0_0.index t (1 : Fin 2) = 0 :=
  (by decide +kernel : ∀ t : Fin grid0.N, _)
theorem index1 : ∀ t : Fin cfg0.N, win0_1.index t (0 : Fin 2) = t.val % 11 ∧ win0_1.index t (1 : Fin 2) = 0 :=
  (by decide +kernel : ∀ t : Fin grid0.N, _)
theorem index2 : ∀ t : Fin cfg0.N, win0_2.index t (0 : Fin 2) = t.val / 11 ∧ win0_2.index t (1 : Fin 2) = t.val % 11 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg1) : Vec Ideal S2048x2048 .bf16) (ix2 ⟨1024 * (t.val / 11) + n.val, by have := lt_points t; omega⟩ k) := by
  obtain ⟨e0, e1⟩ := index0 t
  rw [← V_main_arg1 m c]
  show (V m c main_arg1 : Vec Ideal S2048x2048 .bf16) (((cfg0.win 0).blk t).view.emb (ix2 n k)) = _
  refine congrArg (V m c main_arg1 : Vec Ideal S2048x2048 .bf16) (funext fun a => Fin.ext ?_)
  match a with
  | ⟨0, _⟩ => show win0_0.index t (0 : Fin 2) * 1024 + 1 * n.val = 1024 * (t.val / 11) + n.val; omega
  | ⟨1, _⟩ => show win0_0.index t (1 : Fin 2) * 2048 + 1 * k.val = k.val; omega

theorem iblk1_apply (t : Fin cfg0.N) (n : Fin 512) (k : Fin 2048) : iblk m c 1 t (ix2 n k)
    = (m ((c : Thread nD τ).loc main_arg0) : Vec Ideal S5632x2048 .bf16) (ix2 ⟨512 * (t.val % 11) + n.val, by omega⟩ k) := by
  obtain ⟨e0, e1⟩ := index1 t
  rw [← V_main_arg0 m c]
  show (V m c main_arg0 : Vec Ideal S5632x2048 .bf16) (((cfg0.win 1).blk t).view.emb (ix2 n k)) = _
  refine congrArg (V m c main_arg0 : Vec Ideal S5632x2048 .bf16) (funext fun a => Fin.ext ?_)
  match a with
  | ⟨0, _⟩ => show win0_1.index t (0 : Fin 2) * 512 + 1 * n.val = 512 * (t.val % 11) + n.val; omega
  | ⟨1, _⟩ => show win0_1.index t (1 : Fin 2) * 2048 + 1 * k.val = k.val; omega

/-- What point `t` writes back is its block of the whole product. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 512) (z : S2048x5632.Idx), (z 0).val = 1024 * (t.val / 11) + r.val → (z 1).val = 512 * (t.val % 11) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t q k).trans ?_)
    · exact congrArg (fun a => (m ((c : Thread nD τ).loc main_arg1) : Vec Ideal S2048x2048 .bf16) (ix2 a k)) (Fin.ext h0.symm)
    · exact congrArg (fun a => (m ((c : Thread nD τ).loc main_arg0) : Vec Ideal S5632x2048 .bf16) (ix2 a k)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val / 11) + (y (0 : Fin 2)).val; omega
  · show win0_2.index t (1 : Fin 2) * 512 + 1 * (y (1 : Fin 2)).val = 512 * (t.val % 11) + (y (1 : Fin 2)).val; omega

/-- The blocks cover the array. -/
theorem covered_result (i : S2048x5632.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 5632 := (i (1 : Fin 2)).isLt
  let t : Fin cfg0.N := ⟨11 * ((i (0 : Fin 2)).val / 1024) + (i (1 : Fin 2)).val / 512, by show _ < grid0.N; rw [N_0]; omega⟩
  obtain ⟨e0, e1⟩ := index2 t
  have ht : t.val = 11 * ((i (0 : Fin 2)).val / 1024) + (i (1 : Fin 2)).val / 512 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 512, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 512 + 1 * ((i (1 : Fin 2)).val % 512) = (i (1 : Fin 2)).val; omega

theorem final_result : (dats m 0 c).arrAt 2 cfg0.N = resultOf m c :=
  (dats m 0 c).arrAt_eq_of_cover 2 (resultOf m c) (fun t _ => flushed_result m c t) covered_result

end Cert.Kernel2Ideal.Hand

end
-- ==== Proof.DownDxEqual.lean ====
/- The gradient of the down projection's input: the reference's product, and the two programs' equal results. -/
module

public import proofs.«01_k».proof.Defs
public import proofs.«01_k».proof.Proof.DownDx
public import proofs.«01_k».proof.Proof.Gen.Reference2Ideal.Read
public import Idealize.ShloMosaic.Lib.Quiescent

@[expose] public section

noncomputable section

namespace Cert.Reference2Ideal.Hand

open Cert.Reference2Ideal Cert.Reference2Ideal.Gen Idealize.ShloMosaic Idealize.ShloMosaic.TcCoe Idealize.SL.Sem

/-- The reference's frame: it has no semaphore at all. -/
theorem frame : Cert.quiescent_Reference2Ideal (hReference2Ideal := Gen.facts) := fun m ρ _ =>
  (θ_run defs _ _).mono (fun r h => ⟨fun c => (h c).2, sem_eq_zero_of_no_sems rfl r.2⟩) (Value.run m ρ)

/-- The reference computes the product. -/
theorem value_eq (w : Vec Ideal S5632x2048 .bf16) (ct : Vec Ideal S2048x2048 .bf16) :
    Read.val_main_v4 (F := Ideal) w ct = Cert.Kernel2Ideal.Hand.result w ct := by
  funext i
  rw [Read.val_main_v4_apply]
  refine Finset.sum_congr rfl fun k _ => congrArg₂ (fun a b : EReal => a * b) (congrArg ct (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel2Ideal_Reference2Ideal (hKernel2Ideal := Cert.Kernel2Ideal.Gen.facts) (hReference2Ideal := Gen.facts) := by
  intro m g m' g' _ hagree
  refine ⟨fun c => Cert.Kernel2Ideal.Hand.resultOf m c, (θ_run _ _ _).mono (fun _ h c => ⟨(h c).1.trans (Cert.Kernel2Ideal.Hand.final_result m c), (h c).2⟩) (Cert.Kernel2Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v4_eq _ _)).trans (value_eq _ _), hc.2⟩

end Cert.Reference2Ideal.Hand

end
-- ==== Proof.UpDxBlock.lean ====
/- The gradient of the up projection's input: what one point computes, and the sum it adds to. -/
module

public import proofs.«01_k».proof.Proof.Gen.Kernel3Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel3Ideal.Hand

open Cert.Kernel3Ideal Cert.Kernel3Ideal.Gen Cert.Kernel3Ideal.Value Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- The product of a block of the cotangent with a block of the weights. -/
theorem product_apply (x0 : Vec Ideal S1x1024x2816 .bf16) (x1 : Vec Ideal S1024x2816 .bf16) (r : Fin 1024) (q : Fin 1024) :
    k0_pay1 (F := Ideal) x0 x1 (ix2 r q) = (∑ k : Fin 2816, (x0 (ix3 0 r k) * x1 (ix2 q k) : EReal)) := by
  unfold k0_pay1
  refine ((Ideal.matmul_transposedRhs_apply none _ x1 _ r q).trans ((congrArg (· + _) Ideal.ofBits_zero_f32).trans (zero_add _))).trans ?_
  refine Finset.sum_congr rfl fun k _ => congrArg (fun a : EReal => a * _) ?_
  show (shapeCast S1024x2816 x0 shapeCasts_S1x1024x2816_S1024x2816 : Vec Ideal S1024x2816 .bf16) (ix2 r k) = x0 (ix3 0 r k)
  pointwise []

variable (c : Dev nD) (i : grid0.Coords) (a3 : Memref sig .tc .vmem S1x1024x2816 .bf16) (h3 : a3.IsWhole) (a4 : Memref sig .tc .vmem S1024x2816 .bf16) (h4 : a4.IsWhole)
    (a5 : Memref sig .tc .vmem S1024x1024 .f32) (h5 : a5.IsWhole) (a6 : Memref sig .tc .vmem S1024x1024 .f32) (h6 : a6.IsWhole)
    (x0 : Vec Ideal S1x1024x2816 .bf16) (x1 : Vec Ideal S1024x2816 .bf16) (acc : Vec Ideal S1024x1024 .f32)

/-- The first point of a block of the result keeps its product. -/
theorem first (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1x1024x2816) hz3, View.ld_unit_zero (S := S1024x2816) hz, shapeCast_self]

/-- A middle point adds its product to the sum. -/
theorem middle (hc0 : ¬cond0_0 i) (hc1 : cond0_1 i) (hc2 : ¬cond0_2 i) :
    sout0_B_0 (F := Ideal) c i a3 h3 a4 h4 a5 h5 a6 h6 hc0 hc1 hc2 x0 x1 acc = addf acc (k0_pay1 (F := Ideal) x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero hz]
  unfold k0_pay3
  simp only [View.readAt_eq_ld, h3.read_unread, h4.read_unread, h6.read_unread, View.ld_unit_zero (S := S1x1024x2816) hz3, View.ld_unit_zero (S := S1024x2816) hz, View.ld_unit_zero (S := S1024x1024) hz, shapeCast_self]

/-- The last point leaves the sum with its product in the block. -/
theorem last (hc0 : ¬cond0_0 i) (hc1 : ¬cond0_1 i) (hc2 : cond0_2 i) :
    out0_C_2 (F := Ideal) c i a3 h3 a4 h4 a5 h5 a6 h6 hc0 hc1 hc2 x0 x1 acc = addf acc (k0_pay1 (F := Ideal) x0 x1) := by
  unfold out0_C_2
  rw [View.read_writes_eq_canon _ _ _ (cover0_C_2 c i a3 h3 a4 h4 a5 h5 a6 h6 hc0 hc1 hc2 x0 x1 acc)]
  unfold kernelRun0_C
  dsimp only
  rw [View.canon_unit_zero hz]
  unfold k0_pay4
  simp only [View.readAt_eq_ld, h3.read_unread, h4.read_unread, h6.read_unread, View.ld_unit_zero (S := S1x1024x2816) hz3, View.ld_unit_zero (S := S1024x2816) hz, View.ld_unit_zero (S := S1024x1024) hz, shapeCast_self]

end Cert.Kernel3Ideal.Hand

end
-- ==== Proof.SumBlocks.lean ====
/- A sum over `n * b` indices, taken block by block. -/
module

public import Mathlib.Algebra.BigOperators.Fin
public import Mathlib.Data.EReal.Basic
public import Mathlib.Logic.Equiv.Fin.Basic

@[expose] public section

namespace Cert.Blocks

/-- Two blocks of 2816. -/
theorem sum_two (f : Fin 5632 → EReal) :
    ∑ k, f k = (∑ q : Fin 2816, f ⟨2816 * 0 + q.val, by omega⟩) + ∑ q : Fin 2816, f ⟨2816 * 1 + q.val, by omega⟩ := by
  rw [← Equiv.sum_comp (finProdFinEquiv : Fin 2 × Fin 2816 ≃ Fin (2 * 2816)) f, Fintype.sum_prod_type, Fin.sum_univ_two]
  refine congrArg₂ (fun a b : EReal => a + b) (Finset.sum_congr rfl fun q _ => congrArg f (Fin.ext ?_)) (Finset.sum_congr rfl fun q _ => congrArg f (Fin.ext ?_))
  · show q.val + 2816 * 0 = 2816 * 0 + q.val; omega
  · show q.val + 2816 * 1 = 2816 * 1 + q.val; omega

/-- Four blocks of 2816. -/
theorem sum_four (f : Fin 11264 → EReal) :
    ∑ k, f k = (((∑ q : Fin 2816, f ⟨2816 * 0 + q.val, by omega⟩) + ∑ q : Fin 2816, f ⟨2816 * 1 + q.val, by omega⟩)
      + ∑ q : Fin 2816, f ⟨2816 * 2 + q.val, by omega⟩) + ∑ q : Fin 2816, f ⟨2816 * 3 + q.val, by omega⟩ := by
  rw [← Equiv.sum_comp (finProdFinEquiv : Fin 4 × Fin 2816 ≃ Fin (4 * 2816)) f, Fintype.sum_prod_type, Fin.sum_univ_four]
  refine congrArg₂ (fun a b : EReal => a + b) (congrArg₂ (fun a b : EReal => a + b) (congrArg₂ (fun a b : EReal => a + b) ?_ ?_) ?_) ?_ <;>
    refine Finset.sum_congr rfl fun q _ => congrArg f (Fin.ext ?_)
  · show q.val + 2816 * 0 = 2816 * 0 + q.val; omega
  · show q.val + 2816 * 1 = 2816 * 1 + q.val; omega
  · show q.val + 2816 * 2 = 2816 * 2 + q.val; omega
  · show q.val + 2816 * 3 = 2816 * 3 + q.val; omega

end Cert.Blocks
-- ==== Proof.UpDx.lean ====
/- The gradient of the up projection's input: the array that the kernel's blocks make up. -/
module

public import proofs.«01_k».proof.Proof.UpDxBlock
public import proofs.«01_k».proof.Proof.SumBlocks

@[expose] public section

set_option maxRecDepth 16384

noncomputable section

namespace Cert.Kernel3Ideal.Hand

open Cert.Kernel3Ideal Cert.Kernel3Ideal.Gen Cert.Kernel3Ideal.Value Idealize.ShloMosaic Idealize.ShloMosaic.TcCoe Idealize.SL.Sem

/-- One term of the product: column `k` of the two halves of the cotangent side by side, times column `k` of the weights. -/
def term (w : Vec Ideal S2048x11264 .bf16) (da : Vec Ideal S2x2048x5632 .bf16) (i : S2048x2048.Idx) (k : Fin 11264) : EReal :=
  da (ix3 ⟨k.val / 5632, by omega⟩ (i 0) ⟨k.val % 5632, Nat.mod_lt _ (by decide)⟩) * w (ix2 (i 1) k)

/-- The product of the cotangent, its two halves side by side, with the transposed weights. -/
def result (w : Vec Ideal S2048x11264 .bf16) (da : Vec Ideal S2x2048x5632 .bf16) (i : S2048x2048.Idx) : EReal :=
  ∑ k : Fin 11264, term w da i k

variable (m : (ℓ : Loc nD τ sig) → Buf (Elt Ideal) ℓ) (ρ : Dev nD → PrngReg) (c : Dev nD)

/-- Device `c`'s product. -/
def resultOf : S2048x2048.Idx → EReal := result (m ((c : Thread nD τ).loc main_arg0)) (m ((c : Thread nD τ).loc main_arg1))

/-- The block indices: the four blocks of columns within each of the four blocks of the result. -/
theorem lt_points (t : Fin cfg0.N) : t.val < 16 := N_0 ▸ t.isLt
theorem index0 : ∀ t : Fin cfg0.N, win0_0.index t (0 : Fin 3) = t.val % 4 / 2 ∧ win0_0.index t (1 : Fin 3) = t.val / 8 ∧ win0_0.index t (2 : Fin 3) = t.val % 4 % 2 :=
  (by decide +kernel : ∀ t : Fin grid0.N, _)
theorem index1 : ∀ t : Fin cfg0.N, win0_1.index t (0 : Fin 2) = t.val / 4 % 2 ∧ win0_1.index t (1 : Fin 2) = t.val % 4 :=
  (by decide +kernel : ∀ t : Fin grid0.N, _)
theorem index2 : ∀ t : Fin cfg0.N, win0_2.index t (0 : Fin 2) = t.val / 8 ∧ win0_2.index t (1 : Fin 2) = t.val / 4 % 2 :=
  (by decide +kernel : ∀ t : Fin grid0.N, _)

/-- Each input block, read at an index. -/
theorem iblk0_apply (t : Fin cfg0.N) (n : Fin 1024) (k : Fin 2816) : iblk m c 0 t (ix3 0 n k)
    = (m ((c : Thread nD τ).loc main_arg1) : Vec Ideal S2x2048x5632 .bf16) (ix3 ⟨t.val % 4 / 2, by omega⟩ ⟨1024 * (t.val / 8) + n.val, by have := lt_points t; omega⟩ ⟨2816 * (t.val % 4 % 2) + k.val, by omega⟩) := by
  obtain ⟨e0, e1, e2⟩ := index0 t
  rw [← V_main_arg1 m c]
  show (V m c main_arg1 : Vec Ideal S2x2048x5632 .bf16) (((cfg0.win 0).blk t).view.emb (ix3 0 n k)) = _
  refine congrArg (V m c main_arg1 : Vec Ideal S2x2048x5632 .bf16) (funext fun a => Fin.ext ?_)
  match a with
  | ⟨0, _⟩ => show win0_0.index t (0 : Fin 3) * 1 + 1 * 0 = t.val % 4 / 2; omega
  | ⟨1, _⟩ => show win0_0.index t (1 : Fin 3) * 1024 + 1 * n.val = 1024 * (t.val / 8) + n.val; omega
  | ⟨2, _⟩ => show win0_0.index t (2 : Fin 3) * 2816 + 1 * k.val = 2816 * (t.val % 4 % 2) + k.val; omega

theorem iblk1_apply (t : Fin cfg0.N) (n : Fin 1024) (k : Fin 2816) : iblk m c 1 t (ix2 n k)
    = (m ((c : Thread nD τ).loc main_arg0) : Vec Ideal S2048x11264 .bf16) (ix2 ⟨1024 * (t.val / 4 % 2) + n.val, by omega⟩ ⟨2816 * (t.val % 4) + k.val, by omega⟩) := by
  obtain ⟨e0, e1⟩ := index1 t
  rw [← V_main_arg0 m c]
  show (V m c main_arg0 : Vec Ideal S2048x11264 .bf16) (((cfg0.win 1).blk t).view.emb (ix2 n k)) = _
  refine congrArg (V m c main_arg0 : Vec Ideal S2048x11264 .bf16) (funext fun a => Fin.ext ?_)
  match a with
  | ⟨0, _⟩ => show win0_1.index t (0 : Fin 2) * 1024 + 1 * n.val = 1024 * (t.val / 4 % 2) + n.val; omega
  | ⟨1, _⟩ => show win0_1.index t (1 : Fin 2) * 2816 + 1 * k.val = 2816 * (t.val % 4) + k.val; omega

/-- Point `t`'s product, at an index of its block: the terms of block `t % 4` of columns. -/
theorem part (t : Fin cfg0.N) (j : ℕ) (hj : t.val % 4 = j) (r : Fin 1024) (q : Fin 1024) (z : S2048x2048.Idx)
    (h0 : (z 0).val = 1024 * (t.val / 8) + r.val) (h1 : (z 1).val = 1024 * (t.val / 4 % 2) + q.val) :
    k0_pay1 (F := Ideal) (iblk m c 0 t) (iblk m c 1 t) (ix2 r q)
      = ∑ k : Fin 2816, term (m ((c : Thread nD τ).loc main_arg0)) (m ((c : Thread nD τ).loc main_arg1)) z ⟨2816 * j + k.val, by omega⟩ := by
  subst hj
  refine (product_apply _ _ r q).trans (Finset.sum_congr rfl fun k _ => ?_)
  unfold term
  refine congrArg₂ (fun a b : EReal => a * b) ((iblk0_apply m c t r k).trans ?_) ((iblk1_apply m c t q k).trans ?_)
  · refine congrArg (m ((c : Thread nD τ).loc main_arg1) : Vec Ideal S2x2048x5632 .bf16) (funext fun a => Fin.ext ?_)
    match a with
    | ⟨0, _⟩ => show t.val % 4 / 2 = (2816 * (t.val % 4) + k.val) / 5632; omega
    | ⟨1, _⟩ => exact h0.symm
    | ⟨2, _⟩ => show 2816 * (t.val % 4 % 2) + k.val = (2816 * (t.val % 4) + k.val) % 5632; omega
  · refine congrArg (m ((c : Thread nD τ).loc main_arg0) : Vec Ideal S2048x11264 .bf16) (funext fun a => Fin.ext ?_)
    match a with
    | ⟨0, _⟩ => exact h1.symm
    | ⟨1, _⟩ => rfl

/-- What the sum holds after a point. -/
theorem sum_first (t : Fin cfg0.N) (h : t.val % 4 = 0) : (outsAt0 m c t.val t.isLt).2 = k0_pay1 (F := Ideal) (iblk m c 0 t) (iblk m c 1 t) := by
  have e := congrArg Prod.snd (outsAt0_A m c t h (by omega) (by omega))
  dsimp only at e
  rw [first] at e
  exact e

theorem sum_middle (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  have e := congrArg Prod.snd (outsAt0_B m c t (by omega) h (by omega))
  dsimp only at e
  rw [middle] at e
  exact e

/-- What the last point of a block writes, at an index: all terms. -/
theorem block_apply (t : Fin cfg0.N) (h : t.val % 4 = 3) (r : Fin 1024) (q : Fin 1024) (z : S2048x2048.Idx)
    (h0 : (z 0).val = 1024 * (t.val / 8) + r.val) (h1 : (z 1).val = 1024 * (t.val / 4 % 2) + q.val) :
    (addf (outsAt0 m c (t.val - 1) (Nat.lt_of_le_of_lt (Nat.sub_le _ _) t.isLt)).2 (k0_pay1 (F := Ideal) (iblk m c 0 t) (iblk m c 1 t)) : Vec Ideal S1024x1024 .f32) (ix2 r q) = resultOf m c z := by
  have ht := lt_points t
  let t2 : Fin cfg0.N := ⟨t.val - 1, Nat.lt_of_le_of_lt (Nat.sub_le _ _) t.isLt⟩
  let t1 : Fin cfg0.N := ⟨t.val - 1 - 1, Nat.lt_of_le_of_lt (Nat.sub_le _ _) t2.isLt⟩
  let t0 : Fin cfg0.N := ⟨t.val - 1 - 1 - 1, Nat.lt_of_le_of_lt (Nat.sub_le _ _) t1.isLt⟩
  have e2 : t2.val = t.val - 1 := rfl
  have e1 : t1.val = t.val - 1 - 1 := rfl
  have e0 : t0.val = t.val - 1 - 1 - 1 := rfl
  have s2 := sum_middle m c t2 (by omega)
  have s1 := sum_middle m c t1 (by omega)
  have s0 := sum_first m c t0 (by omega)
  have p3 := part m c t 3 h r q z h0 h1
  have p2 := part m c t2 2 (by omega) r q z (by omega) (by omega)
  have p1 := part m c t1 1 (by omega) r q z (by omega) (by omega)
  have p0 := part m c t0 0 (by omega) r q z (by omega) (by omega)
  unfold resultOf result
  rw [Cert.Blocks.sum_four]
  refine congrArg₂ (fun a b : EReal => a + b) ?_ p3
  refine (congrFun s2 (ix2 r q)).trans ?_
  refine congrArg₂ (fun a b : EReal => a + b) ?_ p2
  refine (congrFun s1 (ix2 r q)).trans ?_
  exact congrArg₂ (fun a b : EReal => a + b) ((congrFun s0 (ix2 r q)).trans p0) p1

/-- What a writing point writes back is its block of the whole product. -/
theorem flushed_result (t : Fin cfg0.N) (h : t.val % 4 = 3) : (dats m 0 c).flushed 2 t = ((cfg0.win 2).blk t).view.read (Elt Ideal) (resultOf m c) := by
  rw [flushed2_C m c t (by omega) (by omega) h, last]
  funext y
  obtain ⟨e0, e1⟩ := index2 t
  show (addf (outsAt0 m c (t.val - 1) (Nat.lt_of_le_of_lt (Nat.sub_le _ _) t.isLt)).2 (k0_pay1 (F := Ideal) (iblk m c 0 t) (iblk m c 1 t)) : Vec Ideal S1024x1024 .f32) y
    = resultOf m c (((cfg0.win 2).blk t).view.emb y)
  refine (congrArg _ (funext fun a => by
    match a with
    | ⟨0, _⟩ => rfl
    | ⟨1, _⟩ => rfl)).trans (block_apply m c t h (y (0 : Fin 2)) (y (1 : Fin 2)) _ ?_ ?_)
  · show win0_2.index t (0 : Fin 2) * 1024 + 1 * (y (0 : Fin 2)).val = 1024 * (t.val / 8) + (y (0 : Fin 2)).val; omega
  · show win0_2.index t (1 : Fin 2) * 1024 + 1 * (y (1 : Fin 2)).val = 1024 * (t.val / 4 % 2) + (y (1 : Fin 2)).val; omega

/-- The written blocks cover the array. -/
theorem covered_result (i : S2048x2048.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 2048 := (i (1 : Fin 2)).isLt
  let t : Fin cfg0.N := ⟨8 * ((i (0 : Fin 2)).val / 1024) + 4 * ((i (1 : Fin 2)).val / 1024) + 3, by show _ < grid0.N; rw [N_0]; omega⟩
  obtain ⟨e0, e1⟩ := index2 t
  have ht : t.val = 8 * ((i (0 : Fin 2)).val / 1024) + 4 * ((i (1 : Fin 2)).val / 1024) + 3 := rfl
  refine ⟨t, (flush0_2 t).mpr (by omega), ?_⟩
  have h := ((cfg0.win 2).blk t).view.emb_mem_set (ix2 ⟨(i (0 : Fin 2)).val % 1024, Nat.mod_lt _ (by decide)⟩ ⟨(i (1 : Fin 2)).val % 1024, Nat.mod_lt _ (by decide)⟩)
  have e : ((cfg0.win 2).blk t).view.emb (ix2 ⟨(i (0 : Fin 2)).val % 1024, Nat.mod_lt _ (by decide)⟩ ⟨(i (1 : Fin 2)).val % 1024, Nat.mod_lt _ (by decide)⟩) = i := by
    funext a; apply Fin.ext
    match a with
    | ⟨0, _⟩ => show win0_2.index t (0 : Fin 2) * 1024 + 1 * ((i (0 : Fin 2)).val % 1024) = (i (0 : Fin 2)).val; omega
    | ⟨1, _⟩ => show win0_2.index t (1 : Fin 2) * 1024 + 1 * ((i (1 : Fin 2)).val % 1024) = (i (1 : Fin 2)).val; omega
  rwa [e] at h

theorem final_result : (dats m 0 c).arrAt 2 cfg0.N = resultOf m c :=
  (dats m 0 c).arrAt_eq_of_cover 2 (resultOf m c) (fun t h => flushed_result m c t ((flush0_2 t).mp h)) covered_result

end Cert.Kernel3Ideal.Hand

end
-- ==== Proof.UpDxEqual.lean ====
/- The gradient of the up projection's input: the reference's product, and the two programs' equal results. -/
module

public import proofs.«01_k».proof.Defs
public import proofs.«01_k».proof.Proof.UpDx
public import proofs.«01_k».proof.Proof.Gen.Reference3Ideal.Read
public import Idealize.ShloMosaic.Lib.Pointwise
public import Idealize.ShloMosaic.Lib.Quiescent

@[expose] public section

noncomputable section

namespace Cert.Reference3Ideal.Hand

open Cert.Reference3Ideal Cert.Reference3Ideal.Gen Idealize.ShloMosaic Idealize.ShloMosaic.TcCoe Idealize.SL.Sem

/-- The reference's frame: it has no semaphore at all. -/
theorem frame : Cert.quiescent_Reference3Ideal (hReference3Ideal := Gen.facts) := fun m ρ _ =>
  (θ_run defs _ _).mono (fun r h => ⟨fun c => (h c).2, sem_eq_zero_of_no_sems rfl r.2⟩) (Value.run m ρ)

/-- The two halves of the cotangent side by side, read at an index. -/
theorem halves_apply (da : Vec Ideal S2x2048x5632 .bf16) (r : Fin 2048) (k : Fin 11264) :
    (Read.val_main_v4 (F := Ideal) da : Vec Ideal S2048x11264 .bf16) (ix2 r k) = da (ix3 ⟨k.val / 5632, by omega⟩ r ⟨k.val % 5632, Nat.mod_lt _ (by decide)⟩) := by
  unfold Read.val_main_v4
  have e1 : ∀ q : Fin 5632, (Read.val_main_v1 (F := Ideal) da : Vec Ideal S2048x5632 .bf16) (ix2 r q) = da (ix3 0 r q) := by
    intro q
    unfold Read.val_main_v1 Read.val_main_v0
    pointwise []
  have e3 : ∀ q : Fin 5632, (Read.val_main_v3 (F := Ideal) da : Vec Ideal S2048x5632 .bf16) (ix2 r q) = da (ix3 1 r q) := by
    intro q
    unfold Read.val_main_v3 Read.val_main_v2
    pointwise []
  generalize Read.val_main_v1 (F := Ideal) da = y1 at e1 ⊢
  generalize Read.val_main_v3 (F := Ideal) da = y3 at e3 ⊢
  pointwise []
  have hk := k.isLt
  by_cases h : k.val < 5632
  · refine (dif_pos h).trans ((e1 _).trans (congrArg da (funext fun a => Fin.ext ?_)))
    match a with
    | ⟨0, _⟩ => show 0 = k.val / 5632; omega
    | ⟨1, _⟩ => rfl
    | ⟨2, _⟩ => show k.val = k.val % 5632; omega
  · refine (dif_neg h).trans ((e3 _).trans (congrArg da (funext fun a => Fin.ext ?_)))
    match a with
    | ⟨0, _⟩ => show 1 = k.val / 5632; omega
    | ⟨1, _⟩ => rfl
    | ⟨2, _⟩ => show k.val - 5632 = k.val % 5632; omega

/-- The reference computes the product. -/
theorem value_eq (w : Vec Ideal S2048x11264 .bf16) (da : Vec Ideal S2x2048x5632 .bf16) :
    Read.val_main_v9 (F := Ideal) w da = Cert.Kernel3Ideal.Hand.result w da := by
  funext i
  rw [Read.val_main_v9_apply]
  refine Finset.sum_congr rfl fun k _ => ?_
  unfold Cert.Kernel3Ideal.Hand.term
  refine congrArg₂ (fun a b : EReal => a * b) ?_ (congrArg w (funext fun a => ?_))
  · refine Eq.trans ?_ (halves_apply da (i 0) k)
    show (Read.val_main_v4 (F := Ideal) da : Vec Ideal S2048x11264 .bf16) (Read.lidx_main_v9 i k) = _
    refine congrArg (Read.val_main_v4 (F := Ideal) da : Vec Ideal S2048x11264 .bf16) (funext fun a => ?_)
    match a with
    | ⟨0, _⟩ => rfl
    | ⟨1, _⟩ => rfl
  · match a with
    | ⟨0, _⟩ => rfl
    | ⟨1, _⟩ => rfl

/-- Equal results. -/
theorem equal : Cert.algebraic_Kernel3Ideal_Reference3Ideal (hKernel3Ideal := Cert.Kernel3Ideal.Gen.facts) (hReference3Ideal := Gen.facts) := by
  intro m g m' g' _ hagree
  refine ⟨fun c => Cert.Kernel3Ideal.Hand.resultOf m c, (θ_run _ _ _).mono (fun _ h c => ⟨(h c).1.trans (Cert.Kernel3Ideal.Hand.final_result m c), (h c).2⟩) (Cert.Kernel3Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v9_eq _ _)).trans (value_eq _ _), hc.2⟩

end Cert.Reference3Ideal.Hand

end
-- ==== Proof.Half.lean ====
/- A one-word table that chooses a half of an axis, and products contracted on both operands' rows. -/
module

public import Idealize.ShloMosaic.Lib.Pointwise
public import Idealize.ShloMosaic.Lib.MatmulPlain
public import Idealize.ShloMosaic.Lib.IdealHost
public import Idealize.ShloMosaic.Lib.StableHlo.Predicate
public import Idealize.ShloMosaic.PureOps.Ideal.Laws

@[expose] public section

noncomputable section

namespace Cert.Hand

open Idealize.ShloMosaic

/-! ## The word -/

/-- The half a word chooses: the first at zero, the second elsewhere. -/
def half (w : BitVec 32) : Nat := if w = 0#32 then 0 else 1

theorem half_le (w : BitVec 32) : half w ≤ 1 := by unfold half; split <;> omega

/-- A word that is 0 or 1, as a block index, is the half it chooses. -/
theorem block_half {w : BitVec 32} (h : w = 0#32 ∨ w = 1#32) : (Scalar.addi (Scalar.muli w 1#32) (BitVec.ofNat 32 0)).toNat = half w := by
  rcases h with rfl | rfl <;> decide

/-- An array of one element has one index. -/
theorem one_index (i j : Shape.Idx ⟨1, ![1]⟩) : i = j := by
  funext a; apply Fin.ext
  match a with
  | ⟨0, _⟩ =>
    have h0 : (i 0).val < 1 := (i 0).isLt
    have h1 : (j 0).val < 1 := (j 0).isLt
    show (i 0).val = (j 0).val; omega

/-- The element of an array of one. -/
def word (x : IVec ⟨1, ![1]⟩ 32) : BitVec 32 := x (fun _ => ⟨0, by simp⟩)

theorem word_eq (x : IVec ⟨1, ![1]⟩ 32) (i : Shape.Idx ⟨1, ![1]⟩) : x i = word x := congrArg x (one_index _ _)

theorem shapeCast_word (x : IVec ⟨1, ![1]⟩ 32) (h : Shape.ShapeCasts ⟨1, ![1]⟩ ⟨0, ![]⟩) (j : Shape.Idx ⟨0, ![]⟩) :
    shapeCast ⟨0, ![]⟩ x h j = word x := word_eq x _

/-- The precondition says that the word is 0 or 1. -/
theorem word_of_pre (x : IVec ⟨1, ![1]⟩ 32) (h : Shape.ShapeCasts ⟨1, ![1]⟩ ⟨0, ![]⟩)
    (e : ori (cmpi .eq (shapeCast ⟨0, ![]⟩ x h) (constantI ⟨0, ![]⟩ 32 0#32)) (cmpi .eq (shapeCast ⟨0, ![]⟩ x h) (constantI ⟨0, ![]⟩ 32 1#32)) = fun _ => 1#1) :
    word x = 0#32 ∨ word x = 1#32 := by
  have e0 : IntOp.cmpi .eq (word x) 0#32 ||| IntOp.cmpi .eq (word x) 1#32 = 1#1 := by
    rw [← shapeCast_word x h (fun a => a.elim0)]
    exact congrFun e (fun a => a.elim0)
  rcases BitVec.eq_zero_or_eq_one (IntOp.cmpi .eq (word x) 0#32) with h0 | h0
  · rw [h0] at e0
    exact .inr (StableHlo.Predicate.cmpi_eq_iff.1 (by simpa using e0))
  · exact .inl (StableHlo.Predicate.cmpi_eq_iff.1 h0)

/-- A choice between two arrays by whether the word is zero. -/
theorem select_word {s : Shape} {α : Type} (x : IVec ⟨1, ![1]⟩ 32) (h : Shape.ShapeCasts ⟨1, ![1]⟩ ⟨0, ![]⟩) (hb) (u v : s.Idx → α) (i : s.Idx) :
    select (broadcastInDim s ![] hb (cmpi .eq (shapeCast ⟨0, ![]⟩ x h) (constantI ⟨0, ![]⟩ 32 0#32))) u v i = if half (word x) = 0 then u i else v i := by
  show Scalar.select (broadcastInDim s ![] hb (cmpi .eq (shapeCast ⟨0, ![]⟩ x h) (constantI ⟨0, ![]⟩ 32 0#32)) i) (u i) (v i) = _
  have e : broadcastInDim s ![] hb (cmpi .eq (shapeCast ⟨0, ![]⟩ x h) (constantI ⟨0, ![]⟩ 32 0#32)) i = IntOp.cmpi .eq (word x) 0#32 := by
    rw [← shapeCast_word x h (fun a => a.elim0)]
    exact broadcastInDim_apply _ hb _ i (fun a => a.elim0) (fun a => a.elim0)
  rw [e]
  by_cases hw : word x = 0#32
  · rw [StableHlo.Predicate.cmpi_eq_iff.2 hw, if_pos (by unfold half; exact if_pos hw)]; rfl
  · have hn : IntOp.cmpi .eq (word x) 0#32 = 0#1 :=
      (BitVec.eq_zero_or_eq_one _).resolve_right fun h1 => hw (StableHlo.Predicate.cmpi_eq_iff.1 h1)
    rw [hn, if_neg (by unfold half; rw [if_neg hw]; decide)]; rfl

/-! ## The product -/

/-- The axes of a product whose operands are both contracted on their rows. -/
def rowDims (K M N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Such a product at an index: the sum over the rows. -/
theorem matmul_rows {K M N : Nat} (wf : DotDims.WF ⟨2, ![K, M]⟩ ⟨2, ![K, N]⟩ ⟨2, ![M, N]⟩ [0] [0] [1] [1] [] []) (p : Option ContractPrecision)
    (x : FVec Ideal ⟨2, ![K, M]⟩ .bf16) (y : FVec Ideal ⟨2, ![K, N]⟩ .bf16) (acc : FVec Ideal ⟨2, ![M, N]⟩ .f32) (r : Fin M) (q : Fin N) :
    FloatOps.matmul (rowDims K M N wf) p x y acc (ix2 r q) = acc (ix2 r q) + ∑ k : Fin K, (x (ix2 k r) * y (ix2 k q) : EReal) := by
  refine Ideal.matmul_apply₁_of (rowDims K M N wf) (a := 0) rfl (K := K) rfl x y acc (ix2 r q) (fun k => ix2 k r) (fun k => ix2 k q) (fun k => ?_) (fun k => ?_)
  · funext a; apply Fin.ext
    match a with
    | ⟨0, _⟩ => exact (rowDims K M N wf).lhsIdx_val_of_single rfl _ _
    | ⟨1, _⟩ => rfl
  · funext a; apply Fin.ext
    match a with
    | ⟨0, _⟩ => exact (rowDims K M N wf).rhsIdx_val_of_single rfl _ _
    | ⟨1, _⟩ => rfl

/-! ## The two gradients -/

/-- The gradient of the weights of the product that goes down, one half of its columns: over the tokens, the gated row
    times the incoming row. -/
def downHalf (w : BitVec 32) (g : FVec Ideal ⟨2, ![2048, 5632]⟩ .bf16) (d : FVec Ideal ⟨2, ![2048, 2048]⟩ .bf16) (i : Shape.Idx ⟨3, ![4, 1408, 1024]⟩) : EReal :=
  ∑ k : Fin 2048, (g (ix2 k ⟨1408 * (i 0).val + (i 1).val, by
      have h0 : (i 0).val < 4 := (i 0).isLt
      have h1 : (i 1).val < 1408 := (i 1).isLt
      omega⟩) * d (ix2 k ⟨1024 * half w + (i 2).val, by
      have h2 : (i 2).val < 1024 := (i 2).isLt
      have := half_le w
      omega⟩) : EReal)

/-- The gradient of the weights of the product that goes up, one half of its rows: over the tokens, the normalised row
    times the incoming row; each of the four slabs is half of one of the two parts. -/
def upHalf (w : BitVec 32) (h : FVec Ideal ⟨2, ![2048, 2048]⟩ .bf16) (d : FVec Ideal ⟨3, ![2, 2048, 5632]⟩ .bf16) (i : Shape.Idx ⟨3, ![4, 1024, 2816]⟩) : EReal :=
  ∑ k : Fin 2048, (h (ix2 k ⟨1024 * half w + (i 1).val, by
      have h1 : (i 1).val < 1024 := (i 1).isLt
      have := half_le w
      omega⟩) * d (ix3 ⟨(i 0).val / 2, by
      have h0 : (i 0).val < 4 := (i 0).isLt
      omega⟩ k ⟨2816 * ((i 0).val % 2) + (i 2).val, by
      have h2 : (i 2).val < 2816 := (i 2).isLt
      omega⟩) : EReal)

end Cert.Hand

end
-- ==== Proof.DownDwGiveWord.lean ====
/- The gradient of the down product's weights, the half given away: what its one-word table must hold. -/
module

public import proofs.«01_k».proof.Defs
public import proofs.«01_k».proof.Proof.Half
public import proofs.«01_k».proof.Proof.Gen.Kernel4.Frame
public import proofs.«01_k».proof.Proof.Gen.Kernel4Ideal.Frame
public import proofs.«01_k».proof.Proof.Gen.Pre_core4

@[expose] public section

noncomputable section

namespace Cert.Kernel4.Hand

open Cert.Kernel4 Cert.Kernel4.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] := by
  have e2 : (i 2).val = 0 := by
    have h : (i 2).val < 1 := (i 2).isLt
    omega
  show ![0, (Scalar.addi (Scalar.muli (pf.at 0 (Rect.unit (s := S1) ![0] S1.size Facts₀.inb_S1_S1_0) Facts₀.numel1_S1) 1#32) (BitVec.ofNat 32 (i 2).val)).toNat] = _
  rw [e2, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel4 m) : Ok (F := Bits) m :=
  ok_of_word (tbl m) (word (m (((0 : Dev nD) : Thread nD τ).loc main_arg0) : IVec S1 32)) (word_of_pre _ Pre_core4.Facts.shapeCasts_S1_S_ (h 0)) (word_eq _)

end Cert.Kernel4.Hand

namespace Cert.Kernel4Ideal.Hand

open Cert.Kernel4Ideal Cert.Kernel4Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] :=
  Kernel4.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel4.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel4Ideal m) : wordOf m = 0#32 ∨ wordOf m = 1#32 :=
  word_of_pre _ Pre_core4.Facts.shapeCasts_S1_S_ (h 0)

theorem ok_of_pre (m : (ℓ : Loc nD τ sig) → Buf (Elt Ideal) ℓ) (h : Cert.Pre_Kernel4Ideal m) : Ok (F := Ideal) m :=
  ok_of_word (tbl m) (wordOf m) (word_pre m h) (tbl_word m)

end Cert.Kernel4Ideal.Hand

end
-- ==== Proof.DownDwGive.lean ====
/- The gradient of the down product's weights, the half given away: the kernel's blocks and the array they make up. -/
module

public import proofs.«01_k».proof.Proof.DownDwGiveWord
public import Idealize.ShloMosaic.Lib.Pipeline.Value

@[expose] public section

set_option maxRecDepth 16384

noncomputable section

namespace Cert.Kernel4Ideal.Hand

open Cert.Kernel4Ideal Cert.Kernel4Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x1408 .bf16) (x1 : Vec Ideal S2048x1024 .bf16) (r : Fin 1408) (q : Fin 1024) (k : Fin 2048) : EReal := x0 (ix2 k r) * x1 (ix2 k q)

/-- The product of a point's two blocks. -/
theorem product_apply (x0 : Vec Ideal S2048x1408 .bf16) (x1 : Vec Ideal S2048x1024 .bf16) (r : Fin 1408) (q : Fin 1024) :
    matmul (F := Ideal) (φ₁ := .bf16) (φ₂ := .bf16) dot_S2048x1408_S2048x1024_S1408x1024_0_0_1_1_n_n none x0 x1 (constant S1408x1024 .f32 0x00000000#32) (ix2 r q) = (∑ k : Fin 2048, term x0 x1 r q k) := by
  refine (matmul_rows dot_S2048x1408_S2048x1024_S1408x1024_0_0_1_1_n_n_wf none x0 x1 _ r q).trans ((congrArg (· + _) Ideal.ofBits_zero_f32).trans ((zero_add _).trans ?_))
  rfl

/-- What a point leaves in its block. -/
theorem out_A (c : Dev nD) (i : grid0.Coords) (a4 : Memref sig .tc .vmem S2048x1408 .bf16) (h4 : a4.IsWhole) (a5 : Memref sig .tc .vmem S2048x1024 .bf16) (h5 : a5.IsWhole) (a6 : Memref sig .tc .vmem S1x1408x1024 .f32) (h6 : a6.IsWhole)
    (x0 : Vec Ideal S2048x1408 .bf16) (x1 : Vec Ideal S2048x1024 .bf16) (xt : TbBuf0 (F := Ideal) c tbM0_0) (z : Fin 1) (r : Fin 1408) (q : Fin 1024) :
    out0_A_2 (F := Ideal) c i a4 h4 a5 h5 a6 h6 x0 x1 xt (ix3 z r q) = (∑ k : Fin 2048, term x0 x1 r q k) := by
  unfold out0_A_2
  rw [View.read_writes_eq_canon _ _ _ (cover0_A_2 c i a4 h4 a5 h5 a6 h6 x0 x1 xt)]
  unfold kernelRun0_A
  dsimp only
  rw [View.canon_unit_zero hz3]
  unfold k0_pay1
  simp only [View.readAt_eq_ld, h4.read_unread, h5.read_unread, View.ld_unit_zero (S := S2048x1408) hz, View.ld_unit_zero (S := S2048x1024) hz]
  refine Eq.trans ?_ (product_apply x0 x1 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x1408x1024.Idx) : EReal := downHalf (wordOf m) (m ((c : Thread nD τ).loc main_arg1)) (m ((c : Thread nD τ).loc main_arg2)) i

/-- The block indices. -/
theorem lt_points (t : Fin (cfgM m hO).N) : t.val < 4 := N_0 ▸ t.isLt
theorem index0 : ∀ t : Fin grid0.N, cc0_transform_0 (grid0.coords t) = ![0, t.val] := by decide +kernel
theorem index2 : ∀ t : Fin grid0.N, cc0_transform_2 (grid0.coords t) = ![t.val, 0, 0] := by decide +kernel

include hw in
theorem index1 (t : Fin (cfgM m hO).N) : ((cfgM m hO).win 1).index t = ![0, half (wordOf m)] :=
  map_half (tbl m) (wordOf m) hw (tbl_word m) (grid0.coords t)

/-- Each input block, read at an index. -/
theorem iblk0_apply (t : Fin (cfgM m hO).N) (k : Fin 2048) (n : Fin 1408) : iblk m hO c 0 t (ix2 k n)
    = (m ((c : Thread nD τ).loc main_arg1) : Vec Ideal S2048x5632 .bf16) (ix2 k ⟨1408 * t.val + n.val, by have := lt_points m hO t; omega⟩) := by
  have e : ((cfgM m hO).win 0).index t = ![0, t.val] := index0 t
  rw [← V_main_arg1 m c]
  show (V m c main_arg1 : Vec Ideal S2048x5632 .bf16) ((((cfgM m hO).win 0).blk t).view.emb (ix2 k n)) = _
  refine congrArg (V m c main_arg1 : Vec Ideal S2048x5632 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 1408 + 1 * n.val = 1408 * t.val + n.val
    rw [e]; show t.val * 1408 + 1 * n.val = 1408 * t.val + n.val; omega

include hw in
theorem iblk1_apply (t : Fin (cfgM m hO).N) (k : Fin 2048) (n : Fin 1024) : iblk m hO c 1 t (ix2 k n)
    = (m ((c : Thread nD τ).loc main_arg2) : Vec Ideal S2048x2048 .bf16) (ix2 k ⟨1024 * half (wordOf m) + n.val, by have := half_le (wordOf m); omega⟩) := by
  have e := index1 m hw hO t
  rw [← V_main_arg2 m c]
  show (V m c main_arg2 : Vec Ideal S2048x2048 .bf16) ((((cfgM m hO).win 1).blk t).view.emb (ix2 k n)) = _
  refine congrArg (V m c main_arg2 : Vec Ideal S2048x2048 .bf16) (funext fun a => Fin.ext ?_)
  match a with
  | ⟨0, _⟩ =>
    show ((cfgM m hO).win 1).index t (0 : Fin 2) * 2048 + 1 * k.val = k.val
    rw [e]; show 0 * 2048 + 1 * k.val = k.val; omega
  | ⟨1, _⟩ =>
    show ((cfgM m hO).win 1).index t (1 : Fin 2) * 1024 + 1 * n.val = 1024 * half (wordOf m) + n.val
    rw [e]; show half (wordOf m) * 1024 + 1 * n.val = 1024 * half (wordOf m) + n.val; omega

include hw in
/-- A point's sum is the whole gradient's, at the block's place. -/
theorem sum_result (t : Fin (cfgM m hO).N) (r : Fin 1408) (q : Fin 1024) (z : S4x1408x1024.Idx) (h0 : (z 0).val = t.val) (h1 : (z 1).val = r.val) (h2 : (z 2).val = q.val) :
    (∑ k : Fin 2048, term (iblk m hO c 0 t) (iblk m hO c 1 t) r q k) = downHalf (wordOf m) (m ((c : Thread nD τ).loc main_arg1)) (m ((c : Thread nD τ).loc main_arg2)) z := by
  unfold downHalf
  refine Finset.sum_congr rfl fun k _ => ?_
  refine congrArg₂ (fun a b : EReal => a * b) ((iblk0_apply m hO c t k r).trans ?_) ((iblk1_apply m hw hO c t k q).trans ?_)
  · exact congrArg (fun a => (m ((c : Thread nD τ).loc main_arg1) : Vec Ideal S2048x5632 .bf16) (ix2 k a)) (Fin.ext (by
      show 1408 * t.val + r.val = 1408 * (z 0).val + (z 1).val
      rw [h0, h1]))
  · exact congrArg (fun a => (m ((c : Thread nD τ).loc main_arg2) : Vec Ideal S2048x2048 .bf16) (ix2 k a)) (Fin.ext (by
      show 1024 * half (wordOf m) + q.val = 1024 * half (wordOf m) + (z 2).val
      rw [h2]))

include hw in
/-- What point `t` writes back is its block of the whole result. -/
theorem flushed_result (t : Fin (cfgM m hO).N) : (dats m hO 0 c).flushed 2 t = (((cfgM m hO).win 2).blk t).view.read (Elt Ideal) (resultOf m c) := by
  show ((cfgM m hO).win 2).cut ((cfgM m hO).grid.coords t) ((dats m hO 0 c).after 2 t) = _
  rw [after0_2]
  funext y
  show out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) y
    = resultOf m c ((((cfgM m hO).win 2).blk t).view.emb y)
  have e : ((cfgM m hO).win 2).index t = ![t.val, 0, 0] := index2 t
  have key : ∀ (z0 : Fin 1) (r : Fin 1408) (q : Fin 1024) (z : S4x1408x1024.Idx), (z 0).val = t.val → (z 1).val = r.val → (z 2).val = q.val →
      out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) (ix3 z0 r q) = resultOf m c z := by
    intro z0 r q z h0 h1 h2
    exact (out_A c _ _ _ _ _ _ _ _ _ _ z0 r q).trans (sum_result m hw hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 2).index t (0 : Fin 3) * 1 + 1 * (y (0 : Fin 3)).val = t.val
    rw [e]; show t.val * 1 + 1 * (y (0 : Fin 3)).val = t.val; omega
  · show ((cfgM m hO).win 2).index t (1 : Fin 3) * 1408 + 1 * (y (1 : Fin 3)).val = (y (1 : Fin 3)).val
    rw [e]; show 0 * 1408 + 1 * (y (1 : Fin 3)).val = (y (1 : Fin 3)).val; omega
  · show ((cfgM m hO).win 2).index t (2 : Fin 3) * 1024 + 1 * (y (2 : Fin 3)).val = (y (2 : Fin 3)).val
    rw [e]; show 0 * 1024 + 1 * (y (2 : Fin 3)).val = (y (2 : Fin 3)).val; omega

/-- The blocks cover the array. -/
theorem covered_result (i : S4x1408x1024.Idx) : ∃ t : Fin (cfgM m hO).N, ((cfgM m hO).win 2).flush t = true ∧ i ∈ (((cfgM m hO).win 2).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 2).index t = ![t.val, 0, 0] := index2 t
  have ht : t.val = (i (0 : Fin 3)).val := rfl
  refine ⟨t, flush0_2 (adm m hO) t, ?_⟩
  have h := (((cfgM m hO).win 2).blk t).view.emb_mem_set (ix3 (0 : Fin 1) (i (1 : Fin 3)) (i (2 : Fin 3)))
  have ei : (((cfgM m hO).win 2).blk t).view.emb (ix3 (0 : Fin 1) (i (1 : Fin 3)) (i (2 : Fin 3))) = i := by
    funext a; apply Fin.ext
    match a with
    | ⟨0, _⟩ =>
      show ((cfgM m hO).win 2).index t (0 : Fin 3) * 1 + 1 * 0 = (i (0 : Fin 3)).val
      rw [e]; show t.val * 1 + 1 * 0 = (i (0 : Fin 3)).val; omega
    | ⟨1, _⟩ =>
      show ((cfgM m hO).win 2).index t (1 : Fin 3) * 1408 + 1 * (i (1 : Fin 3)).val = (i (1 : Fin 3)).val
      rw [e]; show 0 * 1408 + 1 * (i (1 : Fin 3)).val = (i (1 : Fin 3)).val; omega
    | ⟨2, _⟩ =>
      show ((cfgM m hO).win 2).index t (2 : Fin 3) * 1024 + 1 * (i (2 : Fin 3)).val = (i (2 : Fin 3)).val
      rw [e]; show 0 * 1024 + 1 * (i (2 : Fin 3)).val = (i (2 : Fin 3)).val; omega
  rwa [ei] at h

include hw in
theorem final_result : (dats m hO 0 c).arrAt 2 (cfgM m hO).N = resultOf m c :=
  (dats m hO 0 c).arrAt_eq_of_cover 2 (resultOf m c) (fun t _ => flushed_result m hw hO c t) (covered_result m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2 |>.trans (final_result m hw hO c), h.2 c⟩) (θ_run_and (run_main m ρ hO) (unchanged m ρ hO))

end Cert.Kernel4Ideal.Hand

end
-- ==== Proof.DownDwGiveEqual.lean ====
/- The gradient of the weights of the product that goes down, the half that is sent: the
   reference's product, and the two programs' equal results. -/
module

public import proofs.«01_k».proof.Defs
public import proofs.«01_k».proof.Proof.Half
public import proofs.«01_k».proof.Proof.DownDwGive
public import proofs.«01_k».proof.Proof.Gen.Reference4Ideal.Read
public import Idealize.ShloMosaic.Lib.Quiescent

@[expose] public section

noncomputable section

namespace Cert.Reference4Ideal.Hand

open Cert.Reference4Ideal Cert.Reference4Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems rfl r.2⟩) (Cert.Reference4Ideal.Value.run m ρ)

/-- The reference computes the half of the columns that the word chooses. -/
theorem value_eq (w : Vec Ideal S1 .i32) (x : Vec Ideal S2048x5632 .bf16) (y : Vec Ideal S2048x2048 .bf16) :
    Read.val_main_v11 (F := Ideal) w x y = downHalf (word w) x y := by
  funext i
  have h0 : (i 0).val < 4 := (i 0).isLt
  have h1 : (i 1).val < 1408 := (i 1).isLt
  have h2 : (i 2).val < 1024 := (i 2).isLt
  rw [Read.val_main_v11_apply]
  unfold Read.val_main_v10 Read.val_main_v7 Read.val_main_v6 Read.val_main_c
  refine (select_word w _ _ _ _ _).trans ?_
  unfold downHalf
  split
  · next h =>
    rw [Read.val_main_v8_apply, Read.val_main_v5_apply, Read.val_main_v4_apply]
    refine Finset.sum_congr rfl fun k _ => (mul_comm _ _).trans (congrArg₂ (fun a b : EReal => a * b) (congrArg x (funext fun a => ?_)) (congrArg y (funext fun a => ?_)))
    · match a with
      | ⟨0, _⟩ => rfl
      | ⟨1, _⟩ => exact Fin.ext (by show (((i 0).val * 1408 + (i 1).val) * 1024 + (i 2).val) / 1024 = 1408 * (i 0).val + (i 1).val; omega)
    · match a with
      | ⟨0, _⟩ => rfl
      | ⟨1, _⟩ => exact Fin.ext (by show (((i 0).val * 1408 + (i 1).val) * 1024 + (i 2).val) % 1024 = 1024 * half (word w) + (i 2).val; omega)
  · next h =>
    have h' : half (word w) = 1 := by have := half_le (word w); omega
    rw [Read.val_main_v9_apply, Read.val_main_v5_apply, Read.val_main_v4_apply]
    refine Finset.sum_congr rfl fun k _ => (mul_comm _ _).trans (congrArg₂ (fun a b : EReal => a * b) (congrArg x (funext fun a => ?_)) (congrArg y (funext fun a => ?_)))
    · match a with
      | ⟨0, _⟩ => rfl
      | ⟨1, _⟩ => exact Fin.ext (by show (((i 0).val * 1408 + (i 1).val) * 1024 + (i 2).val) / 1024 = 1408 * (i 0).val + (i 1).val; omega)
    · match a with
      | ⟨0, _⟩ => rfl
      | ⟨1, _⟩ => exact Fin.ext (by show 1024 + (((i 0).val * 1408 + (i 1).val) * 1024 + (i 2).val) % 1024 = 1024 * half (word w) + (i 2).val; omega)

/-- Equal results. -/
theorem equal : Cert.algebraic_Kernel4Ideal_Reference4Ideal (hKernel4Ideal := Cert.Kernel4Ideal.Gen.facts) (hReference4Ideal := Gen.facts) (hPre_core4 := Cert.Pre_core4.Gen.facts) := by
  intro m g m' g' hpre hagree
  refine ⟨fun c => Cert.Kernel4Ideal.Hand.resultOf m c, Cert.Kernel4Ideal.Hand.run m g (Cert.Kernel4Ideal.Hand.word_pre m hpre) (Cert.Kernel4Ideal.Hand.ok_of_pre m hpre),
    (θ_run _ _ _).mono (fun r hr c => ?_) (Value.run m' g')⟩
  obtain rfl : c = 0 := Subsingleton.elim _ _
  obtain ⟨h0, h1, h2⟩ := hagree 0
  have hc := hr 0
  rw [h0, h1, h2] at hc ⊢
  exact ⟨(hc.1.trans (Read.val_main_v11_eq _ _ _)).trans (value_eq _ _ _), hc.2⟩

end Cert.Reference4Ideal.Hand

end
-- ==== Proof.UpDwGiveWord.lean ====
/- The gradient of the up product's weights, the half given away: what its one-word table must hold. -/
module

public import proofs.«01_k».proof.Defs
public import proofs.«01_k».proof.Proof.Half
public import proofs.«01_k».proof.Proof.Gen.Kernel5.Frame
public import proofs.«01_k».proof.Proof.Gen.Kernel5Ideal.Frame
public import proofs.«01_k».proof.Proof.Gen.Pre_core5

@[expose] public section

noncomputable section

namespace Cert.Kernel5.Hand

open Cert.Kernel5 Cert.Kernel5.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] := by
  have e2 : (i 2).val = 0 := by
    have h : (i 2).val < 1 := (i 2).isLt
    omega
  show ![0, (Scalar.addi (Scalar.muli (pf.at 0 (Rect.unit (s := S1) ![0] S1.size Facts₀.inb_S1_S1_0) Facts₀.numel1_S1) 1#32) (BitVec.ofNat 32 (i 2).val)).toNat] = _
  rw [e2, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel5 m) : Ok (F := Bits) m :=
  ok_of_word (tbl m) (word (m (((0 : Dev nD) : Thread nD τ).loc main_arg0) : IVec S1 32)) (word_of_pre _ Pre_core5.Facts.shapeCasts_S1_S_ (h 0)) (word_eq _)

end Cert.Kernel5.Hand

namespace Cert.Kernel5Ideal.Hand

open Cert.Kernel5Ideal Cert.Kernel5Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] :=
  Kernel5.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel5.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel5Ideal m) : wordOf m = 0#32 ∨ wordOf m = 1#32 :=
  word_of_pre _ Pre_core5.Facts.shapeCasts_S1_S_ (h 0)

theorem ok_of_pre (m : (ℓ : Loc nD τ sig) → Buf (Elt Ideal) ℓ) (h : Cert.Pre_Kernel5Ideal m) : Ok (F := Ideal) m :=
  ok_of_word (tbl m) (wordOf m) (word_pre m h) (tbl_word m)

end Cert.Kernel5Ideal.Hand

end
-- ==== Proof.UpDwGive.lean ====
/- The gradient of the up product's weights, the half given away: the kernel's blocks and the array they make up. -/
module

public import proofs.«01_k».proof.Proof.UpDwGiveWord
public import Idealize.ShloMosaic.Lib.Pipeline.Value

@[expose] public section

set_option maxRecDepth 16384

noncomputable section

namespace Cert.Kernel5Ideal.Hand

open Cert.Kernel5Ideal Cert.Kernel5Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x1024 .bf16) (x1 : Vec Ideal S1x2048x1408 .bf16) (r : Fin 1024) (q : Fin 1408) (k : Fin 2048) : EReal := x0 (ix2 k r) * x1 (ix3 0 k q)

/-- The product of a point's two blocks. -/
theorem product_apply (x0 : Vec Ideal S2048x1024 .bf16) (x1 : Vec Ideal S1x2048x1408 .bf16) (r : Fin 1024) (q : Fin 1408) :
    matmul (F := Ideal) (φ₁ := .bf16) (φ₂ := .bf16) dot_S2048x1024_S2048x1408_S1024x1408_0_0_1_1_n_n none x0 (shapeCast S2048x1408 x1 shapeCasts_S1x2048x1408_S2048x1408) (constant S1024x1408 .f32 0x00000000#32) (ix2 r q) = (∑ k : Fin 2048, term x0 x1 r q k) := by
  refine (matmul_rows dot_S2048x1024_S2048x1408_S1024x1408_0_0_1_1_n_n_wf none x0 (shapeCast S2048x1408 x1 shapeCasts_S1x2048x1408_S2048x1408) _ r q).trans ((congrArg (· + _) Ideal.ofBits_zero_f32).trans ((zero_add _).trans ?_))
  refine Finset.sum_congr rfl fun k _ => congrArg (fun a : EReal => x0 (ix2 k r) * a) ?_
  show (shapeCast S2048x1408 x1 shapeCasts_S1x2048x1408_S2048x1408 : Vec Ideal S2048x1408 .bf16) (ix2 k q) = x1 (ix3 0 k q)
  pointwise []

/-- What a point leaves in its block. -/
theorem out_A (c : Dev nD) (i : grid0.Coords) (a4 : Memref sig .tc .vmem S2048x1024 .bf16) (h4 : a4.IsWhole) (a5 : Memref sig .tc .vmem S1x2048x1408 .bf16) (h5 : a5.IsWhole) (a6 : Memref sig .tc .vmem S1x1024x1408 .f32) (h6 : a6.IsWhole)
    (x0 : Vec Ideal S2048x1024 .bf16) (x1 : Vec Ideal S1x2048x1408 .bf16) (xt : TbBuf0 (F := Ideal) c tbM0_0) (z : Fin 1) (r : Fin 1024) (q : Fin 1408) :
    out0_A_2 (F := Ideal) c i a4 h4 a5 h5 a6 h6 x0 x1 xt (ix3 z r q) = (∑ k : Fin 2048, term x0 x1 r q k) := by
  unfold out0_A_2
  rw [View.read_writes_eq_canon _ _ _ (cover0_A_2 c i a4 h4 a5 h5 a6 h6 x0 x1 xt)]
  unfold kernelRun0_A
  dsimp only
  rw [View.canon_unit_zero hz3]
  unfold k0_pay1
  simp only [View.readAt_eq_ld, h4.read_unread, h5.read_unread, View.ld_unit_zero (S := S2048x1024) hz, View.ld_unit_zero (S := S1x2048x1408) hz3]
  refine Eq.trans ?_ (product_apply x0 x1 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x1024x2816.Idx) : EReal := upHalf (wordOf m) (m ((c : Thread nD τ).loc main_arg1)) (m ((c : Thread nD τ).loc main_arg2)) i

/-- The block indices. -/
theorem lt_points (t : Fin (cfgM m hO).N) : t.val < 8 := N_0 ▸ t.isLt
theorem index1 : ∀ t : Fin grid0.N, cc0_transform_1 (grid0.coords t) = ![t.val / 4, 0, t.val % 4] := by decide +kernel
theorem index2 : ∀ t : Fin grid0.N, cc0_transform_2 (grid0.coords t) = ![t.val / 2, 0, t.val % 2] := by decide +kernel

include hw in
theorem index0 (t : Fin (cfgM m hO).N) : ((cfgM m hO).win 0).index t = ![0, half (wordOf m)] :=
  map_half (tbl m) (wordOf m) hw (tbl_word m) (grid0.coords t)

include hw in
/-- Each input block, read at an index. -/
theorem iblk0_apply (t : Fin (cfgM m hO).N) (k : Fin 2048) (n : Fin 1024) : iblk m hO c 0 t (ix2 k n)
    = (m ((c : Thread nD τ).loc main_arg1) : Vec Ideal S2048x2048 .bf16) (ix2 k ⟨1024 * half (wordOf m) + n.val, by have := half_le (wordOf m); omega⟩) := by
  have e := index0 m hw hO t
  rw [← V_main_arg1 m c]
  show (V m c main_arg1 : Vec Ideal S2048x2048 .bf16) ((((cfgM m hO).win 0).blk t).view.emb (ix2 k n)) = _
  refine congrArg (V m c main_arg1 : Vec Ideal S2048x2048 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 1024 + 1 * n.val = 1024 * half (wordOf m) + n.val
    rw [e]; show half (wordOf m) * 1024 + 1 * n.val = 1024 * half (wordOf m) + n.val; omega

theorem iblk1_apply (t : Fin (cfgM m hO).N) (k : Fin 2048) (n : Fin 1408) : iblk m hO c 1 t (ix3 0 k n)
    = (m ((c : Thread nD τ).loc main_arg2) : Vec Ideal S2x2048x5632 .bf16) (ix3 ⟨t.val / 4, by have := lt_points m hO t; omega⟩ k ⟨1408 * (t.val % 4) + n.val, by omega⟩) := by
  have e : ((cfgM m hO).win 1).index t = ![t.val / 4, 0, t.val % 4] := index1 t
  rw [← V_main_arg2 m c]
  show (V m c main_arg2 : Vec Ideal S2x2048x5632 .bf16) ((((cfgM m hO).win 1).blk t).view.emb (ix3 0 k n)) = _
  refine congrArg (V m c main_arg2 : Vec Ideal S2x2048x5632 .bf16) (funext fun a => Fin.ext ?_)
  match a with
  | ⟨0, _⟩ =>
    show ((cfgM m hO).win 1).index t (0 : Fin 3) * 1 + 1 * 0 = t.val / 4
    rw [e]; show t.val / 4 * 1 + 1 * 0 = t.val / 4; omega
  | ⟨1, _⟩ =>
    show ((cfgM m hO).win 1).index t (1 : Fin 3) * 2048 + 1 * k.val = k.val
    rw [e]; show 0 * 2048 + 1 * k.val = k.val; omega
  | ⟨2, _⟩ =>
    show ((cfgM m hO).win 1).index t (2 : Fin 3) * 1408 + 1 * n.val = 1408 * (t.val % 4) + n.val
    rw [e]; show t.val % 4 * 1408 + 1 * n.val = 1408 * (t.val % 4) + n.val; omega

include hw in
/-- A point's sum is the whole gradient's, at the block's place. -/
theorem sum_result (t : Fin (cfgM m hO).N) (r : Fin 1024) (q : Fin 1408) (z : S4x1024x2816.Idx) (h0 : (z 0).val = t.val / 2) (h1 : (z 1).val = r.val) (h2 : (z 2).val = 1408 * (t.val % 2) + q.val) :
    (∑ k : Fin 2048, term (iblk m hO c 0 t) (iblk m hO c 1 t) r q k) = upHalf (wordOf m) (m ((c : Thread nD τ).loc main_arg1)) (m ((c : Thread nD τ).loc main_arg2)) z := by
  unfold upHalf
  refine Finset.sum_congr rfl fun k _ => ?_
  refine congrArg₂ (fun a b : EReal => a * b) ((iblk0_apply m hw hO c t k r).trans ?_) ((iblk1_apply m hO c t k q).trans ?_)
  · exact congrArg (fun a => (m ((c : Thread nD τ).loc main_arg1) : Vec Ideal S2048x2048 .bf16) (ix2 k a)) (Fin.ext (by
      show 1024 * half (wordOf m) + r.val = 1024 * half (wordOf m) + (z 1).val
      rw [h1]))
  · exact congrArg₂ (fun a b => (m ((c : Thread nD τ).loc main_arg2) : Vec Ideal S2x2048x5632 .bf16) (ix3 a k b)) (Fin.ext (by
      show t.val / 4 = (z 0).val / 2
      omega)) (Fin.ext (by
      show 1408 * (t.val % 4) + q.val = 2816 * ((z 0).val % 2) + (z 2).val
      omega))

include hw in
/-- What point `t` writes back is its block of the whole result. -/
theorem flushed_result (t : Fin (cfgM m hO).N) : (dats m hO 0 c).flushed 2 t = (((cfgM m hO).win 2).blk t).view.read (Elt Ideal) (resultOf m c) := by
  show ((cfgM m hO).win 2).cut ((cfgM m hO).grid.coords t) ((dats m hO 0 c).after 2 t) = _
  rw [after0_2]
  funext y
  show out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) y
    = resultOf m c ((((cfgM m hO).win 2).blk t).view.emb y)
  have e : ((cfgM m hO).win 2).index t = ![t.val / 2, 0, t.val % 2] := index2 t
  have key : ∀ (z0 : Fin 1) (r : Fin 1024) (q : Fin 1408) (z : S4x1024x2816.Idx), (z 0).val = t.val / 2 → (z 1).val = r.val → (z 2).val = 1408 * (t.val % 2) + q.val →
      out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) (ix3 z0 r q) = resultOf m c z := by
    intro z0 r q z h0 h1 h2
    exact (out_A c _ _ _ _ _ _ _ _ _ _ z0 r q).trans (sum_result m hw hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 2).index t (0 : Fin 3) * 1 + 1 * (y (0 : Fin 3)).val = t.val / 2
    rw [e]; show t.val / 2 * 1 + 1 * (y (0 : Fin 3)).val = t.val / 2; omega
  · show ((cfgM m hO).win 2).index t (1 : Fin 3) * 1024 + 1 * (y (1 : Fin 3)).val = (y (1 : Fin 3)).val
    rw [e]; show 0 * 1024 + 1 * (y (1 : Fin 3)).val = (y (1 : Fin 3)).val; omega
  · show ((cfgM m hO).win 2).index t (2 : Fin 3) * 1408 + 1 * (y (2 : Fin 3)).val = 1408 * (t.val % 2) + (y (2 : Fin 3)).val
    rw [e]; show t.val % 2 * 1408 + 1 * (y (2 : Fin 3)).val = 1408 * (t.val % 2) + (y (2 : Fin 3)).val; omega

/-- The blocks cover the array. -/
theorem covered_result (i : S4x1024x2816.Idx) : ∃ t : Fin (cfgM m hO).N, ((cfgM m hO).win 2).flush t = true ∧ i ∈ (((cfgM m hO).win 2).blk t).view.set := by
  have h0 : (i (0 : Fin 3)).val < 4 := (i (0 : Fin 3)).isLt
  have h2 : (i (2 : Fin 3)).val < 2816 := (i (2 : Fin 3)).isLt
  let t : Fin (cfgM m hO).N := ⟨2 * (i (0 : Fin 3)).val + (i (2 : Fin 3)).val / 1408, by show _ < grid0.N; rw [N_0]; omega⟩
  have e : ((cfgM m hO).win 2).index t = ![t.val / 2, 0, t.val % 2] := index2 t
  have ht : t.val = 2 * (i (0 : Fin 3)).val + (i (2 : Fin 3)).val / 1408 := rfl
  refine ⟨t, flush0_2 (adm m hO) t, ?_⟩
  have h := (((cfgM m hO).win 2).blk t).view.emb_mem_set (ix3 (0 : Fin 1) (i (1 : Fin 3)) ⟨(i (2 : Fin 3)).val % 1408, Nat.mod_lt _ (by decide)⟩)
  have ei : (((cfgM m hO).win 2).blk t).view.emb (ix3 (0 : Fin 1) (i (1 : Fin 3)) ⟨(i (2 : Fin 3)).val % 1408, Nat.mod_lt _ (by decide)⟩) = i := by
    funext a; apply Fin.ext
    match a with
    | ⟨0, _⟩ =>
      show ((cfgM m hO).win 2).index t (0 : Fin 3) * 1 + 1 * 0 = (i (0 : Fin 3)).val
      rw [e]; show t.val / 2 * 1 + 1 * 0 = (i (0 : Fin 3)).val; omega
    | ⟨1, _⟩ =>
      show ((cfgM m hO).win 2).index t (1 : Fin 3) * 1024 + 1 * (i (1 : Fin 3)).val = (i (1 : Fin 3)).val
      rw [e]; show 0 * 1024 + 1 * (i (1 : Fin 3)).val = (i (1 : Fin 3)).val; omega
    | ⟨2, _⟩ =>
      show ((cfgM m hO).win 2).index t (2 : Fin 3) * 1408 + 1 * ((i (2 : Fin 3)).val % 1408) = (i (2 : Fin 3)).val
      rw [e]; show t.val % 2 * 1408 + 1 * ((i (2 : Fin 3)).val % 1408) = (i (2 : Fin 3)).val; omega
  rwa [ei] at h

include hw in
theorem final_result : (dats m hO 0 c).arrAt 2 (cfgM m hO).N = resultOf m c :=
  (dats m hO 0 c).arrAt_eq_of_cover 2 (resultOf m c) (fun t _ => flushed_result m hw hO c t) (covered_result m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2 |>.trans (final_result m hw hO c), h.2 c⟩) (θ_run_and (run_main m ρ hO) (unchanged m ρ hO))

end Cert.Kernel5Ideal.Hand

end
-- ==== Proof.UpDwGiveEqual.lean ====
/- The gradient of the weights of the product that goes up, the half that is sent: the
   reference's product, and the two programs' equal results. -/
module

public import proofs.«01_k».proof.Defs
public import proofs.«01_k».proof.Proof.Half
public import proofs.«01_k».proof.Proof.UpDwGive
public import proofs.«01_k».proof.Proof.Gen.Reference5Ideal.Read
public import Idealize.ShloMosaic.Lib.Quiescent
public import Idealize.ShloMosaic.Lib.Pointwise.SelectCore

@[expose] public section

noncomputable section

namespace Cert.Reference5Ideal.Hand

open Cert.Reference5Ideal Cert.Reference5Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems rfl r.2⟩) (Cert.Reference5Ideal.Value.run m ρ)

/-- The two parts of the incoming rows side by side. -/
theorem joined_apply (y : Vec Ideal S2x2048x5632 .bf16) (j : S2048x11264.Idx) (z : S2x2048x5632.Idx) (h0 : (z 0).val = (j 1).val / 5632) (h1 : (z 1).val = (j 0).val)
    (h2 : (z 2).val = (j 1).val % 5632) : Read.val_main_v4 (F := Ideal) y j = y z := by
  have b0 : (j 0).val < 2048 := (j 0).isLt
  have b1 : (j 1).val < 11264 := (j 1).isLt
  unfold Read.val_main_v4
  rw [concatenate_pair_apply]
  split
  · next h =>
    have h' : (j 1).val < 5632 := h
    rw [Read.val_main_v1_apply, Read.val_main_v0_apply]
    refine congrArg y (funext fun a => Fin.ext ?_)
    match a with
    | ⟨0, _⟩ => show 0 = (z 0).val; omega
    | ⟨1, _⟩ => show ((j 0).val * 5632 + (j 1).val) / 5632 % 2048 = (z 1).val; omega
    | ⟨2, _⟩ => show ((j 0).val * 5632 + (j 1).val) % 5632 = (z 2).val; omega
  · next h =>
    have h' : ¬ (j 1).val < 5632 := h
    rw [Read.val_main_v3_apply, Read.val_main_v2_apply]
    refine congrArg y (funext fun a => Fin.ext ?_)
    match a with
    | ⟨0, _⟩ => show 1 + 0 = (z 0).val; omega
    | ⟨1, _⟩ => show ((j 0).val * 5632 + ((j 1).val - 5632)) / 5632 % 2048 = (z 1).val; omega
    | ⟨2, _⟩ => show ((j 0).val * 5632 + ((j 1).val - 5632)) % 5632 = (z 2).val; omega

/-- The reference computes the half of the rows that the word chooses. -/
theorem value_eq (w : Vec Ideal S1 .i32) (x : Vec Ideal S2048x2048 .bf16) (y : Vec Ideal S2x2048x5632 .bf16) :
    Read.val_main_v17 (F := Ideal) w x y = upHalf (word w) x y := by
  funext i
  have h0 : (i 0).val < 4 := (i 0).isLt
  have h1 : (i 1).val < 1024 := (i 1).isLt
  have h2 : (i 2).val < 2816 := (i 2).isLt
  rw [Read.val_main_v17_apply, Read.val_main_v16_apply]
  unfold Read.val_main_v15 Read.val_main_v12 Read.val_main_v11 Read.val_main_c
  refine (select_word w _ _ _ _ _).trans ?_
  unfold upHalf
  split
  · next h =>
    rw [Read.val_main_v13_apply, Read.val_main_v10_apply, Read.val_main_v9_apply]
    refine Finset.sum_congr rfl fun k _ => (mul_comm _ _).trans (congrArg₂ (fun a b : EReal => a * b) (congrArg x (funext fun a => ?_)) (joined_apply y _ _ ?_ ?_ ?_))
    · match a with
      | ⟨0, _⟩ => rfl
      | ⟨1, _⟩ => exact Fin.ext (by show (((i 1).val * 4 + (i 0).val) * 2816 + (i 2).val) / 11264 = 1024 * half (word w) + (i 1).val; omega)
    · show (i 0).val / 2 = ((((i 1).val * 4 + (i 0).val) * 2816 + (i 2).val) % 11264) / 5632; omega
    · rfl
    · show 2816 * ((i 0).val % 2) + (i 2).val = ((((i 1).val * 4 + (i 0).val) * 2816 + (i 2).val) % 11264) % 5632; omega
  · next h =>
    have h' : half (word w) = 1 := by have := half_le (word w); omega
    rw [Read.val_main_v14_apply, Read.val_main_v10_apply, Read.val_main_v9_apply]
    refine Finset.sum_congr rfl fun k _ => (mul_comm _ _).trans (congrArg₂ (fun a b : EReal => a * b) (congrArg x (funext fun a => ?_)) (joined_apply y _ _ ?_ ?_ ?_))
    · match a with
      | ⟨0, _⟩ => rfl
      | ⟨1, _⟩ => exact Fin.ext (by show 1024 + (((i 1).val * 4 + (i 0).val) * 2816 + (i 2).val) / 11264 = 1024 * half (word w) + (i 1).val; omega)
    · show (i 0).val / 2 = ((((i 1).val * 4 + (i 0).val) * 2816 + (i 2).val) % 11264) / 5632; omega
    · rfl
    · show 2816 * ((i 0).val % 2) + (i 2).val = ((((i 1).val * 4 + (i 0).val) * 2816 + (i 2).val) % 11264) % 5632; omega

/-- Equal results. -/
theorem equal : Cert.algebraic_Kernel5Ideal_Reference5Ideal (hKernel5Ideal := Cert.Kernel5Ideal.Gen.facts) (hReference5Ideal := Gen.facts) (hPre_core5 := Cert.Pre_core5.Gen.facts) := by
  intro m g m' g' hpre hagree
  refine ⟨fun c => Cert.Kernel5Ideal.Hand.resultOf m c, Cert.Kernel5Ideal.Hand.run m g (Cert.Kernel5Ideal.Hand.word_pre m hpre) (Cert.Kernel5Ideal.Hand.ok_of_pre m hpre),
    (θ_run _ _ _).mono (fun r hr c => ?_) (Value.run m' g')⟩
  obtain rfl : c = 0 := Subsingleton.elim _ _
  obtain ⟨h0, h1, h2⟩ := hagree 0
  have hc := hr 0
  rw [h0, h1, h2] at hc ⊢
  exact ⟨(hc.1.trans (Read.val_main_v17_eq _ _ _)).trans (value_eq _ _ _), hc.2⟩

end Cert.Reference5Ideal.Hand

end
-- ==== Proof.Up.lean ====
/- The up projection: the kernel's blocks and the array they make up. -/
module

public import proofs.«01_k».proof.Proof.Gen.Kernel6Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel6Ideal.Hand

open Cert.Kernel6Ideal Cert.Kernel6Ideal.Gen Cert.Kernel6Ideal.Value Idealize.ShloMosaic Idealize.ShloMosaic.TcCoe Idealize.SL.Sem

theorem hz : (![0, 0] : Fin 2 → Nat) = fun _ => 0 := funext fun a => by fin_cases a <;> rfl

/-- The product of the activations with the weights. -/
def result (x : Vec Ideal S2048x2048 .bf16) (w : Vec Ideal S2048x11264 .bf16) (i : S2048x11264.Idx) : EReal :=
  ∑ k : Fin 2048, (x (ix2 (i 0) k) * w (ix2 k (i 1)) : EReal)

/-- What a point leaves in its block: the product of its two input blocks. -/
theorem out_A (c : Dev nD) (i : grid0.Coords) (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S8x128 .f32) (h6 : a6.IsWhole)
    (x0 : Vec Ideal S1024x2048 .bf16) (x1 : Vec Ideal S2048x1024 .bf16) (r : Fin 1024) (q : Fin 1024) :
    out0_A_2 (F := Ideal) c i a3 h3 a4 h4 a5 h5 a6 h6 x0 x1 (ix2 r q) = (∑ k : Fin 2048, (x0 (ix2 r k) * x1 (ix2 k q) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x2048) hz, View.ld_unit_zero (S := S2048x1024) hz, shapeCast_self]
  refine (Ideal.matmul_plain_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s product. -/
def resultOf : S2048x11264.Idx → EReal := result (m ((c : Thread nD τ).loc main_arg0)) (m ((c : Thread nD τ).loc main_arg1))

/-- The block indices: the eleven blocks of weights within each of the two blocks of rows. -/
theorem lt_points (t : Fin cfg0.N) : t.val < 22 := N_0 ▸ t.isLt
theorem index0 : ∀ t : Fin cfg0.N, win0_0.index t (0 : Fin 2) = t.val / 11 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 11 :=
  (by decide +kernel : ∀ t : Fin grid0.N, _)
theorem index2 : ∀ t : Fin cfg0.N, win0_2.index t (0 : Fin 2) = t.val / 11 ∧ win0_2.index t (1 : Fin 2) = t.val % 11 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg0) : Vec Ideal S2048x2048 .bf16) (ix2 ⟨1024 * (t.val / 11) + n.val, by have := lt_points t; omega⟩ k) := by
  obtain ⟨e0, e1⟩ := index0 t
  rw [← V_main_arg0 m c]
  show (V m c main_arg0 : Vec Ideal S2048x2048 .bf16) (((cfg0.win 0).blk t).view.emb (ix2 n k)) = _
  refine congrArg (V m c main_arg0 : Vec Ideal S2048x2048 .bf16) (funext fun a => Fin.ext ?_)
  match a with
  | ⟨0, _⟩ => show win0_0.index t (0 : Fin 2) * 1024 + 1 * n.val = 1024 * (t.val / 11) + n.val; omega
  | ⟨1, _⟩ => show win0_0.index t (1 : Fin 2) * 2048 + 1 * k.val = k.val; omega

theorem iblk1_apply (t : Fin cfg0.N) (k : Fin 2048) (n : Fin 1024) : iblk m c 1 t (ix2 k n)
    = (m ((c : Thread nD τ).loc main_arg1) : Vec Ideal S2048x11264 .bf16) (ix2 k ⟨1024 * (t.val % 11) + n.val, by omega⟩) := by
  obtain ⟨e0, e1⟩ := index1 t
  rw [← V_main_arg1 m c]
  show (V m c main_arg1 : Vec Ideal S2048x11264 .bf16) (((cfg0.win 1).blk t).view.emb (ix2 k n)) = _
  refine congrArg (V m c main_arg1 : Vec Ideal S2048x11264 .bf16) (funext fun a => Fin.ext ?_)
  match a with
  | ⟨0, _⟩ => show win0_1.index t (0 : Fin 2) * 2048 + 1 * k.val = k.val; omega
  | ⟨1, _⟩ => show win0_1.index t (1 : Fin 2) * 1024 + 1 * n.val = 1024 * (t.val % 11) + n.val; omega

/-- What point `t` writes back is its block of the whole product. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 1024) (z : S2048x11264.Idx), (z 0).val = 1024 * (t.val / 11) + r.val → (z 1).val = 1024 * (t.val % 11) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t k q).trans ?_)
    · exact congrArg (fun a => (m ((c : Thread nD τ).loc main_arg0) : Vec Ideal S2048x2048 .bf16) (ix2 a k)) (Fin.ext h0.symm)
    · exact congrArg (fun a => (m ((c : Thread nD τ).loc main_arg1) : Vec Ideal S2048x11264 .bf16) (ix2 k a)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val / 11) + (y (0 : Fin 2)).val; omega
  · show win0_2.index t (1 : Fin 2) * 1024 + 1 * (y (1 : Fin 2)).val = 1024 * (t.val % 11) + (y (1 : Fin 2)).val; omega

/-- The blocks cover the array. -/
theorem covered_result (i : S2048x11264.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 11264 := (i (1 : Fin 2)).isLt
  let t : Fin cfg0.N := ⟨11 * ((i (0 : Fin 2)).val / 1024) + (i (1 : Fin 2)).val / 1024, by show _ < grid0.N; rw [N_0]; omega⟩
  obtain ⟨e0, e1⟩ := index2 t
  have ht : t.val = 11 * ((i (0 : Fin 2)).val / 1024) + (i (1 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 1024 + 1 * ((i (1 : Fin 2)).val % 1024) = (i (1 : Fin 2)).val; omega

theorem final_result : (dats m 0 c).arrAt 2 cfg0.N = resultOf m c :=
  (dats m 0 c).arrAt_eq_of_cover 2 (resultOf m c) (fun t _ => flushed_result m c t) covered_result

end Cert.Kernel6Ideal.Hand

end
-- ==== Proof.UpEqual.lean ====
/- The up projection: the reference's product, and the two programs' equal results. -/
module

public import proofs.«01_k».proof.Defs
public import proofs.«01_k».proof.Proof.Up
public import proofs.«01_k».proof.Proof.Gen.Reference6Ideal.Read
public import Idealize.ShloMosaic.Lib.Quiescent

@[expose] public section

noncomputable section

namespace Cert.Reference6Ideal.Hand

open Cert.Reference6Ideal Cert.Reference6Ideal.Gen Idealize.ShloMosaic Idealize.ShloMosaic.TcCoe Idealize.SL.Sem

/-- The reference's frame: it has no semaphore at all. -/
theorem frame : Cert.quiescent_Reference6Ideal (hReference6Ideal := Gen.facts) := fun m ρ _ =>
  (θ_run defs _ _).mono (fun r h => ⟨fun c => (h c).2, sem_eq_zero_of_no_sems rfl r.2⟩) (Value.run m ρ)

/-- The reference computes the product. -/
theorem value_eq (x : Vec Ideal S2048x2048 .bf16) (w : Vec Ideal S2048x11264 .bf16) :
    Read.val_main_v2 (F := Ideal) x w = Cert.Kernel6Ideal.Hand.result x w := by
  funext i
  rw [Read.val_main_v2_apply]
  refine Finset.sum_congr rfl fun k _ => congrArg₂ (fun a b : EReal => a * b) (congrArg x (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel6Ideal_Reference6Ideal (hKernel6Ideal := Cert.Kernel6Ideal.Gen.facts) (hReference6Ideal := Gen.facts) := by
  intro m g m' g' _ hagree
  refine ⟨fun c => Cert.Kernel6Ideal.Hand.resultOf m c, (θ_run _ _ _).mono (fun _ h c => ⟨(h c).1.trans (Cert.Kernel6Ideal.Hand.final_result m c), (h c).2⟩) (Cert.Kernel6Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v2_eq _ _)).trans (value_eq _ _), hc.2⟩

end Cert.Reference6Ideal.Hand

end
-- ==== Proof.DownBlock.lean ====
/- The down projection: what one point computes, and the sum it adds to. -/
module

public import proofs.«01_k».proof.Proof.Gen.Kernel7Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel7Ideal.Hand

open Cert.Kernel7Ideal Cert.Kernel7Ideal.Gen Cert.Kernel7Ideal.Value Idealize.ShloMosaic Idealize.ShloMosaic.TcCoe Idealize.SL.Sem

theorem hz : (![0, 0] : Fin 2 → Nat) = fun _ => 0 := funext fun a => by fin_cases a <;> rfl

/-- The product of a block of the activations with a block of the weights. -/
theorem product_apply (x0 : Vec Ideal S1024x2816 .bf16) (x1 : Vec Ideal S2816x1024 .bf16) (r : Fin 1024) (q : Fin 1024) :
    k0_pay1 (F := Ideal) x0 x1 (ix2 r q) = (∑ k : Fin 2816, (x0 (ix2 r k) * x1 (ix2 k q) : EReal)) := by
  unfold k0_pay1
  exact (Ideal.matmul_plain_apply none x0 x1 _ r q).trans ((congrArg (· + _) Ideal.ofBits_zero_f32).trans (zero_add _))

variable (c : Dev nD) (i : grid0.Coords) (a3 : Memref sig .tc .vmem S1024x2816 .bf16) (h3 : a3.IsWhole) (a4 : Memref sig .tc .vmem S2816x1024 .bf16) (h4 : a4.IsWhole)
    (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (x0 : Vec Ideal S1024x2816 .bf16) (x1 : Vec Ideal S2816x1024 .bf16) (x2 : Vec Ideal S1024x1024 .f32) (acc : Vec Ideal S1024x1024 .f32)

/-- The first point of a block of the result keeps its product. -/
theorem first (hc0 : cond0_0 i) (hc1 : ¬cond0_1 i) (hc2 : ¬cond0_2 i) :
    sout0_A_0 (F := Ideal) c i a3 h3 a4 h4 a5 h5 a6 h6 a7 h7 hc0 hc1 hc2 x0 x1 x2 = k0_pay1 (F := Ideal) x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero hz]
  unfold k0_pay2
  simp only [View.readAt_eq_ld, h3.read_unread, h4.read_unread, View.ld_unit_zero (S := S1024x2816) hz, View.ld_unit_zero (S := S2816x1024) hz, shapeCast_self]

/-- The last point leaves the sum of both products and of the residual's block. -/
theorem last (hc0 : ¬cond0_0 i) (hc1 : ¬cond0_1 i) (hc2 : cond0_2 i) :
    out0_B_3 (F := Ideal) c i a3 h3 a4 h4 a5 h5 a6 h6 a7 h7 hc0 hc1 hc2 x0 x1 x2 acc = addf (addf acc (k0_pay1 (F := Ideal) x0 x1)) x2 := by
  unfold out0_B_3
  rw [View.read_writes_eq_canon _ _ _ (cover0_B_3 c i a3 h3 a4 h4 a5 h5 a6 h6 a7 h7 hc0 hc1 hc2 x0 x1 x2 acc)]
  unfold kernelRun0_B
  dsimp only
  rw [View.canon_unit_zero hz]
  unfold k0_pay4
  simp only [View.readAt_eq_ld, h3.read_unread, h4.read_unread, h5.read_unread, h7.read_unread, View.ld_unit_zero (S := S1024x2816) hz, View.ld_unit_zero (S := S2816x1024) hz, View.ld_unit_zero (S := S1024x1024) hz, shapeCast_self]

end Cert.Kernel7Ideal.Hand

end
-- ==== Proof.Down.lean ====
/- The down projection: the array that the kernel's blocks make up. -/
module

public import proofs.«01_k».proof.Proof.DownBlock
public import proofs.«01_k».proof.Proof.SumBlocks

@[expose] public section

set_option maxRecDepth 16384

noncomputable section

namespace Cert.Kernel7Ideal.Hand

open Cert.Kernel7Ideal Cert.Kernel7Ideal.Gen Cert.Kernel7Ideal.Value Idealize.ShloMosaic Idealize.ShloMosaic.TcCoe Idealize.SL.Sem

/-- One term of the product. -/
def term (x : Vec Ideal S2048x5632 .bf16) (w : Vec Ideal S5632x2048 .bf16) (i : S2048x2048.Idx) (k : Fin 5632) : EReal :=
  x (ix2 (i 0) k) * w (ix2 k (i 1))

/-- The residual plus the product of the activations with the weights. -/
def result (h : Vec Ideal S2048x2048 .f32) (x : Vec Ideal S2048x5632 .bf16) (w : Vec Ideal S5632x2048 .bf16) (i : S2048x2048.Idx) : EReal :=
  h i + ∑ k : Fin 5632, term x w i k

variable (m : (ℓ : Loc nD τ sig) → Buf (Elt Ideal) ℓ) (ρ : Dev nD → PrngReg) (c : Dev nD)

/-- Device `c`'s result. -/
def resultOf : S2048x2048.Idx → EReal :=
  result (m ((c : Thread nD τ).loc main_arg0)) (m ((c : Thread nD τ).loc main_arg1)) (m ((c : Thread nD τ).loc main_arg2))

/-- The block indices: the two blocks of the contraction within each of the four blocks of the result. -/
theorem lt_points (t : Fin cfg0.N) : t.val < 8 := N_0 ▸ t.isLt
theorem index0 : ∀ t : Fin cfg0.N, win0_0.index t (0 : Fin 2) = t.val / 4 ∧ win0_0.index t (1 : Fin 2) = t.val % 2 :=
  (by decide +kernel : ∀ t : Fin grid0.N, _)
theorem index1 : ∀ t : Fin cfg0.N, win0_1.index t (0 : Fin 2) = t.val % 2 ∧ win0_1.index t (1 : Fin 2) = t.val / 2 % 2 :=
  (by decide +kernel : ∀ t : Fin grid0.N, _)
theorem index2 : ∀ t : Fin cfg0.N, win0_2.index t (0 : Fin 2) = t.val / 4 ∧ win0_2.index t (1 : Fin 2) = t.val / 2 % 2 :=
  (by decide +kernel : ∀ t : Fin grid0.N, _)
theorem index3 : ∀ t : Fin cfg0.N, win0_3.index t (0 : Fin 2) = t.val / 4 ∧ win0_3.index t (1 : Fin 2) = t.val / 2 % 2 :=
  (by decide +kernel : ∀ t : Fin grid0.N, _)

/-- Each input block, read at an index. -/
theorem iblk0_apply (t : Fin cfg0.N) (n : Fin 1024) (k : Fin 2816) : iblk m c 0 t (ix2 n k)
    = (m ((c : Thread nD τ).loc main_arg1) : Vec Ideal S2048x5632 .bf16) (ix2 ⟨1024 * (t.val / 4) + n.val, by have := lt_points t; omega⟩ ⟨2816 * (t.val % 2) + k.val, by omega⟩) := by
  obtain ⟨e0, e1⟩ := index0 t
  rw [← V_main_arg1 m c]
  show (V m c main_arg1 : Vec Ideal S2048x5632 .bf16) (((cfg0.win 0).blk t).view.emb (ix2 n k)) = _
  refine congrArg (V m c main_arg1 : Vec Ideal S2048x5632 .bf16) (funext fun a => Fin.ext ?_)
  match a with
  | ⟨0, _⟩ => show win0_0.index t (0 : Fin 2) * 1024 + 1 * n.val = 1024 * (t.val / 4) + n.val; omega
  | ⟨1, _⟩ => show win0_0.index t (1 : Fin 2) * 2816 + 1 * k.val = 2816 * (t.val % 2) + k.val; omega

theorem iblk1_apply (t : Fin cfg0.N) (k : Fin 2816) (n : Fin 1024) : iblk m c 1 t (ix2 k n)
    = (m ((c : Thread nD τ).loc main_arg2) : Vec Ideal S5632x2048 .bf16) (ix2 ⟨2816 * (t.val % 2) + k.val, by omega⟩ ⟨1024 * (t.val / 2 % 2) + n.val, by omega⟩) := by
  obtain ⟨e0, e1⟩ := index1 t
  rw [← V_main_arg2 m c]
  show (V m c main_arg2 : Vec Ideal S5632x2048 .bf16) (((cfg0.win 1).blk t).view.emb (ix2 k n)) = _
  refine congrArg (V m c main_arg2 : Vec Ideal S5632x2048 .bf16) (funext fun a => Fin.ext ?_)
  match a with
  | ⟨0, _⟩ => show win0_1.index t (0 : Fin 2) * 2816 + 1 * k.val = 2816 * (t.val % 2) + k.val; omega
  | ⟨1, _⟩ => show win0_1.index t (1 : Fin 2) * 1024 + 1 * n.val = 1024 * (t.val / 2 % 2) + n.val; omega

theorem iblk2_apply (t : Fin cfg0.N) (r : Fin 1024) (q : Fin 1024) (z : S2048x2048.Idx)
    (h0 : (z 0).val = 1024 * (t.val / 4) + r.val) (h1 : (z 1).val = 1024 * (t.val / 2 % 2) + q.val) :
    iblk m c 2 t (ix2 r q) = (m ((c : Thread nD τ).loc main_arg0) : Vec Ideal S2048x2048 .f32) z := by
  obtain ⟨e0, e1⟩ := index2 t
  rw [← V_main_arg0 m c]
  show (V m c main_arg0 : Vec Ideal S2048x2048 .f32) (((cfg0.win 2).blk t).view.emb (ix2 r q)) = _
  refine congrArg (V m c main_arg0 : Vec Ideal S2048x2048 .f32) (funext fun a => Fin.ext ?_)
  match a with
  | ⟨0, _⟩ => show win0_2.index t (0 : Fin 2) * 1024 + 1 * r.val = (z (0 : Fin 2)).val; omega
  | ⟨1, _⟩ => show win0_2.index t (1 : Fin 2) * 1024 + 1 * q.val = (z (1 : Fin 2)).val; omega

/-- Point `t`'s product, at an index of its block: the terms of block `t % 2` of the contraction. -/
theorem part (t : Fin cfg0.N) (j : ℕ) (hj : t.val % 2 = j) (r : Fin 1024) (q : Fin 1024) (z : S2048x2048.Idx)
    (h0 : (z 0).val = 1024 * (t.val / 4) + r.val) (h1 : (z 1).val = 1024 * (t.val / 2 % 2) + q.val) :
    k0_pay1 (F := Ideal) (iblk m c 0 t) (iblk m c 1 t) (ix2 r q)
      = ∑ k : Fin 2816, term (m ((c : Thread nD τ).loc main_arg1)) (m ((c : Thread nD τ).loc main_arg2)) z ⟨2816 * j + k.val, by omega⟩ := by
  subst hj
  refine (product_apply _ _ r q).trans (Finset.sum_congr rfl fun k _ => ?_)
  unfold term
  refine congrArg₂ (fun a b : EReal => a * b) ((iblk0_apply m c t r k).trans ?_) ((iblk1_apply m c t k q).trans ?_)
  · exact congrArg (fun a => (m ((c : Thread nD τ).loc main_arg1) : Vec Ideal S2048x5632 .bf16) (ix2 a _)) (Fin.ext h0.symm)
  · exact congrArg (fun a => (m ((c : Thread nD τ).loc main_arg2) : Vec Ideal S5632x2048 .bf16) (ix2 _ a)) (Fin.ext h1.symm)

/-- What the sum holds after a first point. -/
theorem sum_first (t : Fin cfg0.N) (h : t.val % 2 = 0) : (outsAt0 m c t.val t.isLt).2 = k0_pay1 (F := Ideal) (iblk m c 0 t) (iblk m c 1 t) := by
  have e := congrArg Prod.snd (outsAt0_A m c t h (by omega))
  dsimp only at e
  rw [first] at e
  exact e

/-- What the last point of a block writes, at an index: the residual and all terms. -/
theorem block_apply (t : Fin cfg0.N) (h : t.val % 2 = 1) (r : Fin 1024) (q : Fin 1024) (z : S2048x2048.Idx)
    (h0 : (z 0).val = 1024 * (t.val / 4) + r.val) (h1 : (z 1).val = 1024 * (t.val / 2 % 2) + q.val) :
    (addf (addf (outsAt0 m c (t.val - 1) (Nat.lt_of_le_of_lt (Nat.sub_le _ _) t.isLt)).2 (k0_pay1 (F := Ideal) (iblk m c 0 t) (iblk m c 1 t))) (iblk m c 2 t) : Vec Ideal S1024x1024 .f32) (ix2 r q) = resultOf m c z := by
  have ht := lt_points t
  let t0 : Fin cfg0.N := ⟨t.val - 1, Nat.lt_of_le_of_lt (Nat.sub_le _ _) t.isLt⟩
  have e0 : t0.val = t.val - 1 := rfl
  have s0 := sum_first m c t0 (by omega)
  have p1 := part m c t 1 h r q z h0 h1
  have p0 := part m c t0 0 (by omega) r q z (by omega) (by omega)
  unfold resultOf result
  rw [Cert.Blocks.sum_two, add_comm]
  exact congrArg₂ (fun a b : EReal => a + b) (congrArg₂ (fun a b : EReal => a + b) ((congrFun s0 (ix2 r q)).trans p0) p1) (iblk2_apply m c t r q z h0 h1)

/-- What a writing point writes back is its block of the whole result. -/
theorem flushed_result (t : Fin cfg0.N) (h : t.val % 2 = 1) : (dats m 0 c).flushed 3 t = ((cfg0.win 3).blk t).view.read (Elt Ideal) (resultOf m c) := by
  rw [flushed3_B m c t (by omega) h, last]
  funext y
  obtain ⟨e0, e1⟩ := index3 t
  show (addf (addf (outsAt0 m c (t.val - 1) (Nat.lt_of_le_of_lt (Nat.sub_le _ _) t.isLt)).2 (k0_pay1 (F := Ideal) (iblk m c 0 t) (iblk m c 1 t))) (iblk m c 2 t) : Vec Ideal S1024x1024 .f32) y
    = resultOf m c (((cfg0.win 3).blk t).view.emb y)
  refine (congrArg _ (funext fun a => by
    match a with
    | ⟨0, _⟩ => rfl
    | ⟨1, _⟩ => rfl)).trans (block_apply m c t h (y (0 : Fin 2)) (y (1 : Fin 2)) _ ?_ ?_)
  · show win0_3.index t (0 : Fin 2) * 1024 + 1 * (y (0 : Fin 2)).val = 1024 * (t.val / 4) + (y (0 : Fin 2)).val; omega
  · show win0_3.index t (1 : Fin 2) * 1024 + 1 * (y (1 : Fin 2)).val = 1024 * (t.val / 2 % 2) + (y (1 : Fin 2)).val; omega

/-- The written blocks cover the array. -/
theorem covered_result (i : S2048x2048.Idx) : ∃ t : Fin cfg0.N, (cfg0.win 3).flush t = true ∧ i ∈ ((cfg0.win 3).blk t).view.set := by
  have hi : (i (0 : Fin 2)).val < 2048 := (i (0 : Fin 2)).isLt
  have hj : (i (1 : Fin 2)).val < 2048 := (i (1 : Fin 2)).isLt
  let t : Fin cfg0.N := ⟨4 * ((i (0 : Fin 2)).val / 1024) + 2 * ((i (1 : Fin 2)).val / 1024) + 1, by show _ < grid0.N; rw [N_0]; omega⟩
  obtain ⟨e0, e1⟩ := index3 t
  have ht : t.val = 4 * ((i (0 : Fin 2)).val / 1024) + 2 * ((i (1 : Fin 2)).val / 1024) + 1 := rfl
  refine ⟨t, (flush0_3 t).mpr (by omega), ?_⟩
  have h := ((cfg0.win 3).blk t).view.emb_mem_set (ix2 ⟨(i (0 : Fin 2)).val % 1024, Nat.mod_lt _ (by decide)⟩ ⟨(i (1 : Fin 2)).val % 1024, Nat.mod_lt _ (by decide)⟩)
  have e : ((cfg0.win 3).blk t).view.emb (ix2 ⟨(i (0 : Fin 2)).val % 1024, Nat.mod_lt _ (by decide)⟩ ⟨(i (1 : Fin 2)).val % 1024, Nat.mod_lt _ (by decide)⟩) = i := by
    funext a; apply Fin.ext
    match a with
    | ⟨0, _⟩ => show win0_3.index t (0 : Fin 2) * 1024 + 1 * ((i (0 : Fin 2)).val % 1024) = (i (0 : Fin 2)).val; omega
    | ⟨1, _⟩ => show win0_3.index t (1 : Fin 2) * 1024 + 1 * ((i (1 : Fin 2)).val % 1024) = (i (1 : Fin 2)).val; omega
  rwa [e] at h

theorem final_result : (dats m 0 c).arrAt 3 cfg0.N = resultOf m c :=
  (dats m 0 c).arrAt_eq_of_cover 3 (resultOf m c) (fun t h => flushed_result m c t ((flush0_3 t).mp h)) covered_result

end Cert.Kernel7Ideal.Hand

end
-- ==== Proof.DownEqual.lean ====
/- The down projection: the reference's product, and the two programs' equal results. -/
module

public import proofs.«01_k».proof.Defs
public import proofs.«01_k».proof.Proof.Down
public import proofs.«01_k».proof.Proof.Gen.Reference7Ideal.Read
public import Idealize.ShloMosaic.Lib.Quiescent

@[expose] public section

noncomputable section

namespace Cert.Reference7Ideal.Hand

open Cert.Reference7Ideal Cert.Reference7Ideal.Gen Idealize.ShloMosaic Idealize.ShloMosaic.TcCoe Idealize.SL.Sem

/-- The reference's frame: it has no semaphore at all. -/
theorem frame : Cert.quiescent_Reference7Ideal (hReference7Ideal := Gen.facts) := fun m ρ _ =>
  (θ_run defs _ _).mono (fun r h => ⟨fun c => (h c).2, sem_eq_zero_of_no_sems rfl r.2⟩) (Value.run m ρ)

/-- The reference computes the sum of the residual and the product. -/
theorem value_eq (h : Vec Ideal S2048x2048 .f32) (x : Vec Ideal S2048x5632 .bf16) (w : Vec Ideal S5632x2048 .bf16) :
    Read.val_main_v3 (F := Ideal) h x w = Cert.Kernel7Ideal.Hand.result h x w := by
  funext i
  rw [Read.val_main_v3_apply, Read.val_main_v2_apply]
  refine congrArg (fun a : EReal => h i + a) ?_
  refine Finset.sum_congr rfl fun k _ => congrArg₂ (fun a b : EReal => a * b) (congrArg x (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel7Ideal_Reference7Ideal (hKernel7Ideal := Cert.Kernel7Ideal.Gen.facts) (hReference7Ideal := Gen.facts) := by
  intro m g m' g' _ hagree
  refine ⟨fun c => Cert.Kernel7Ideal.Hand.resultOf m c, (θ_run _ _ _).mono (fun _ h c => ⟨(h c).1.trans (Cert.Kernel7Ideal.Hand.final_result m c), (h c).2⟩) (Cert.Kernel7Ideal.Value.run_blocks m g),
    (θ_run _ _ _).mono (fun r hr c => ?_) (Value.run m' g')⟩
  obtain ⟨h0, h1, h2⟩ := hagree c
  have hc := hr c
  rw [h0, h1, h2] at hc ⊢
  exact ⟨(hc.1.trans (Read.val_main_v3_eq _ _ _)).trans (value_eq _ _ _), hc.2⟩

end Cert.Reference7Ideal.Hand

end
-- ==== Proof.DownDwKeepWord.lean ====
/- The gradient of the down product's weights, the half kept: what its one-word table must hold. -/
module

public import proofs.«01_k».proof.Defs
public import proofs.«01_k».proof.Proof.Half
public import proofs.«01_k».proof.Proof.Gen.Kernel8.Frame
public import proofs.«01_k».proof.Proof.Gen.Kernel8Ideal.Frame
public import proofs.«01_k».proof.Proof.Gen.Pre_core8

@[expose] public section

noncomputable section

namespace Cert.Kernel8.Hand

open Cert.Kernel8 Cert.Kernel8.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] := by
  have e2 : (i 2).val = 0 := by
    have h : (i 2).val < 1 := (i 2).isLt
    omega
  show ![0, (Scalar.addi (Scalar.muli (pf.at 0 (Rect.unit (s := S1) ![0] S1.size Facts₀.inb_S1_S1_0) Facts₀.numel1_S1) 1#32) (BitVec.ofNat 32 (i 2).val)).toNat] = _
  rw [e2, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel8 m) : Ok (F := Bits) m :=
  ok_of_word (tbl m) (word (m (((0 : Dev nD) : Thread nD τ).loc main_arg0) : IVec S1 32)) (word_of_pre _ Pre_core8.Facts.shapeCasts_S1_S_ (h 0)) (word_eq _)

end Cert.Kernel8.Hand

namespace Cert.Kernel8Ideal.Hand

open Cert.Kernel8Ideal Cert.Kernel8Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] :=
  Kernel8.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel8.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel8Ideal m) : wordOf m = 0#32 ∨ wordOf m = 1#32 :=
  word_of_pre _ Pre_core8.Facts.shapeCasts_S1_S_ (h 0)

theorem ok_of_pre (m : (ℓ : Loc nD τ sig) → Buf (Elt Ideal) ℓ) (h : Cert.Pre_Kernel8Ideal m) : Ok (F := Ideal) m :=
  ok_of_word (tbl m) (wordOf m) (word_pre m h) (tbl_word m)

end Cert.Kernel8Ideal.Hand

end
-- ==== Proof.DownDwKeep.lean ====
/- The gradient of the down product's weights, the half kept: the kernel's blocks and the array they make up. -/
module

public import proofs.«01_k».proof.Proof.DownDwKeepWord
public import Idealize.ShloMosaic.Lib.Pipeline.Value

@[expose] public section

set_option maxRecDepth 16384

noncomputable section

namespace Cert.Kernel8Ideal.Hand

open Cert.Kernel8Ideal Cert.Kernel8Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x1408 .bf16) (x1 : Vec Ideal S2048x1024 .bf16) (r : Fin 1408) (q : Fin 1024) (k : Fin 2048) : EReal := x0 (ix2 k r) * x1 (ix2 k q)

/-- The product of a point's two blocks. -/
theorem product_apply (x0 : Vec Ideal S2048x1408 .bf16) (x1 : Vec Ideal S2048x1024 .bf16) (r : Fin 1408) (q : Fin 1024) :
    matmul (F := Ideal) (φ₁ := .bf16) (φ₂ := .bf16) dot_S2048x1408_S2048x1024_S1408x1024_0_0_1_1_n_n none x0 x1 (constant S1408x1024 .f32 0x00000000#32) (ix2 r q) = (∑ k : Fin 2048, term x0 x1 r q k) := by
  refine (matmul_rows dot_S2048x1408_S2048x1024_S1408x1024_0_0_1_1_n_n_wf none x0 x1 _ r q).trans ((congrArg (· + _) Ideal.ofBits_zero_f32).trans ((zero_add _).trans ?_))
  rfl

/-- The product, and the received half added. -/
theorem sum_apply (x0 : Vec Ideal S2048x1408 .bf16) (x1 : Vec Ideal S2048x1024 .bf16) (x2 : Vec Ideal S1x1408x1024 .f32) (r : Fin 1408) (q : Fin 1024) :
    k0_pay1 (F := Ideal) x0 x1 x2 (ix2 r q) = ((∑ k : Fin 2048, term x0 x1 r q k) + x2 (ix3 0 r q) : EReal) := by
  unfold k0_pay1
  refine congrArg₂ (fun a b : EReal => a + b) (product_apply x0 x1 r q) ?_
  show (shapeCast S1408x1024 x2 shapeCasts_S1x1408x1024_S1408x1024 : Vec Ideal S1408x1024 .f32) (ix2 r q) = x2 (ix3 0 r q)
  pointwise []

/-- What a point leaves in its block (the first result). -/
theorem out_A3 (c : Dev nD) (i : grid0.Coords) (a4 : Memref sig .tc .vmem S2048x1408 .bf16) (h4 : a4.IsWhole) (a5 : Memref sig .tc .vmem S2048x1024 .bf16) (h5 : a5.IsWhole) (a6 : Memref sig .tc .vmem S1x1408x1024 .f32) (h6 : a6.IsWhole) (a7 : Memref sig .tc .vmem S1x1408x1024 .f32) (h7 : a7.IsWhole) (a8 : Memref sig .tc .vmem S1x1408x1024 .bf16) (h8 : a8.IsWhole)
    (x0 : Vec Ideal S2048x1408 .bf16) (x1 : Vec Ideal S2048x1024 .bf16) (x2 : Vec Ideal S1x1408x1024 .f32) (xt : TbBuf0 (F := Ideal) c tbM0_0) (z : Fin 1) (r : Fin 1408) (q : Fin 1024) :
    out0_A_3 (F := Ideal) c i a4 h4 a5 h5 a6 h6 a7 h7 a8 h8 x0 x1 x2 xt (ix3 z r q) = ((∑ k : Fin 2048, term x0 x1 r q k) + x2 (ix3 0 r q) : EReal) := by
  unfold out0_A_3
  rw [View.read_writes_eq_canon _ _ _ (cover0_A_3 c i a4 h4 a5 h5 a6 h6 a7 h7 a8 h8 x0 x1 x2 xt)]
  unfold kernelRun0_A
  dsimp only
  rw [View.canon_unit_zero hz3]
  unfold k0_pay2
  simp only [View.readAt_eq_ld, h4.read_unread, h5.read_unread, h6.read_unread, View.ld_unit_zero (S := S2048x1408) hz, View.ld_unit_zero (S := S2048x1024) hz, View.ld_unit_zero (S := S1x1408x1024) hz3]
  refine Eq.trans ?_ (sum_apply x0 x1 x2 r q)
  generalize k0_pay1 (F := Ideal) x0 x1 x2 = y
  show (shapeCast S1x1408x1024 y shapeCasts_S1408x1024_S1x1408x1024 : Vec Ideal S1x1408x1024 .f32) (ix3 z r q) = y (ix2 r q)
  pointwise []

/-- What a point leaves in its block (the second result). -/
theorem out_A4 (c : Dev nD) (i : grid0.Coords) (a4 : Memref sig .tc .vmem S2048x1408 .bf16) (h4 : a4.IsWhole) (a5 : Memref sig .tc .vmem S2048x1024 .bf16) (h5 : a5.IsWhole) (a6 : Memref sig .tc .vmem S1x1408x1024 .f32) (h6 : a6.IsWhole) (a7 : Memref sig .tc .vmem S1x1408x1024 .f32) (h7 : a7.IsWhole) (a8 : Memref sig .tc .vmem S1x1408x1024 .bf16) (h8 : a8.IsWhole)
    (x0 : Vec Ideal S2048x1408 .bf16) (x1 : Vec Ideal S2048x1024 .bf16) (x2 : Vec Ideal S1x1408x1024 .f32) (xt : TbBuf0 (F := Ideal) c tbM0_0) (z : Fin 1) (r : Fin 1408) (q : Fin 1024) :
    out0_A_4 (F := Ideal) c i a4 h4 a5 h5 a6 h6 a7 h7 a8 h8 x0 x1 x2 xt (ix3 z r q) = ((∑ k : Fin 2048, term x0 x1 r q k) + x2 (ix3 0 r q) : EReal) := by
  unfold out0_A_4
  rw [View.read_writes_eq_canon _ _ _ (cover0_A_4 c i a4 h4 a5 h5 a6 h6 a7 h7 a8 h8 x0 x1 x2 xt)]
  unfold kernelRun0_A
  dsimp only
  rw [View.canon_unit_zero hz3]
  unfold k0_pay3
  simp only [View.readAt_eq_ld, h4.read_unread, h5.read_unread, h6.read_unread, View.ld_unit_zero (S := S2048x1408) hz, View.ld_unit_zero (S := S2048x1024) hz, View.ld_unit_zero (S := S1x1408x1024) hz3]
  refine Eq.trans ?_ (sum_apply x0 x1 x2 r q)
  generalize k0_pay1 (F := Ideal) x0 x1 x2 = y
  show (shapeCast S1x1408x1024 (y : Vec Ideal S1408x1024 .bf16) shapeCasts_S1408x1024_S1x1408x1024 : Vec Ideal S1x1408x1024 .bf16) (ix3 z r q) = y (ix2 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x1408x1024.Idx) : EReal := downHalf (wordOf m) (m ((c : Thread nD τ).loc main_arg1)) (m ((c : Thread nD τ).loc main_arg2)) i + (m ((c : Thread nD τ).loc main_arg3) : Vec Ideal S4x1408x1024 .f32) i

/-- The block indices. -/
theorem lt_points (t : Fin (cfgM m hO).N) : t.val < 4 := N_0 ▸ t.isLt
theorem index0 : ∀ t : Fin grid0.N, cc0_transform_0 (grid0.coords t) = ![0, t.val] := by decide +kernel
theorem index2 : ∀ t : Fin grid0.N, cc0_transform_2 (grid0.coords t) = ![t.val, 0, 0] := by decide +kernel
theorem index3 : ∀ t : Fin grid0.N, cc0_transform_3 (grid0.coords t) = ![t.val, 0, 0] := by decide +kernel
theorem index4 : ∀ t : Fin grid0.N, cc0_transform_4 (grid0.coords t) = ![t.val, 0, 0] := by decide +kernel

include hw in
theorem index1 (t : Fin (cfgM m hO).N) : ((cfgM m hO).win 1).index t = ![0, half (wordOf m)] :=
  map_half (tbl m) (wordOf m) hw (tbl_word m) (grid0.coords t)

/-- Each input block, read at an index. -/
theorem iblk0_apply (t : Fin (cfgM m hO).N) (k : Fin 2048) (n : Fin 1408) : iblk m hO c 0 t (ix2 k n)
    = (m ((c : Thread nD τ).loc main_arg1) : Vec Ideal S2048x5632 .bf16) (ix2 k ⟨1408 * t.val + n.val, by have := lt_points m hO t; omega⟩) := by
  have e : ((cfgM m hO).win 0).index t = ![0, t.val] := index0 t
  rw [← V_main_arg1 m c]
  show (V m c main_arg1 : Vec Ideal S2048x5632 .bf16) ((((cfgM m hO).win 0).blk t).view.emb (ix2 k n)) = _
  refine congrArg (V m c main_arg1 : Vec Ideal S2048x5632 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 1408 + 1 * n.val = 1408 * t.val + n.val
    rw [e]; show t.val * 1408 + 1 * n.val = 1408 * t.val + n.val; omega

include hw in
theorem iblk1_apply (t : Fin (cfgM m hO).N) (k : Fin 2048) (n : Fin 1024) : iblk m hO c 1 t (ix2 k n)
    = (m ((c : Thread nD τ).loc main_arg2) : Vec Ideal S2048x2048 .bf16) (ix2 k ⟨1024 * half (wordOf m) + n.val, by have := half_le (wordOf m); omega⟩) := by
  have e := index1 m hw hO t
  rw [← V_main_arg2 m c]
  show (V m c main_arg2 : Vec Ideal S2048x2048 .bf16) ((((cfgM m hO).win 1).blk t).view.emb (ix2 k n)) = _
  refine congrArg (V m c main_arg2 : Vec Ideal S2048x2048 .bf16) (funext fun a => Fin.ext ?_)
  match a with
  | ⟨0, _⟩ =>
    show ((cfgM m hO).win 1).index t (0 : Fin 2) * 2048 + 1 * k.val = k.val
    rw [e]; show 0 * 2048 + 1 * k.val = k.val; omega
  | ⟨1, _⟩ =>
    show ((cfgM m hO).win 1).index t (1 : Fin 2) * 1024 + 1 * n.val = 1024 * half (wordOf m) + n.val
    rw [e]; show half (wordOf m) * 1024 + 1 * n.val = 1024 * half (wordOf m) + n.val; omega

theorem iblk2_apply (t : Fin (cfgM m hO).N) (r : Fin 1408) (q : Fin 1024) (z : S4x1408x1024.Idx) (h0 : (z 0).val = t.val) (h1 : (z 1).val = r.val) (h2 : (z 2).val = q.val) :
    iblk m hO c 2 t (ix3 0 r q) = (m ((c : Thread nD τ).loc main_arg3) : Vec Ideal S4x1408x1024 .f32) z := by
  have e : ((cfgM m hO).win 2).index t = ![t.val, 0, 0] := index2 t
  rw [← V_main_arg3 m c]
  show (V m c main_arg3 : Vec Ideal S4x1408x1024 .f32) ((((cfgM m hO).win 2).blk t).view.emb (ix3 0 r q)) = _
  refine congrArg (V m c main_arg3 : Vec Ideal S4x1408x1024 .f32) (funext fun a => Fin.ext ?_)
  match a with
  | ⟨0, _⟩ =>
    show ((cfgM m hO).win 2).index t (0 : Fin 3) * 1 + 1 * 0 = (z (0 : Fin 3)).val
    rw [e, h0]; show t.val * 1 + 1 * 0 = t.val; omega
  | ⟨1, _⟩ =>
    show ((cfgM m hO).win 2).index t (1 : Fin 3) * 1408 + 1 * r.val = (z (1 : Fin 3)).val
    rw [e, h1]; show 0 * 1408 + 1 * r.val = r.val; omega
  | ⟨2, _⟩ =>
    show ((cfgM m hO).win 2).index t (2 : Fin 3) * 1024 + 1 * q.val = (z (2 : Fin 3)).val
    rw [e, h2]; show 0 * 1024 + 1 * q.val = q.val; omega

include hw in
/-- A point's sum is the whole gradient's, at the block's place. -/
theorem sum_result (t : Fin (cfgM m hO).N) (r : Fin 1408) (q : Fin 1024) (z : S4x1408x1024.Idx) (h0 : (z 0).val = t.val) (h1 : (z 1).val = r.val) (h2 : (z 2).val = q.val) :
    (∑ k : Fin 2048, term (iblk m hO c 0 t) (iblk m hO c 1 t) r q k) = downHalf (wordOf m) (m ((c : Thread nD τ).loc main_arg1)) (m ((c : Thread nD τ).loc main_arg2)) z := by
  unfold downHalf
  refine Finset.sum_congr rfl fun k _ => ?_
  refine congrArg₂ (fun a b : EReal => a * b) ((iblk0_apply m hO c t k r).trans ?_) ((iblk1_apply m hw hO c t k q).trans ?_)
  · exact congrArg (fun a => (m ((c : Thread nD τ).loc main_arg1) : Vec Ideal S2048x5632 .bf16) (ix2 k a)) (Fin.ext (by
      show 1408 * t.val + r.val = 1408 * (z 0).val + (z 1).val
      rw [h0, h1]))
  · exact congrArg (fun a => (m ((c : Thread nD τ).loc main_arg2) : Vec Ideal S2048x2048 .bf16) (ix2 k a)) (Fin.ext (by
      show 1024 * half (wordOf m) + q.val = 1024 * half (wordOf m) + (z 2).val
      rw [h2]))

theorem after_3 (t : Fin (cfgM m hO).N) : (dats m hO 0 c).after 3 t
    = out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_3]
  unfold outsAt0
  dsimp only

include hw in
/-- What point `t` writes back is its block of the whole result. -/
theorem flushed_result3 (t : Fin (cfgM m hO).N) : (dats m hO 0 c).flushed 3 t = (((cfgM m hO).win 3).blk t).view.read (Elt Ideal) (resultOf m c) := by
  show ((cfgM m hO).win 3).cut ((cfgM m hO).grid.coords t) ((dats m hO 0 c).after 3 t) = _
  rw [after_3]
  funext y
  show out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 3).blk t).view.emb y)
  have e : ((cfgM m hO).win 3).index t = ![t.val, 0, 0] := index3 t
  have key : ∀ (z0 : Fin 1) (r : Fin 1408) (q : Fin 1024) (z : S4x1408x1024.Idx), (z 0).val = t.val → (z 1).val = r.val → (z 2).val = q.val →
      out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A3 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 3).index t (0 : Fin 3) * 1 + 1 * (y (0 : Fin 3)).val = t.val
    rw [e]; show t.val * 1 + 1 * (y (0 : Fin 3)).val = t.val; omega
  · show ((cfgM m hO).win 3).index t (1 : Fin 3) * 1408 + 1 * (y (1 : Fin 3)).val = (y (1 : Fin 3)).val
    rw [e]; show 0 * 1408 + 1 * (y (1 : Fin 3)).val = (y (1 : Fin 3)).val; omega
  · show ((cfgM m hO).win 3).index t (2 : Fin 3) * 1024 + 1 * (y (2 : Fin 3)).val = (y (2 : Fin 3)).val
    rw [e]; show 0 * 1024 + 1 * (y (2 : Fin 3)).val = (y (2 : Fin 3)).val; omega

/-- The blocks cover the array. -/
theorem covered_result3 (i : S4x1408x1024.Idx) : ∃ t : Fin (cfgM m hO).N, ((cfgM m hO).win 3).flush t = true ∧ i ∈ (((cfgM m hO).win 3).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 3).index t = ![t.val, 0, 0] := index3 t
  have ht : t.val = (i (0 : Fin 3)).val := rfl
  refine ⟨t, flush0_3 (adm m hO) t, ?_⟩
  have h := (((cfgM m hO).win 3).blk t).view.emb_mem_set (ix3 (0 : Fin 1) (i (1 : Fin 3)) (i (2 : Fin 3)))
  have ei : (((cfgM m hO).win 3).blk t).view.emb (ix3 (0 : Fin 1) (i (1 : Fin 3)) (i (2 : Fin 3))) = i := by
    funext a; apply Fin.ext
    match a with
    | ⟨0, _⟩ =>
      show ((cfgM m hO).win 3).index t (0 : Fin 3) * 1 + 1 * 0 = (i (0 : Fin 3)).val
      rw [e]; show t.val * 1 + 1 * 0 = (i (0 : Fin 3)).val; omega
    | ⟨1, _⟩ =>
      show ((cfgM m hO).win 3).index t (1 : Fin 3) * 1408 + 1 * (i (1 : Fin 3)).val = (i (1 : Fin 3)).val
      rw [e]; show 0 * 1408 + 1 * (i (1 : Fin 3)).val = (i (1 : Fin 3)).val; omega
    | ⟨2, _⟩ =>
      show ((cfgM m hO).win 3).index t (2 : Fin 3) * 1024 + 1 * (i (2 : Fin 3)).val = (i (2 : Fin 3)).val
      rw [e]; show 0 * 1024 + 1 * (i (2 : Fin 3)).val = (i (2 : Fin 3)).val; omega
  rwa [ei] at h

include hw in
theorem final_result3 : (dats m hO 0 c).arrAt 3 (cfgM m hO).N = resultOf m c :=
  (dats m hO 0 c).arrAt_eq_of_cover 3 (resultOf m c) (fun t _ => flushed_result3 m hw hO c t) (covered_result3 m hO)

theorem after_4 (t : Fin (cfgM m hO).N) : (dats m hO 0 c).after 4 t
    = out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_4]
  unfold outsAt0
  dsimp only

include hw in
/-- What point `t` writes back is its block of the whole result. -/
theorem flushed_result4 (t : Fin (cfgM m hO).N) : (dats m hO 0 c).flushed 4 t = (((cfgM m hO).win 4).blk t).view.read (Elt Ideal) (resultOf m c) := by
  show ((cfgM m hO).win 4).cut ((cfgM m hO).grid.coords t) ((dats m hO 0 c).after 4 t) = _
  rw [after_4]
  funext y
  show out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 4).blk t).view.emb y)
  have e : ((cfgM m hO).win 4).index t = ![t.val, 0, 0] := index4 t
  have key : ∀ (z0 : Fin 1) (r : Fin 1408) (q : Fin 1024) (z : S4x1408x1024.Idx), (z 0).val = t.val → (z 1).val = r.val → (z 2).val = q.val →
      out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A4 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 4).index t (0 : Fin 3) * 1 + 1 * (y (0 : Fin 3)).val = t.val
    rw [e]; show t.val * 1 + 1 * (y (0 : Fin 3)).val = t.val; omega
  · show ((cfgM m hO).win 4).index t (1 : Fin 3) * 1408 + 1 * (y (1 : Fin 3)).val = (y (1 : Fin 3)).val
    rw [e]; show 0 * 1408 + 1 * (y (1 : Fin 3)).val = (y (1 : Fin 3)).val; omega
  · show ((cfgM m hO).win 4).index t (2 : Fin 3) * 1024 + 1 * (y (2 : Fin 3)).val = (y (2 : Fin 3)).val
    rw [e]; show 0 * 1024 + 1 * (y (2 : Fin 3)).val = (y (2 : Fin 3)).val; omega

/-- The blocks cover the array. -/
theorem covered_result4 (i : S4x1408x1024.Idx) : ∃ t : Fin (cfgM m hO).N, ((cfgM m hO).win 4).flush t = true ∧ i ∈ (((cfgM m hO).win 4).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 4).index t = ![t.val, 0, 0] := index4 t
  have ht : t.val = (i (0 : Fin 3)).val := rfl
  refine ⟨t, flush0_4 (adm m hO) t, ?_⟩
  have h := (((cfgM m hO).win 4).blk t).view.emb_mem_set (ix3 (0 : Fin 1) (i (1 : Fin 3)) (i (2 : Fin 3)))
  have ei : (((cfgM m hO).win 4).blk t).view.emb (ix3 (0 : Fin 1) (i (1 : Fin 3)) (i (2 : Fin 3))) = i := by
    funext a; apply Fin.ext
    match a with
    | ⟨0, _⟩ =>
      show ((cfgM m hO).win 4).index t (0 : Fin 3) * 1 + 1 * 0 = (i (0 : Fin 3)).val
      rw [e]; show t.val * 1 + 1 * 0 = (i (0 : Fin 3)).val; omega
    | ⟨1, _⟩ =>
      show ((cfgM m hO).win 4).index t (1 : Fin 3) * 1408 + 1 * (i (1 : Fin 3)).val = (i (1 : Fin 3)).val
      rw [e]; show 0 * 1408 + 1 * (i (1 : Fin 3)).val = (i (1 : Fin 3)).val; omega
    | ⟨2, _⟩ =>
      show ((cfgM m hO).win 4).index t (2 : Fin 3) * 1024 + 1 * (i (2 : Fin 3)).val = (i (2 : Fin 3)).val
      rw [e]; show 0 * 1024 + 1 * (i (2 : Fin 3)).val = (i (2 : Fin 3)).val; omega
  rwa [ei] at h

include hw in
theorem final_result4 : (dats m hO 0 c).arrAt 4 (cfgM m hO).N = resultOf m c :=
  (dats m hO 0 c).arrAt_eq_of_cover 4 (resultOf m c) (fun t _ => flushed_result4 m hw hO c t) (covered_result4 m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0_0) = resultOf m c
      ∧ r.2.mem ((c : Thread nD τ).loc main_v0_1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 3 |>.trans (final_result3 m hw hO c), (h.1 c).1 4 |>.trans (final_result4 m hw hO c), h.2 c⟩) (θ_run_and (run_main m ρ hO) (unchanged m ρ hO))

end Cert.Kernel8Ideal.Hand

end
-- ==== Proof.DownDwKeepEqual.lean ====
/- The gradient of the weights of the product that goes down, the half that is kept: the
   reference's product, and the two programs' equal results. -/
module

public import proofs.«01_k».proof.Defs
public import proofs.«01_k».proof.Proof.Half
public import proofs.«01_k».proof.Proof.DownDwKeep
public import proofs.«01_k».proof.Proof.Gen.Reference8Ideal.Read
public import Idealize.ShloMosaic.Lib.Quiescent
public import proofs.«01_k».proof.Proof.DownDwGiveEqual

@[expose] public section

noncomputable section

namespace Cert.Reference8Ideal.Hand

open Cert.Reference8Ideal Cert.Reference8Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems rfl r.2⟩) (Cert.Reference8Ideal.Value.run m ρ)

/-- The product's half is the one the other call's reference computes. -/
theorem value_eq (w : Vec Ideal S1 .i32) (x : Vec Ideal S2048x5632 .bf16) (y : Vec Ideal S2048x2048 .bf16) :
    Read.val_main_v11 (F := Ideal) w x y = downHalf (word w) x y :=
  (show Read.val_main_v11 (F := Ideal) w x y = Cert.Reference4Ideal.Read.val_main_v11 (F := Ideal) w x y from rfl).trans
    (Cert.Reference4Ideal.Hand.value_eq w x y)

/-- What the two calls' results hold: the half, and the received half added. -/
def result (w : Vec Ideal S1 .i32) (x : Vec Ideal S2048x5632 .bf16) (y : Vec Ideal S2048x2048 .bf16) (g : Vec Ideal S4x1408x1024 .f32) (i : S4x1408x1024.Idx) : EReal := downHalf (word w) x y i + g i

theorem sum_eq (w : Vec Ideal S1 .i32) (x : Vec Ideal S2048x5632 .bf16) (y : Vec Ideal S2048x2048 .bf16) (g : Vec Ideal S4x1408x1024 .f32) :
    Read.val_main_v12 (F := Ideal) w x y g = result w x y g := by
  funext i
  rw [Read.val_main_v12_apply, value_eq]
  rfl

/-- Equal results. -/
theorem equal : Cert.algebraic_Kernel8Ideal_Reference8Ideal (hKernel8Ideal := Cert.Kernel8Ideal.Gen.facts) (hReference8Ideal := Gen.facts) (hPre_core8 := Cert.Pre_core8.Gen.facts) := by
  intro m g m' g' hpre hagree
  refine ⟨fun c => Cert.Kernel8Ideal.Hand.resultOf m c, fun c => Cert.Kernel8Ideal.Hand.resultOf m c, Cert.Kernel8Ideal.Hand.run m g (Cert.Kernel8Ideal.Hand.word_pre m hpre) (Cert.Kernel8Ideal.Hand.ok_of_pre m hpre),
    (θ_run _ _ _).mono (fun r hr c => ?_) (Value.run m' g')⟩
  obtain rfl : c = 0 := Subsingleton.elim _ _
  obtain ⟨h0, h1, h2, h3⟩ := hagree 0
  have hc := hr 0
  rw [h0, h1, h2, h3] at hc ⊢
  exact ⟨(hc.1.trans (Read.val_main_v12_eq _ _ _ _)).trans (sum_eq _ _ _ _),
    (hc.2.1.trans (Read.val_main_v13_eq _ _ _ _)).trans (sum_eq _ _ _ _), hc.2.2⟩

end Cert.Reference8Ideal.Hand

end
-- ==== Proof.UpDwKeepWord.lean ====
/- The gradient of the up product's weights, the half kept: what its one-word table must hold. -/
module

public import proofs.«01_k».proof.Defs
public import proofs.«01_k».proof.Proof.Half
public import proofs.«01_k».proof.Proof.Gen.Kernel9.Frame
public import proofs.«01_k».proof.Proof.Gen.Kernel9Ideal.Frame
public import proofs.«01_k».proof.Proof.Gen.Pre_core9

@[expose] public section

noncomputable section

namespace Cert.Kernel9.Hand

open Cert.Kernel9 Cert.Kernel9.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] := by
  have e2 : (i 2).val = 0 := by
    have h : (i 2).val < 1 := (i 2).isLt
    omega
  show ![0, (Scalar.addi (Scalar.muli (pf.at 0 (Rect.unit (s := S1) ![0] S1.size Facts₀.inb_S1_S1_0) Facts₀.numel1_S1) 1#32) (BitVec.ofNat 32 (i 2).val)).toNat] = _
  rw [e2, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel9 m) : Ok (F := Bits) m :=
  ok_of_word (tbl m) (word (m (((0 : Dev nD) : Thread nD τ).loc main_arg0) : IVec S1 32)) (word_of_pre _ Pre_core9.Facts.shapeCasts_S1_S_ (h 0)) (word_eq _)

end Cert.Kernel9.Hand

namespace Cert.Kernel9Ideal.Hand

open Cert.Kernel9Ideal Cert.Kernel9Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] :=
  Kernel9.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel9.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel9Ideal m) : wordOf m = 0#32 ∨ wordOf m = 1#32 :=
  word_of_pre _ Pre_core9.Facts.shapeCasts_S1_S_ (h 0)

theorem ok_of_pre (m : (ℓ : Loc nD τ sig) → Buf (Elt Ideal) ℓ) (h : Cert.Pre_Kernel9Ideal m) : Ok (F := Ideal) m :=
  ok_of_word (tbl m) (wordOf m) (word_pre m h) (tbl_word m)

end Cert.Kernel9Ideal.Hand

end
-- ==== Proof.UpDwKeep.lean ====
/- The gradient of the up product's weights, the half kept: the kernel's blocks and the array they make up. -/
module

public import proofs.«01_k».proof.Proof.UpDwKeepWord
public import Idealize.ShloMosaic.Lib.Pipeline.Value

@[expose] public section

set_option maxRecDepth 16384

noncomputable section

namespace Cert.Kernel9Ideal.Hand

open Cert.Kernel9Ideal Cert.Kernel9Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x1024 .bf16) (x1 : Vec Ideal S1x2048x1408 .bf16) (r : Fin 1024) (q : Fin 1408) (k : Fin 2048) : EReal := x0 (ix2 k r) * x1 (ix3 0 k q)

/-- The product of a point's two blocks. -/
theorem product_apply (x0 : Vec Ideal S2048x1024 .bf16) (x1 : Vec Ideal S1x2048x1408 .bf16) (r : Fin 1024) (q : Fin 1408) :
    matmul (F := Ideal) (φ₁ := .bf16) (φ₂ := .bf16) dot_S2048x1024_S2048x1408_S1024x1408_0_0_1_1_n_n none x0 (shapeCast S2048x1408 x1 shapeCasts_S1x2048x1408_S2048x1408) (constant S1024x1408 .f32 0x00000000#32) (ix2 r q) = (∑ k : Fin 2048, term x0 x1 r q k) := by
  refine (matmul_rows dot_S2048x1024_S2048x1408_S1024x1408_0_0_1_1_n_n_wf none x0 (shapeCast S2048x1408 x1 shapeCasts_S1x2048x1408_S2048x1408) _ r q).trans ((congrArg (· + _) Ideal.ofBits_zero_f32).trans ((zero_add _).trans ?_))
  refine Finset.sum_congr rfl fun k _ => congrArg (fun a : EReal => x0 (ix2 k r) * a) ?_
  show (shapeCast S2048x1408 x1 shapeCasts_S1x2048x1408_S2048x1408 : Vec Ideal S2048x1408 .bf16) (ix2 k q) = x1 (ix3 0 k q)
  pointwise []

/-- The product, and the received half added. -/
theorem sum_apply (x0 : Vec Ideal S2048x1024 .bf16) (x1 : Vec Ideal S1x2048x1408 .bf16) (x2 : Vec Ideal S1x1024x1408 .f32) (r : Fin 1024) (q : Fin 1408) :
    k0_pay1 (F := Ideal) x0 x1 x2 (ix2 r q) = ((∑ k : Fin 2048, term x0 x1 r q k) + x2 (ix3 0 r q) : EReal) := by
  unfold k0_pay1
  refine congrArg₂ (fun a b : EReal => a + b) (product_apply x0 x1 r q) ?_
  show (shapeCast S1024x1408 x2 shapeCasts_S1x1024x1408_S1024x1408 : Vec Ideal S1024x1408 .f32) (ix2 r q) = x2 (ix3 0 r q)
  pointwise []

/-- What a point leaves in its block (the first result). -/
theorem out_A3 (c : Dev nD) (i : grid0.Coords) (a4 : Memref sig .tc .vmem S2048x1024 .bf16) (h4 : a4.IsWhole) (a5 : Memref sig .tc .vmem S1x2048x1408 .bf16) (h5 : a5.IsWhole) (a6 : Memref sig .tc .vmem S1x1024x1408 .f32) (h6 : a6.IsWhole) (a7 : Memref sig .tc .vmem S1x1024x1408 .f32) (h7 : a7.IsWhole) (a8 : Memref sig .tc .vmem S1x1024x1408 .bf16) (h8 : a8.IsWhole)
    (x0 : Vec Ideal S2048x1024 .bf16) (x1 : Vec Ideal S1x2048x1408 .bf16) (x2 : Vec Ideal S1x1024x1408 .f32) (xt : TbBuf0 (F := Ideal) c tbM0_0) (z : Fin 1) (r : Fin 1024) (q : Fin 1408) :
    out0_A_3 (F := Ideal) c i a4 h4 a5 h5 a6 h6 a7 h7 a8 h8 x0 x1 x2 xt (ix3 z r q) = ((∑ k : Fin 2048, term x0 x1 r q k) + x2 (ix3 0 r q) : EReal) := by
  unfold out0_A_3
  rw [View.read_writes_eq_canon _ _ _ (cover0_A_3 c i a4 h4 a5 h5 a6 h6 a7 h7 a8 h8 x0 x1 x2 xt)]
  unfold kernelRun0_A
  dsimp only
  rw [View.canon_unit_zero hz3]
  unfold k0_pay2
  simp only [View.readAt_eq_ld, h4.read_unread, h5.read_unread, h6.read_unread, View.ld_unit_zero (S := S2048x1024) hz, View.ld_unit_zero (S := S1x2048x1408) hz3, View.ld_unit_zero (S := S1x1024x1408) hz3]
  refine Eq.trans ?_ (sum_apply x0 x1 x2 r q)
  generalize k0_pay1 (F := Ideal) x0 x1 x2 = y
  show (shapeCast S1x1024x1408 y shapeCasts_S1024x1408_S1x1024x1408 : Vec Ideal S1x1024x1408 .f32) (ix3 z r q) = y (ix2 r q)
  pointwise []

/-- What a point leaves in its block (the second result). -/
theorem out_A4 (c : Dev nD) (i : grid0.Coords) (a4 : Memref sig .tc .vmem S2048x1024 .bf16) (h4 : a4.IsWhole) (a5 : Memref sig .tc .vmem S1x2048x1408 .bf16) (h5 : a5.IsWhole) (a6 : Memref sig .tc .vmem S1x1024x1408 .f32) (h6 : a6.IsWhole) (a7 : Memref sig .tc .vmem S1x1024x1408 .f32) (h7 : a7.IsWhole) (a8 : Memref sig .tc .vmem S1x1024x1408 .bf16) (h8 : a8.IsWhole)
    (x0 : Vec Ideal S2048x1024 .bf16) (x1 : Vec Ideal S1x2048x1408 .bf16) (x2 : Vec Ideal S1x1024x1408 .f32) (xt : TbBuf0 (F := Ideal) c tbM0_0) (z : Fin 1) (r : Fin 1024) (q : Fin 1408) :
    out0_A_4 (F := Ideal) c i a4 h4 a5 h5 a6 h6 a7 h7 a8 h8 x0 x1 x2 xt (ix3 z r q) = ((∑ k : Fin 2048, term x0 x1 r q k) + x2 (ix3 0 r q) : EReal) := by
  unfold out0_A_4
  rw [View.read_writes_eq_canon _ _ _ (cover0_A_4 c i a4 h4 a5 h5 a6 h6 a7 h7 a8 h8 x0 x1 x2 xt)]
  unfold kernelRun0_A
  dsimp only
  rw [View.canon_unit_zero hz3]
  unfold k0_pay3
  simp only [View.readAt_eq_ld, h4.read_unread, h5.read_unread, h6.read_unread, View.ld_unit_zero (S := S2048x1024) hz, View.ld_unit_zero (S := S1x2048x1408) hz3, View.ld_unit_zero (S := S1x1024x1408) hz3]
  refine Eq.trans ?_ (sum_apply x0 x1 x2 r q)
  generalize k0_pay1 (F := Ideal) x0 x1 x2 = y
  show (shapeCast S1x1024x1408 (y : Vec Ideal S1024x1408 .bf16) shapeCasts_S1024x1408_S1x1024x1408 : Vec Ideal S1x1024x1408 .bf16) (ix3 z r q) = y (ix2 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x1024x2816.Idx) : EReal := upHalf (wordOf m) (m ((c : Thread nD τ).loc main_arg1)) (m ((c : Thread nD τ).loc main_arg2)) i + (m ((c : Thread nD τ).loc main_arg3) : Vec Ideal S4x1024x2816 .f32) i

/-- The block indices. -/
theorem lt_points (t : Fin (cfgM m hO).N) : t.val < 8 := N_0 ▸ t.isLt
theorem index1 : ∀ t : Fin grid0.N, cc0_transform_1 (grid0.coords t) = ![t.val / 4, 0, t.val % 4] := by decide +kernel
theorem index2 : ∀ t : Fin grid0.N, cc0_transform_2 (grid0.coords t) = ![t.val / 2, 0, t.val % 2] := by decide +kernel
theorem index3 : ∀ t : Fin grid0.N, cc0_transform_3 (grid0.coords t) = ![t.val / 2, 0, t.val % 2] := by decide +kernel
theorem index4 : ∀ t : Fin grid0.N, cc0_transform_4 (grid0.coords t) = ![t.val / 2, 0, t.val % 2] := by decide +kernel

include hw in
theorem index0 (t : Fin (cfgM m hO).N) : ((cfgM m hO).win 0).index t = ![0, half (wordOf m)] :=
  map_half (tbl m) (wordOf m) hw (tbl_word m) (grid0.coords t)

include hw in
/-- Each input block, read at an index. -/
theorem iblk0_apply (t : Fin (cfgM m hO).N) (k : Fin 2048) (n : Fin 1024) : iblk m hO c 0 t (ix2 k n)
    = (m ((c : Thread nD τ).loc main_arg1) : Vec Ideal S2048x2048 .bf16) (ix2 k ⟨1024 * half (wordOf m) + n.val, by have := half_le (wordOf m); omega⟩) := by
  have e := index0 m hw hO t
  rw [← V_main_arg1 m c]
  show (V m c main_arg1 : Vec Ideal S2048x2048 .bf16) ((((cfgM m hO).win 0).blk t).view.emb (ix2 k n)) = _
  refine congrArg (V m c main_arg1 : Vec Ideal S2048x2048 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 1024 + 1 * n.val = 1024 * half (wordOf m) + n.val
    rw [e]; show half (wordOf m) * 1024 + 1 * n.val = 1024 * half (wordOf m) + n.val; omega

theorem iblk1_apply (t : Fin (cfgM m hO).N) (k : Fin 2048) (n : Fin 1408) : iblk m hO c 1 t (ix3 0 k n)
    = (m ((c : Thread nD τ).loc main_arg2) : Vec Ideal S2x2048x5632 .bf16) (ix3 ⟨t.val / 4, by have := lt_points m hO t; omega⟩ k ⟨1408 * (t.val % 4) + n.val, by omega⟩) := by
  have e : ((cfgM m hO).win 1).index t = ![t.val / 4, 0, t.val % 4] := index1 t
  rw [← V_main_arg2 m c]
  show (V m c main_arg2 : Vec Ideal S2x2048x5632 .bf16) ((((cfgM m hO).win 1).blk t).view.emb (ix3 0 k n)) = _
  refine congrArg (V m c main_arg2 : Vec Ideal S2x2048x5632 .bf16) (funext fun a => Fin.ext ?_)
  match a with
  | ⟨0, _⟩ =>
    show ((cfgM m hO).win 1).index t (0 : Fin 3) * 1 + 1 * 0 = t.val / 4
    rw [e]; show t.val / 4 * 1 + 1 * 0 = t.val / 4; omega
  | ⟨1, _⟩ =>
    show ((cfgM m hO).win 1).index t (1 : Fin 3) * 2048 + 1 * k.val = k.val
    rw [e]; show 0 * 2048 + 1 * k.val = k.val; omega
  | ⟨2, _⟩ =>
    show ((cfgM m hO).win 1).index t (2 : Fin 3) * 1408 + 1 * n.val = 1408 * (t.val % 4) + n.val
    rw [e]; show t.val % 4 * 1408 + 1 * n.val = 1408 * (t.val % 4) + n.val; omega

theorem iblk2_apply (t : Fin (cfgM m hO).N) (r : Fin 1024) (q : Fin 1408) (z : S4x1024x2816.Idx) (h0 : (z 0).val = t.val / 2) (h1 : (z 1).val = r.val) (h2 : (z 2).val = 1408 * (t.val % 2) + q.val) :
    iblk m hO c 2 t (ix3 0 r q) = (m ((c : Thread nD τ).loc main_arg3) : Vec Ideal S4x1024x2816 .f32) z := by
  have e : ((cfgM m hO).win 2).index t = ![t.val / 2, 0, t.val % 2] := index2 t
  rw [← V_main_arg3 m c]
  show (V m c main_arg3 : Vec Ideal S4x1024x2816 .f32) ((((cfgM m hO).win 2).blk t).view.emb (ix3 0 r q)) = _
  refine congrArg (V m c main_arg3 : Vec Ideal S4x1024x2816 .f32) (funext fun a => Fin.ext ?_)
  match a with
  | ⟨0, _⟩ =>
    show ((cfgM m hO).win 2).index t (0 : Fin 3) * 1 + 1 * 0 = (z (0 : Fin 3)).val
    rw [e, h0]; show t.val / 2 * 1 + 1 * 0 = t.val / 2; omega
  | ⟨1, _⟩ =>
    show ((cfgM m hO).win 2).index t (1 : Fin 3) * 1024 + 1 * r.val = (z (1 : Fin 3)).val
    rw [e, h1]; show 0 * 1024 + 1 * r.val = r.val; omega
  | ⟨2, _⟩ =>
    show ((cfgM m hO).win 2).index t (2 : Fin 3) * 1408 + 1 * q.val = (z (2 : Fin 3)).val
    rw [e, h2]; show t.val % 2 * 1408 + 1 * q.val = 1408 * (t.val % 2) + q.val; omega

include hw in
/-- A point's sum is the whole gradient's, at the block's place. -/
theorem sum_result (t : Fin (cfgM m hO).N) (r : Fin 1024) (q : Fin 1408) (z : S4x1024x2816.Idx) (h0 : (z 0).val = t.val / 2) (h1 : (z 1).val = r.val) (h2 : (z 2).val = 1408 * (t.val % 2) + q.val) :
    (∑ k : Fin 2048, term (iblk m hO c 0 t) (iblk m hO c 1 t) r q k) = upHalf (wordOf m) (m ((c : Thread nD τ).loc main_arg1)) (m ((c : Thread nD τ).loc main_arg2)) z := by
  unfold upHalf
  refine Finset.sum_congr rfl fun k _ => ?_
  refine congrArg₂ (fun a b : EReal => a * b) ((iblk0_apply m hw hO c t k r).trans ?_) ((iblk1_apply m hO c t k q).trans ?_)
  · exact congrArg (fun a => (m ((c : Thread nD τ).loc main_arg1) : Vec Ideal S2048x2048 .bf16) (ix2 k a)) (Fin.ext (by
      show 1024 * half (wordOf m) + r.val = 1024 * half (wordOf m) + (z 1).val
      rw [h1]))
  · exact congrArg₂ (fun a b => (m ((c : Thread nD τ).loc main_arg2) : Vec Ideal S2x2048x5632 .bf16) (ix3 a k b)) (Fin.ext (by
      show t.val / 4 = (z 0).val / 2
      omega)) (Fin.ext (by
      show 1408 * (t.val % 4) + q.val = 2816 * ((z 0).val % 2) + (z 2).val
      omega))

theorem after_3 (t : Fin (cfgM m hO).N) : (dats m hO 0 c).after 3 t
    = out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_3]
  unfold outsAt0
  dsimp only

include hw in
/-- What point `t` writes back is its block of the whole result. -/
theorem flushed_result3 (t : Fin (cfgM m hO).N) : (dats m hO 0 c).flushed 3 t = (((cfgM m hO).win 3).blk t).view.read (Elt Ideal) (resultOf m c) := by
  show ((cfgM m hO).win 3).cut ((cfgM m hO).grid.coords t) ((dats m hO 0 c).after 3 t) = _
  rw [after_3]
  funext y
  show out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 3).blk t).view.emb y)
  have e : ((cfgM m hO).win 3).index t = ![t.val / 2, 0, t.val % 2] := index3 t
  have key : ∀ (z0 : Fin 1) (r : Fin 1024) (q : Fin 1408) (z : S4x1024x2816.Idx), (z 0).val = t.val / 2 → (z 1).val = r.val → (z 2).val = 1408 * (t.val % 2) + q.val →
      out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A3 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 3).index t (0 : Fin 3) * 1 + 1 * (y (0 : Fin 3)).val = t.val / 2
    rw [e]; show t.val / 2 * 1 + 1 * (y (0 : Fin 3)).val = t.val / 2; omega
  · show ((cfgM m hO).win 3).index t (1 : Fin 3) * 1024 + 1 * (y (1 : Fin 3)).val = (y (1 : Fin 3)).val
    rw [e]; show 0 * 1024 + 1 * (y (1 : Fin 3)).val = (y (1 : Fin 3)).val; omega
  · show ((cfgM m hO).win 3).index t (2 : Fin 3) * 1408 + 1 * (y (2 : Fin 3)).val = 1408 * (t.val % 2) + (y (2 : Fin 3)).val
    rw [e]; show t.val % 2 * 1408 + 1 * (y (2 : Fin 3)).val = 1408 * (t.val % 2) + (y (2 : Fin 3)).val; omega

/-- The blocks cover the array. -/
theorem covered_result3 (i : S4x1024x2816.Idx) : ∃ t : Fin (cfgM m hO).N, ((cfgM m hO).win 3).flush t = true ∧ i ∈ (((cfgM m hO).win 3).blk t).view.set := by
  have h0 : (i (0 : Fin 3)).val < 4 := (i (0 : Fin 3)).isLt
  have h2 : (i (2 : Fin 3)).val < 2816 := (i (2 : Fin 3)).isLt
  let t : Fin (cfgM m hO).N := ⟨2 * (i (0 : Fin 3)).val + (i (2 : Fin 3)).val / 1408, by show _ < grid0.N; rw [N_0]; omega⟩
  have e : ((cfgM m hO).win 3).index t = ![t.val / 2, 0, t.val % 2] := index3 t
  have ht : t.val = 2 * (i (0 : Fin 3)).val + (i (2 : Fin 3)).val / 1408 := rfl
  refine ⟨t, flush0_3 (adm m hO) t, ?_⟩
  have h := (((cfgM m hO).win 3).blk t).view.emb_mem_set (ix3 (0 : Fin 1) (i (1 : Fin 3)) ⟨(i (2 : Fin 3)).val % 1408, Nat.mod_lt _ (by decide)⟩)
  have ei : (((cfgM m hO).win 3).blk t).view.emb (ix3 (0 : Fin 1) (i (1 : Fin 3)) ⟨(i (2 : Fin 3)).val % 1408, Nat.mod_lt _ (by decide)⟩) = i := by
    funext a; apply Fin.ext
    match a with
    | ⟨0, _⟩ =>
      show ((cfgM m hO).win 3).index t (0 : Fin 3) * 1 + 1 * 0 = (i (0 : Fin 3)).val
      rw [e]; show t.val / 2 * 1 + 1 * 0 = (i (0 : Fin 3)).val; omega
    | ⟨1, _⟩ =>
      show ((cfgM m hO).win 3).index t (1 : Fin 3) * 1024 + 1 * (i (1 : Fin 3)).val = (i (1 : Fin 3)).val
      rw [e]; show 0 * 1024 + 1 * (i (1 : Fin 3)).val = (i (1 : Fin 3)).val; omega
    | ⟨2, _⟩ =>
      show ((cfgM m hO).win 3).index t (2 : Fin 3) * 1408 + 1 * ((i (2 : Fin 3)).val % 1408) = (i (2 : Fin 3)).val
      rw [e]; show t.val % 2 * 1408 + 1 * ((i (2 : Fin 3)).val % 1408) = (i (2 : Fin 3)).val; omega
  rwa [ei] at h

include hw in
theorem final_result3 : (dats m hO 0 c).arrAt 3 (cfgM m hO).N = resultOf m c :=
  (dats m hO 0 c).arrAt_eq_of_cover 3 (resultOf m c) (fun t _ => flushed_result3 m hw hO c t) (covered_result3 m hO)

theorem after_4 (t : Fin (cfgM m hO).N) : (dats m hO 0 c).after 4 t
    = out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_4]
  unfold outsAt0
  dsimp only

include hw in
/-- What point `t` writes back is its block of the whole result. -/
theorem flushed_result4 (t : Fin (cfgM m hO).N) : (dats m hO 0 c).flushed 4 t = (((cfgM m hO).win 4).blk t).view.read (Elt Ideal) (resultOf m c) := by
  show ((cfgM m hO).win 4).cut ((cfgM m hO).grid.coords t) ((dats m hO 0 c).after 4 t) = _
  rw [after_4]
  funext y
  show out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 4).blk t).view.emb y)
  have e : ((cfgM m hO).win 4).index t = ![t.val / 2, 0, t.val % 2] := index4 t
  have key : ∀ (z0 : Fin 1) (r : Fin 1024) (q : Fin 1408) (z : S4x1024x2816.Idx), (z 0).val = t.val / 2 → (z 1).val = r.val → (z 2).val = 1408 * (t.val % 2) + q.val →
      out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A4 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 4).index t (0 : Fin 3) * 1 + 1 * (y (0 : Fin 3)).val = t.val / 2
    rw [e]; show t.val / 2 * 1 + 1 * (y (0 : Fin 3)).val = t.val / 2; omega
  · show ((cfgM m hO).win 4).index t (1 : Fin 3) * 1024 + 1 * (y (1 : Fin 3)).val = (y (1 : Fin 3)).val
    rw [e]; show 0 * 1024 + 1 * (y (1 : Fin 3)).val = (y (1 : Fin 3)).val; omega
  · show ((cfgM m hO).win 4).index t (2 : Fin 3) * 1408 + 1 * (y (2 : Fin 3)).val = 1408 * (t.val % 2) + (y (2 : Fin 3)).val
    rw [e]; show t.val % 2 * 1408 + 1 * (y (2 : Fin 3)).val = 1408 * (t.val % 2) + (y (2 : Fin 3)).val; omega

/-- The blocks cover the array. -/
theorem covered_result4 (i : S4x1024x2816.Idx) : ∃ t : Fin (cfgM m hO).N, ((cfgM m hO).win 4).flush t = true ∧ i ∈ (((cfgM m hO).win 4).blk t).view.set := by
  have h0 : (i (0 : Fin 3)).val < 4 := (i (0 : Fin 3)).isLt
  have h2 : (i (2 : Fin 3)).val < 2816 := (i (2 : Fin 3)).isLt
  let t : Fin (cfgM m hO).N := ⟨2 * (i (0 : Fin 3)).val + (i (2 : Fin 3)).val / 1408, by show _ < grid0.N; rw [N_0]; omega⟩
  have e : ((cfgM m hO).win 4).index t = ![t.val / 2, 0, t.val % 2] := index4 t
  have ht : t.val = 2 * (i (0 : Fin 3)).val + (i (2 : Fin 3)).val / 1408 := rfl
  refine ⟨t, flush0_4 (adm m hO) t, ?_⟩
  have h := (((cfgM m hO).win 4).blk t).view.emb_mem_set (ix3 (0 : Fin 1) (i (1 : Fin 3)) ⟨(i (2 : Fin 3)).val % 1408, Nat.mod_lt _ (by decide)⟩)
  have ei : (((cfgM m hO).win 4).blk t).view.emb (ix3 (0 : Fin 1) (i (1 : Fin 3)) ⟨(i (2 : Fin 3)).val % 1408, Nat.mod_lt _ (by decide)⟩) = i := by
    funext a; apply Fin.ext
    match a with
    | ⟨0, _⟩ =>
      show ((cfgM m hO).win 4).index t (0 : Fin 3) * 1 + 1 * 0 = (i (0 : Fin 3)).val
      rw [e]; show t.val / 2 * 1 + 1 * 0 = (i (0 : Fin 3)).val; omega
    | ⟨1, _⟩ =>
      show ((cfgM m hO).win 4).index t (1 : Fin 3) * 1024 + 1 * (i (1 : Fin 3)).val = (i (1 : Fin 3)).val
      rw [e]; show 0 * 1024 + 1 * (i (1 : Fin 3)).val = (i (1 : Fin 3)).val; omega
    | ⟨2, _⟩ =>
      show ((cfgM m hO).win 4).index t (2 : Fin 3) * 1408 + 1 * ((i (2 : Fin 3)).val % 1408) = (i (2 : Fin 3)).val
      rw [e]; show t.val % 2 * 1408 + 1 * ((i (2 : Fin 3)).val % 1408) = (i (2 : Fin 3)).val; omega
  rwa [ei] at h

include hw in
theorem final_result4 : (dats m hO 0 c).arrAt 4 (cfgM m hO).N = resultOf m c :=
  (dats m hO 0 c).arrAt_eq_of_cover 4 (resultOf m c) (fun t _ => flushed_result4 m hw hO c t) (covered_result4 m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0_0) = resultOf m c
      ∧ r.2.mem ((c : Thread nD τ).loc main_v0_1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 3 |>.trans (final_result3 m hw hO c), (h.1 c).1 4 |>.trans (final_result4 m hw hO c), h.2 c⟩) (θ_run_and (run_main m ρ hO) (unchanged m ρ hO))

end Cert.Kernel9Ideal.Hand

end
-- ==== Proof.UpDwKeepEqual.lean ====
/- The gradient of the weights of the product that goes up, the half that is kept: the
   reference's product, and the two programs' equal results. -/
module

public import proofs.«01_k».proof.Defs
public import proofs.«01_k».proof.Proof.Half
public import proofs.«01_k».proof.Proof.UpDwKeep
public import proofs.«01_k».proof.Proof.Gen.Reference9Ideal.Read
public import Idealize.ShloMosaic.Lib.Quiescent
public import proofs.«01_k».proof.Proof.UpDwGiveEqual

@[expose] public section

noncomputable section

namespace Cert.Reference9Ideal.Hand

open Cert.Reference9Ideal Cert.Reference9Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems rfl r.2⟩) (Cert.Reference9Ideal.Value.run m ρ)

/-- The product's half is the one the other call's reference computes. -/
theorem value_eq (w : Vec Ideal S1 .i32) (x : Vec Ideal S2048x2048 .bf16) (y : Vec Ideal S2x2048x5632 .bf16) :
    Read.val_main_v17 (F := Ideal) w x y = upHalf (word w) x y :=
  (show Read.val_main_v17 (F := Ideal) w x y = Cert.Reference5Ideal.Read.val_main_v17 (F := Ideal) w x y from rfl).trans
    (Cert.Reference5Ideal.Hand.value_eq w x y)

/-- What the two calls' results hold: the half, and the received half added. -/
def result (w : Vec Ideal S1 .i32) (x : Vec Ideal S2048x2048 .bf16) (y : Vec Ideal S2x2048x5632 .bf16) (g : Vec Ideal S4x1024x2816 .f32) (i : S4x1024x2816.Idx) : EReal := upHalf (word w) x y i + g i

theorem sum_eq (w : Vec Ideal S1 .i32) (x : Vec Ideal S2048x2048 .bf16) (y : Vec Ideal S2x2048x5632 .bf16) (g : Vec Ideal S4x1024x2816 .f32) :
    Read.val_main_v18 (F := Ideal) w x y g = result w x y g := by
  funext i
  rw [Read.val_main_v18_apply, value_eq]
  rfl

/-- Equal results. -/
theorem equal : Cert.algebraic_Kernel9Ideal_Reference9Ideal (hKernel9Ideal := Cert.Kernel9Ideal.Gen.facts) (hReference9Ideal := Gen.facts) (hPre_core9 := Cert.Pre_core9.Gen.facts) := by
  intro m g m' g' hpre hagree
  refine ⟨fun c => Cert.Kernel9Ideal.Hand.resultOf m c, fun c => Cert.Kernel9Ideal.Hand.resultOf m c, Cert.Kernel9Ideal.Hand.run m g (Cert.Kernel9Ideal.Hand.word_pre m hpre) (Cert.Kernel9Ideal.Hand.ok_of_pre m hpre),
    (θ_run _ _ _).mono (fun r hr c => ?_) (Value.run m' g')⟩
  obtain rfl : c = 0 := Subsingleton.elim _ _
  obtain ⟨h0, h1, h2, h3⟩ := hagree 0
  have hc := hr 0
  rw [h0, h1, h2, h3] at hc ⊢
  exact ⟨(hc.1.trans (Read.val_main_v18_eq _ _ _ _)).trans (sum_eq _ _ _ _),
    (hc.2.1.trans (Read.val_main_v19_eq _ _ _ _)).trans (sum_eq _ _ _ _), hc.2.2⟩

end Cert.Reference9Ideal.Hand

end
-- ==== Proof.OutProj.lean ====
/- The output projection: the kernel's blocks and the array they make up. -/
module

public import proofs.«01_k».proof.Proof.Gen.Kernel10Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel10Ideal.Hand

open Cert.Kernel10Ideal Cert.Kernel10Ideal.Gen Cert.Kernel10Ideal.Value Idealize.ShloMosaic Idealize.ShloMosaic.TcCoe Idealize.SL.Sem

theorem hz : (![0, 0] : Fin 2 → Nat) = fun _ => 0 := funext fun a => by fin_cases a <;> rfl

/-- The residual plus the product of the heads' outputs with the weights. -/
def result (h : Vec Ideal S2048x2048 .f32) (x : Vec Ideal S2048x2048 .bf16) (w : Vec Ideal S2048x2048 .bf16) (i : S2048x2048.Idx) : EReal :=
  h i + ∑ k : Fin 2048, (x (ix2 (i 0) k) * w (ix2 k (i 1)) : EReal)

/-- What a point leaves in its block: the product of its two input blocks, and the residual added. -/
theorem out_A (c : Dev nD) (i : grid0.Coords) (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole) (a7 : Memref sig .tc .vmem S8x128 .f32) (h7 : a7.IsWhole)
    (x0 : Vec Ideal S1024x2048 .bf16) (x1 : Vec Ideal S2048x1024 .bf16) (x2 : Vec Ideal S1024x1024 .f32) (r : Fin 1024) (q : Fin 1024) :
    out0_A_3 (F := Ideal) c i a3 h3 a4 h4 a5 h5 a6 h6 a7 h7 x0 x1 x2 (ix2 r q) = ((∑ k : Fin 2048, (x0 (ix2 r k) * x1 (ix2 k q) : EReal)) + x2 (ix2 r q) : EReal) := by
  unfold out0_A_3
  rw [View.read_writes_eq_canon _ _ _ (cover0_A_3 c i a3 h3 a4 h4 a5 h5 a6 h6 a7 h7 x0 x1 x2)]
  unfold kernelRun0_A
  dsimp only
  rw [View.canon_unit_zero hz]
  unfold k0_pay1
  simp only [View.readAt_eq_ld, h3.read_unread, h4.read_unread, h5.read_unread, View.ld_unit_zero (S := S1024x2048) hz, View.ld_unit_zero (S := S2048x1024) hz, View.ld_unit_zero (S := S1024x1024) hz, shapeCast_self]
  refine congrArg (fun a : EReal => a + x2 (ix2 r q)) ((Ideal.matmul_plain_apply none x0 x1 _ r q).trans ?_)
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x2048.Idx → EReal := result (m ((c : Thread nD τ).loc main_arg0)) (m ((c : Thread nD τ).loc main_arg1)) (m ((c : Thread nD τ).loc main_arg2))

/-- The block indices: a block of rows and a block of columns. -/
theorem lt_points (t : Fin cfg0.N) : t.val < 4 := N_0 ▸ t.isLt
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)
theorem index3 : ∀ t : Fin cfg0.N, win0_3.index t (0 : Fin 2) = t.val / 2 ∧ win0_3.index t (1 : Fin 2) = t.val % 2 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg1) : Vec Ideal S2048x2048 .bf16) (ix2 ⟨1024 * (t.val / 2) + n.val, by have := lt_points t; omega⟩ k) := by
  obtain ⟨e0, e1⟩ := index0 t
  rw [← V_main_arg1 m c]
  show (V m c main_arg1 : Vec Ideal S2048x2048 .bf16) (((cfg0.win 0).blk t).view.emb (ix2 n k)) = _
  refine congrArg (V m c main_arg1 : Vec Ideal S2048x2048 .bf16) (funext fun a => Fin.ext ?_)
  match a with
  | ⟨0, _⟩ => show win0_0.index t (0 : Fin 2) * 1024 + 1 * n.val = 1024 * (t.val / 2) + n.val; omega
  | ⟨1, _⟩ => show win0_0.index t (1 : Fin 2) * 2048 + 1 * k.val = k.val; omega

theorem iblk1_apply (t : Fin cfg0.N) (k : Fin 2048) (n : Fin 1024) : iblk m c 1 t (ix2 k n)
    = (m ((c : Thread nD τ).loc main_arg2) : Vec Ideal S2048x2048 .bf16) (ix2 k ⟨1024 * (t.val % 2) + n.val, by omega⟩) := by
  obtain ⟨e0, e1⟩ := index1 t
  rw [← V_main_arg2 m c]
  show (V m c main_arg2 : Vec Ideal S2048x2048 .bf16) (((cfg0.win 1).blk t).view.emb (ix2 k n)) = _
  refine congrArg (V m c main_arg2 : Vec Ideal S2048x2048 .bf16) (funext fun a => Fin.ext ?_)
  match a with
  | ⟨0, _⟩ => show win0_1.index t (0 : Fin 2) * 2048 + 1 * k.val = k.val; omega
  | ⟨1, _⟩ => show win0_1.index t (1 : Fin 2) * 1024 + 1 * n.val = 1024 * (t.val % 2) + n.val; omega

theorem iblk2_apply (t : Fin cfg0.N) (r : Fin 1024) (q : Fin 1024) (z : S2048x2048.Idx)
    (h0 : (z 0).val = 1024 * (t.val / 2) + r.val) (h1 : (z 1).val = 1024 * (t.val % 2) + q.val) :
    iblk m c 2 t (ix2 r q) = (m ((c : Thread nD τ).loc main_arg0) : Vec Ideal S2048x2048 .f32) z := by
  obtain ⟨e0, e1⟩ := index2 t
  rw [← V_main_arg0 m c]
  show (V m c main_arg0 : Vec Ideal S2048x2048 .f32) (((cfg0.win 2).blk t).view.emb (ix2 r q)) = _
  refine congrArg (V m c main_arg0 : Vec Ideal S2048x2048 .f32) (funext fun a => Fin.ext ?_)
  match a with
  | ⟨0, _⟩ => show win0_2.index t (0 : Fin 2) * 1024 + 1 * r.val = (z (0 : Fin 2)).val; omega
  | ⟨1, _⟩ => show win0_2.index t (1 : Fin 2) * 1024 + 1 * q.val = (z (1 : Fin 2)).val; omega

/-- What point `t` writes back is its block of the whole result. -/
theorem flushed_result (t : Fin cfg0.N) : (dats m 0 c).flushed 3 t = ((cfg0.win 3).blk t).view.read (Elt Ideal) (resultOf m c) := by
  rw [flushed3_A]
  funext y
  show out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) y
    = resultOf m c (((cfg0.win 3).blk t).view.emb y)
  obtain ⟨e0, e1⟩ := index3 t
  have key : ∀ (r : Fin 1024) (q : Fin 1024) (z : S2048x2048.Idx), (z 0).val = 1024 * (t.val / 2) + r.val → (z 1).val = 1024 * (t.val % 2) + q.val →
      out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (ix2 r q) = resultOf m c z := by
    intro r q z h0 h1
    refine (out_A c _ _ _ _ _ _ _ _ _ _ _ _ _ _ r q).trans ?_
    unfold resultOf result
    refine (add_comm _ _).trans (congrArg₂ (fun a b : EReal => a + b) (iblk2_apply m c t r q z h0 h1) ?_)
    refine Finset.sum_congr rfl fun k _ => ?_
    refine congrArg₂ (fun a b : EReal => a * b) ((iblk0_apply m c t r k).trans ?_) ((iblk1_apply m c t k q).trans ?_)
    · exact congrArg (fun a => (m ((c : Thread nD τ).loc main_arg1) : Vec Ideal S2048x2048 .bf16) (ix2 a k)) (Fin.ext h0.symm)
    · exact congrArg (fun a => (m ((c : Thread nD τ).loc main_arg2) : Vec Ideal S2048x2048 .bf16) (ix2 k a)) (Fin.ext h1.symm)
  refine (congrArg _ (funext fun a => by
    match a with
    | ⟨0, _⟩ => rfl
    | ⟨1, _⟩ => rfl)).trans (key (y (0 : Fin 2)) (y (1 : Fin 2)) _ ?_ ?_)
  · show win0_3.index t (0 : Fin 2) * 1024 + 1 * (y (0 : Fin 2)).val = 1024 * (t.val / 2) + (y (0 : Fin 2)).val; omega
  · show win0_3.index t (1 : Fin 2) * 1024 + 1 * (y (1 : Fin 2)).val = 1024 * (t.val % 2) + (y (1 : Fin 2)).val; omega

/-- The blocks cover the array. -/
theorem covered_result (i : S2048x2048.Idx) : ∃ t : Fin cfg0.N, (cfg0.win 3).flush t = true ∧ i ∈ ((cfg0.win 3).blk t).view.set := by
  have hi : (i (0 : Fin 2)).val < 2048 := (i (0 : Fin 2)).isLt
  have hj : (i (1 : Fin 2)).val < 2048 := (i (1 : Fin 2)).isLt
  let t : Fin cfg0.N := ⟨2 * ((i (0 : Fin 2)).val / 1024) + (i (1 : Fin 2)).val / 1024, by show _ < grid0.N; rw [N_0]; omega⟩
  obtain ⟨e0, e1⟩ := index3 t
  have ht : t.val = 2 * ((i (0 : Fin 2)).val / 1024) + (i (1 : Fin 2)).val / 1024 := rfl
  refine ⟨t, flush0_3 t, (congrArg (· ∈ ((cfg0.win 3).blk t).view.set) (funext fun a => Fin.ext ?_)).mp (((cfg0.win 3).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_3.index t (0 : Fin 2) * 1024 + 1 * ((i (0 : Fin 2)).val % 1024) = (i (0 : Fin 2)).val; omega
  | ⟨1, _⟩ => show win0_3.index t (1 : Fin 2) * 1024 + 1 * ((i (1 : Fin 2)).val % 1024) = (i (1 : Fin 2)).val; omega

theorem final_result : (dats m 0 c).arrAt 3 cfg0.N = resultOf m c :=
  (dats m 0 c).arrAt_eq_of_cover 3 (resultOf m c) (fun t _ => flushed_result m c t) covered_result

end Cert.Kernel10Ideal.Hand

end
-- ==== Proof.OutProjEqual.lean ====
/- The output projection: the reference's product, and the two programs' equal results. -/
module

public import proofs.«01_k».proof.Defs
public import proofs.«01_k».proof.Proof.OutProj
public import proofs.«01_k».proof.Proof.Gen.Reference10Ideal.Read
public import Idealize.ShloMosaic.Lib.Quiescent

@[expose] public section

noncomputable section

namespace Cert.Reference10Ideal.Hand

open Cert.Reference10Ideal Cert.Reference10Ideal.Gen Idealize.ShloMosaic Idealize.ShloMosaic.TcCoe Idealize.SL.Sem

/-- The reference's frame: it has no semaphore at all. -/
theorem frame : Cert.quiescent_Reference10Ideal (hReference10Ideal := Gen.facts) := fun m ρ _ =>
  (θ_run defs _ _).mono (fun r h => ⟨fun c => (h c).2, sem_eq_zero_of_no_sems rfl r.2⟩) (Value.run m ρ)

/-- The reference computes the sum of the residual and the product. -/
theorem value_eq (h : Vec Ideal S2048x2048 .f32) (x : Vec Ideal S2048x2048 .bf16) (w : Vec Ideal S2048x2048 .bf16) :
    Read.val_main_v3 (F := Ideal) h x w = Cert.Kernel10Ideal.Hand.result h x w := by
  funext i
  rw [Read.val_main_v3_apply, Read.val_main_v2_apply]
  refine congrArg (fun a : EReal => h i + a) ?_
  refine Finset.sum_congr rfl fun k _ => congrArg₂ (fun a b : EReal => a * b) (congrArg x (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel10Ideal_Reference10Ideal (hKernel10Ideal := Cert.Kernel10Ideal.Gen.facts) (hReference10Ideal := Gen.facts) := by
  intro m g m' g' _ hagree
  refine ⟨fun c => Cert.Kernel10Ideal.Hand.resultOf m c, (θ_run _ _ _).mono (fun _ h c => ⟨(h c).1.trans (Cert.Kernel10Ideal.Hand.final_result m c), (h c).2⟩) (Cert.Kernel10Ideal.Value.run_blocks m g),
    (θ_run _ _ _).mono (fun r hr c => ?_) (Value.run m' g')⟩
  obtain ⟨h0, h1, h2⟩ := hagree c
  have hc := hr c
  rw [h0, h1, h2] at hc ⊢
  exact ⟨(hc.1.trans (Read.val_main_v3_eq _ _ _)).trans (value_eq _ _ _), hc.2⟩

end Cert.Reference10Ideal.Hand

end
-- ==== Proof.OutProjDx.lean ====
/- The gradient of the output projection's input: the kernel's blocks and the array they make up. -/
module

public import proofs.«01_k».proof.Proof.Gen.Kernel11Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel11Ideal.Hand

open Cert.Kernel11Ideal Cert.Kernel11Ideal.Gen Cert.Kernel11Ideal.Value Idealize.ShloMosaic Idealize.ShloMosaic.TcCoe Idealize.SL.Sem

theorem hz : (![0, 0] : Fin 2 → Nat) = fun _ => 0 := funext fun a => by fin_cases a <;> rfl

/-- The product of the cotangent with the transposed weights. -/
def result (w : Vec Ideal S2048x2048 .bf16) (ct : Vec Ideal S2048x2048 .bf16) (i : S2048x2048.Idx) : EReal :=
  ∑ k : Fin 2048, (ct (ix2 (i 0) k) * w (ix2 (i 1) k) : EReal)

/-- What a point leaves in its block: the product of its two input blocks. -/
theorem out_A (c : Dev nD) (i : grid0.Coords) (a3 : Memref sig .tc .vmem S1024x2048 .bf16) (h3 : a3.IsWhole) (a4 : Memref sig .tc .vmem S1024x2048 .bf16) (h4 : a4.IsWhole)
    (a5 : Memref sig .tc .vmem S1024x1024 .f32) (h5 : a5.IsWhole) (a6 : Memref sig .tc .vmem S8x128 .f32) (h6 : a6.IsWhole)
    (x0 : Vec Ideal S1024x2048 .bf16) (x1 : Vec Ideal S1024x2048 .bf16) (r : Fin 1024) (q : Fin 1024) :
    out0_A_2 (F := Ideal) c i a3 h3 a4 h4 a5 h5 a6 h6 x0 x1 (ix2 r q) = (∑ k : Fin 2048, (x0 (ix2 r k) * x1 (ix2 q k) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x2048) hz, shapeCast_self]
  refine (Ideal.matmul_transposedRhs_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x2048.Idx → EReal := result (m ((c : Thread nD τ).loc main_arg0)) (m ((c : Thread nD τ).loc main_arg1))

/-- The block indices: a block of rows and a block of columns. -/
theorem lt_points (t : Fin cfg0.N) : t.val < 4 := N_0 ▸ t.isLt
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = t.val % 2 ∧ win0_1.index t (1 : Fin 2) = 0 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg1) : Vec Ideal S2048x2048 .bf16) (ix2 ⟨1024 * (t.val / 2) + n.val, by have := lt_points t; omega⟩ k) := by
  obtain ⟨e0, e1⟩ := index0 t
  rw [← V_main_arg1 m c]
  show (V m c main_arg1 : Vec Ideal S2048x2048 .bf16) (((cfg0.win 0).blk t).view.emb (ix2 n k)) = _
  refine congrArg (V m c main_arg1 : Vec Ideal S2048x2048 .bf16) (funext fun a => Fin.ext ?_)
  match a with
  | ⟨0, _⟩ => show win0_0.index t (0 : Fin 2) * 1024 + 1 * n.val = 1024 * (t.val / 2) + n.val; omega
  | ⟨1, _⟩ => show win0_0.index t (1 : Fin 2) * 2048 + 1 * k.val = k.val; omega

theorem iblk1_apply (t : Fin cfg0.N) (n : Fin 1024) (k : Fin 2048) : iblk m c 1 t (ix2 n k)
    = (m ((c : Thread nD τ).loc main_arg0) : Vec Ideal S2048x2048 .bf16) (ix2 ⟨1024 * (t.val % 2) + n.val, by omega⟩ k) := by
  obtain ⟨e0, e1⟩ := index1 t
  rw [← V_main_arg0 m c]
  show (V m c main_arg0 : Vec Ideal S2048x2048 .bf16) (((cfg0.win 1).blk t).view.emb (ix2 n k)) = _
  refine congrArg (V m c main_arg0 : Vec Ideal S2048x2048 .bf16) (funext fun a => Fin.ext ?_)
  match a with
  | ⟨0, _⟩ => show win0_1.index t (0 : Fin 2) * 1024 + 1 * n.val = 1024 * (t.val % 2) + n.val; omega
  | ⟨1, _⟩ => show win0_1.index t (1 : Fin 2) * 2048 + 1 * k.val = k.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 1024) (z : S2048x2048.Idx), (z 0).val = 1024 * (t.val / 2) + r.val → (z 1).val = 1024 * (t.val % 2) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t q k).trans ?_)
    · exact congrArg (fun a => (m ((c : Thread nD τ).loc main_arg1) : Vec Ideal S2048x2048 .bf16) (ix2 a k)) (Fin.ext h0.symm)
    · exact congrArg (fun a => (m ((c : Thread nD τ).loc main_arg0) : Vec Ideal S2048x2048 .bf16) (ix2 a k)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val / 2) + (y (0 : Fin 2)).val; omega
  · show win0_2.index t (1 : Fin 2) * 1024 + 1 * (y (1 : Fin 2)).val = 1024 * (t.val % 2) + (y (1 : Fin 2)).val; omega

/-- The blocks cover the array. -/
theorem covered_result (i : S2048x2048.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 2048 := (i (1 : Fin 2)).isLt
  let t : Fin cfg0.N := ⟨2 * ((i (0 : Fin 2)).val / 1024) + (i (1 : Fin 2)).val / 1024, by show _ < grid0.N; rw [N_0]; omega⟩
  obtain ⟨e0, e1⟩ := index2 t
  have ht : t.val = 2 * ((i (0 : Fin 2)).val / 1024) + (i (1 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 1024 + 1 * ((i (1 : Fin 2)).val % 1024) = (i (1 : Fin 2)).val; omega

theorem final_result : (dats m 0 c).arrAt 2 cfg0.N = resultOf m c :=
  (dats m 0 c).arrAt_eq_of_cover 2 (resultOf m c) (fun t _ => flushed_result m c t) covered_result

end Cert.Kernel11Ideal.Hand

end
-- ==== Proof.OutProjDxEqual.lean ====
/- The gradient of the output projection's input: the reference's product, and the two programs' equal results. -/
module

public import proofs.«01_k».proof.Defs
public import proofs.«01_k».proof.Proof.OutProjDx
public import proofs.«01_k».proof.Proof.Gen.Reference11Ideal.Read
public import Idealize.ShloMosaic.Lib.Quiescent

@[expose] public section

noncomputable section

namespace Cert.Reference11Ideal.Hand

open Cert.Reference11Ideal Cert.Reference11Ideal.Gen Idealize.ShloMosaic Idealize.ShloMosaic.TcCoe Idealize.SL.Sem

/-- The reference's frame: it has no semaphore at all. -/
theorem frame : Cert.quiescent_Reference11Ideal (hReference11Ideal := Gen.facts) := fun m ρ _ =>
  (θ_run defs _ _).mono (fun r h => ⟨fun c => (h c).2, sem_eq_zero_of_no_sems rfl r.2⟩) (Value.run m ρ)

/-- The reference computes the product. -/
theorem value_eq (w : Vec Ideal S2048x2048 .bf16) (ct : Vec Ideal S2048x2048 .bf16) :
    Read.val_main_v4 (F := Ideal) w ct = Cert.Kernel11Ideal.Hand.result w ct := by
  funext i
  rw [Read.val_main_v4_apply]
  refine Finset.sum_congr rfl fun k _ => congrArg₂ (fun a b : EReal => a * b) (congrArg ct (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel11Ideal_Reference11Ideal (hKernel11Ideal := Cert.Kernel11Ideal.Gen.facts) (hReference11Ideal := Gen.facts) := by
  intro m g m' g' _ hagree
  refine ⟨fun c => Cert.Kernel11Ideal.Hand.resultOf m c, (θ_run _ _ _).mono (fun _ h c => ⟨(h c).1.trans (Cert.Kernel11Ideal.Hand.final_result m c), (h c).2⟩) (Cert.Kernel11Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v4_eq _ _)).trans (value_eq _ _), hc.2⟩

end Cert.Reference11Ideal.Hand

end
-- ==== Proof.InProj.lean ====
/- The input projection: the kernel's blocks and the array they make up. -/
module

public import proofs.«01_k».proof.Proof.Gen.Kernel12Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel12Ideal.Hand

open Cert.Kernel12Ideal Cert.Kernel12Ideal.Gen Cert.Kernel12Ideal.Value Idealize.ShloMosaic Idealize.ShloMosaic.TcCoe Idealize.SL.Sem

theorem hz : (![0, 0] : Fin 2 → Nat) = fun _ => 0 := funext fun a => by fin_cases a <;> rfl

/-- The product of the activations with the transposed weights. -/
def result (x : Vec Ideal S2048x2048 .bf16) (w : Vec Ideal S2048x2048 .bf16) (i : S2048x2048.Idx) : EReal :=
  ∑ k : Fin 2048, (x (ix2 (i 0) k) * w (ix2 (i 1) k) : EReal)

/-- What a point leaves in its block: the product of its two input blocks. -/
theorem out_A (c : Dev nD) (i : grid0.Coords) (a3 : Memref sig .tc .vmem S1024x2048 .bf16) (h3 : a3.IsWhole) (a4 : Memref sig .tc .vmem S1024x2048 .bf16) (h4 : a4.IsWhole)
    (a5 : Memref sig .tc .vmem S1024x1024 .f32) (h5 : a5.IsWhole) (a6 : Memref sig .tc .vmem S8x128 .f32) (h6 : a6.IsWhole)
    (x0 : Vec Ideal S1024x2048 .bf16) (x1 : Vec Ideal S1024x2048 .bf16) (r : Fin 1024) (q : Fin 1024) :
    out0_A_2 (F := Ideal) c i a3 h3 a4 h4 a5 h5 a6 h6 x0 x1 (ix2 r q) = (∑ k : Fin 2048, (x0 (ix2 r k) * x1 (ix2 q k) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x2048) hz, shapeCast_self]
  refine (Ideal.matmul_transposedRhs_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x2048.Idx → EReal := result (m ((c : Thread nD τ).loc main_arg0)) (m ((c : Thread nD τ).loc main_arg1))

/-- The block indices: a block of rows and a block of columns. -/
theorem lt_points (t : Fin cfg0.N) : t.val < 4 := N_0 ▸ t.isLt
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = t.val % 2 ∧ win0_1.index t (1 : Fin 2) = 0 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg0) : Vec Ideal S2048x2048 .bf16) (ix2 ⟨1024 * (t.val / 2) + n.val, by have := lt_points t; omega⟩ k) := by
  obtain ⟨e0, e1⟩ := index0 t
  rw [← V_main_arg0 m c]
  show (V m c main_arg0 : Vec Ideal S2048x2048 .bf16) (((cfg0.win 0).blk t).view.emb (ix2 n k)) = _
  refine congrArg (V m c main_arg0 : Vec Ideal S2048x2048 .bf16) (funext fun a => Fin.ext ?_)
  match a with
  | ⟨0, _⟩ => show win0_0.index t (0 : Fin 2) * 1024 + 1 * n.val = 1024 * (t.val / 2) + n.val; omega
  | ⟨1, _⟩ => show win0_0.index t (1 : Fin 2) * 2048 + 1 * k.val = k.val; omega

theorem iblk1_apply (t : Fin cfg0.N) (n : Fin 1024) (k : Fin 2048) : iblk m c 1 t (ix2 n k)
    = (m ((c : Thread nD τ).loc main_arg1) : Vec Ideal S2048x2048 .bf16) (ix2 ⟨1024 * (t.val % 2) + n.val, by omega⟩ k) := by
  obtain ⟨e0, e1⟩ := index1 t
  rw [← V_main_arg1 m c]
  show (V m c main_arg1 : Vec Ideal S2048x2048 .bf16) (((cfg0.win 1).blk t).view.emb (ix2 n k)) = _
  refine congrArg (V m c main_arg1 : Vec Ideal S2048x2048 .bf16) (funext fun a => Fin.ext ?_)
  match a with
  | ⟨0, _⟩ => show win0_1.index t (0 : Fin 2) * 1024 + 1 * n.val = 1024 * (t.val % 2) + n.val; omega
  | ⟨1, _⟩ => show win0_1.index t (1 : Fin 2) * 2048 + 1 * k.val = k.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 1024) (z : S2048x2048.Idx), (z 0).val = 1024 * (t.val / 2) + r.val → (z 1).val = 1024 * (t.val % 2) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t q k).trans ?_)
    · exact congrArg (fun a => (m ((c : Thread nD τ).loc main_arg0) : Vec Ideal S2048x2048 .bf16) (ix2 a k)) (Fin.ext h0.symm)
    · exact congrArg (fun a => (m ((c : Thread nD τ).loc main_arg1) : Vec Ideal S2048x2048 .bf16) (ix2 a k)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val / 2) + (y (0 : Fin 2)).val; omega
  · show win0_2.index t (1 : Fin 2) * 1024 + 1 * (y (1 : Fin 2)).val = 1024 * (t.val % 2) + (y (1 : Fin 2)).val; omega

/-- The blocks cover the array. -/
theorem covered_result (i : S2048x2048.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 2048 := (i (1 : Fin 2)).isLt
  let t : Fin cfg0.N := ⟨2 * ((i (0 : Fin 2)).val / 1024) + (i (1 : Fin 2)).val / 1024, by show _ < grid0.N; rw [N_0]; omega⟩
  obtain ⟨e0, e1⟩ := index2 t
  have ht : t.val = 2 * ((i (0 : Fin 2)).val / 1024) + (i (1 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 1024 + 1 * ((i (1 : Fin 2)).val % 1024) = (i (1 : Fin 2)).val; omega

theorem final_result : (dats m 0 c).arrAt 2 cfg0.N = resultOf m c :=
  (dats m 0 c).arrAt_eq_of_cover 2 (resultOf m c) (fun t _ => flushed_result m c t) covered_result

end Cert.Kernel12Ideal.Hand

end
-- ==== Proof.InProjEqual.lean ====
/- The input projection: the reference's product, and the two programs' equal results. -/
module

public import proofs.«01_k».proof.Defs
public import proofs.«01_k».proof.Proof.InProj
public import proofs.«01_k».proof.Proof.Gen.Reference12Ideal.Read
public import Idealize.ShloMosaic.Lib.Quiescent

@[expose] public section

noncomputable section

namespace Cert.Reference12Ideal.Hand

open Cert.Reference12Ideal Cert.Reference12Ideal.Gen Idealize.ShloMosaic Idealize.ShloMosaic.TcCoe Idealize.SL.Sem

/-- The reference's frame: it has no semaphore at all. -/
theorem frame : Cert.quiescent_Reference12Ideal (hReference12Ideal := Gen.facts) := fun m ρ _ =>
  (θ_run defs _ _).mono (fun r h => ⟨fun c => (h c).2, sem_eq_zero_of_no_sems rfl r.2⟩) (Value.run m ρ)

/-- The reference computes the product. -/
theorem value_eq (x : Vec Ideal S2048x2048 .bf16) (w : Vec Ideal S2048x2048 .bf16) :
    Read.val_main_v3 (F := Ideal) x w = Cert.Kernel12Ideal.Hand.result x w := by
  funext i
  rw [Read.val_main_v3_apply]
  refine Finset.sum_congr rfl fun k _ => congrArg₂ (fun a b : EReal => a * b) (congrArg x (funext fun a => ?_)) ((Read.val_main_v2_apply w _).trans (congrArg w (funext fun a => ?_)))
  · match a with
    | ⟨0, _⟩ => rfl
    | ⟨1, _⟩ => rfl
  · match a with
    | ⟨0, _⟩ => rfl
    | ⟨1, _⟩ => rfl

/-- Equal results. -/
theorem equal : Cert.algebraic_Kernel12Ideal_Reference12Ideal (hKernel12Ideal := Cert.Kernel12Ideal.Gen.facts) (hReference12Ideal := Gen.facts) := by
  intro m g m' g' _ hagree
  refine ⟨fun c => Cert.Kernel12Ideal.Hand.resultOf m c, (θ_run _ _ _).mono (fun _ h c => ⟨(h c).1.trans (Cert.Kernel12Ideal.Hand.final_result m c), (h c).2⟩) (Cert.Kernel12Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v3_eq _ _)).trans (value_eq _ _), hc.2⟩

end Cert.Reference12Ideal.Hand

end
-- ==== Proof.InProjDx.lean ====
/- The gradient of the input projection's input: the kernel's blocks and the array they make up. -/
module

public import proofs.«01_k».proof.Proof.Gen.Kernel13Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel13Ideal.Hand

open Cert.Kernel13Ideal Cert.Kernel13Ideal.Gen Cert.Kernel13Ideal.Value Idealize.ShloMosaic Idealize.ShloMosaic.TcCoe Idealize.SL.Sem

theorem hz : (![0, 0] : Fin 2 → Nat) = fun _ => 0 := funext fun a => by fin_cases a <;> rfl

/-- The product of the cotangent with the weights. -/
def result (w : Vec Ideal S2048x2048 .bf16) (ct : Vec Ideal S2048x2048 .bf16) (i : S2048x2048.Idx) : EReal :=
  ∑ k : Fin 2048, (ct (ix2 (i 0) k) * w (ix2 k (i 1)) : EReal)

/-- What a point leaves in its block: the product of its two input blocks. -/
theorem out_A (c : Dev nD) (i : grid0.Coords) (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S8x128 .f32) (h6 : a6.IsWhole)
    (x0 : Vec Ideal S1024x2048 .bf16) (x1 : Vec Ideal S2048x1024 .bf16) (r : Fin 1024) (q : Fin 1024) :
    out0_A_2 (F := Ideal) c i a3 h3 a4 h4 a5 h5 a6 h6 x0 x1 (ix2 r q) = (∑ k : Fin 2048, (x0 (ix2 r k) * x1 (ix2 k q) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x2048) hz, View.ld_unit_zero (S := S2048x1024) hz, shapeCast_self]
  refine (Ideal.matmul_plain_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x2048.Idx → EReal := result (m ((c : Thread nD τ).loc main_arg0)) (m ((c : Thread nD τ).loc main_arg1))

/-- The block indices: a block of rows and a block of columns. -/
theorem lt_points (t : Fin cfg0.N) : t.val < 4 := N_0 ▸ t.isLt
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg1) : Vec Ideal S2048x2048 .bf16) (ix2 ⟨1024 * (t.val / 2) + n.val, by have := lt_points t; omega⟩ k) := by
  obtain ⟨e0, e1⟩ := index0 t
  rw [← V_main_arg1 m c]
  show (V m c main_arg1 : Vec Ideal S2048x2048 .bf16) (((cfg0.win 0).blk t).view.emb (ix2 n k)) = _
  refine congrArg (V m c main_arg1 : Vec Ideal S2048x2048 .bf16) (funext fun a => Fin.ext ?_)
  match a with
  | ⟨0, _⟩ => show win0_0.index t (0 : Fin 2) * 1024 + 1 * n.val = 1024 * (t.val / 2) + n.val; omega
  | ⟨1, _⟩ => show win0_0.index t (1 : Fin 2) * 2048 + 1 * k.val = k.val; omega

theorem iblk1_apply (t : Fin cfg0.N) (k : Fin 2048) (n : Fin 1024) : iblk m c 1 t (ix2 k n)
    = (m ((c : Thread nD τ).loc main_arg0) : Vec Ideal S2048x2048 .bf16) (ix2 k ⟨1024 * (t.val % 2) + n.val, by omega⟩) := by
  obtain ⟨e0, e1⟩ := index1 t
  rw [← V_main_arg0 m c]
  show (V m c main_arg0 : Vec Ideal S2048x2048 .bf16) (((cfg0.win 1).blk t).view.emb (ix2 k n)) = _
  refine congrArg (V m c main_arg0 : Vec Ideal S2048x2048 .bf16) (funext fun a => Fin.ext ?_)
  match a with
  | ⟨0, _⟩ => show win0_1.index t (0 : Fin 2) * 2048 + 1 * k.val = k.val; omega
  | ⟨1, _⟩ => show win0_1.index t (1 : Fin 2) * 1024 + 1 * n.val = 1024 * (t.val % 2) + n.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 1024) (z : S2048x2048.Idx), (z 0).val = 1024 * (t.val / 2) + r.val → (z 1).val = 1024 * (t.val % 2) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t k q).trans ?_)
    · exact congrArg (fun a => (m ((c : Thread nD τ).loc main_arg1) : Vec Ideal S2048x2048 .bf16) (ix2 a k)) (Fin.ext h0.symm)
    · exact congrArg (fun a => (m ((c : Thread nD τ).loc main_arg0) : Vec Ideal S2048x2048 .bf16) (ix2 k a)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val / 2) + (y (0 : Fin 2)).val; omega
  · show win0_2.index t (1 : Fin 2) * 1024 + 1 * (y (1 : Fin 2)).val = 1024 * (t.val % 2) + (y (1 : Fin 2)).val; omega

/-- The blocks cover the array. -/
theorem covered_result (i : S2048x2048.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 2048 := (i (1 : Fin 2)).isLt
  let t : Fin cfg0.N := ⟨2 * ((i (0 : Fin 2)).val / 1024) + (i (1 : Fin 2)).val / 1024, by show _ < grid0.N; rw [N_0]; omega⟩
  obtain ⟨e0, e1⟩ := index2 t
  have ht : t.val = 2 * ((i (0 : Fin 2)).val / 1024) + (i (1 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 1024 + 1 * ((i (1 : Fin 2)).val % 1024) = (i (1 : Fin 2)).val; omega

theorem final_result : (dats m 0 c).arrAt 2 cfg0.N = resultOf m c :=
  (dats m 0 c).arrAt_eq_of_cover 2 (resultOf m c) (fun t _ => flushed_result m c t) covered_result

end Cert.Kernel13Ideal.Hand

end
-- ==== Proof.InProjDxEqual.lean ====
/- The gradient of the input projection's input: the reference's product, and the two programs' equal results. -/
module

public import proofs.«01_k».proof.Defs
public import proofs.«01_k».proof.Proof.InProjDx
public import proofs.«01_k».proof.Proof.Gen.Reference13Ideal.Read
public import Idealize.ShloMosaic.Lib.Quiescent

@[expose] public section

noncomputable section

namespace Cert.Reference13Ideal.Hand

open Cert.Reference13Ideal Cert.Reference13Ideal.Gen Idealize.ShloMosaic Idealize.ShloMosaic.TcCoe Idealize.SL.Sem

/-- The reference's frame: it has no semaphore at all. -/
theorem frame : Cert.quiescent_Reference13Ideal (hReference13Ideal := Gen.facts) := fun m ρ _ =>
  (θ_run defs _ _).mono (fun r h => ⟨fun c => (h c).2, sem_eq_zero_of_no_sems rfl r.2⟩) (Value.run m ρ)

/-- The reference computes the product. -/
theorem value_eq (w : Vec Ideal S2048x2048 .bf16) (ct : Vec Ideal S2048x2048 .bf16) :
    Read.val_main_v5 (F := Ideal) w ct = Cert.Kernel13Ideal.Hand.result w ct := by
  funext i
  rw [Read.val_main_v5_apply]
  refine Finset.sum_congr rfl fun k _ => congrArg₂ (fun a b : EReal => a * b) (congrArg ct (funext fun a => ?_)) ((Read.val_main_v0_apply (F := Ideal) w _).trans (congrArg w (funext fun a => ?_)))
  · match a with
    | ⟨0, _⟩ => rfl
    | ⟨1, _⟩ => rfl
  · match a with
    | ⟨0, _⟩ => rfl
    | ⟨1, _⟩ => rfl

/-- Equal results. -/
theorem equal : Cert.algebraic_Kernel13Ideal_Reference13Ideal (hKernel13Ideal := Cert.Kernel13Ideal.Gen.facts) (hReference13Ideal := Gen.facts) := by
  intro m g m' g' _ hagree
  refine ⟨fun c => Cert.Kernel13Ideal.Hand.resultOf m c, (θ_run _ _ _).mono (fun _ h c => ⟨(h c).1.trans (Cert.Kernel13Ideal.Hand.final_result m c), (h c).2⟩) (Cert.Kernel13Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v5_eq _ _)).trans (value_eq _ _), hc.2⟩

end Cert.Reference13Ideal.Hand

end
-- ==== Proof.HalfProj.lean ====
/- Half of the gradient of a projection's weights: the projection out of the heads, and the one into them. -/
module

public import proofs.«01_k».proof.Proof.Half

@[expose] public section

noncomputable section

namespace Cert.Hand

open Idealize.ShloMosaic

/-- The gradient of the weights of the projection out of the heads, one half of its columns: over the tokens, the heads' row
    times the incoming row; the rows in four slabs. -/
def outHalf (w : BitVec 32) (g : FVec Ideal ⟨2, ![2048, 2048]⟩ .bf16) (d : FVec Ideal ⟨2, ![2048, 2048]⟩ .bf16) (i : Shape.Idx ⟨3, ![4, 512, 1024]⟩) : EReal :=
  ∑ k : Fin 2048, (g (ix2 k ⟨512 * (i 0).val + (i 1).val, by
      have h0 : (i 0).val < 4 := (i 0).isLt
      have h1 : (i 1).val < 512 := (i 1).isLt
      omega⟩) * d (ix2 k ⟨1024 * half w + (i 2).val, by
      have h2 : (i 2).val < 1024 := (i 2).isLt
      have := half_le w
      omega⟩) : EReal)

/-- The gradient of the weights of the projection into the heads, one half of its rows: over the tokens, the incoming row
    times the normalised row; the columns in four slabs. -/
def inHalf (w : BitVec 32) (g : FVec Ideal ⟨2, ![2048, 2048]⟩ .bf16) (d : FVec Ideal ⟨2, ![2048, 2048]⟩ .bf16) (i : Shape.Idx ⟨3, ![4, 1024, 512]⟩) : EReal :=
  ∑ k : Fin 2048, (g (ix2 k ⟨1024 * half w + (i 1).val, by
      have h1 : (i 1).val < 1024 := (i 1).isLt
      have := half_le w
      omega⟩) * d (ix2 k ⟨512 * (i 0).val + (i 2).val, by
      have h0 : (i 0).val < 4 := (i 0).isLt
      have h2 : (i 2).val < 512 := (i 2).isLt
      omega⟩) : EReal)

end Cert.Hand

end
-- ==== Proof.OutProjDwGiveWord.lean ====
/- The gradient of the output projection's weights, the half given away: what its one-word table must hold. -/
module

public import proofs.«01_k».proof.Defs
public import proofs.«01_k».proof.Proof.HalfProj
public import proofs.«01_k».proof.Proof.Gen.Kernel14.Frame
public import proofs.«01_k».proof.Proof.Gen.Kernel14Ideal.Frame
public import proofs.«01_k».proof.Proof.Gen.Pre_core14

@[expose] public section

noncomputable section

namespace Cert.Kernel14.Hand

open Cert.Kernel14 Cert.Kernel14.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] := by
  have e1 : (i 1).val = 0 := by
    have h : (i 1).val < 1 := (i 1).isLt
    omega
  show ![0, (Scalar.addi (Scalar.muli (pf.at 0 (Rect.unit (s := S1) ![0] S1.size Facts₀.inb_S1_S1_0) Facts₀.numel1_S1) 1#32) (BitVec.ofNat 32 (i 1).val)).toNat] = _
  rw [e1, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel14 m) : Ok (F := Bits) m :=
  ok_of_word (tbl m) (word (m (((0 : Dev nD) : Thread nD τ).loc main_arg0) : IVec S1 32)) (word_of_pre _ Pre_core14.Facts.shapeCasts_S1_S_ (h 0)) (word_eq _)

end Cert.Kernel14.Hand

namespace Cert.Kernel14Ideal.Hand

open Cert.Kernel14Ideal Cert.Kernel14Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] :=
  Kernel14.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel14.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel14Ideal m) : wordOf m = 0#32 ∨ wordOf m = 1#32 :=
  word_of_pre _ Pre_core14.Facts.shapeCasts_S1_S_ (h 0)

theorem ok_of_pre (m : (ℓ : Loc nD τ sig) → Buf (Elt Ideal) ℓ) (h : Cert.Pre_Kernel14Ideal m) : Ok (F := Ideal) m :=
  ok_of_word (tbl m) (wordOf m) (word_pre m h) (tbl_word m)

end Cert.Kernel14Ideal.Hand

end
-- ==== Proof.OutProjDwGive.lean ====
/- The gradient of the output projection's weights, the half given away: the kernel's blocks and the array they make up. -/
module

public import proofs.«01_k».proof.Proof.OutProjDwGiveWord
public import Idealize.ShloMosaic.Lib.Pipeline.Value

@[expose] public section

set_option maxRecDepth 16384

noncomputable section

namespace Cert.Kernel14Ideal.Hand

open Cert.Kernel14Ideal Cert.Kernel14Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x512 .bf16) (x1 : Vec Ideal S2048x1024 .bf16) (r : Fin 512) (q : Fin 1024) (k : Fin 2048) : EReal := x0 (ix2 k r) * x1 (ix2 k q)

/-- The product of a point's two blocks. -/
theorem product_apply (x0 : Vec Ideal S2048x512 .bf16) (x1 : Vec Ideal S2048x1024 .bf16) (r : Fin 512) (q : Fin 1024) :
    matmul (F := Ideal) (φ₁ := .bf16) (φ₂ := .bf16) dot_S2048x512_S2048x1024_S512x1024_0_0_1_1_n_n none x0 x1 (constant S512x1024 .f32 0x00000000#32) (ix2 r q) = (∑ k : Fin 2048, term x0 x1 r q k) := by
  refine (matmul_rows dot_S2048x512_S2048x1024_S512x1024_0_0_1_1_n_n_wf none x0 x1 _ r q).trans ((congrArg (· + _) Ideal.ofBits_zero_f32).trans ((zero_add _).trans ?_))
  rfl

/-- What a point leaves in its block. -/
theorem out_A (c : Dev nD) (i : grid0.Coords) (a4 : Memref sig .tc .vmem S2048x512 .bf16) (h4 : a4.IsWhole) (a5 : Memref sig .tc .vmem S2048x1024 .bf16) (h5 : a5.IsWhole) (a6 : Memref sig .tc .vmem S1x512x1024 .f32) (h6 : a6.IsWhole)
    (x0 : Vec Ideal S2048x512 .bf16) (x1 : Vec Ideal S2048x1024 .bf16) (xt : TbBuf0 (F := Ideal) c tbM0_0) (z : Fin 1) (r : Fin 512) (q : Fin 1024) :
    out0_A_2 (F := Ideal) c i a4 h4 a5 h5 a6 h6 x0 x1 xt (ix3 z r q) = (∑ k : Fin 2048, term x0 x1 r q k) := by
  unfold out0_A_2
  rw [View.read_writes_eq_canon _ _ _ (cover0_A_2 c i a4 h4 a5 h5 a6 h6 x0 x1 xt)]
  unfold kernelRun0_A
  dsimp only
  rw [View.canon_unit_zero hz3]
  unfold k0_pay1
  simp only [View.readAt_eq_ld, h4.read_unread, h5.read_unread, View.ld_unit_zero (S := S2048x512) hz, View.ld_unit_zero (S := S2048x1024) hz]
  refine Eq.trans ?_ (product_apply x0 x1 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x512x1024.Idx) : EReal := outHalf (wordOf m) (m ((c : Thread nD τ).loc main_arg1)) (m ((c : Thread nD τ).loc main_arg2)) i

/-- The block indices. -/
theorem lt_points (t : Fin (cfgM m hO).N) : t.val < 4 := N_0 ▸ t.isLt
theorem index0 : ∀ t : Fin grid0.N, cc0_transform_0 (grid0.coords t) = ![0, t.val] := by decide +kernel
theorem index2 : ∀ t : Fin grid0.N, cc0_transform_2 (grid0.coords t) = ![t.val, 0, 0] := by decide +kernel

include hw in
theorem index1 (t : Fin (cfgM m hO).N) : ((cfgM m hO).win 1).index t = ![0, half (wordOf m)] :=
  map_half (tbl m) (wordOf m) hw (tbl_word m) (grid0.coords t)

/-- Each input block, read at an index. -/
theorem iblk0_apply (t : Fin (cfgM m hO).N) (k : Fin 2048) (n : Fin 512) : iblk m hO c 0 t (ix2 k n)
    = (m ((c : Thread nD τ).loc main_arg1) : Vec Ideal S2048x2048 .bf16) (ix2 k ⟨512 * t.val + n.val, by have := lt_points m hO t; omega⟩) := by
  have e : ((cfgM m hO).win 0).index t = ![0, t.val] := index0 t
  rw [← V_main_arg1 m c]
  show (V m c main_arg1 : Vec Ideal S2048x2048 .bf16) ((((cfgM m hO).win 0).blk t).view.emb (ix2 k n)) = _
  refine congrArg (V m c main_arg1 : Vec Ideal S2048x2048 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 512 + 1 * n.val = 512 * t.val + n.val
    rw [e]; show t.val * 512 + 1 * n.val = 512 * t.val + n.val; omega

include hw in
theorem iblk1_apply (t : Fin (cfgM m hO).N) (k : Fin 2048) (n : Fin 1024) : iblk m hO c 1 t (ix2 k n)
    = (m ((c : Thread nD τ).loc main_arg2) : Vec Ideal S2048x2048 .bf16) (ix2 k ⟨1024 * half (wordOf m) + n.val, by have := half_le (wordOf m); omega⟩) := by
  have e := index1 m hw hO t
  rw [← V_main_arg2 m c]
  show (V m c main_arg2 : Vec Ideal S2048x2048 .bf16) ((((cfgM m hO).win 1).blk t).view.emb (ix2 k n)) = _
  refine congrArg (V m c main_arg2 : Vec Ideal S2048x2048 .bf16) (funext fun a => Fin.ext ?_)
  match a with
  | ⟨0, _⟩ =>
    show ((cfgM m hO).win 1).index t (0 : Fin 2) * 2048 + 1 * k.val = k.val
    rw [e]; show 0 * 2048 + 1 * k.val = k.val; omega
  | ⟨1, _⟩ =>
    show ((cfgM m hO).win 1).index t (1 : Fin 2) * 1024 + 1 * n.val = 1024 * half (wordOf m) + n.val
    rw [e]; show half (wordOf m) * 1024 + 1 * n.val = 1024 * half (wordOf m) + n.val; omega

include hw in
/-- A point's sum is the whole gradient's, at the block's place. -/
theorem sum_result (t : Fin (cfgM m hO).N) (r : Fin 512) (q : Fin 1024) (z : S4x512x1024.Idx) (h0 : (z 0).val = t.val) (h1 : (z 1).val = r.val) (h2 : (z 2).val = q.val) :
    (∑ k : Fin 2048, term (iblk m hO c 0 t) (iblk m hO c 1 t) r q k) = outHalf (wordOf m) (m ((c : Thread nD τ).loc main_arg1)) (m ((c : Thread nD τ).loc main_arg2)) z := by
  unfold outHalf
  refine Finset.sum_congr rfl fun k _ => ?_
  refine congrArg₂ (fun a b : EReal => a * b) ((iblk0_apply m hO c t k r).trans ?_) ((iblk1_apply m hw hO c t k q).trans ?_)
  · exact congrArg (fun a => (m ((c : Thread nD τ).loc main_arg1) : Vec Ideal S2048x2048 .bf16) (ix2 k a)) (Fin.ext (by
      show 512 * t.val + r.val = 512 * (z 0).val + (z 1).val
      rw [h0, h1]))
  · exact congrArg (fun a => (m ((c : Thread nD τ).loc main_arg2) : Vec Ideal S2048x2048 .bf16) (ix2 k a)) (Fin.ext (by
      show 1024 * half (wordOf m) + q.val = 1024 * half (wordOf m) + (z 2).val
      rw [h2]))

include hw in
/-- What point `t` writes back is its block of the whole result. -/
theorem flushed_result (t : Fin (cfgM m hO).N) : (dats m hO 0 c).flushed 2 t = (((cfgM m hO).win 2).blk t).view.read (Elt Ideal) (resultOf m c) := by
  show ((cfgM m hO).win 2).cut ((cfgM m hO).grid.coords t) ((dats m hO 0 c).after 2 t) = _
  rw [after0_2]
  funext y
  show out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) y
    = resultOf m c ((((cfgM m hO).win 2).blk t).view.emb y)
  have e : ((cfgM m hO).win 2).index t = ![t.val, 0, 0] := index2 t
  have key : ∀ (z0 : Fin 1) (r : Fin 512) (q : Fin 1024) (z : S4x512x1024.Idx), (z 0).val = t.val → (z 1).val = r.val → (z 2).val = q.val →
      out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) (ix3 z0 r q) = resultOf m c z := by
    intro z0 r q z h0 h1 h2
    exact (out_A c _ _ _ _ _ _ _ _ _ _ z0 r q).trans (sum_result m hw hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 2).index t (0 : Fin 3) * 1 + 1 * (y (0 : Fin 3)).val = t.val
    rw [e]; show t.val * 1 + 1 * (y (0 : Fin 3)).val = t.val; omega
  · show ((cfgM m hO).win 2).index t (1 : Fin 3) * 512 + 1 * (y (1 : Fin 3)).val = (y (1 : Fin 3)).val
    rw [e]; show 0 * 512 + 1 * (y (1 : Fin 3)).val = (y (1 : Fin 3)).val; omega
  · show ((cfgM m hO).win 2).index t (2 : Fin 3) * 1024 + 1 * (y (2 : Fin 3)).val = (y (2 : Fin 3)).val
    rw [e]; show 0 * 1024 + 1 * (y (2 : Fin 3)).val = (y (2 : Fin 3)).val; omega

/-- The blocks cover the array. -/
theorem covered_result (i : S4x512x1024.Idx) : ∃ t : Fin (cfgM m hO).N, ((cfgM m hO).win 2).flush t = true ∧ i ∈ (((cfgM m hO).win 2).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 2).index t = ![t.val, 0, 0] := index2 t
  have ht : t.val = (i (0 : Fin 3)).val := rfl
  refine ⟨t, flush0_2 (adm m hO) t, ?_⟩
  have h := (((cfgM m hO).win 2).blk t).view.emb_mem_set (ix3 (0 : Fin 1) (i (1 : Fin 3)) (i (2 : Fin 3)))
  have ei : (((cfgM m hO).win 2).blk t).view.emb (ix3 (0 : Fin 1) (i (1 : Fin 3)) (i (2 : Fin 3))) = i := by
    funext a; apply Fin.ext
    match a with
    | ⟨0, _⟩ =>
      show ((cfgM m hO).win 2).index t (0 : Fin 3) * 1 + 1 * 0 = (i (0 : Fin 3)).val
      rw [e]; show t.val * 1 + 1 * 0 = (i (0 : Fin 3)).val; omega
    | ⟨1, _⟩ =>
      show ((cfgM m hO).win 2).index t (1 : Fin 3) * 512 + 1 * (i (1 : Fin 3)).val = (i (1 : Fin 3)).val
      rw [e]; show 0 * 512 + 1 * (i (1 : Fin 3)).val = (i (1 : Fin 3)).val; omega
    | ⟨2, _⟩ =>
      show ((cfgM m hO).win 2).index t (2 : Fin 3) * 1024 + 1 * (i (2 : Fin 3)).val = (i (2 : Fin 3)).val
      rw [e]; show 0 * 1024 + 1 * (i (2 : Fin 3)).val = (i (2 : Fin 3)).val; omega
  rwa [ei] at h

include hw in
theorem final_result : (dats m hO 0 c).arrAt 2 (cfgM m hO).N = resultOf m c :=
  (dats m hO 0 c).arrAt_eq_of_cover 2 (resultOf m c) (fun t _ => flushed_result m hw hO c t) (covered_result m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2 |>.trans (final_result m hw hO c), h.2 c⟩) (θ_run_and (run_main m ρ hO) (unchanged m ρ hO))

end Cert.Kernel14Ideal.Hand

end
-- ==== Proof.OutProjDwGiveEqual.lean ====
/- The gradient of the weights of the projection out of the heads, the half that is sent: the
   reference's product, and the two programs' equal results. -/
module

public import proofs.«01_k».proof.Defs
public import proofs.«01_k».proof.Proof.HalfProj
public import proofs.«01_k».proof.Proof.OutProjDwGive
public import proofs.«01_k».proof.Proof.Gen.Reference14Ideal.Read
public import Idealize.ShloMosaic.Lib.Quiescent

@[expose] public section

noncomputable section

namespace Cert.Reference14Ideal.Hand

open Cert.Reference14Ideal Cert.Reference14Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems rfl r.2⟩) (Cert.Reference14Ideal.Value.run m ρ)

/-- The reference computes the half of the columns that the word chooses. -/
theorem value_eq (w : Vec Ideal S1 .i32) (x : Vec Ideal S2048x2048 .bf16) (y : Vec Ideal S2048x2048 .bf16) :
    Read.val_main_v11 (F := Ideal) w x y = outHalf (word w) x y := by
  funext i
  have h0 : (i 0).val < 4 := (i 0).isLt
  have h1 : (i 1).val < 512 := (i 1).isLt
  have h2 : (i 2).val < 1024 := (i 2).isLt
  rw [Read.val_main_v11_apply]
  unfold Read.val_main_v10 Read.val_main_v7 Read.val_main_v6 Read.val_main_c
  refine (select_word w _ _ _ _ _).trans ?_
  unfold outHalf
  split
  · next h =>
    rw [Read.val_main_v8_apply, Read.val_main_v5_apply, Read.val_main_v4_apply]
    refine Finset.sum_congr rfl fun k _ => (mul_comm _ _).trans (congrArg₂ (fun a b : EReal => a * b) (congrArg x (funext fun a => ?_)) (congrArg y (funext fun a => ?_)))
    · match a with
      | ⟨0, _⟩ => rfl
      | ⟨1, _⟩ => exact Fin.ext (by show (((i 0).val * 512 + (i 1).val) * 1024 + (i 2).val) / 1024 = 512 * (i 0).val + (i 1).val; omega)
    · match a with
      | ⟨0, _⟩ => rfl
      | ⟨1, _⟩ => exact Fin.ext (by show (((i 0).val * 512 + (i 1).val) * 1024 + (i 2).val) % 1024 = 1024 * half (word w) + (i 2).val; omega)
  · next h =>
    have h' : half (word w) = 1 := by have := half_le (word w); omega
    rw [Read.val_main_v9_apply, Read.val_main_v5_apply, Read.val_main_v4_apply]
    refine Finset.sum_congr rfl fun k _ => (mul_comm _ _).trans (congrArg₂ (fun a b : EReal => a * b) (congrArg x (funext fun a => ?_)) (congrArg y (funext fun a => ?_)))
    · match a with
      | ⟨0, _⟩ => rfl
      | ⟨1, _⟩ => exact Fin.ext (by show (((i 0).val * 512 + (i 1).val) * 1024 + (i 2).val) / 1024 = 512 * (i 0).val + (i 1).val; omega)
    · match a with
      | ⟨0, _⟩ => rfl
      | ⟨1, _⟩ => exact Fin.ext (by show 1024 + (((i 0).val * 512 + (i 1).val) * 1024 + (i 2).val) % 1024 = 1024 * half (word w) + (i 2).val; omega)

/-- Equal results. -/
theorem equal : Cert.algebraic_Kernel14Ideal_Reference14Ideal (hKernel14Ideal := Cert.Kernel14Ideal.Gen.facts) (hReference14Ideal := Gen.facts) (hPre_core14 := Cert.Pre_core14.Gen.facts) := by
  intro m g m' g' hpre hagree
  refine ⟨fun c => Cert.Kernel14Ideal.Hand.resultOf m c, Cert.Kernel14Ideal.Hand.run m g (Cert.Kernel14Ideal.Hand.word_pre m hpre) (Cert.Kernel14Ideal.Hand.ok_of_pre m hpre),
    (θ_run _ _ _).mono (fun r hr c => ?_) (Value.run m' g')⟩
  obtain rfl : c = 0 := Subsingleton.elim _ _
  obtain ⟨h0, h1, h2⟩ := hagree 0
  have hc := hr 0
  rw [h0, h1, h2] at hc ⊢
  exact ⟨(hc.1.trans (Read.val_main_v11_eq _ _ _)).trans (value_eq _ _ _), hc.2⟩

end Cert.Reference14Ideal.Hand

end
-- ==== Proof.OutProjDwKeepWord.lean ====
/- The gradient of the output projection's weights, the half kept: what its one-word table must hold. -/
module

public import proofs.«01_k».proof.Defs
public import proofs.«01_k».proof.Proof.HalfProj
public import proofs.«01_k».proof.Proof.Gen.Kernel15.Frame
public import proofs.«01_k».proof.Proof.Gen.Kernel15Ideal.Frame
public import proofs.«01_k».proof.Proof.Gen.Pre_core15

@[expose] public section

noncomputable section

namespace Cert.Kernel15.Hand

open Cert.Kernel15 Cert.Kernel15.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] := by
  have e1 : (i 1).val = 0 := by
    have h : (i 1).val < 1 := (i 1).isLt
    omega
  show ![0, (Scalar.addi (Scalar.muli (pf.at 0 (Rect.unit (s := S1) ![0] S1.size Facts₀.inb_S1_S1_0) Facts₀.numel1_S1) 1#32) (BitVec.ofNat 32 (i 1).val)).toNat] = _
  rw [e1, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel15 m) : Ok (F := Bits) m :=
  ok_of_word (tbl m) (word (m (((0 : Dev nD) : Thread nD τ).loc main_arg0) : IVec S1 32)) (word_of_pre _ Pre_core15.Facts.shapeCasts_S1_S_ (h 0)) (word_eq _)

end Cert.Kernel15.Hand

namespace Cert.Kernel15Ideal.Hand

open Cert.Kernel15Ideal Cert.Kernel15Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_1 Facts₀.inb_S1_S1_0 Facts₀.numel1_S1 pf i = ![0, half w] :=
  Kernel15.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel15.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel15Ideal m) : wordOf m = 0#32 ∨ wordOf m = 1#32 :=
  word_of_pre _ Pre_core15.Facts.shapeCasts_S1_S_ (h 0)

theorem ok_of_pre (m : (ℓ : Loc nD τ sig) → Buf (Elt Ideal) ℓ) (h : Cert.Pre_Kernel15Ideal m) : Ok (F := Ideal) m :=
  ok_of_word (tbl m) (wordOf m) (word_pre m h) (tbl_word m)

end Cert.Kernel15Ideal.Hand

end
-- ==== Proof.OutProjDwKeep.lean ====
/- The gradient of the output projection's weights, the half kept: the kernel's blocks and the array they make up. -/
module

public import proofs.«01_k».proof.Proof.OutProjDwKeepWord
public import Idealize.ShloMosaic.Lib.Pipeline.Value

@[expose] public section

set_option maxRecDepth 16384

noncomputable section

namespace Cert.Kernel15Ideal.Hand

open Cert.Kernel15Ideal Cert.Kernel15Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x512 .bf16) (x1 : Vec Ideal S2048x1024 .bf16) (r : Fin 512) (q : Fin 1024) (k : Fin 2048) : EReal := x0 (ix2 k r) * x1 (ix2 k q)

/-- The product of a point's two blocks. -/
theorem product_apply (x0 : Vec Ideal S2048x512 .bf16) (x1 : Vec Ideal S2048x1024 .bf16) (r : Fin 512) (q : Fin 1024) :
    matmul (F := Ideal) (φ₁ := .bf16) (φ₂ := .bf16) dot_S2048x512_S2048x1024_S512x1024_0_0_1_1_n_n none x0 x1 (constant S512x1024 .f32 0x00000000#32) (ix2 r q) = (∑ k : Fin 2048, term x0 x1 r q k) := by
  refine (matmul_rows dot_S2048x512_S2048x1024_S512x1024_0_0_1_1_n_n_wf none x0 x1 _ r q).trans ((congrArg (· + _) Ideal.ofBits_zero_f32).trans ((zero_add _).trans ?_))
  rfl

/-- The product, and the received half added. -/
theorem sum_apply (x0 : Vec Ideal S2048x512 .bf16) (x1 : Vec Ideal S2048x1024 .bf16) (x2 : Vec Ideal S1x512x1024 .f32) (r : Fin 512) (q : Fin 1024) :
    k0_pay1 (F := Ideal) x0 x1 x2 (ix2 r q) = ((∑ k : Fin 2048, term x0 x1 r q k) + x2 (ix3 0 r q) : EReal) := by
  unfold k0_pay1
  refine congrArg₂ (fun a b : EReal => a + b) (product_apply x0 x1 r q) ?_
  show (shapeCast S512x1024 x2 shapeCasts_S1x512x1024_S512x1024 : Vec Ideal S512x1024 .f32) (ix2 r q) = x2 (ix3 0 r q)
  pointwise []

/-- What a point leaves in its block (the first result). -/
theorem out_A3 (c : Dev nD) (i : grid0.Coords) (a4 : Memref sig .tc .vmem S2048x512 .bf16) (h4 : a4.IsWhole) (a5 : Memref sig .tc .vmem S2048x1024 .bf16) (h5 : a5.IsWhole) (a6 : Memref sig .tc .vmem S1x512x1024 .f32) (h6 : a6.IsWhole) (a7 : Memref sig .tc .vmem S1x512x1024 .f32) (h7 : a7.IsWhole) (a8 : Memref sig .tc .vmem S1x512x1024 .bf16) (h8 : a8.IsWhole)
    (x0 : Vec Ideal S2048x512 .bf16) (x1 : Vec Ideal S2048x1024 .bf16) (x2 : Vec Ideal S1x512x1024 .f32) (xt : TbBuf0 (F := Ideal) c tbM0_0) (z : Fin 1) (r : Fin 512) (q : Fin 1024) :
    out0_A_3 (F := Ideal) c i a4 h4 a5 h5 a6 h6 a7 h7 a8 h8 x0 x1 x2 xt (ix3 z r q) = ((∑ k : Fin 2048, term x0 x1 r q k) + x2 (ix3 0 r q) : EReal) := by
  unfold out0_A_3
  rw [View.read_writes_eq_canon _ _ _ (cover0_A_3 c i a4 h4 a5 h5 a6 h6 a7 h7 a8 h8 x0 x1 x2 xt)]
  unfold kernelRun0_A
  dsimp only
  rw [View.canon_unit_zero hz3]
  unfold k0_pay2
  simp only [View.readAt_eq_ld, h4.read_unread, h5.read_unread, h6.read_unread, View.ld_unit_zero (S := S2048x512) hz, View.ld_unit_zero (S := S2048x1024) hz, View.ld_unit_zero (S := S1x512x1024) hz3]
  refine Eq.trans ?_ (sum_apply x0 x1 x2 r q)
  generalize k0_pay1 (F := Ideal) x0 x1 x2 = y
  show (shapeCast S1x512x1024 y shapeCasts_S512x1024_S1x512x1024 : Vec Ideal S1x512x1024 .f32) (ix3 z r q) = y (ix2 r q)
  pointwise []

/-- What a point leaves in its block (the second result). -/
theorem out_A4 (c : Dev nD) (i : grid0.Coords) (a4 : Memref sig .tc .vmem S2048x512 .bf16) (h4 : a4.IsWhole) (a5 : Memref sig .tc .vmem S2048x1024 .bf16) (h5 : a5.IsWhole) (a6 : Memref sig .tc .vmem S1x512x1024 .f32) (h6 : a6.IsWhole) (a7 : Memref sig .tc .vmem S1x512x1024 .f32) (h7 : a7.IsWhole) (a8 : Memref sig .tc .vmem S1x512x1024 .bf16) (h8 : a8.IsWhole)
    (x0 : Vec Ideal S2048x512 .bf16) (x1 : Vec Ideal S2048x1024 .bf16) (x2 : Vec Ideal S1x512x1024 .f32) (xt : TbBuf0 (F := Ideal) c tbM0_0) (z : Fin 1) (r : Fin 512) (q : Fin 1024) :
    out0_A_4 (F := Ideal) c i a4 h4 a5 h5 a6 h6 a7 h7 a8 h8 x0 x1 x2 xt (ix3 z r q) = ((∑ k : Fin 2048, term x0 x1 r q k) + x2 (ix3 0 r q) : EReal) := by
  unfold out0_A_4
  rw [View.read_writes_eq_canon _ _ _ (cover0_A_4 c i a4 h4 a5 h5 a6 h6 a7 h7 a8 h8 x0 x1 x2 xt)]
  unfold kernelRun0_A
  dsimp only
  rw [View.canon_unit_zero hz3]
  unfold k0_pay3
  simp only [View.readAt_eq_ld, h4.read_unread, h5.read_unread, h6.read_unread, View.ld_unit_zero (S := S2048x512) hz, View.ld_unit_zero (S := S2048x1024) hz, View.ld_unit_zero (S := S1x512x1024) hz3]
  refine Eq.trans ?_ (sum_apply x0 x1 x2 r q)
  generalize k0_pay1 (F := Ideal) x0 x1 x2 = y
  show (shapeCast S1x512x1024 (y : Vec Ideal S512x1024 .bf16) shapeCasts_S512x1024_S1x512x1024 : Vec Ideal S1x512x1024 .bf16) (ix3 z r q) = y (ix2 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x512x1024.Idx) : EReal := outHalf (wordOf m) (m ((c : Thread nD τ).loc main_arg1)) (m ((c : Thread nD τ).loc main_arg2)) i + (m ((c : Thread nD τ).loc main_arg3) : Vec Ideal S4x512x1024 .f32) i

/-- The block indices. -/
theorem lt_points (t : Fin (cfgM m hO).N) : t.val < 4 := N_0 ▸ t.isLt
theorem index0 : ∀ t : Fin grid0.N, cc0_transform_0 (grid0.coords t) = ![0, t.val] := by decide +kernel
theorem index2 : ∀ t : Fin grid0.N, cc0_transform_2 (grid0.coords t) = ![t.val, 0, 0] := by decide +kernel
theorem index3 : ∀ t : Fin grid0.N, cc0_transform_3 (grid0.coords t) = ![t.val, 0, 0] := by decide +kernel
theorem index4 : ∀ t : Fin grid0.N, cc0_transform_4 (grid0.coords t) = ![t.val, 0, 0] := by decide +kernel

include hw in
theorem index1 (t : Fin (cfgM m hO).N) : ((cfgM m hO).win 1).index t = ![0, half (wordOf m)] :=
  map_half (tbl m) (wordOf m) hw (tbl_word m) (grid0.coords t)

/-- Each input block, read at an index. -/
theorem iblk0_apply (t : Fin (cfgM m hO).N) (k : Fin 2048) (n : Fin 512) : iblk m hO c 0 t (ix2 k n)
    = (m ((c : Thread nD τ).loc main_arg1) : Vec Ideal S2048x2048 .bf16) (ix2 k ⟨512 * t.val + n.val, by have := lt_points m hO t; omega⟩) := by
  have e : ((cfgM m hO).win 0).index t = ![0, t.val] := index0 t
  rw [← V_main_arg1 m c]
  show (V m c main_arg1 : Vec Ideal S2048x2048 .bf16) ((((cfgM m hO).win 0).blk t).view.emb (ix2 k n)) = _
  refine congrArg (V m c main_arg1 : Vec Ideal S2048x2048 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 512 + 1 * n.val = 512 * t.val + n.val
    rw [e]; show t.val * 512 + 1 * n.val = 512 * t.val + n.val; omega

include hw in
theorem iblk1_apply (t : Fin (cfgM m hO).N) (k : Fin 2048) (n : Fin 1024) : iblk m hO c 1 t (ix2 k n)
    = (m ((c : Thread nD τ).loc main_arg2) : Vec Ideal S2048x2048 .bf16) (ix2 k ⟨1024 * half (wordOf m) + n.val, by have := half_le (wordOf m); omega⟩) := by
  have e := index1 m hw hO t
  rw [← V_main_arg2 m c]
  show (V m c main_arg2 : Vec Ideal S2048x2048 .bf16) ((((cfgM m hO).win 1).blk t).view.emb (ix2 k n)) = _
  refine congrArg (V m c main_arg2 : Vec Ideal S2048x2048 .bf16) (funext fun a => Fin.ext ?_)
  match a with
  | ⟨0, _⟩ =>
    show ((cfgM m hO).win 1).index t (0 : Fin 2) * 2048 + 1 * k.val = k.val
    rw [e]; show 0 * 2048 + 1 * k.val = k.val; omega
  | ⟨1, _⟩ =>
    show ((cfgM m hO).win 1).index t (1 : Fin 2) * 1024 + 1 * n.val = 1024 * half (wordOf m) + n.val
    rw [e]; show half (wordOf m) * 1024 + 1 * n.val = 1024 * half (wordOf m) + n.val; omega

theorem iblk2_apply (t : Fin (cfgM m hO).N) (r : Fin 512) (q : Fin 1024) (z : S4x512x1024.Idx) (h0 : (z 0).val = t.val) (h1 : (z 1).val = r.val) (h2 : (z 2).val = q.val) :
    iblk m hO c 2 t (ix3 0 r q) = (m ((c : Thread nD τ).loc main_arg3) : Vec Ideal S4x512x1024 .f32) z := by
  have e : ((cfgM m hO).win 2).index t = ![t.val, 0, 0] := index2 t
  rw [← V_main_arg3 m c]
  show (V m c main_arg3 : Vec Ideal S4x512x1024 .f32) ((((cfgM m hO).win 2).blk t).view.emb (ix3 0 r q)) = _
  refine congrArg (V m c main_arg3 : Vec Ideal S4x512x1024 .f32) (funext fun a => Fin.ext ?_)
  match a with
  | ⟨0, _⟩ =>
    show ((cfgM m hO).win 2).index t (0 : Fin 3) * 1 + 1 * 0 = (z (0 : Fin 3)).val
    rw [e, h0]; show t.val * 1 + 1 * 0 = t.val; omega
  | ⟨1, _⟩ =>
    show ((cfgM m hO).win 2).index t (1 : Fin 3) * 512 + 1 * r.val = (z (1 : Fin 3)).val
    rw [e, h1]; show 0 * 512 + 1 * r.val = r.val; omega
  | ⟨2, _⟩ =>
    show ((cfgM m hO).win 2).index t (2 : Fin 3) * 1024 + 1 * q.val = (z (2 : Fin 3)).val
    rw [e, h2]; show 0 * 1024 + 1 * q.val = q.val; omega

include hw in
/-- A point's sum is the whole gradient's, at the block's place. -/
theorem sum_result (t : Fin (cfgM m hO).N) (r : Fin 512) (q : Fin 1024) (z : S4x512x1024.Idx) (h0 : (z 0).val = t.val) (h1 : (z 1).val = r.val) (h2 : (z 2).val = q.val) :
    (∑ k : Fin 2048, term (iblk m hO c 0 t) (iblk m hO c 1 t) r q k) = outHalf (wordOf m) (m ((c : Thread nD τ).loc main_arg1)) (m ((c : Thread nD τ).loc main_arg2)) z := by
  unfold outHalf
  refine Finset.sum_congr rfl fun k _ => ?_
  refine congrArg₂ (fun a b : EReal => a * b) ((iblk0_apply m hO c t k r).trans ?_) ((iblk1_apply m hw hO c t k q).trans ?_)
  · exact congrArg (fun a => (m ((c : Thread nD τ).loc main_arg1) : Vec Ideal S2048x2048 .bf16) (ix2 k a)) (Fin.ext (by
      show 512 * t.val + r.val = 512 * (z 0).val + (z 1).val
      rw [h0, h1]))
  · exact congrArg (fun a => (m ((c : Thread nD τ).loc main_arg2) : Vec Ideal S2048x2048 .bf16) (ix2 k a)) (Fin.ext (by
      show 1024 * half (wordOf m) + q.val = 1024 * half (wordOf m) + (z 2).val
      rw [h2]))

theorem after_3 (t : Fin (cfgM m hO).N) : (dats m hO 0 c).after 3 t
    = out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_3]
  unfold outsAt0
  dsimp only

include hw in
/-- What point `t` writes back is its block of the whole result. -/
theorem flushed_result3 (t : Fin (cfgM m hO).N) : (dats m hO 0 c).flushed 3 t = (((cfgM m hO).win 3).blk t).view.read (Elt Ideal) (resultOf m c) := by
  show ((cfgM m hO).win 3).cut ((cfgM m hO).grid.coords t) ((dats m hO 0 c).after 3 t) = _
  rw [after_3]
  funext y
  show out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 3).blk t).view.emb y)
  have e : ((cfgM m hO).win 3).index t = ![t.val, 0, 0] := index3 t
  have key : ∀ (z0 : Fin 1) (r : Fin 512) (q : Fin 1024) (z : S4x512x1024.Idx), (z 0).val = t.val → (z 1).val = r.val → (z 2).val = q.val →
      out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A3 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 3).index t (0 : Fin 3) * 1 + 1 * (y (0 : Fin 3)).val = t.val
    rw [e]; show t.val * 1 + 1 * (y (0 : Fin 3)).val = t.val; omega
  · show ((cfgM m hO).win 3).index t (1 : Fin 3) * 512 + 1 * (y (1 : Fin 3)).val = (y (1 : Fin 3)).val
    rw [e]; show 0 * 512 + 1 * (y (1 : Fin 3)).val = (y (1 : Fin 3)).val; omega
  · show ((cfgM m hO).win 3).index t (2 : Fin 3) * 1024 + 1 * (y (2 : Fin 3)).val = (y (2 : Fin 3)).val
    rw [e]; show 0 * 1024 + 1 * (y (2 : Fin 3)).val = (y (2 : Fin 3)).val; omega

/-- The blocks cover the array. -/
theorem covered_result3 (i : S4x512x1024.Idx) : ∃ t : Fin (cfgM m hO).N, ((cfgM m hO).win 3).flush t = true ∧ i ∈ (((cfgM m hO).win 3).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 3).index t = ![t.val, 0, 0] := index3 t
  have ht : t.val = (i (0 : Fin 3)).val := rfl
  refine ⟨t, flush0_3 (adm m hO) t, ?_⟩
  have h := (((cfgM m hO).win 3).blk t).view.emb_mem_set (ix3 (0 : Fin 1) (i (1 : Fin 3)) (i (2 : Fin 3)))
  have ei : (((cfgM m hO).win 3).blk t).view.emb (ix3 (0 : Fin 1) (i (1 : Fin 3)) (i (2 : Fin 3))) = i := by
    funext a; apply Fin.ext
    match a with
    | ⟨0, _⟩ =>
      show ((cfgM m hO).win 3).index t (0 : Fin 3) * 1 + 1 * 0 = (i (0 : Fin 3)).val
      rw [e]; show t.val * 1 + 1 * 0 = (i (0 : Fin 3)).val; omega
    | ⟨1, _⟩ =>
      show ((cfgM m hO).win 3).index t (1 : Fin 3) * 512 + 1 * (i (1 : Fin 3)).val = (i (1 : Fin 3)).val
      rw [e]; show 0 * 512 + 1 * (i (1 : Fin 3)).val = (i (1 : Fin 3)).val; omega
    | ⟨2, _⟩ =>
      show ((cfgM m hO).win 3).index t (2 : Fin 3) * 1024 + 1 * (i (2 : Fin 3)).val = (i (2 : Fin 3)).val
      rw [e]; show 0 * 1024 + 1 * (i (2 : Fin 3)).val = (i (2 : Fin 3)).val; omega
  rwa [ei] at h

include hw in
theorem final_result3 : (dats m hO 0 c).arrAt 3 (cfgM m hO).N = resultOf m c :=
  (dats m hO 0 c).arrAt_eq_of_cover 3 (resultOf m c) (fun t _ => flushed_result3 m hw hO c t) (covered_result3 m hO)

theorem after_4 (t : Fin (cfgM m hO).N) : (dats m hO 0 c).after 4 t
    = out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_4]
  unfold outsAt0
  dsimp only

include hw in
/-- What point `t` writes back is its block of the whole result. -/
theorem flushed_result4 (t : Fin (cfgM m hO).N) : (dats m hO 0 c).flushed 4 t = (((cfgM m hO).win 4).blk t).view.read (Elt Ideal) (resultOf m c) := by
  show ((cfgM m hO).win 4).cut ((cfgM m hO).grid.coords t) ((dats m hO 0 c).after 4 t) = _
  rw [after_4]
  funext y
  show out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 4).blk t).view.emb y)
  have e : ((cfgM m hO).win 4).index t = ![t.val, 0, 0] := index4 t
  have key : ∀ (z0 : Fin 1) (r : Fin 512) (q : Fin 1024) (z : S4x512x1024.Idx), (z 0).val = t.val → (z 1).val = r.val → (z 2).val = q.val →
      out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A4 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 4).index t (0 : Fin 3) * 1 + 1 * (y (0 : Fin 3)).val = t.val
    rw [e]; show t.val * 1 + 1 * (y (0 : Fin 3)).val = t.val; omega
  · show ((cfgM m hO).win 4).index t (1 : Fin 3) * 512 + 1 * (y (1 : Fin 3)).val = (y (1 : Fin 3)).val
    rw [e]; show 0 * 512 + 1 * (y (1 : Fin 3)).val = (y (1 : Fin 3)).val; omega
  · show ((cfgM m hO).win 4).index t (2 : Fin 3) * 1024 + 1 * (y (2 : Fin 3)).val = (y (2 : Fin 3)).val
    rw [e]; show 0 * 1024 + 1 * (y (2 : Fin 3)).val = (y (2 : Fin 3)).val; omega

/-- The blocks cover the array. -/
theorem covered_result4 (i : S4x512x1024.Idx) : ∃ t : Fin (cfgM m hO).N, ((cfgM m hO).win 4).flush t = true ∧ i ∈ (((cfgM m hO).win 4).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 4).index t = ![t.val, 0, 0] := index4 t
  have ht : t.val = (i (0 : Fin 3)).val := rfl
  refine ⟨t, flush0_4 (adm m hO) t, ?_⟩
  have h := (((cfgM m hO).win 4).blk t).view.emb_mem_set (ix3 (0 : Fin 1) (i (1 : Fin 3)) (i (2 : Fin 3)))
  have ei : (((cfgM m hO).win 4).blk t).view.emb (ix3 (0 : Fin 1) (i (1 : Fin 3)) (i (2 : Fin 3))) = i := by
    funext a; apply Fin.ext
    match a with
    | ⟨0, _⟩ =>
      show ((cfgM m hO).win 4).index t (0 : Fin 3) * 1 + 1 * 0 = (i (0 : Fin 3)).val
      rw [e]; show t.val * 1 + 1 * 0 = (i (0 : Fin 3)).val; omega
    | ⟨1, _⟩ =>
      show ((cfgM m hO).win 4).index t (1 : Fin 3) * 512 + 1 * (i (1 : Fin 3)).val = (i (1 : Fin 3)).val
      rw [e]; show 0 * 512 + 1 * (i (1 : Fin 3)).val = (i (1 : Fin 3)).val; omega
    | ⟨2, _⟩ =>
      show ((cfgM m hO).win 4).index t (2 : Fin 3) * 1024 + 1 * (i (2 : Fin 3)).val = (i (2 : Fin 3)).val
      rw [e]; show 0 * 1024 + 1 * (i (2 : Fin 3)).val = (i (2 : Fin 3)).val; omega
  rwa [ei] at h

include hw in
theorem final_result4 : (dats m hO 0 c).arrAt 4 (cfgM m hO).N = resultOf m c :=
  (dats m hO 0 c).arrAt_eq_of_cover 4 (resultOf m c) (fun t _ => flushed_result4 m hw hO c t) (covered_result4 m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0_0) = resultOf m c
      ∧ r.2.mem ((c : Thread nD τ).loc main_v0_1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 3 |>.trans (final_result3 m hw hO c), (h.1 c).1 4 |>.trans (final_result4 m hw hO c), h.2 c⟩) (θ_run_and (run_main m ρ hO) (unchanged m ρ hO))

end Cert.Kernel15Ideal.Hand

end
-- ==== Proof.OutProjDwKeepEqual.lean ====
/- The gradient of the weights of the projection out of the heads, the half that is kept: the
   reference's product, and the two programs' equal results. -/
module

public import proofs.«01_k».proof.Defs
public import proofs.«01_k».proof.Proof.HalfProj
public import proofs.«01_k».proof.Proof.OutProjDwKeep
public import proofs.«01_k».proof.Proof.Gen.Reference15Ideal.Read
public import Idealize.ShloMosaic.Lib.Quiescent
public import proofs.«01_k».proof.Proof.OutProjDwGiveEqual

@[expose] public section

noncomputable section

namespace Cert.Reference15Ideal.Hand

open Cert.Reference15Ideal Cert.Reference15Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems rfl r.2⟩) (Cert.Reference15Ideal.Value.run m ρ)

/-- The product's half is the one the other call's reference computes. -/
theorem value_eq (w : Vec Ideal S1 .i32) (x : Vec Ideal S2048x2048 .bf16) (y : Vec Ideal S2048x2048 .bf16) :
    Read.val_main_v11 (F := Ideal) w x y = outHalf (word w) x y :=
  (show Read.val_main_v11 (F := Ideal) w x y = Cert.Reference14Ideal.Read.val_main_v11 (F := Ideal) w x y from rfl).trans
    (Cert.Reference14Ideal.Hand.value_eq w x y)

/-- What the two calls' results hold: the half, and the received half added. -/
def result (w : Vec Ideal S1 .i32) (x : Vec Ideal S2048x2048 .bf16) (y : Vec Ideal S2048x2048 .bf16) (g : Vec Ideal S4x512x1024 .f32) (i : S4x512x1024.Idx) : EReal := outHalf (word w) x y i + g i

theorem sum_eq (w : Vec Ideal S1 .i32) (x : Vec Ideal S2048x2048 .bf16) (y : Vec Ideal S2048x2048 .bf16) (g : Vec Ideal S4x512x1024 .f32) :
    Read.val_main_v12 (F := Ideal) w x y g = result w x y g := by
  funext i
  rw [Read.val_main_v12_apply, value_eq]
  rfl

/-- Equal results. -/
theorem equal : Cert.algebraic_Kernel15Ideal_Reference15Ideal (hKernel15Ideal := Cert.Kernel15Ideal.Gen.facts) (hReference15Ideal := Gen.facts) (hPre_core15 := Cert.Pre_core15.Gen.facts) := by
  intro m g m' g' hpre hagree
  refine ⟨fun c => Cert.Kernel15Ideal.Hand.resultOf m c, fun c => Cert.Kernel15Ideal.Hand.resultOf m c, Cert.Kernel15Ideal.Hand.run m g (Cert.Kernel15Ideal.Hand.word_pre m hpre) (Cert.Kernel15Ideal.Hand.ok_of_pre m hpre),
    (θ_run _ _ _).mono (fun r hr c => ?_) (Value.run m' g')⟩
  obtain rfl : c = 0 := Subsingleton.elim _ _
  obtain ⟨h0, h1, h2, h3⟩ := hagree 0
  have hc := hr 0
  rw [h0, h1, h2, h3] at hc ⊢
  exact ⟨(hc.1.trans (Read.val_main_v12_eq _ _ _ _)).trans (sum_eq _ _ _ _),
    (hc.2.1.trans (Read.val_main_v13_eq _ _ _ _)).trans (sum_eq _ _ _ _), hc.2.2⟩

end Cert.Reference15Ideal.Hand

end
-- ==== Proof.InProjDwGiveWord.lean ====
/- The gradient of the input projection's weights, the half given away: what its one-word table must hold. -/
module

public import proofs.«01_k».proof.Defs
public import proofs.«01_k».proof.Proof.HalfProj
public import proofs.«01_k».proof.Proof.Gen.Kernel16.Frame
public import proofs.«01_k».proof.Proof.Gen.Kernel16Ideal.Frame
public import proofs.«01_k».proof.Proof.Gen.Pre_core16

@[expose] public section

noncomputable section

namespace Cert.Kernel16.Hand

open Cert.Kernel16 Cert.Kernel16.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] := by
  have e1 : (i 1).val = 0 := by
    have h : (i 1).val < 1 := (i 1).isLt
    omega
  show ![0, (Scalar.addi (Scalar.muli (pf.at 0 (Rect.unit (s := S1) ![0] S1.size Facts₀.inb_S1_S1_0) Facts₀.numel1_S1) 1#32) (BitVec.ofNat 32 (i 1).val)).toNat] = _
  rw [e1, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel16 m) : Ok (F := Bits) m :=
  ok_of_word (tbl m) (word (m (((0 : Dev nD) : Thread nD τ).loc main_arg0) : IVec S1 32)) (word_of_pre _ Pre_core16.Facts.shapeCasts_S1_S_ (h 0)) (word_eq _)

end Cert.Kernel16.Hand

namespace Cert.Kernel16Ideal.Hand

open Cert.Kernel16Ideal Cert.Kernel16Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] :=
  Kernel16.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel16.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel16Ideal m) : wordOf m = 0#32 ∨ wordOf m = 1#32 :=
  word_of_pre _ Pre_core16.Facts.shapeCasts_S1_S_ (h 0)

theorem ok_of_pre (m : (ℓ : Loc nD τ sig) → Buf (Elt Ideal) ℓ) (h : Cert.Pre_Kernel16Ideal m) : Ok (F := Ideal) m :=
  ok_of_word (tbl m) (wordOf m) (word_pre m h) (tbl_word m)

end Cert.Kernel16Ideal.Hand

end
-- ==== Proof.InProjDwGive.lean ====
/- The gradient of the input projection's weights, the half given away: the kernel's blocks and the array they make up. -/
module

public import proofs.«01_k».proof.Proof.InProjDwGiveWord
public import Idealize.ShloMosaic.Lib.Pipeline.Value

@[expose] public section

set_option maxRecDepth 16384

noncomputable section

namespace Cert.Kernel16Ideal.Hand

open Cert.Kernel16Ideal Cert.Kernel16Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x1024 .bf16) (x1 : Vec Ideal S2048x512 .bf16) (r : Fin 1024) (q : Fin 512) (k : Fin 2048) : EReal := x0 (ix2 k r) * x1 (ix2 k q)

/-- The product of a point's two blocks. -/
theorem product_apply (x0 : Vec Ideal S2048x1024 .bf16) (x1 : Vec Ideal S2048x512 .bf16) (r : Fin 1024) (q : Fin 512) :
    matmul (F := Ideal) (φ₁ := .bf16) (φ₂ := .bf16) dot_S2048x1024_S2048x512_S1024x512_0_0_1_1_n_n none x0 x1 (constant S1024x512 .f32 0x00000000#32) (ix2 r q) = (∑ k : Fin 2048, term x0 x1 r q k) := by
  refine (matmul_rows dot_S2048x1024_S2048x512_S1024x512_0_0_1_1_n_n_wf none x0 x1 _ r q).trans ((congrArg (· + _) Ideal.ofBits_zero_f32).trans ((zero_add _).trans ?_))
  rfl

/-- What a point leaves in its block. -/
theorem out_A (c : Dev nD) (i : grid0.Coords) (a4 : Memref sig .tc .vmem S2048x1024 .bf16) (h4 : a4.IsWhole) (a5 : Memref sig .tc .vmem S2048x512 .bf16) (h5 : a5.IsWhole) (a6 : Memref sig .tc .vmem S1x1024x512 .f32) (h6 : a6.IsWhole)
    (x0 : Vec Ideal S2048x1024 .bf16) (x1 : Vec Ideal S2048x512 .bf16) (xt : TbBuf0 (F := Ideal) c tbM0_0) (z : Fin 1) (r : Fin 1024) (q : Fin 512) :
    out0_A_2 (F := Ideal) c i a4 h4 a5 h5 a6 h6 x0 x1 xt (ix3 z r q) = (∑ k : Fin 2048, term x0 x1 r q k) := by
  unfold out0_A_2
  rw [View.read_writes_eq_canon _ _ _ (cover0_A_2 c i a4 h4 a5 h5 a6 h6 x0 x1 xt)]
  unfold kernelRun0_A
  dsimp only
  rw [View.canon_unit_zero hz3]
  unfold k0_pay1
  simp only [View.readAt_eq_ld, h4.read_unread, h5.read_unread, View.ld_unit_zero (S := S2048x1024) hz, View.ld_unit_zero (S := S2048x512) hz]
  refine Eq.trans ?_ (product_apply x0 x1 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x1024x512.Idx) : EReal := inHalf (wordOf m) (m ((c : Thread nD τ).loc main_arg1)) (m ((c : Thread nD τ).loc main_arg2)) i

/-- The block indices. -/
theorem lt_points (t : Fin (cfgM m hO).N) : t.val < 4 := N_0 ▸ t.isLt
theorem index1 : ∀ t : Fin grid0.N, cc0_transform_1 (grid0.coords t) = ![0, t.val] := by decide +kernel
theorem index2 : ∀ t : Fin grid0.N, cc0_transform_2 (grid0.coords t) = ![t.val, 0, 0] := by decide +kernel

include hw in
theorem index0 (t : Fin (cfgM m hO).N) : ((cfgM m hO).win 0).index t = ![0, half (wordOf m)] :=
  map_half (tbl m) (wordOf m) hw (tbl_word m) (grid0.coords t)

include hw in
/-- Each input block, read at an index. -/
theorem iblk0_apply (t : Fin (cfgM m hO).N) (k : Fin 2048) (n : Fin 1024) : iblk m hO c 0 t (ix2 k n)
    = (m ((c : Thread nD τ).loc main_arg1) : Vec Ideal S2048x2048 .bf16) (ix2 k ⟨1024 * half (wordOf m) + n.val, by have := half_le (wordOf m); omega⟩) := by
  have e := index0 m hw hO t
  rw [← V_main_arg1 m c]
  show (V m c main_arg1 : Vec Ideal S2048x2048 .bf16) ((((cfgM m hO).win 0).blk t).view.emb (ix2 k n)) = _
  refine congrArg (V m c main_arg1 : Vec Ideal S2048x2048 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 1024 + 1 * n.val = 1024 * half (wordOf m) + n.val
    rw [e]; show half (wordOf m) * 1024 + 1 * n.val = 1024 * half (wordOf m) + n.val; omega

theorem iblk1_apply (t : Fin (cfgM m hO).N) (k : Fin 2048) (n : Fin 512) : iblk m hO c 1 t (ix2 k n)
    = (m ((c : Thread nD τ).loc main_arg2) : Vec Ideal S2048x2048 .bf16) (ix2 k ⟨512 * t.val + n.val, by have := lt_points m hO t; omega⟩) := by
  have e : ((cfgM m hO).win 1).index t = ![0, t.val] := index1 t
  rw [← V_main_arg2 m c]
  show (V m c main_arg2 : Vec Ideal S2048x2048 .bf16) ((((cfgM m hO).win 1).blk t).view.emb (ix2 k n)) = _
  refine congrArg (V m c main_arg2 : Vec Ideal S2048x2048 .bf16) (funext fun a => Fin.ext ?_)
  match a with
  | ⟨0, _⟩ =>
    show ((cfgM m hO).win 1).index t (0 : Fin 2) * 2048 + 1 * k.val = k.val
    rw [e]; show 0 * 2048 + 1 * k.val = k.val; omega
  | ⟨1, _⟩ =>
    show ((cfgM m hO).win 1).index t (1 : Fin 2) * 512 + 1 * n.val = 512 * t.val + n.val
    rw [e]; show t.val * 512 + 1 * n.val = 512 * t.val + n.val; omega

include hw in
/-- A point's sum is the whole gradient's, at the block's place. -/
theorem sum_result (t : Fin (cfgM m hO).N) (r : Fin 1024) (q : Fin 512) (z : S4x1024x512.Idx) (h0 : (z 0).val = t.val) (h1 : (z 1).val = r.val) (h2 : (z 2).val = q.val) :
    (∑ k : Fin 2048, term (iblk m hO c 0 t) (iblk m hO c 1 t) r q k) = inHalf (wordOf m) (m ((c : Thread nD τ).loc main_arg1)) (m ((c : Thread nD τ).loc main_arg2)) z := by
  unfold inHalf
  refine Finset.sum_congr rfl fun k _ => ?_
  refine congrArg₂ (fun a b : EReal => a * b) ((iblk0_apply m hw hO c t k r).trans ?_) ((iblk1_apply m hO c t k q).trans ?_)
  · exact congrArg (fun a => (m ((c : Thread nD τ).loc main_arg1) : Vec Ideal S2048x2048 .bf16) (ix2 k a)) (Fin.ext (by
      show 1024 * half (wordOf m) + r.val = 1024 * half (wordOf m) + (z 1).val
      rw [h1]))
  · exact congrArg (fun a => (m ((c : Thread nD τ).loc main_arg2) : Vec Ideal S2048x2048 .bf16) (ix2 k a)) (Fin.ext (by
      show 512 * t.val + q.val = 512 * (z 0).val + (z 2).val
      rw [h0, h2]))

include hw in
/-- What point `t` writes back is its block of the whole result. -/
theorem flushed_result (t : Fin (cfgM m hO).N) : (dats m hO 0 c).flushed 2 t = (((cfgM m hO).win 2).blk t).view.read (Elt Ideal) (resultOf m c) := by
  show ((cfgM m hO).win 2).cut ((cfgM m hO).grid.coords t) ((dats m hO 0 c).after 2 t) = _
  rw [after0_2]
  funext y
  show out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) y
    = resultOf m c ((((cfgM m hO).win 2).blk t).view.emb y)
  have e : ((cfgM m hO).win 2).index t = ![t.val, 0, 0] := index2 t
  have key : ∀ (z0 : Fin 1) (r : Fin 1024) (q : Fin 512) (z : S4x1024x512.Idx), (z 0).val = t.val → (z 1).val = r.val → (z 2).val = q.val →
      out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) (ix3 z0 r q) = resultOf m c z := by
    intro z0 r q z h0 h1 h2
    exact (out_A c _ _ _ _ _ _ _ _ _ _ z0 r q).trans (sum_result m hw hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 2).index t (0 : Fin 3) * 1 + 1 * (y (0 : Fin 3)).val = t.val
    rw [e]; show t.val * 1 + 1 * (y (0 : Fin 3)).val = t.val; omega
  · show ((cfgM m hO).win 2).index t (1 : Fin 3) * 1024 + 1 * (y (1 : Fin 3)).val = (y (1 : Fin 3)).val
    rw [e]; show 0 * 1024 + 1 * (y (1 : Fin 3)).val = (y (1 : Fin 3)).val; omega
  · show ((cfgM m hO).win 2).index t (2 : Fin 3) * 512 + 1 * (y (2 : Fin 3)).val = (y (2 : Fin 3)).val
    rw [e]; show 0 * 512 + 1 * (y (2 : Fin 3)).val = (y (2 : Fin 3)).val; omega

/-- The blocks cover the array. -/
theorem covered_result (i : S4x1024x512.Idx) : ∃ t : Fin (cfgM m hO).N, ((cfgM m hO).win 2).flush t = true ∧ i ∈ (((cfgM m hO).win 2).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 2).index t = ![t.val, 0, 0] := index2 t
  have ht : t.val = (i (0 : Fin 3)).val := rfl
  refine ⟨t, flush0_2 (adm m hO) t, ?_⟩
  have h := (((cfgM m hO).win 2).blk t).view.emb_mem_set (ix3 (0 : Fin 1) (i (1 : Fin 3)) (i (2 : Fin 3)))
  have ei : (((cfgM m hO).win 2).blk t).view.emb (ix3 (0 : Fin 1) (i (1 : Fin 3)) (i (2 : Fin 3))) = i := by
    funext a; apply Fin.ext
    match a with
    | ⟨0, _⟩ =>
      show ((cfgM m hO).win 2).index t (0 : Fin 3) * 1 + 1 * 0 = (i (0 : Fin 3)).val
      rw [e]; show t.val * 1 + 1 * 0 = (i (0 : Fin 3)).val; omega
    | ⟨1, _⟩ =>
      show ((cfgM m hO).win 2).index t (1 : Fin 3) * 1024 + 1 * (i (1 : Fin 3)).val = (i (1 : Fin 3)).val
      rw [e]; show 0 * 1024 + 1 * (i (1 : Fin 3)).val = (i (1 : Fin 3)).val; omega
    | ⟨2, _⟩ =>
      show ((cfgM m hO).win 2).index t (2 : Fin 3) * 512 + 1 * (i (2 : Fin 3)).val = (i (2 : Fin 3)).val
      rw [e]; show 0 * 512 + 1 * (i (2 : Fin 3)).val = (i (2 : Fin 3)).val; omega
  rwa [ei] at h

include hw in
theorem final_result : (dats m hO 0 c).arrAt 2 (cfgM m hO).N = resultOf m c :=
  (dats m hO 0 c).arrAt_eq_of_cover 2 (resultOf m c) (fun t _ => flushed_result m hw hO c t) (covered_result m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2 |>.trans (final_result m hw hO c), h.2 c⟩) (θ_run_and (run_main m ρ hO) (unchanged m ρ hO))

end Cert.Kernel16Ideal.Hand

end
-- ==== Proof.InProjDwGiveEqual.lean ====
/- The gradient of the weights of the projection into the heads, the half that is sent: the
   reference's product, and the two programs' equal results. -/
module

public import proofs.«01_k».proof.Defs
public import proofs.«01_k».proof.Proof.HalfProj
public import proofs.«01_k».proof.Proof.InProjDwGive
public import proofs.«01_k».proof.Proof.Gen.Reference16Ideal.Read
public import Idealize.ShloMosaic.Lib.Quiescent

@[expose] public section

noncomputable section

namespace Cert.Reference16Ideal.Hand

open Cert.Reference16Ideal Cert.Reference16Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems rfl r.2⟩) (Cert.Reference16Ideal.Value.run m ρ)

/-- The reference computes the half of the rows that the word chooses. -/
theorem value_eq (w : Vec Ideal S1 .i32) (x : Vec Ideal S2048x2048 .bf16) (y : Vec Ideal S2048x2048 .bf16) :
    Read.val_main_v12 (F := Ideal) w x y = inHalf (word w) x y := by
  funext i
  have h0 : (i 0).val < 4 := (i 0).isLt
  have h1 : (i 1).val < 1024 := (i 1).isLt
  have h2 : (i 2).val < 512 := (i 2).isLt
  rw [Read.val_main_v12_apply, Read.val_main_v11_apply]
  unfold Read.val_main_v10 Read.val_main_v7 Read.val_main_v6 Read.val_main_c
  refine (select_word w _ _ _ _ _).trans ?_
  unfold inHalf
  split
  · next h =>
    rw [Read.val_main_v8_apply, Read.val_main_v5_apply, Read.val_main_v4_apply]
    refine Finset.sum_congr rfl fun k _ => (mul_comm _ _).trans (congrArg₂ (fun a b : EReal => a * b) (congrArg x (funext fun a => ?_)) (congrArg y (funext fun a => ?_)))
    · match a with
      | ⟨0, _⟩ => rfl
      | ⟨1, _⟩ => exact Fin.ext (by show (((i 1).val * 4 + (i 0).val) * 512 + (i 2).val) / 2048 = 1024 * half (word w) + (i 1).val; omega)
    · match a with
      | ⟨0, _⟩ => rfl
      | ⟨1, _⟩ => exact Fin.ext (by show (((i 1).val * 4 + (i 0).val) * 512 + (i 2).val) % 2048 = 512 * (i 0).val + (i 2).val; omega)
  · next h =>
    have h' : half (word w) = 1 := by have := half_le (word w); omega
    rw [Read.val_main_v9_apply, Read.val_main_v5_apply, Read.val_main_v4_apply]
    refine Finset.sum_congr rfl fun k _ => (mul_comm _ _).trans (congrArg₂ (fun a b : EReal => a * b) (congrArg x (funext fun a => ?_)) (congrArg y (funext fun a => ?_)))
    · match a with
      | ⟨0, _⟩ => rfl
      | ⟨1, _⟩ => exact Fin.ext (by show 1024 + (((i 1).val * 4 + (i 0).val) * 512 + (i 2).val) / 2048 = 1024 * half (word w) + (i 1).val; omega)
    · match a with
      | ⟨0, _⟩ => rfl
      | ⟨1, _⟩ => exact Fin.ext (by show (((i 1).val * 4 + (i 0).val) * 512 + (i 2).val) % 2048 = 512 * (i 0).val + (i 2).val; omega)

/-- Equal results. -/
theorem equal : Cert.algebraic_Kernel16Ideal_Reference16Ideal (hKernel16Ideal := Cert.Kernel16Ideal.Gen.facts) (hReference16Ideal := Gen.facts) (hPre_core16 := Cert.Pre_core16.Gen.facts) := by
  intro m g m' g' hpre hagree
  refine ⟨fun c => Cert.Kernel16Ideal.Hand.resultOf m c, Cert.Kernel16Ideal.Hand.run m g (Cert.Kernel16Ideal.Hand.word_pre m hpre) (Cert.Kernel16Ideal.Hand.ok_of_pre m hpre),
    (θ_run _ _ _).mono (fun r hr c => ?_) (Value.run m' g')⟩
  obtain rfl : c = 0 := Subsingleton.elim _ _
  obtain ⟨h0, h1, h2⟩ := hagree 0
  have hc := hr 0
  rw [h0, h1, h2] at hc ⊢
  exact ⟨(hc.1.trans (Read.val_main_v12_eq _ _ _)).trans (value_eq _ _ _), hc.2⟩

end Cert.Reference16Ideal.Hand

end
-- ==== Proof.InProjDwKeepWord.lean ====
/- The gradient of the input projection's weights, the half kept: what its one-word table must hold. -/
module

public import proofs.«01_k».proof.Defs
public import proofs.«01_k».proof.Proof.HalfProj
public import proofs.«01_k».proof.Proof.Gen.Kernel17.Frame
public import proofs.«01_k».proof.Proof.Gen.Kernel17Ideal.Frame
public import proofs.«01_k».proof.Proof.Gen.Pre_core17

@[expose] public section

noncomputable section

namespace Cert.Kernel17.Hand

open Cert.Kernel17 Cert.Kernel17.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] := by
  have e1 : (i 1).val = 0 := by
    have h : (i 1).val < 1 := (i 1).isLt
    omega
  show ![0, (Scalar.addi (Scalar.muli (pf.at 0 (Rect.unit (s := S1) ![0] S1.size Facts₀.inb_S1_S1_0) Facts₀.numel1_S1) 1#32) (BitVec.ofNat 32 (i 1).val)).toNat] = _
  rw [e1, show (pf.at 0 (Rect.unit (s := S1) ![0] S1.size Facts₀.inb_S1_S1_0) Facts₀.numel1_S1 : BitVec 32) = w from hp _, block_half hw]

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf := by
  intro i
  refine ⟨fun a => ?_, .inr (Affine.block_words_dvd (of_decide_eq_true rfl) (by decide))⟩
  rw [map_half pf w hw hp i]
  have := half_le w
  match a with
  | ⟨0, _⟩ => show (0 + 1) * 2048 ≤ 2048; omega
  | ⟨1, _⟩ => show (half w + 1) * 1024 ≤ 2048; omega

theorem ok_of_pre (m : (ℓ : Loc nD τ sig) → Buf (Elt Bits) ℓ) (h : Cert.Pre_Kernel17 m) : Ok (F := Bits) m :=
  ok_of_word (tbl m) (word (m (((0 : Dev nD) : Thread nD τ).loc main_arg0) : IVec S1 32)) (word_of_pre _ Pre_core17.Facts.shapeCasts_S1_S_ (h 0)) (word_eq _)

end Cert.Kernel17.Hand

namespace Cert.Kernel17Ideal.Hand

open Cert.Kernel17Ideal Cert.Kernel17Ideal.Gen Idealize.ShloMosaic Idealize.ShloMosaic.TcCoe Cert.Hand

variable {F : FTy → Type} [FloatOps F]

/-- The map that reads the table picks the block of the half that the word chooses. -/
theorem map_half (pf : pre0.Contents (Elt F)) (w : BitVec 32) (hw : w = 0#32 ∨ w = 1#32) (hp : ∀ x : S1.Idx, (pf 0 : IVec S1 32) x = w) (i : grid0.Coords) :
    cc0_transform_0 Facts₀.inb_S1_S1_0 Facts₀.numel1_S1 pf i = ![0, half w] :=
  Kernel17.Hand.map_half pf w hw hp i

/-- So its blocks are inside the array and made of whole words. -/
theorem ok_of_word (pf : pre0.Contents (Elt F)) (w : BitVec 32) (hw : w = 0#32 ∨ w = 1#32) (hp : ∀ x : S1.Idx, (pf 0 : IVec S1 32) x = w) : ok0 pf :=
  Kernel17.Hand.ok_of_word pf w hw hp

/-- The word of the memory at the start. -/
def wordOf (m : (ℓ : Loc nD τ sig) → Buf (Elt F) ℓ) : BitVec 32 := word (m (((0 : Dev nD) : Thread nD τ).loc main_arg0) : IVec S1 32)

theorem tbl_word (m : (ℓ : Loc nD τ sig) → Buf (Elt F) ℓ) (x : S1.Idx) : (tbl m 0 : IVec S1 32) x = wordOf m := word_eq _ x

theorem word_pre (m : (ℓ : Loc nD τ sig) → Buf (Elt Ideal) ℓ) (h : Cert.Pre_Kernel17Ideal m) : wordOf m = 0#32 ∨ wordOf m = 1#32 :=
  word_of_pre _ Pre_core17.Facts.shapeCasts_S1_S_ (h 0)

theorem ok_of_pre (m : (ℓ : Loc nD τ sig) → Buf (Elt Ideal) ℓ) (h : Cert.Pre_Kernel17Ideal m) : Ok (F := Ideal) m :=
  ok_of_word (tbl m) (wordOf m) (word_pre m h) (tbl_word m)

end Cert.Kernel17Ideal.Hand

end
-- ==== Proof.InProjDwKeep.lean ====
/- The gradient of the input projection's weights, the half kept: the kernel's blocks and the array they make up. -/
module

public import proofs.«01_k».proof.Proof.InProjDwKeepWord
public import Idealize.ShloMosaic.Lib.Pipeline.Value

@[expose] public section

set_option maxRecDepth 16384

noncomputable section

namespace Cert.Kernel17Ideal.Hand

open Cert.Kernel17Ideal Cert.Kernel17Ideal.Gen Idealize.ShloMosaic Idealize.ShloMosaic.TcCoe Idealize.SL.Sem Cert.Hand

theorem hz : (![0, 0] : Fin 2 → Nat) = fun _ => 0 := funext fun a => by fin_cases a <;> rfl
theorem hz3 : (![0, 0, 0] : Fin 3 → Nat) = fun _ => 0 := funext fun a => by fin_cases a <;> rfl

/-- One product of a point's sum. -/
def term (x0 : Vec Ideal S2048x1024 .bf16) (x1 : Vec Ideal S2048x512 .bf16) (r : Fin 1024) (q : Fin 512) (k : Fin 2048) : EReal := x0 (ix2 k r) * x1 (ix2 k q)

/-- The product of a point's two blocks. -/
theorem product_apply (x0 : Vec Ideal S2048x1024 .bf16) (x1 : Vec Ideal S2048x512 .bf16) (r : Fin 1024) (q : Fin 512) :
    matmul (F := Ideal) (φ₁ := .bf16) (φ₂ := .bf16) dot_S2048x1024_S2048x512_S1024x512_0_0_1_1_n_n none x0 x1 (constant S1024x512 .f32 0x00000000#32) (ix2 r q) = (∑ k : Fin 2048, term x0 x1 r q k) := by
  refine (matmul_rows dot_S2048x1024_S2048x512_S1024x512_0_0_1_1_n_n_wf none x0 x1 _ r q).trans ((congrArg (· + _) Ideal.ofBits_zero_f32).trans ((zero_add _).trans ?_))
  rfl

/-- The product, and the received half added. -/
theorem sum_apply (x0 : Vec Ideal S2048x1024 .bf16) (x1 : Vec Ideal S2048x512 .bf16) (x2 : Vec Ideal S1x1024x512 .f32) (r : Fin 1024) (q : Fin 512) :
    k0_pay1 (F := Ideal) x0 x1 x2 (ix2 r q) = ((∑ k : Fin 2048, term x0 x1 r q k) + x2 (ix3 0 r q) : EReal) := by
  unfold k0_pay1
  refine congrArg₂ (fun a b : EReal => a + b) (product_apply x0 x1 r q) ?_
  show (shapeCast S1024x512 x2 shapeCasts_S1x1024x512_S1024x512 : Vec Ideal S1024x512 .f32) (ix2 r q) = x2 (ix3 0 r q)
  pointwise []

/-- What a point leaves in its block (the first result). -/
theorem out_A3 (c : Dev nD) (i : grid0.Coords) (a4 : Memref sig .tc .vmem S2048x1024 .bf16) (h4 : a4.IsWhole) (a5 : Memref sig .tc .vmem S2048x512 .bf16) (h5 : a5.IsWhole) (a6 : Memref sig .tc .vmem S1x1024x512 .f32) (h6 : a6.IsWhole) (a7 : Memref sig .tc .vmem S1x1024x512 .f32) (h7 : a7.IsWhole) (a8 : Memref sig .tc .vmem S1x1024x512 .bf16) (h8 : a8.IsWhole)
    (x0 : Vec Ideal S2048x1024 .bf16) (x1 : Vec Ideal S2048x512 .bf16) (x2 : Vec Ideal S1x1024x512 .f32) (xt : TbBuf0 (F := Ideal) c tbM0_0) (z : Fin 1) (r : Fin 1024) (q : Fin 512) :
    out0_A_3 (F := Ideal) c i a4 h4 a5 h5 a6 h6 a7 h7 a8 h8 x0 x1 x2 xt (ix3 z r q) = ((∑ k : Fin 2048, term x0 x1 r q k) + x2 (ix3 0 r q) : EReal) := by
  unfold out0_A_3
  rw [View.read_writes_eq_canon _ _ _ (cover0_A_3 c i a4 h4 a5 h5 a6 h6 a7 h7 a8 h8 x0 x1 x2 xt)]
  unfold kernelRun0_A
  dsimp only
  rw [View.canon_unit_zero hz3]
  unfold k0_pay2
  simp only [View.readAt_eq_ld, h4.read_unread, h5.read_unread, h6.read_unread, View.ld_unit_zero (S := S2048x1024) hz, View.ld_unit_zero (S := S2048x512) hz, View.ld_unit_zero (S := S1x1024x512) hz3]
  refine Eq.trans ?_ (sum_apply x0 x1 x2 r q)
  generalize k0_pay1 (F := Ideal) x0 x1 x2 = y
  show (shapeCast S1x1024x512 y shapeCasts_S1024x512_S1x1024x512 : Vec Ideal S1x1024x512 .f32) (ix3 z r q) = y (ix2 r q)
  pointwise []

/-- What a point leaves in its block (the second result). -/
theorem out_A4 (c : Dev nD) (i : grid0.Coords) (a4 : Memref sig .tc .vmem S2048x1024 .bf16) (h4 : a4.IsWhole) (a5 : Memref sig .tc .vmem S2048x512 .bf16) (h5 : a5.IsWhole) (a6 : Memref sig .tc .vmem S1x1024x512 .f32) (h6 : a6.IsWhole) (a7 : Memref sig .tc .vmem S1x1024x512 .f32) (h7 : a7.IsWhole) (a8 : Memref sig .tc .vmem S1x1024x512 .bf16) (h8 : a8.IsWhole)
    (x0 : Vec Ideal S2048x1024 .bf16) (x1 : Vec Ideal S2048x512 .bf16) (x2 : Vec Ideal S1x1024x512 .f32) (xt : TbBuf0 (F := Ideal) c tbM0_0) (z : Fin 1) (r : Fin 1024) (q : Fin 512) :
    out0_A_4 (F := Ideal) c i a4 h4 a5 h5 a6 h6 a7 h7 a8 h8 x0 x1 x2 xt (ix3 z r q) = ((∑ k : Fin 2048, term x0 x1 r q k) + x2 (ix3 0 r q) : EReal) := by
  unfold out0_A_4
  rw [View.read_writes_eq_canon _ _ _ (cover0_A_4 c i a4 h4 a5 h5 a6 h6 a7 h7 a8 h8 x0 x1 x2 xt)]
  unfold kernelRun0_A
  dsimp only
  rw [View.canon_unit_zero hz3]
  unfold k0_pay3
  simp only [View.readAt_eq_ld, h4.read_unread, h5.read_unread, h6.read_unread, View.ld_unit_zero (S := S2048x1024) hz, View.ld_unit_zero (S := S2048x512) hz, View.ld_unit_zero (S := S1x1024x512) hz3]
  refine Eq.trans ?_ (sum_apply x0 x1 x2 r q)
  generalize k0_pay1 (F := Ideal) x0 x1 x2 = y
  show (shapeCast S1x1024x512 (y : Vec Ideal S1024x512 .bf16) shapeCasts_S1024x512_S1x1024x512 : Vec Ideal S1x1024x512 .bf16) (ix3 z r q) = y (ix2 r q)
  pointwise []

variable (m : (ℓ : Loc nD τ sig) → Buf (Elt Ideal) ℓ) (ρ : Dev nD → PrngReg) (hw : wordOf m = 0#32 ∨ wordOf m = 1#32) (hO : Ok m) (c : Dev nD)

/-- Device `c`'s result. -/
def resultOf (i : S4x1024x512.Idx) : EReal := inHalf (wordOf m) (m ((c : Thread nD τ).loc main_arg1)) (m ((c : Thread nD τ).loc main_arg2)) i + (m ((c : Thread nD τ).loc main_arg3) : Vec Ideal S4x1024x512 .f32) i

/-- The block indices. -/
theorem lt_points (t : Fin (cfgM m hO).N) : t.val < 4 := N_0 ▸ t.isLt
theorem index1 : ∀ t : Fin grid0.N, cc0_transform_1 (grid0.coords t) = ![0, t.val] := by decide +kernel
theorem index2 : ∀ t : Fin grid0.N, cc0_transform_2 (grid0.coords t) = ![t.val, 0, 0] := by decide +kernel
theorem index3 : ∀ t : Fin grid0.N, cc0_transform_3 (grid0.coords t) = ![t.val, 0, 0] := by decide +kernel
theorem index4 : ∀ t : Fin grid0.N, cc0_transform_4 (grid0.coords t) = ![t.val, 0, 0] := by decide +kernel

include hw in
theorem index0 (t : Fin (cfgM m hO).N) : ((cfgM m hO).win 0).index t = ![0, half (wordOf m)] :=
  map_half (tbl m) (wordOf m) hw (tbl_word m) (grid0.coords t)

include hw in
/-- Each input block, read at an index. -/
theorem iblk0_apply (t : Fin (cfgM m hO).N) (k : Fin 2048) (n : Fin 1024) : iblk m hO c 0 t (ix2 k n)
    = (m ((c : Thread nD τ).loc main_arg1) : Vec Ideal S2048x2048 .bf16) (ix2 k ⟨1024 * half (wordOf m) + n.val, by have := half_le (wordOf m); omega⟩) := by
  have e := index0 m hw hO t
  rw [← V_main_arg1 m c]
  show (V m c main_arg1 : Vec Ideal S2048x2048 .bf16) ((((cfgM m hO).win 0).blk t).view.emb (ix2 k n)) = _
  refine congrArg (V m c main_arg1 : Vec Ideal S2048x2048 .bf16) (funext fun a => Fin.ext ?_)
  match a with
  | ⟨0, _⟩ =>
    show ((cfgM m hO).win 0).index t (0 : Fin 2) * 2048 + 1 * k.val = k.val
    rw [e]; show 0 * 2048 + 1 * k.val = k.val; omega
  | ⟨1, _⟩ =>
    show ((cfgM m hO).win 0).index t (1 : Fin 2) * 1024 + 1 * n.val = 1024 * half (wordOf m) + n.val
    rw [e]; show half (wordOf m) * 1024 + 1 * n.val = 1024 * half (wordOf m) + n.val; omega

theorem iblk1_apply (t : Fin (cfgM m hO).N) (k : Fin 2048) (n : Fin 512) : iblk m hO c 1 t (ix2 k n)
    = (m ((c : Thread nD τ).loc main_arg2) : Vec Ideal S2048x2048 .bf16) (ix2 k ⟨512 * t.val + n.val, by have := lt_points m hO t; omega⟩) := by
  have e : ((cfgM m hO).win 1).index t = ![0, t.val] := index1 t
  rw [← V_main_arg2 m c]
  show (V m c main_arg2 : Vec Ideal S2048x2048 .bf16) ((((cfgM m hO).win 1).blk t).view.emb (ix2 k n)) = _
  refine congrArg (V m c main_arg2 : Vec Ideal S2048x2048 .bf16) (funext fun a => Fin.ext ?_)
  match a with
  | ⟨0, _⟩ =>
    show ((cfgM m hO).win 1).index t (0 : Fin 2) * 2048 + 1 * k.val = k.val
    rw [e]; show 0 * 2048 + 1 * k.val = k.val; omega
  | ⟨1, _⟩ =>
    show ((cfgM m hO).win 1).index t (1 : Fin 2) * 512 + 1 * n.val = 512 * t.val + n.val
    rw [e]; show t.val * 512 + 1 * n.val = 512 * t.val + n.val; omega

theorem iblk2_apply (t : Fin (cfgM m hO).N) (r : Fin 1024) (q : Fin 512) (z : S4x1024x512.Idx) (h0 : (z 0).val = t.val) (h1 : (z 1).val = r.val) (h2 : (z 2).val = q.val) :
    iblk m hO c 2 t (ix3 0 r q) = (m ((c : Thread nD τ).loc main_arg3) : Vec Ideal S4x1024x512 .f32) z := by
  have e : ((cfgM m hO).win 2).index t = ![t.val, 0, 0] := index2 t
  rw [← V_main_arg3 m c]
  show (V m c main_arg3 : Vec Ideal S4x1024x512 .f32) ((((cfgM m hO).win 2).blk t).view.emb (ix3 0 r q)) = _
  refine congrArg (V m c main_arg3 : Vec Ideal S4x1024x512 .f32) (funext fun a => Fin.ext ?_)
  match a with
  | ⟨0, _⟩ =>
    show ((cfgM m hO).win 2).index t (0 : Fin 3) * 1 + 1 * 0 = (z (0 : Fin 3)).val
    rw [e, h0]; show t.val * 1 + 1 * 0 = t.val; omega
  | ⟨1, _⟩ =>
    show ((cfgM m hO).win 2).index t (1 : Fin 3) * 1024 + 1 * r.val = (z (1 : Fin 3)).val
    rw [e, h1]; show 0 * 1024 + 1 * r.val = r.val; omega
  | ⟨2, _⟩ =>
    show ((cfgM m hO).win 2).index t (2 : Fin 3) * 512 + 1 * q.val = (z (2 : Fin 3)).val
    rw [e, h2]; show 0 * 512 + 1 * q.val = q.val; omega

include hw in
/-- A point's sum is the whole gradient's, at the block's place. -/
theorem sum_result (t : Fin (cfgM m hO).N) (r : Fin 1024) (q : Fin 512) (z : S4x1024x512.Idx) (h0 : (z 0).val = t.val) (h1 : (z 1).val = r.val) (h2 : (z 2).val = q.val) :
    (∑ k : Fin 2048, term (iblk m hO c 0 t) (iblk m hO c 1 t) r q k) = inHalf (wordOf m) (m ((c : Thread nD τ).loc main_arg1)) (m ((c : Thread nD τ).loc main_arg2)) z := by
  unfold inHalf
  refine Finset.sum_congr rfl fun k _ => ?_
  refine congrArg₂ (fun a b : EReal => a * b) ((iblk0_apply m hw hO c t k r).trans ?_) ((iblk1_apply m hO c t k q).trans ?_)
  · exact congrArg (fun a => (m ((c : Thread nD τ).loc main_arg1) : Vec Ideal S2048x2048 .bf16) (ix2 k a)) (Fin.ext (by
      show 1024 * half (wordOf m) + r.val = 1024 * half (wordOf m) + (z 1).val
      rw [h1]))
  · exact congrArg (fun a => (m ((c : Thread nD τ).loc main_arg2) : Vec Ideal S2048x2048 .bf16) (ix2 k a)) (Fin.ext (by
      show 512 * t.val + q.val = 512 * (z 0).val + (z 2).val
      rw [h0, h2]))

theorem after_3 (t : Fin (cfgM m hO).N) : (dats m hO 0 c).after 3 t
    = out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_3]
  unfold outsAt0
  dsimp only

include hw in
/-- What point `t` writes back is its block of the whole result. -/
theorem flushed_result3 (t : Fin (cfgM m hO).N) : (dats m hO 0 c).flushed 3 t = (((cfgM m hO).win 3).blk t).view.read (Elt Ideal) (resultOf m c) := by
  show ((cfgM m hO).win 3).cut ((cfgM m hO).grid.coords t) ((dats m hO 0 c).after 3 t) = _
  rw [after_3]
  funext y
  show out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 3).blk t).view.emb y)
  have e : ((cfgM m hO).win 3).index t = ![t.val, 0, 0] := index3 t
  have key : ∀ (z0 : Fin 1) (r : Fin 1024) (q : Fin 512) (z : S4x1024x512.Idx), (z 0).val = t.val → (z 1).val = r.val → (z 2).val = q.val →
      out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A3 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 3).index t (0 : Fin 3) * 1 + 1 * (y (0 : Fin 3)).val = t.val
    rw [e]; show t.val * 1 + 1 * (y (0 : Fin 3)).val = t.val; omega
  · show ((cfgM m hO).win 3).index t (1 : Fin 3) * 1024 + 1 * (y (1 : Fin 3)).val = (y (1 : Fin 3)).val
    rw [e]; show 0 * 1024 + 1 * (y (1 : Fin 3)).val = (y (1 : Fin 3)).val; omega
  · show ((cfgM m hO).win 3).index t (2 : Fin 3) * 512 + 1 * (y (2 : Fin 3)).val = (y (2 : Fin 3)).val
    rw [e]; show 0 * 512 + 1 * (y (2 : Fin 3)).val = (y (2 : Fin 3)).val; omega

/-- The blocks cover the array. -/
theorem covered_result3 (i : S4x1024x512.Idx) : ∃ t : Fin (cfgM m hO).N, ((cfgM m hO).win 3).flush t = true ∧ i ∈ (((cfgM m hO).win 3).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 3).index t = ![t.val, 0, 0] := index3 t
  have ht : t.val = (i (0 : Fin 3)).val := rfl
  refine ⟨t, flush0_3 (adm m hO) t, ?_⟩
  have h := (((cfgM m hO).win 3).blk t).view.emb_mem_set (ix3 (0 : Fin 1) (i (1 : Fin 3)) (i (2 : Fin 3)))
  have ei : (((cfgM m hO).win 3).blk t).view.emb (ix3 (0 : Fin 1) (i (1 : Fin 3)) (i (2 : Fin 3))) = i := by
    funext a; apply Fin.ext
    match a with
    | ⟨0, _⟩ =>
      show ((cfgM m hO).win 3).index t (0 : Fin 3) * 1 + 1 * 0 = (i (0 : Fin 3)).val
      rw [e]; show t.val * 1 + 1 * 0 = (i (0 : Fin 3)).val; omega
    | ⟨1, _⟩ =>
      show ((cfgM m hO).win 3).index t (1 : Fin 3) * 1024 + 1 * (i (1 : Fin 3)).val = (i (1 : Fin 3)).val
      rw [e]; show 0 * 1024 + 1 * (i (1 : Fin 3)).val = (i (1 : Fin 3)).val; omega
    | ⟨2, _⟩ =>
      show ((cfgM m hO).win 3).index t (2 : Fin 3) * 512 + 1 * (i (2 : Fin 3)).val = (i (2 : Fin 3)).val
      rw [e]; show 0 * 512 + 1 * (i (2 : Fin 3)).val = (i (2 : Fin 3)).val; omega
  rwa [ei] at h

include hw in
theorem final_result3 : (dats m hO 0 c).arrAt 3 (cfgM m hO).N = resultOf m c :=
  (dats m hO 0 c).arrAt_eq_of_cover 3 (resultOf m c) (fun t _ => flushed_result3 m hw hO c t) (covered_result3 m hO)

theorem after_4 (t : Fin (cfgM m hO).N) : (dats m hO 0 c).after 4 t
    = out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) := by
  rw [after0_4]
  unfold outsAt0
  dsimp only

include hw in
/-- What point `t` writes back is its block of the whole result. -/
theorem flushed_result4 (t : Fin (cfgM m hO).N) : (dats m hO 0 c).flushed 4 t = (((cfgM m hO).win 4).blk t).view.read (Elt Ideal) (resultOf m c) := by
  show ((cfgM m hO).win 4).cut ((cfgM m hO).grid.coords t) ((dats m hO 0 c).after 4 t) = _
  rw [after_4]
  funext y
  show out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) y
    = resultOf m c ((((cfgM m hO).win 4).blk t).view.emb y)
  have e : ((cfgM m hO).win 4).index t = ![t.val, 0, 0] := index4 t
  have key : ∀ (z0 : Fin 1) (r : Fin 1024) (q : Fin 512) (z : S4x1024x512.Idx), (z 0).val = t.val → (z 1).val = r.val → (z 2).val = q.val →
      out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (tbl m 0) (ix3 z0 r q) = resultOf m c z := by
    intro z0 r q z h0 h1 h2
    refine (out_A4 c _ _ _ _ _ _ _ _ _ _ _ _ _ _ _ z0 r q).trans ?_
    exact congrArg₂ (fun a b : EReal => a + b) (sum_result m hw hO c t r q z h0 h1 h2) (iblk2_apply m hO c t r q z h0 h1 h2)
  have hy : (y (0 : Fin 3)).val < 1 := (y (0 : Fin 3)).isLt
  refine (congrArg _ (funext fun a => by
    match a with
    | ⟨0, _⟩ => rfl
    | ⟨1, _⟩ => rfl
    | ⟨2, _⟩ => rfl)).trans (key (y (0 : Fin 3)) (y (1 : Fin 3)) (y (2 : Fin 3)) _ ?_ ?_ ?_)
  · show ((cfgM m hO).win 4).index t (0 : Fin 3) * 1 + 1 * (y (0 : Fin 3)).val = t.val
    rw [e]; show t.val * 1 + 1 * (y (0 : Fin 3)).val = t.val; omega
  · show ((cfgM m hO).win 4).index t (1 : Fin 3) * 1024 + 1 * (y (1 : Fin 3)).val = (y (1 : Fin 3)).val
    rw [e]; show 0 * 1024 + 1 * (y (1 : Fin 3)).val = (y (1 : Fin 3)).val; omega
  · show ((cfgM m hO).win 4).index t (2 : Fin 3) * 512 + 1 * (y (2 : Fin 3)).val = (y (2 : Fin 3)).val
    rw [e]; show 0 * 512 + 1 * (y (2 : Fin 3)).val = (y (2 : Fin 3)).val; omega

/-- The blocks cover the array. -/
theorem covered_result4 (i : S4x1024x512.Idx) : ∃ t : Fin (cfgM m hO).N, ((cfgM m hO).win 4).flush t = true ∧ i ∈ (((cfgM m hO).win 4).blk t).view.set := by
  have h0 : (i (0 : Fin 3)).val < 4 := (i (0 : Fin 3)).isLt
  let t : Fin (cfgM m hO).N := ⟨(i (0 : Fin 3)).val, by show _ < grid0.N; rw [N_0]; omega⟩
  have e : ((cfgM m hO).win 4).index t = ![t.val, 0, 0] := index4 t
  have ht : t.val = (i (0 : Fin 3)).val := rfl
  refine ⟨t, flush0_4 (adm m hO) t, ?_⟩
  have h := (((cfgM m hO).win 4).blk t).view.emb_mem_set (ix3 (0 : Fin 1) (i (1 : Fin 3)) (i (2 : Fin 3)))
  have ei : (((cfgM m hO).win 4).blk t).view.emb (ix3 (0 : Fin 1) (i (1 : Fin 3)) (i (2 : Fin 3))) = i := by
    funext a; apply Fin.ext
    match a with
    | ⟨0, _⟩ =>
      show ((cfgM m hO).win 4).index t (0 : Fin 3) * 1 + 1 * 0 = (i (0 : Fin 3)).val
      rw [e]; show t.val * 1 + 1 * 0 = (i (0 : Fin 3)).val; omega
    | ⟨1, _⟩ =>
      show ((cfgM m hO).win 4).index t (1 : Fin 3) * 1024 + 1 * (i (1 : Fin 3)).val = (i (1 : Fin 3)).val
      rw [e]; show 0 * 1024 + 1 * (i (1 : Fin 3)).val = (i (1 : Fin 3)).val; omega
    | ⟨2, _⟩ =>
      show ((cfgM m hO).win 4).index t (2 : Fin 3) * 512 + 1 * (i (2 : Fin 3)).val = (i (2 : Fin 3)).val
      rw [e]; show 0 * 512 + 1 * (i (2 : Fin 3)).val = (i (2 : Fin 3)).val; omega
  rwa [ei] at h

include hw in
theorem final_result4 : (dats m hO 0 c).arrAt 4 (cfgM m hO).N = resultOf m c :=
  (dats m hO 0 c).arrAt_eq_of_cover 4 (resultOf m c) (fun t _ => flushed_result4 m hw hO c t) (covered_result4 m hO)

include hw in
/-- The run, its result as a function of the arguments. -/
theorem run (hO : Ok m) : θ_run defs (onTc (τ := τ) (main (F := Ideal))) ⟨m, fun _ => 0, ρ⟩ fun r => ∀ c : Dev nD,
      r.2.mem ((c : Thread nD τ).loc main_v0_0) = resultOf m c
      ∧ r.2.mem ((c : Thread nD τ).loc main_v0_1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 3 |>.trans (final_result3 m hw hO c), (h.1 c).1 4 |>.trans (final_result4 m hw hO c), h.2 c⟩) (θ_run_and (run_main m ρ hO) (unchanged m ρ hO))

end Cert.Kernel17Ideal.Hand

end
-- ==== Proof.InProjDwKeepEqual.lean ====
/- The gradient of the weights of the projection into the heads, the half that is kept: the
   reference's product, and the two programs' equal results. -/
module

public import proofs.«01_k».proof.Defs
public import proofs.«01_k».proof.Proof.HalfProj
public import proofs.«01_k».proof.Proof.InProjDwKeep
public import proofs.«01_k».proof.Proof.Gen.Reference17Ideal.Read
public import Idealize.ShloMosaic.Lib.Quiescent
public import proofs.«01_k».proof.Proof.InProjDwGiveEqual

@[expose] public section

noncomputable section

namespace Cert.Reference17Ideal.Hand

open Cert.Reference17Ideal Cert.Reference17Ideal.Gen Idealize.ShloMosaic Idealize.ShloMosaic.TcCoe Idealize.SL.Sem Cert.Hand

variable (m : (ℓ : Loc nD τ sig) → Buf (Elt Ideal) ℓ) (ρ : Dev nD → PrngReg)

/-- The reference's frame: it has no semaphore at all. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems rfl r.2⟩) (Cert.Reference17Ideal.Value.run m ρ)

/-- The product's half is the one the other call's reference computes. -/
theorem value_eq (w : Vec Ideal S1 .i32) (x : Vec Ideal S2048x2048 .bf16) (y : Vec Ideal S2048x2048 .bf16) :
    Read.val_main_v12 (F := Ideal) w x y = inHalf (word w) x y :=
  (show Read.val_main_v12 (F := Ideal) w x y = Cert.Reference16Ideal.Read.val_main_v12 (F := Ideal) w x y from rfl).trans
    (Cert.Reference16Ideal.Hand.value_eq w x y)

/-- What the two calls' results hold: the half, and the received half added. -/
def result (w : Vec Ideal S1 .i32) (x : Vec Ideal S2048x2048 .bf16) (y : Vec Ideal S2048x2048 .bf16) (g : Vec Ideal S4x1024x512 .f32) (i : S4x1024x512.Idx) : EReal := inHalf (word w) x y i + g i

theorem sum_eq (w : Vec Ideal S1 .i32) (x : Vec Ideal S2048x2048 .bf16) (y : Vec Ideal S2048x2048 .bf16) (g : Vec Ideal S4x1024x512 .f32) :
    Read.val_main_v13 (F := Ideal) w x y g = result w x y g := by
  funext i
  rw [Read.val_main_v13_apply, value_eq]
  rfl

/-- Equal results. -/
theorem equal : Cert.algebraic_Kernel17Ideal_Reference17Ideal (hKernel17Ideal := Cert.Kernel17Ideal.Gen.facts) (hReference17Ideal := Gen.facts) (hPre_core17 := Cert.Pre_core17.Gen.facts) := by
  intro m g m' g' hpre hagree
  refine ⟨fun c => Cert.Kernel17Ideal.Hand.resultOf m c, fun c => Cert.Kernel17Ideal.Hand.resultOf m c, Cert.Kernel17Ideal.Hand.run m g (Cert.Kernel17Ideal.Hand.word_pre m hpre) (Cert.Kernel17Ideal.Hand.ok_of_pre m hpre),
    (θ_run _ _ _).mono (fun r hr c => ?_) (Value.run m' g')⟩
  obtain rfl : c = 0 := Subsingleton.elim _ _
  obtain ⟨h0, h1, h2, h3⟩ := hagree 0
  have hc := hr 0
  rw [h0, h1, h2, h3] at hc ⊢
  exact ⟨(hc.1.trans (Read.val_main_v13_eq _ _ _ _)).trans (sum_eq _ _ _ _),
    (hc.2.1.trans (Read.val_main_v14_eq _ _ _ _)).trans (sum_eq _ _ _ _), hc.2.2⟩

end Cert.Reference17Ideal.Hand

end
-- ==== Proof.QProj.lean ====
/- The product of the query latents with their weights: the kernel's blocks and the array they make up. -/
module

public import proofs.«01_k».proof.Proof.Gen.Kernel18Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel18Ideal.Hand

open Cert.Kernel18Ideal Cert.Kernel18Ideal.Gen Cert.Kernel18Ideal.Value Idealize.ShloMosaic Idealize.ShloMosaic.TcCoe Idealize.SL.Sem

theorem hz : (![0, 0] : Fin 2 → Nat) = fun _ => 0 := funext fun a => by fin_cases a <;> rfl

/-- The product of the rows with the weights. -/
def result (x : Vec Ideal S2048x512 .bf16) (w : Vec Ideal S512x2048 .bf16) (i : S2048x2048.Idx) : EReal :=
  ∑ k : Fin 512, (x (ix2 (i 0) k) * w (ix2 k (i 1)) : EReal)

/-- What a point leaves in its block: the product of its two input blocks. -/
theorem out_A (c : Dev nD) (i : grid0.Coords) (a3 : Memref sig .tc .vmem S1024x512 .bf16) (h3 : a3.IsWhole) (a4 : Memref sig .tc .vmem S512x1024 .bf16) (h4 : a4.IsWhole)
    (a5 : Memref sig .tc .vmem S1024x1024 .f32) (h5 : a5.IsWhole) (a6 : Memref sig .tc .vmem S8x128 .f32) (h6 : a6.IsWhole)
    (x0 : Vec Ideal S1024x512 .bf16) (x1 : Vec Ideal S512x1024 .bf16) (r : Fin 1024) (q : Fin 1024) :
    out0_A_2 (F := Ideal) c i a3 h3 a4 h4 a5 h5 a6 h6 x0 x1 (ix2 r q) = (∑ k : Fin 512, (x0 (ix2 r k) * x1 (ix2 k q) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x512) hz, View.ld_unit_zero (S := S512x1024) hz, shapeCast_self]
  refine (Ideal.matmul_plain_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x2048.Idx → EReal := result (m ((c : Thread nD τ).loc main_arg0)) (m ((c : Thread nD τ).loc main_arg1))

/-- The block indices: a block of rows and a block of columns. -/
theorem lt_points (t : Fin cfg0.N) : t.val < 4 := N_0 ▸ t.isLt
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

/-- Each input block, read at an index. -/
theorem iblk0_apply (t : Fin cfg0.N) (n : Fin 1024) (k : Fin 512) : iblk m c 0 t (ix2 n k)
    = (m ((c : Thread nD τ).loc main_arg0) : Vec Ideal S2048x512 .bf16) (ix2 ⟨1024 * (t.val / 2) + n.val, by have := lt_points t; omega⟩ k) := by
  obtain ⟨e0, e1⟩ := index0 t
  rw [← V_main_arg0 m c]
  show (V m c main_arg0 : Vec Ideal S2048x512 .bf16) (((cfg0.win 0).blk t).view.emb (ix2 n k)) = _
  refine congrArg (V m c main_arg0 : Vec Ideal S2048x512 .bf16) (funext fun a => Fin.ext ?_)
  match a with
  | ⟨0, _⟩ => show win0_0.index t (0 : Fin 2) * 1024 + 1 * n.val = 1024 * (t.val / 2) + n.val; omega
  | ⟨1, _⟩ => show win0_0.index t (1 : Fin 2) * 512 + 1 * k.val = k.val; omega

theorem iblk1_apply (t : Fin cfg0.N) (k : Fin 512) (n : Fin 1024) : iblk m c 1 t (ix2 k n)
    = (m ((c : Thread nD τ).loc main_arg1) : Vec Ideal S512x2048 .bf16) (ix2 k ⟨1024 * (t.val % 2) + n.val, by have := lt_points t; omega⟩) := by
  obtain ⟨e0, e1⟩ := index1 t
  rw [← V_main_arg1 m c]
  show (V m c main_arg1 : Vec Ideal S512x2048 .bf16) (((cfg0.win 1).blk t).view.emb (ix2 k n)) = _
  refine congrArg (V m c main_arg1 : Vec Ideal S512x2048 .bf16) (funext fun a => Fin.ext ?_)
  match a with
  | ⟨0, _⟩ => show win0_1.index t (0 : Fin 2) * 512 + 1 * k.val = k.val; omega
  | ⟨1, _⟩ => show win0_1.index t (1 : Fin 2) * 1024 + 1 * n.val = 1024 * (t.val % 2) + n.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 1024) (z : S2048x2048.Idx), (z 0).val = 1024 * (t.val / 2) + r.val → (z 1).val = 1024 * (t.val % 2) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t k q).trans ?_)
    · exact congrArg (fun a => (m ((c : Thread nD τ).loc main_arg0) : Vec Ideal S2048x512 .bf16) (ix2 a k)) (Fin.ext h0.symm)
    · exact congrArg (fun a => (m ((c : Thread nD τ).loc main_arg1) : Vec Ideal S512x2048 .bf16) (ix2 k a)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val / 2) + (y (0 : Fin 2)).val; omega
  · show win0_2.index t (1 : Fin 2) * 1024 + 1 * (y (1 : Fin 2)).val = 1024 * (t.val % 2) + (y (1 : Fin 2)).val; omega

/-- The blocks cover the array. -/
theorem covered_result (i : S2048x2048.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 2048 := (i (1 : Fin 2)).isLt
  let t : Fin cfg0.N := ⟨2 * ((i (0 : Fin 2)).val / 1024) + (i (1 : Fin 2)).val / 1024, by show _ < grid0.N; rw [N_0]; omega⟩
  obtain ⟨e0, e1⟩ := index2 t
  have ht : t.val = 2 * ((i (0 : Fin 2)).val / 1024) + (i (1 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 1024 + 1 * ((i (1 : Fin 2)).val % 1024) = (i (1 : Fin 2)).val; omega

theorem final_result : (dats m 0 c).arrAt 2 cfg0.N = resultOf m c :=
  (dats m 0 c).arrAt_eq_of_cover 2 (resultOf m c) (fun t _ => flushed_result m c t) covered_result

end Cert.Kernel18Ideal.Hand

end
-- ==== Proof.QProjEqual.lean ====
/- The product of the query latents with their weights: the reference's product, and the two programs' equal results. -/
module

public import proofs.«01_k».proof.Defs
public import proofs.«01_k».proof.Proof.QProj
public import proofs.«01_k».proof.Proof.Gen.Reference18Ideal.Read
public import Idealize.ShloMosaic.Lib.Quiescent

@[expose] public section

noncomputable section

namespace Cert.Reference18Ideal.Hand

open Cert.Reference18Ideal Cert.Reference18Ideal.Gen Idealize.ShloMosaic Idealize.ShloMosaic.TcCoe Idealize.SL.Sem

/-- The reference's frame: it has no semaphore at all. -/
theorem frame : Cert.quiescent_Reference18Ideal (hReference18Ideal := Gen.facts) := fun m ρ _ =>
  (θ_run defs _ _).mono (fun r h => ⟨fun c => (h c).2, sem_eq_zero_of_no_sems rfl r.2⟩) (Value.run m ρ)

/-- The reference computes the product. -/
theorem value_eq (x : Vec Ideal S2048x512 .bf16) (w : Vec Ideal S512x2048 .bf16) :
    Read.val_main_v2 (F := Ideal) x w = Cert.Kernel18Ideal.Hand.result x w := by
  funext i
  rw [Read.val_main_v2_apply]
  refine Finset.sum_congr rfl fun k _ => congrArg₂ (fun a b : EReal => a * b) (congrArg x (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel18Ideal_Reference18Ideal (hKernel18Ideal := Cert.Kernel18Ideal.Gen.facts) (hReference18Ideal := Gen.facts) := by
  intro m g m' g' _ hagree
  refine ⟨fun c => Cert.Kernel18Ideal.Hand.resultOf m c, (θ_run _ _ _).mono (fun _ h c => ⟨(h c).1.trans (Cert.Kernel18Ideal.Hand.final_result m c), (h c).2⟩) (Cert.Kernel18Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v2_eq _ _)).trans (value_eq _ _), hc.2⟩

end Cert.Reference18Ideal.Hand

end
-- ==== Proof.KvProj.lean ====
/- The product of the key and value latents with their weights: the kernel's blocks and the array they make up. -/
module

public import proofs.«01_k».proof.Proof.Gen.Kernel19Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel19Ideal.Hand

open Cert.Kernel19Ideal Cert.Kernel19Ideal.Gen Cert.Kernel19Ideal.Value Idealize.ShloMosaic Idealize.ShloMosaic.TcCoe Idealize.SL.Sem

theorem hz : (![0, 0] : Fin 2 → Nat) = fun _ => 0 := funext fun a => by fin_cases a <;> rfl

/-- The product of the rows with the weights. -/
def result (x : Vec Ideal S2048x256 .bf16) (w : Vec Ideal S256x2048 .bf16) (i : S2048x2048.Idx) : EReal :=
  ∑ k : Fin 256, (x (ix2 (i 0) k) * w (ix2 k (i 1)) : EReal)

/-- What a point leaves in its block: the product of its two input blocks. -/
theorem out_A (c : Dev nD) (i : grid0.Coords) (a3 : Memref sig .tc .vmem S1024x256 .bf16) (h3 : a3.IsWhole) (a4 : Memref sig .tc .vmem S256x1024 .bf16) (h4 : a4.IsWhole)
    (a5 : Memref sig .tc .vmem S1024x1024 .f32) (h5 : a5.IsWhole) (a6 : Memref sig .tc .vmem S8x128 .f32) (h6 : a6.IsWhole)
    (x0 : Vec Ideal S1024x256 .bf16) (x1 : Vec Ideal S256x1024 .bf16) (r : Fin 1024) (q : Fin 1024) :
    out0_A_2 (F := Ideal) c i a3 h3 a4 h4 a5 h5 a6 h6 x0 x1 (ix2 r q) = (∑ k : Fin 256, (x0 (ix2 r k) * x1 (ix2 k q) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x256) hz, View.ld_unit_zero (S := S256x1024) hz, shapeCast_self]
  refine (Ideal.matmul_plain_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x2048.Idx → EReal := result (m ((c : Thread nD τ).loc main_arg0)) (m ((c : Thread nD τ).loc main_arg1))

/-- The block indices: a block of rows and a block of columns. -/
theorem lt_points (t : Fin cfg0.N) : t.val < 4 := N_0 ▸ t.isLt
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)

/-- Each input block, read at an index. -/
theorem iblk0_apply (t : Fin cfg0.N) (n : Fin 1024) (k : Fin 256) : iblk m c 0 t (ix2 n k)
    = (m ((c : Thread nD τ).loc main_arg0) : Vec Ideal S2048x256 .bf16) (ix2 ⟨1024 * (t.val / 2) + n.val, by have := lt_points t; omega⟩ k) := by
  obtain ⟨e0, e1⟩ := index0 t
  rw [← V_main_arg0 m c]
  show (V m c main_arg0 : Vec Ideal S2048x256 .bf16) (((cfg0.win 0).blk t).view.emb (ix2 n k)) = _
  refine congrArg (V m c main_arg0 : Vec Ideal S2048x256 .bf16) (funext fun a => Fin.ext ?_)
  match a with
  | ⟨0, _⟩ => show win0_0.index t (0 : Fin 2) * 1024 + 1 * n.val = 1024 * (t.val / 2) + n.val; omega
  | ⟨1, _⟩ => show win0_0.index t (1 : Fin 2) * 256 + 1 * k.val = k.val; omega

theorem iblk1_apply (t : Fin cfg0.N) (k : Fin 256) (n : Fin 1024) : iblk m c 1 t (ix2 k n)
    = (m ((c : Thread nD τ).loc main_arg1) : Vec Ideal S256x2048 .bf16) (ix2 k ⟨1024 * (t.val % 2) + n.val, by have := lt_points t; omega⟩) := by
  obtain ⟨e0, e1⟩ := index1 t
  rw [← V_main_arg1 m c]
  show (V m c main_arg1 : Vec Ideal S256x2048 .bf16) (((cfg0.win 1).blk t).view.emb (ix2 k n)) = _
  refine congrArg (V m c main_arg1 : Vec Ideal S256x2048 .bf16) (funext fun a => Fin.ext ?_)
  match a with
  | ⟨0, _⟩ => show win0_1.index t (0 : Fin 2) * 256 + 1 * k.val = k.val; omega
  | ⟨1, _⟩ => show win0_1.index t (1 : Fin 2) * 1024 + 1 * n.val = 1024 * (t.val % 2) + n.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 1024) (z : S2048x2048.Idx), (z 0).val = 1024 * (t.val / 2) + r.val → (z 1).val = 1024 * (t.val % 2) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t k q).trans ?_)
    · exact congrArg (fun a => (m ((c : Thread nD τ).loc main_arg0) : Vec Ideal S2048x256 .bf16) (ix2 a k)) (Fin.ext h0.symm)
    · exact congrArg (fun a => (m ((c : Thread nD τ).loc main_arg1) : Vec Ideal S256x2048 .bf16) (ix2 k a)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val / 2) + (y (0 : Fin 2)).val; omega
  · show win0_2.index t (1 : Fin 2) * 1024 + 1 * (y (1 : Fin 2)).val = 1024 * (t.val % 2) + (y (1 : Fin 2)).val; omega

/-- The blocks cover the array. -/
theorem covered_result (i : S2048x2048.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 2048 := (i (1 : Fin 2)).isLt
  let t : Fin cfg0.N := ⟨2 * ((i (0 : Fin 2)).val / 1024) + (i (1 : Fin 2)).val / 1024, by show _ < grid0.N; rw [N_0]; omega⟩
  obtain ⟨e0, e1⟩ := index2 t
  have ht : t.val = 2 * ((i (0 : Fin 2)).val / 1024) + (i (1 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 1024 + 1 * ((i (1 : Fin 2)).val % 1024) = (i (1 : Fin 2)).val; omega

theorem final_result : (dats m 0 c).arrAt 2 cfg0.N = resultOf m c :=
  (dats m 0 c).arrAt_eq_of_cover 2 (resultOf m c) (fun t _ => flushed_result m c t) covered_result

end Cert.Kernel19Ideal.Hand

end
-- ==== Proof.KvProjEqual.lean ====
/- The product of the key and value latents with their weights: the reference's product, and the two programs' equal results. -/
module

public import proofs.«01_k».proof.Defs
public import proofs.«01_k».proof.Proof.KvProj
public import proofs.«01_k».proof.Proof.Gen.Reference19Ideal.Read
public import Idealize.ShloMosaic.Lib.Quiescent

@[expose] public section

noncomputable section

namespace Cert.Reference19Ideal.Hand

open Cert.Reference19Ideal Cert.Reference19Ideal.Gen Idealize.ShloMosaic Idealize.ShloMosaic.TcCoe Idealize.SL.Sem

/-- The reference's frame: it has no semaphore at all. -/
theorem frame : Cert.quiescent_Reference19Ideal (hReference19Ideal := Gen.facts) := fun m ρ _ =>
  (θ_run defs _ _).mono (fun r h => ⟨fun c => (h c).2, sem_eq_zero_of_no_sems rfl r.2⟩) (Value.run m ρ)

/-- The reference computes the product. -/
theorem value_eq (x : Vec Ideal S2048x256 .bf16) (w : Vec Ideal S256x2048 .bf16) :
    Read.val_main_v2 (F := Ideal) x w = Cert.Kernel19Ideal.Hand.result x w := by
  funext i
  rw [Read.val_main_v2_apply]
  refine Finset.sum_congr rfl fun k _ => congrArg₂ (fun a b : EReal => a * b) (congrArg x (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel19Ideal_Reference19Ideal (hKernel19Ideal := Cert.Kernel19Ideal.Gen.facts) (hReference19Ideal := Gen.facts) := by
  intro m g m' g' _ hagree
  refine ⟨fun c => Cert.Kernel19Ideal.Hand.resultOf m c, (θ_run _ _ _).mono (fun _ h c => ⟨(h c).1.trans (Cert.Kernel19Ideal.Hand.final_result m c), (h c).2⟩) (Cert.Kernel19Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v2_eq _ _)).trans (value_eq _ _), hc.2⟩

end Cert.Reference19Ideal.Hand

end
-- ==== Proof.QProjDx.lean ====
/- The cotangent of the query latents: the kernel's blocks and the array they make up. -/
module

public import proofs.«01_k».proof.Proof.Gen.Kernel20Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel20Ideal.Hand

open Cert.Kernel20Ideal Cert.Kernel20Ideal.Gen Cert.Kernel20Ideal.Value Idealize.ShloMosaic Idealize.ShloMosaic.TcCoe Idealize.SL.Sem

theorem hz : (![0, 0] : Fin 2 → Nat) = fun _ => 0 := funext fun a => by fin_cases a <;> rfl

/-- The product of the cotangent with the transposed weights. -/
def result (w : Vec Ideal S512x2048 .bf16) (ct : Vec Ideal S2048x2048 .bf16) (i : S2048x512.Idx) : EReal :=
  ∑ k : Fin 2048, (ct (ix2 (i 0) k) * w (ix2 (i 1) k) : EReal)

/-- What a point leaves in its block: the product of its two input blocks. -/
theorem out_A (c : Dev nD) (i : grid0.Coords) (a3 : Memref sig .tc .vmem S1024x2048 .bf16) (h3 : a3.IsWhole) (a4 : Memref sig .tc .vmem S512x2048 .bf16) (h4 : a4.IsWhole)
    (a5 : Memref sig .tc .vmem S1024x512 .f32) (h5 : a5.IsWhole) (a6 : Memref sig .tc .vmem S8x128 .f32) (h6 : a6.IsWhole)
    (x0 : Vec Ideal S1024x2048 .bf16) (x1 : Vec Ideal S512x2048 .bf16) (r : Fin 1024) (q : Fin 512) :
    out0_A_2 (F := Ideal) c i a3 h3 a4 h4 a5 h5 a6 h6 x0 x1 (ix2 r q) = (∑ k : Fin 2048, (x0 (ix2 r k) * x1 (ix2 q k) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x2048) hz, View.ld_unit_zero (S := S512x2048) hz, shapeCast_self]
  refine (Ideal.matmul_transposedRhs_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x512.Idx → EReal := result (m ((c : Thread nD τ).loc main_arg0)) (m ((c : Thread nD τ).loc main_arg1))

/-- The block indices: a block of rows and a block of columns. -/
theorem lt_points (t : Fin cfg0.N) : t.val < 2 := N_0 ▸ t.isLt
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg1) : Vec Ideal S2048x2048 .bf16) (ix2 ⟨1024 * (t.val) + n.val, by have := lt_points t; omega⟩ k) := by
  obtain ⟨e0, e1⟩ := index0 t
  rw [← V_main_arg1 m c]
  show (V m c main_arg1 : Vec Ideal S2048x2048 .bf16) (((cfg0.win 0).blk t).view.emb (ix2 n k)) = _
  refine congrArg (V m c main_arg1 : Vec Ideal S2048x2048 .bf16) (funext fun a => Fin.ext ?_)
  match a with
  | ⟨0, _⟩ => show win0_0.index t (0 : Fin 2) * 1024 + 1 * n.val = 1024 * (t.val) + n.val; omega
  | ⟨1, _⟩ => show win0_0.index t (1 : Fin 2) * 2048 + 1 * k.val = k.val; omega

theorem iblk1_apply (t : Fin cfg0.N) (n : Fin 512) (k : Fin 2048) : iblk m c 1 t (ix2 n k)
    = (m ((c : Thread nD τ).loc main_arg0) : Vec Ideal S512x2048 .bf16) (ix2 ⟨512 * (0) + n.val, by have := lt_points t; omega⟩ k) := by
  obtain ⟨e0, e1⟩ := index1 t
  rw [← V_main_arg0 m c]
  show (V m c main_arg0 : Vec Ideal S512x2048 .bf16) (((cfg0.win 1).blk t).view.emb (ix2 n k)) = _
  refine congrArg (V m c main_arg0 : Vec Ideal S512x2048 .bf16) (funext fun a => Fin.ext ?_)
  match a with
  | ⟨0, _⟩ => show win0_1.index t (0 : Fin 2) * 512 + 1 * n.val = 512 * (0) + n.val; omega
  | ⟨1, _⟩ => show win0_1.index t (1 : Fin 2) * 2048 + 1 * k.val = k.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 512) (z : S2048x512.Idx), (z 0).val = 1024 * (t.val) + r.val → (z 1).val = 512 * (0) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t q k).trans ?_)
    · exact congrArg (fun a => (m ((c : Thread nD τ).loc main_arg1) : Vec Ideal S2048x2048 .bf16) (ix2 a k)) (Fin.ext h0.symm)
    · exact congrArg (fun a => (m ((c : Thread nD τ).loc main_arg0) : Vec Ideal S512x2048 .bf16) (ix2 a k)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val) + (y (0 : Fin 2)).val; omega
  · show win0_2.index t (1 : Fin 2) * 512 + 1 * (y (1 : Fin 2)).val = 512 * (0) + (y (1 : Fin 2)).val; omega

/-- The blocks cover the array. -/
theorem covered_result (i : S2048x512.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 512 := (i (1 : Fin 2)).isLt
  let t : Fin cfg0.N := ⟨(i (0 : Fin 2)).val / 1024, by show _ < grid0.N; rw [N_0]; omega⟩
  obtain ⟨e0, e1⟩ := index2 t
  have ht : t.val = (i (0 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 512, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 512 + 1 * ((i (1 : Fin 2)).val % 512) = (i (1 : Fin 2)).val; omega

theorem final_result : (dats m 0 c).arrAt 2 cfg0.N = resultOf m c :=
  (dats m 0 c).arrAt_eq_of_cover 2 (resultOf m c) (fun t _ => flushed_result m c t) covered_result

end Cert.Kernel20Ideal.Hand

end
-- ==== Proof.QProjDxEqual.lean ====
/- The cotangent of the query latents: the reference's product, and the two programs' equal results. -/
module

public import proofs.«01_k».proof.Defs
public import proofs.«01_k».proof.Proof.QProjDx
public import proofs.«01_k».proof.Proof.Gen.Reference20Ideal.Read
public import Idealize.ShloMosaic.Lib.Quiescent

@[expose] public section

noncomputable section

namespace Cert.Reference20Ideal.Hand

open Cert.Reference20Ideal Cert.Reference20Ideal.Gen Idealize.ShloMosaic Idealize.ShloMosaic.TcCoe Idealize.SL.Sem

/-- The reference's frame: it has no semaphore at all. -/
theorem frame : Cert.quiescent_Reference20Ideal (hReference20Ideal := Gen.facts) := fun m ρ _ =>
  (θ_run defs _ _).mono (fun r h => ⟨fun c => (h c).2, sem_eq_zero_of_no_sems rfl r.2⟩) (Value.run m ρ)

/-- The reference computes the product. -/
theorem value_eq (w : Vec Ideal S512x2048 .bf16) (ct : Vec Ideal S2048x2048 .bf16) :
    Read.val_main_v4 (F := Ideal) w ct = Cert.Kernel20Ideal.Hand.result w ct := by
  funext i
  rw [Read.val_main_v4_apply]
  refine Finset.sum_congr rfl fun k _ => congrArg₂ (fun a b : EReal => a * b) (congrArg ct (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel20Ideal_Reference20Ideal (hKernel20Ideal := Cert.Kernel20Ideal.Gen.facts) (hReference20Ideal := Gen.facts) := by
  intro m g m' g' _ hagree
  refine ⟨fun c => Cert.Kernel20Ideal.Hand.resultOf m c, (θ_run _ _ _).mono (fun _ h c => ⟨(h c).1.trans (Cert.Kernel20Ideal.Hand.final_result m c), (h c).2⟩) (Cert.Kernel20Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v4_eq _ _)).trans (value_eq _ _), hc.2⟩

end Cert.Reference20Ideal.Hand

end
-- ==== Proof.KvProjDx.lean ====
/- The cotangent of the key and value latents: the kernel's blocks and the array they make up. -/
module

public import proofs.«01_k».proof.Proof.Gen.Kernel21Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel21Ideal.Hand

open Cert.Kernel21Ideal Cert.Kernel21Ideal.Gen Cert.Kernel21Ideal.Value Idealize.ShloMosaic Idealize.ShloMosaic.TcCoe Idealize.SL.Sem

theorem hz : (![0, 0] : Fin 2 → Nat) = fun _ => 0 := funext fun a => by fin_cases a <;> rfl

/-- The product of the cotangent with the transposed weights. -/
def result (w : Vec Ideal S256x2048 .bf16) (ct : Vec Ideal S2048x2048 .bf16) (i : S2048x256.Idx) : EReal :=
  ∑ k : Fin 2048, (ct (ix2 (i 0) k) * w (ix2 (i 1) k) : EReal)

/-- What a point leaves in its block: the product of its two input blocks. -/
theorem out_A (c : Dev nD) (i : grid0.Coords) (a3 : Memref sig .tc .vmem S1024x2048 .bf16) (h3 : a3.IsWhole) (a4 : Memref sig .tc .vmem S256x2048 .bf16) (h4 : a4.IsWhole)
    (a5 : Memref sig .tc .vmem S1024x256 .f32) (h5 : a5.IsWhole) (a6 : Memref sig .tc .vmem S8x128 .f32) (h6 : a6.IsWhole)
    (x0 : Vec Ideal S1024x2048 .bf16) (x1 : Vec Ideal S256x2048 .bf16) (r : Fin 1024) (q : Fin 256) :
    out0_A_2 (F := Ideal) c i a3 h3 a4 h4 a5 h5 a6 h6 x0 x1 (ix2 r q) = (∑ k : Fin 2048, (x0 (ix2 r k) * x1 (ix2 q k) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x2048) hz, View.ld_unit_zero (S := S256x2048) hz, shapeCast_self]
  refine (Ideal.matmul_transposedRhs_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x256.Idx → EReal := result (m ((c : Thread nD τ).loc main_arg0)) (m ((c : Thread nD τ).loc main_arg1))

/-- The block indices: a block of rows and a block of columns. -/
theorem lt_points (t : Fin cfg0.N) : t.val < 2 := N_0 ▸ t.isLt
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

/-- Each input block, read at an index. -/
theorem iblk0_apply (t : Fin cfg0.N) (n : Fin 1024) (k : Fin 2048) : iblk m c 0 t (ix2 n k)
    = (m ((c : Thread nD τ).loc main_arg1) : Vec Ideal S2048x2048 .bf16) (ix2 ⟨1024 * (t.val) + n.val, by have := lt_points t; omega⟩ k) := by
  obtain ⟨e0, e1⟩ := index0 t
  rw [← V_main_arg1 m c]
  show (V m c main_arg1 : Vec Ideal S2048x2048 .bf16) (((cfg0.win 0).blk t).view.emb (ix2 n k)) = _
  refine congrArg (V m c main_arg1 : Vec Ideal S2048x2048 .bf16) (funext fun a => Fin.ext ?_)
  match a with
  | ⟨0, _⟩ => show win0_0.index t (0 : Fin 2) * 1024 + 1 * n.val = 1024 * (t.val) + n.val; omega
  | ⟨1, _⟩ => show win0_0.index t (1 : Fin 2) * 2048 + 1 * k.val = k.val; omega

theorem iblk1_apply (t : Fin cfg0.N) (n : Fin 256) (k : Fin 2048) : iblk m c 1 t (ix2 n k)
    = (m ((c : Thread nD τ).loc main_arg0) : Vec Ideal S256x2048 .bf16) (ix2 ⟨256 * (0) + n.val, by have := lt_points t; omega⟩ k) := by
  obtain ⟨e0, e1⟩ := index1 t
  rw [← V_main_arg0 m c]
  show (V m c main_arg0 : Vec Ideal S256x2048 .bf16) (((cfg0.win 1).blk t).view.emb (ix2 n k)) = _
  refine congrArg (V m c main_arg0 : Vec Ideal S256x2048 .bf16) (funext fun a => Fin.ext ?_)
  match a with
  | ⟨0, _⟩ => show win0_1.index t (0 : Fin 2) * 256 + 1 * n.val = 256 * (0) + n.val; omega
  | ⟨1, _⟩ => show win0_1.index t (1 : Fin 2) * 2048 + 1 * k.val = k.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 256) (z : S2048x256.Idx), (z 0).val = 1024 * (t.val) + r.val → (z 1).val = 256 * (0) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t q k).trans ?_)
    · exact congrArg (fun a => (m ((c : Thread nD τ).loc main_arg1) : Vec Ideal S2048x2048 .bf16) (ix2 a k)) (Fin.ext h0.symm)
    · exact congrArg (fun a => (m ((c : Thread nD τ).loc main_arg0) : Vec Ideal S256x2048 .bf16) (ix2 a k)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val) + (y (0 : Fin 2)).val; omega
  · show win0_2.index t (1 : Fin 2) * 256 + 1 * (y (1 : Fin 2)).val = 256 * (0) + (y (1 : Fin 2)).val; omega

/-- The blocks cover the array. -/
theorem covered_result (i : S2048x256.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 256 := (i (1 : Fin 2)).isLt
  let t : Fin cfg0.N := ⟨(i (0 : Fin 2)).val / 1024, by show _ < grid0.N; rw [N_0]; omega⟩
  obtain ⟨e0, e1⟩ := index2 t
  have ht : t.val = (i (0 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 256, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 256 + 1 * ((i (1 : Fin 2)).val % 256) = (i (1 : Fin 2)).val; omega

theorem final_result : (dats m 0 c).arrAt 2 cfg0.N = resultOf m c :=
  (dats m 0 c).arrAt_eq_of_cover 2 (resultOf m c) (fun t _ => flushed_result m c t) covered_result

end Cert.Kernel21Ideal.Hand

end
-- ==== Proof.KvProjDxEqual.lean ====
/- The cotangent of the key and value latents: the reference's product, and the two programs' equal results. -/
module

public import proofs.«01_k».proof.Defs
public import proofs.«01_k».proof.Proof.KvProjDx
public import proofs.«01_k».proof.Proof.Gen.Reference21Ideal.Read
public import Idealize.ShloMosaic.Lib.Quiescent

@[expose] public section

noncomputable section

namespace Cert.Reference21Ideal.Hand

open Cert.Reference21Ideal Cert.Reference21Ideal.Gen Idealize.ShloMosaic Idealize.ShloMosaic.TcCoe Idealize.SL.Sem

/-- The reference's frame: it has no semaphore at all. -/
theorem frame : Cert.quiescent_Reference21Ideal (hReference21Ideal := Gen.facts) := fun m ρ _ =>
  (θ_run defs _ _).mono (fun r h => ⟨fun c => (h c).2, sem_eq_zero_of_no_sems rfl r.2⟩) (Value.run m ρ)

/-- The reference computes the product. -/
theorem value_eq (w : Vec Ideal S256x2048 .bf16) (ct : Vec Ideal S2048x2048 .bf16) :
    Read.val_main_v4 (F := Ideal) w ct = Cert.Kernel21Ideal.Hand.result w ct := by
  funext i
  rw [Read.val_main_v4_apply]
  refine Finset.sum_congr rfl fun k _ => congrArg₂ (fun a b : EReal => a * b) (congrArg ct (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel21Ideal_Reference21Ideal (hKernel21Ideal := Cert.Kernel21Ideal.Gen.facts) (hReference21Ideal := Gen.facts) := by
  intro m g m' g' _ hagree
  refine ⟨fun c => Cert.Kernel21Ideal.Hand.resultOf m c, (θ_run _ _ _).mono (fun _ h c => ⟨(h c).1.trans (Cert.Kernel21Ideal.Hand.final_result m c), (h c).2⟩) (Cert.Kernel21Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v4_eq _ _)).trans (value_eq _ _), hc.2⟩

end Cert.Reference21Ideal.Hand

end
-- ==== Proof.GluProj.lean ====
/- The product of the gated linear unit: the kernel's blocks and the array they make up. -/
module

public import proofs.«01_k».proof.Proof.Gen.Kernel22Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel22Ideal.Hand

open Cert.Kernel22Ideal Cert.Kernel22Ideal.Gen Cert.Kernel22Ideal.Value Idealize.ShloMosaic Idealize.ShloMosaic.TcCoe Idealize.SL.Sem

theorem hz : (![0, 0] : Fin 2 → Nat) = fun _ => 0 := funext fun a => by fin_cases a <;> rfl

/-- The product of the rows with the weights, and the bias added. -/
def result (x : Vec Ideal S2048x1024 .bf16) (w : Vec Ideal S1024x1024 .bf16) (h : Vec Ideal S1x1024 .f32) (i : S2048x1024.Idx) : EReal :=
  (∑ k : Fin 1024, (x (ix2 (i 0) k) * w (ix2 k (i 1)) : EReal)) + h (ix2 0 (i 1))

/-- What a point leaves in its block: the product of its two input blocks, and the residual added. -/
theorem out_A (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 .f32) (h6 : a6.IsWhole) (a7 : Memref sig .tc .vmem S8x128 .f32) (h7 : a7.IsWhole)
    (x0 : Vec Ideal S1024x1024 .bf16) (x1 : Vec Ideal S1024x1024 .bf16) (x2 : Vec Ideal S1x1024 .f32) (r : Fin 1024) (q : Fin 1024) :
    out0_A_3 (F := Ideal) c i a3 h3 a4 h4 a5 h5 a6 h6 a7 h7 x0 x1 x2 (ix2 r q) = ((∑ k : Fin 1024, (x0 (ix2 r k) * x1 (ix2 k q) : EReal)) + x2 (ix2 0 q) : EReal) := by
  unfold out0_A_3
  rw [View.read_writes_eq_canon _ _ _ (cover0_A_3 c i a3 h3 a4 h4 a5 h5 a6 h6 a7 h7 x0 x1 x2)]
  unfold kernelRun0_A
  dsimp only
  rw [View.canon_unit_zero hz]
  unfold k0_pay1
  simp only [View.readAt_eq_ld, h3.read_unread, h4.read_unread, h5.read_unread, View.ld_unit_zero (S := S1024x1024) hz, View.ld_unit_zero (S := S1x1024) hz, shapeCast_self]
  refine congrArg₂ (fun a b : EReal => a + b) ((Ideal.matmul_plain_apply none x0 x1 _ r q).trans ?_) (show _ = x2 (ix2 0 q) by pointwise [])
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x1024.Idx → EReal := result (m ((c : Thread nD τ).loc main_arg0)) (m ((c : Thread nD τ).loc main_arg1)) (m ((c : Thread nD τ).loc main_arg2))

/-- The block indices: a block of rows and a block of columns. -/
theorem lt_points (t : Fin cfg0.N) : t.val < 2 := N_0 ▸ t.isLt
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)

/-- Each input block, read at an index. -/
theorem iblk0_apply (t : Fin cfg0.N) (n : Fin 1024) (k : Fin 1024) : iblk m c 0 t (ix2 n k)
    = (m ((c : Thread nD τ).loc main_arg0) : Vec Ideal S2048x1024 .bf16) (ix2 ⟨1024 * (t.val) + n.val, by have := lt_points t; omega⟩ k) := by
  obtain ⟨e0, e1⟩ := index0 t
  rw [← V_main_arg0 m c]
  show (V m c main_arg0 : Vec Ideal S2048x1024 .bf16) (((cfg0.win 0).blk t).view.emb (ix2 n k)) = _
  refine congrArg (V m c main_arg0 : Vec Ideal S2048x1024 .bf16) (funext fun a => Fin.ext ?_)
  match a with
  | ⟨0, _⟩ => show win0_0.index t (0 : Fin 2) * 1024 + 1 * n.val = 1024 * (t.val) + n.val; omega
  | ⟨1, _⟩ => show win0_0.index t (1 : Fin 2) * 1024 + 1 * k.val = k.val; omega

theorem iblk1_apply (t : Fin cfg0.N) (k : Fin 1024) (n : Fin 1024) : iblk m c 1 t (ix2 k n)
    = (m ((c : Thread nD τ).loc main_arg1) : Vec Ideal S1024x1024 .bf16) (ix2 k ⟨1024 * (0) + n.val, by have := lt_points t; omega⟩) := by
  obtain ⟨e0, e1⟩ := index1 t
  rw [← V_main_arg1 m c]
  show (V m c main_arg1 : Vec Ideal S1024x1024 .bf16) (((cfg0.win 1).blk t).view.emb (ix2 k n)) = _
  refine congrArg (V m c main_arg1 : Vec Ideal S1024x1024 .bf16) (funext fun a => Fin.ext ?_)
  match a with
  | ⟨0, _⟩ => show win0_1.index t (0 : Fin 2) * 1024 + 1 * k.val = k.val; omega
  | ⟨1, _⟩ => show win0_1.index t (1 : Fin 2) * 1024 + 1 * n.val = 1024 * (0) + n.val; omega

theorem iblk2_apply (t : Fin cfg0.N) (q : Fin 1024) (z : S1x1024.Idx) (h1 : (z 1).val = 1024 * (0) + q.val) :
    iblk m c 2 t (ix2 0 q) = (m ((c : Thread nD τ).loc main_arg2) : Vec Ideal S1x1024 .f32) z := by
  obtain ⟨e0, e1⟩ := index2 t
  rw [← V_main_arg2 m c]
  show (V m c main_arg2 : Vec Ideal S1x1024 .f32) (((cfg0.win 2).blk t).view.emb (ix2 0 q)) = _
  refine congrArg (V m c main_arg2 : Vec Ideal S1x1024 .f32) (funext fun a => Fin.ext ?_)
  have hz0 : (z (0 : Fin 2)).val < 1 := (z (0 : Fin 2)).isLt
  match a with
  | ⟨0, _⟩ => show win0_2.index t (0 : Fin 2) * 1 + 1 * 0 = (z (0 : Fin 2)).val; omega
  | ⟨1, _⟩ => show win0_2.index t (1 : Fin 2) * 1024 + 1 * q.val = (z (1 : Fin 2)).val; omega

/-- What point `t` writes back is its block of the whole result. -/
theorem flushed_result (t : Fin cfg0.N) : (dats m 0 c).flushed 3 t = ((cfg0.win 3).blk t).view.read (Elt Ideal) (resultOf m c) := by
  rw [flushed3_A]
  funext y
  show out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) y
    = resultOf m c (((cfg0.win 3).blk t).view.emb y)
  obtain ⟨e0, e1⟩ := index3 t
  have key : ∀ (r : Fin 1024) (q : Fin 1024) (z : S2048x1024.Idx), (z 0).val = 1024 * (t.val) + r.val → (z 1).val = 1024 * (0) + q.val →
      out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (ix2 r q) = resultOf m c z := by
    intro r q z h0 h1
    refine (out_A c _ _ _ _ _ _ _ _ _ _ _ _ _ _ r q).trans ?_
    unfold resultOf result
    refine congrArg₂ (fun a b : EReal => a + b) ?_ (iblk2_apply m c t q (ix2 0 (z 1)) h1)
    refine Finset.sum_congr rfl fun k _ => ?_
    refine congrArg₂ (fun a b : EReal => a * b) ((iblk0_apply m c t r k).trans ?_) ((iblk1_apply m c t k q).trans ?_)
    · exact congrArg (fun a => (m ((c : Thread nD τ).loc main_arg0) : Vec Ideal S2048x1024 .bf16) (ix2 a k)) (Fin.ext h0.symm)
    · exact congrArg (fun a => (m ((c : Thread nD τ).loc main_arg1) : Vec Ideal S1024x1024 .bf16) (ix2 k a)) (Fin.ext h1.symm)
  refine (congrArg _ (funext fun a => by
    match a with
    | ⟨0, _⟩ => rfl
    | ⟨1, _⟩ => rfl)).trans (key (y (0 : Fin 2)) (y (1 : Fin 2)) _ ?_ ?_)
  · show win0_3.index t (0 : Fin 2) * 1024 + 1 * (y (0 : Fin 2)).val = 1024 * (t.val) + (y (0 : Fin 2)).val; omega
  · show win0_3.index t (1 : Fin 2) * 1024 + 1 * (y (1 : Fin 2)).val = 1024 * (0) + (y (1 : Fin 2)).val; omega

/-- The blocks cover the array. -/
theorem covered_result (i : S2048x1024.Idx) : ∃ t : Fin cfg0.N, (cfg0.win 3).flush t = true ∧ i ∈ ((cfg0.win 3).blk t).view.set := by
  have hi : (i (0 : Fin 2)).val < 2048 := (i (0 : Fin 2)).isLt
  have hj : (i (1 : Fin 2)).val < 1024 := (i (1 : Fin 2)).isLt
  let t : Fin cfg0.N := ⟨(i (0 : Fin 2)).val / 1024, by show _ < grid0.N; rw [N_0]; omega⟩
  obtain ⟨e0, e1⟩ := index3 t
  have ht : t.val = (i (0 : Fin 2)).val / 1024 := rfl
  refine ⟨t, flush0_3 t, (congrArg (· ∈ ((cfg0.win 3).blk t).view.set) (funext fun a => Fin.ext ?_)).mp (((cfg0.win 3).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_3.index t (0 : Fin 2) * 1024 + 1 * ((i (0 : Fin 2)).val % 1024) = (i (0 : Fin 2)).val; omega
  | ⟨1, _⟩ => show win0_3.index t (1 : Fin 2) * 1024 + 1 * ((i (1 : Fin 2)).val % 1024) = (i (1 : Fin 2)).val; omega

theorem final_result : (dats m 0 c).arrAt 3 cfg0.N = resultOf m c :=
  (dats m 0 c).arrAt_eq_of_cover 3 (resultOf m c) (fun t _ => flushed_result m c t) covered_result

end Cert.Kernel22Ideal.Hand

end
-- ==== Proof.GluProjEqual.lean ====
/- The product of the gated linear unit: the reference's product, and the two programs' equal results. -/
module

public import proofs.«01_k».proof.Defs
public import proofs.«01_k».proof.Proof.GluProj
public import proofs.«01_k».proof.Proof.Gen.Reference22Ideal.Read
public import Idealize.ShloMosaic.Lib.Quiescent

@[expose] public section

noncomputable section

namespace Cert.Reference22Ideal.Hand

open Cert.Reference22Ideal Cert.Reference22Ideal.Gen Idealize.ShloMosaic Idealize.ShloMosaic.TcCoe Idealize.SL.Sem

/-- The reference's frame: it has no semaphore at all. -/
theorem frame : Cert.quiescent_Reference22Ideal (hReference22Ideal := Gen.facts) := fun m ρ _ =>
  (θ_run defs _ _).mono (fun r h => ⟨fun c => (h c).2, sem_eq_zero_of_no_sems rfl r.2⟩) (Value.run m ρ)

/-- The reference computes the sum of the product and the bias. -/
theorem value_eq (x : Vec Ideal S2048x1024 .bf16) (w : Vec Ideal S1024x1024 .bf16) (h : Vec Ideal S1x1024 .f32) :
    Read.val_main_v4 (F := Ideal) x w h = Cert.Kernel22Ideal.Hand.result x w h := by
  funext i
  rw [Read.val_main_v4_apply, Read.val_main_v2_apply]
  refine congrArg₂ (fun a b : EReal => a + b) ?_ ((Read.val_main_v3_apply (F := Ideal) h i).trans (congrArg h (funext fun a => match a with
    | ⟨0, _⟩ => rfl
    | ⟨1, _⟩ => rfl)))
  refine Finset.sum_congr rfl fun k _ => congrArg₂ (fun a b : EReal => a * b) (congrArg x (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel22Ideal_Reference22Ideal (hKernel22Ideal := Cert.Kernel22Ideal.Gen.facts) (hReference22Ideal := Gen.facts) := by
  intro m g m' g' _ hagree
  refine ⟨fun c => Cert.Kernel22Ideal.Hand.resultOf m c, (θ_run _ _ _).mono (fun _ h c => ⟨(h c).1.trans (Cert.Kernel22Ideal.Hand.final_result m c), (h c).2⟩) (Cert.Kernel22Ideal.Value.run_blocks m g),
    (θ_run _ _ _).mono (fun r hr c => ?_) (Value.run m' g')⟩
  obtain ⟨h0, h1, h2⟩ := hagree c
  have hc := hr c
  rw [h0, h1, h2] at hc ⊢
  exact ⟨(hc.1.trans (Read.val_main_v4_eq _ _ _)).trans (value_eq _ _ _), hc.2⟩

end Cert.Reference22Ideal.Hand

end
-- ==== Proof.GluProjDx.lean ====
/- The cotangent of the input of the gated linear unit's product: the kernel's blocks and the array they make up. -/
module

public import proofs.«01_k».proof.Proof.Gen.Kernel23Ideal.Value
public import Idealize.ShloMosaic.Lib.Pointwise
public import Idealize.ShloMosaic.Lib.MatmulPlain
public import Idealize.ShloMosaic.PureOps.Ideal.Laws

@[expose] public section

set_option maxRecDepth 16384

noncomputable section

namespace Cert.Kernel23Ideal.Hand

open Cert.Kernel23Ideal Cert.Kernel23Ideal.Gen Cert.Kernel23Ideal.Value Idealize.ShloMosaic Idealize.ShloMosaic.TcCoe Idealize.SL.Sem

theorem hz : (![0, 0] : Fin 2 → Nat) = fun _ => 0 := funext fun a => by fin_cases a <;> rfl

/-- The product of the cotangent with the transposed weights. -/
def result (w : Vec Ideal S1024x1024 .bf16) (ct : Vec Ideal S2048x1024 .bf16) (i : S2048x1024.Idx) : EReal :=
  ∑ k : Fin 1024, (ct (ix2 (i 0) k) * w (ix2 (i 1) k) : EReal)

/-- What a point leaves in its block: the product of its two input blocks. -/
theorem out_A (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S8x128 .f32) (h6 : a6.IsWhole)
    (x0 : Vec Ideal S1024x1024 .bf16) (x1 : Vec Ideal S1024x1024 .bf16) (r : Fin 1024) (q : Fin 1024) :
    out0_A_2 (F := Ideal) c i a3 h3 a4 h4 a5 h5 a6 h6 x0 x1 (ix2 r q) = (∑ k : Fin 1024, (x0 (ix2 r k) * x1 (ix2 q k) : EReal)) := by
  unfold out0_A_2
  rw [View.read_writes_eq_canon _ _ _ (cover0_A_2 c i a3 h3 a4 h4 a5 h5 a6 h6 x0 x1)]
  unfold kernelRun0_A
  dsimp only
  rw [View.canon_unit_zero hz]
  unfold k0_pay1
  simp only [View.readAt_eq_ld, h3.read_unread, h4.read_unread, View.ld_unit_zero (S := S1024x1024) hz, shapeCast_self]
  refine (Ideal.matmul_transposedRhs_apply none x0 x1 _ r q).trans ?_
  exact (congrArg (· + _) Ideal.ofBits_zero_f32).trans (zero_add _)

variable (m : (ℓ : Loc nD τ sig) → Buf (Elt Ideal) ℓ) (ρ : Dev nD → PrngReg) (c : Dev nD)

/-- Device `c`'s result. -/
def resultOf : S2048x1024.Idx → EReal := result (m ((c : Thread nD τ).loc main_arg0)) (m ((c : Thread nD τ).loc main_arg1))

/-- The block indices: a block of rows and a block of columns. -/
theorem lt_points (t : Fin cfg0.N) : t.val < 2 := N_0 ▸ t.isLt
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

/-- Each input block, read at an index. -/
theorem iblk0_apply (t : Fin cfg0.N) (n : Fin 1024) (k : Fin 1024) : iblk m c 0 t (ix2 n k)
    = (m ((c : Thread nD τ).loc main_arg1) : Vec Ideal S2048x1024 .bf16) (ix2 ⟨1024 * (t.val) + n.val, by have := lt_points t; omega⟩ k) := by
  obtain ⟨e0, e1⟩ := index0 t
  rw [← V_main_arg1 m c]
  show (V m c main_arg1 : Vec Ideal S2048x1024 .bf16) (((cfg0.win 0).blk t).view.emb (ix2 n k)) = _
  refine congrArg (V m c main_arg1 : Vec Ideal S2048x1024 .bf16) (funext fun a => Fin.ext ?_)
  match a with
  | ⟨0, _⟩ => show win0_0.index t (0 : Fin 2) * 1024 + 1 * n.val = 1024 * (t.val) + n.val; omega
  | ⟨1, _⟩ => show win0_0.index t (1 : Fin 2) * 1024 + 1 * k.val = k.val; omega

theorem iblk1_apply (t : Fin cfg0.N) (n : Fin 1024) (k : Fin 1024) : iblk m c 1 t (ix2 n k)
    = (m ((c : Thread nD τ).loc main_arg0) : Vec Ideal S1024x1024 .bf16) (ix2 ⟨1024 * (0) + n.val, by have := lt_points t; omega⟩ k) := by
  obtain ⟨e0, e1⟩ := index1 t
  rw [← V_main_arg0 m c]
  show (V m c main_arg0 : Vec Ideal S1024x1024 .bf16) (((cfg0.win 1).blk t).view.emb (ix2 n k)) = _
  refine congrArg (V m c main_arg0 : Vec Ideal S1024x1024 .bf16) (funext fun a => Fin.ext ?_)
  match a with
  | ⟨0, _⟩ => show win0_1.index t (0 : Fin 2) * 1024 + 1 * n.val = 1024 * (0) + n.val; omega
  | ⟨1, _⟩ => show win0_1.index t (1 : Fin 2) * 1024 + 1 * k.val = k.val; omega

/-- What point `t` writes back is its block of the whole result. -/
theorem flushed_result (t : Fin cfg0.N) : (dats m 0 c).flushed 2 t = ((cfg0.win 2).blk t).view.read (Elt Ideal) (resultOf m c) := by
  rw [flushed2_A]
  funext y
  show out0_A_2 (F := Ideal) c (grid0.coords t) (ms0_0 t) (hs0_0 t) (ms0_1 t) (hs0_1 t) (ms0_2 t) (hs0_2 t) scM0_0 (Memref.isWhole_whole _) (iblk m c 0 t) (iblk m c 1 t) y
    = resultOf m c (((cfg0.win 2).blk t).view.emb y)
  obtain ⟨e0, e1⟩ := index2 t
  have key : ∀ (r : Fin 1024) (q : Fin 1024) (z : S2048x1024.Idx), (z 0).val = 1024 * (t.val) + r.val → (z 1).val = 1024 * (0) + q.val →
      out0_A_2 (F := Ideal) c (grid0.coords t) (ms0_0 t) (hs0_0 t) (ms0_1 t) (hs0_1 t) (ms0_2 t) (hs0_2 t) scM0_0 (Memref.isWhole_whole _) (iblk m c 0 t) (iblk m c 1 t) (ix2 r q) = resultOf m c z := by
    intro r q z h0 h1
    refine (out_A c _ _ _ _ _ _ _ _ _ _ _ r q).trans ?_
    unfold resultOf result
    refine Finset.sum_congr rfl fun k _ => ?_
    refine congrArg₂ (fun a b : EReal => a * b) ((iblk0_apply m c t r k).trans ?_) ((iblk1_apply m c t q k).trans ?_)
    · exact congrArg (fun a => (m ((c : Thread nD τ).loc main_arg1) : Vec Ideal S2048x1024 .bf16) (ix2 a k)) (Fin.ext h0.symm)
    · exact congrArg (fun a => (m ((c : Thread nD τ).loc main_arg0) : Vec Ideal S1024x1024 .bf16) (ix2 a k)) (Fin.ext h1.symm)
  refine (congrArg _ (funext fun a => by
    match a with
    | ⟨0, _⟩ => rfl
    | ⟨1, _⟩ => rfl)).trans (key (y (0 : Fin 2)) (y (1 : Fin 2)) _ ?_ ?_)
  · show win0_2.index t (0 : Fin 2) * 1024 + 1 * (y (0 : Fin 2)).val = 1024 * (t.val) + (y (0 : Fin 2)).val; omega
  · show win0_2.index t (1 : Fin 2) * 1024 + 1 * (y (1 : Fin 2)).val = 1024 * (0) + (y (1 : Fin 2)).val; omega

/-- The blocks cover the array. -/
theorem covered_result (i : S2048x1024.Idx) : ∃ t : Fin cfg0.N, (cfg0.win 2).flush t = true ∧ i ∈ ((cfg0.win 2).blk t).view.set := by
  have hi : (i (0 : Fin 2)).val < 2048 := (i (0 : Fin 2)).isLt
  have hj : (i (1 : Fin 2)).val < 1024 := (i (1 : Fin 2)).isLt
  let t : Fin cfg0.N := ⟨(i (0 : Fin 2)).val / 1024, by show _ < grid0.N; rw [N_0]; omega⟩
  obtain ⟨e0, e1⟩ := index2 t
  have ht : t.val = (i (0 : Fin 2)).val / 1024 := rfl
  refine ⟨t, flush0_2 t, (congrArg (· ∈ ((cfg0.win 2).blk t).view.set) (funext fun a => Fin.ext ?_)).mp (((cfg0.win 2).blk t).view.emb_mem_set (ix2 ⟨(i (0 : Fin 2)).val % 1024, Nat.mod_lt _ (by decide)⟩ ⟨(i (1 : Fin 2)).val % 1024, Nat.mod_lt _ (by decide)⟩))⟩
  match a with
  | ⟨0, _⟩ => show win0_2.index t (0 : Fin 2) * 1024 + 1 * ((i (0 : Fin 2)).val % 1024) = (i (0 : Fin 2)).val; omega
  | ⟨1, _⟩ => show win0_2.index t (1 : Fin 2) * 1024 + 1 * ((i (1 : Fin 2)).val % 1024) = (i (1 : Fin 2)).val; omega

theorem final_result : (dats m 0 c).arrAt 2 cfg0.N = resultOf m c :=
  (dats m 0 c).arrAt_eq_of_cover 2 (resultOf m c) (fun t _ => flushed_result m c t) covered_result

end Cert.Kernel23Ideal.Hand

end
-- ==== Proof.GluProjDxEqual.lean ====
/- The cotangent of the input of the gated linear unit's product: the reference's product, and the two programs' equal results. -/
module

public import proofs.«01_k».proof.Defs
public import proofs.«01_k».proof.Proof.GluProjDx
public import proofs.«01_k».proof.Proof.Gen.Reference23Ideal.Read
public import Idealize.ShloMosaic.Lib.Quiescent

@[expose] public section

noncomputable section

namespace Cert.Reference23Ideal.Hand

open Cert.Reference23Ideal Cert.Reference23Ideal.Gen Idealize.ShloMosaic Idealize.ShloMosaic.TcCoe Idealize.SL.Sem

/-- The reference's frame: it has no semaphore at all. -/
theorem frame : Cert.quiescent_Reference23Ideal (hReference23Ideal := Gen.facts) := fun m ρ _ =>
  (θ_run defs _ _).mono (fun r h => ⟨fun c => (h c).2, sem_eq_zero_of_no_sems rfl r.2⟩) (Value.run m ρ)

/-- The reference computes the product. -/
theorem value_eq (w : Vec Ideal S1024x1024 .bf16) (ct : Vec Ideal S2048x1024 .bf16) :
    Read.val_main_v4 (F := Ideal) w ct = Cert.Kernel23Ideal.Hand.result w ct := by
  funext i
  rw [Read.val_main_v4_apply]
  refine Finset.sum_congr rfl fun k _ => congrArg₂ (fun a b : EReal => a * b) (congrArg ct (funext fun a => ?_)) (congrArg w (funext fun a => ?_))
  · match a with
    | ⟨0, _⟩ => rfl
    | ⟨1, _⟩ => rfl
  · match a with
    | ⟨0, _⟩ => rfl
    | ⟨1, _⟩ => rfl

/-- Equal results. -/
theorem equal : Cert.algebraic_Kernel23Ideal_Reference23Ideal (hKernel23Ideal := Cert.Kernel23Ideal.Gen.facts) (hReference23Ideal := Gen.facts) := by
  intro m g m' g' _ hagree
  refine ⟨fun c => Cert.Kernel23Ideal.Hand.resultOf m c, (θ_run _ _ _).mono (fun _ h c => ⟨(h c).1.trans (Cert.Kernel23Ideal.Hand.final_result m c), (h c).2⟩) (Cert.Kernel23Ideal.Value.run_blocks m g),
    (θ_run _ _ _).mono (fun r hr c => ?_) (Value.run m' g')⟩
  obtain ⟨h0, h1⟩ := hagree c
  have hc := hr c
  rw [h0, h1] at hc ⊢
  exact ⟨(hc.1.trans (Read.val_main_v4_eq _ _)).trans (value_eq _ _), hc.2⟩

end Cert.Reference23Ideal.Hand

end
-- ==== Proof.NormRow.lean ====
/- The gradient of the root-mean-square norm, of one row. -/
module

public import Idealize.ShloMosaic.PureOps.Ideal.Laws

@[expose] public section

noncomputable section

namespace Cert.NormRow

open Idealize.ShloMosaic

variable {n : ℕ}

/-- The mean of the squares of a row of `c` numbers, plus `e`. -/
def meanSq (c e : EReal) (x : Fin n → EReal) : EReal := Ideal.div (∑ k, x k * x k) c + e

/-- The factor that the norm scales the row by. -/
def scale (c e : EReal) (x : Fin n → EReal) : EReal := Ideal.rsqrt (meanSq c e x)

/-- The gradient of the row's entry `j`, from the gradient `d` of the scaled row. -/
def dInput (c e : EReal) (x d : Fin n → EReal) (j : Fin n) : EReal :=
  scale c e x * (d j - x j * scale c e x * Ideal.div (∑ k, d k * (x k * scale c e x)) c)

/-- The gradient that the factor passes to entry `j`, twice, by the chain rule. -/
def viaScale (c e : EReal) (x d : Fin n → EReal) : EReal :=
  Ideal.div ((∑ k, x k * d k) * (((-(1 / 2) : ℝ) : EReal) * Ideal.div (scale c e x) (meanSq c e x))) c

theorem mul_self_nonneg (x : EReal) : 0 ≤ x * x := by
  rcases le_total 0 x with h | h
  · exact EReal.mul_nonneg h h
  · exact EReal.mul_nonneg_iff.2 (Or.inr ⟨h, h⟩)

/-- Division by a positive real is a product. -/
theorem div_real (x : EReal) {c : ℝ} (hc : 0 < c) : Ideal.div x (c : EReal) = x * ((c⁻¹ : ℝ) : EReal) := by
  unfold Ideal.div
  rw [if_neg (by exact_mod_cast hc.ne'), EReal.coe_inv]

/-- The factor is a real number; divided by the mean it was taken of, it is its own cube. Both are zero for a row with an infinite entry. -/
theorem scale_real {c e : ℝ} (hc : 0 < c) (he : 0 < e) (x : Fin n → EReal) :
    ∃ ρ : ℝ, 0 ≤ ρ ∧ scale c e x = ρ ∧ Ideal.div (scale c e x) (meanSq c e x) = ((ρ * ρ * ρ : ℝ) : EReal) := by
  have h0 : (0 : EReal) ≤ Ideal.div (∑ k, x k * x k) (c : EReal) := by
    rw [div_real _ hc]
    exact EReal.mul_nonneg (Finset.sum_nonneg fun k _ => mul_self_nonneg _) (by exact_mod_cast (inv_pos.2 hc).le)
  have hp : (0 : EReal) < meanSq c e x := by
    unfold meanSq
    rw [add_comm]
    exact EReal.add_pos_of_pos_of_nonneg (by exact_mod_cast he) h0
  unfold scale
  generalize meanSq (c : EReal) (e : EReal) x = M at hp
  induction M with
  | bot => simp at hp
  | top => exact ⟨0, le_rfl, by simp, by simp [Ideal.div]⟩
  | coe μ =>
    have hμ : 0 < μ := by exact_mod_cast hp
    have hs : Real.sqrt μ * Real.sqrt μ = μ := Real.mul_self_sqrt hμ.le
    have hs0 : 0 < Real.sqrt μ := Real.sqrt_pos.2 hμ
    have e1 : Ideal.rsqrt (μ : EReal) = (((Real.sqrt μ)⁻¹ : ℝ) : EReal) := by
      rw [Ideal.rsqrt_coe, if_neg hμ.le.not_gt, if_neg hμ.ne']
    refine ⟨(Real.sqrt μ)⁻¹, (inv_pos.2 hs0).le, e1, ?_⟩
    rw [e1, div_real _ hμ, ← EReal.coe_mul]
    congr 1
    rw [mul_assoc, ← mul_inv (Real.sqrt μ) (Real.sqrt μ), hs]

/-- A nonnegative real number times a sum. -/
theorem real_mul_sum {ρ : ℝ} (h : 0 ≤ ρ) (s : Finset (Fin n)) (f : Fin n → EReal) : (ρ : EReal) * ∑ k ∈ s, f k = ∑ k ∈ s, (ρ : EReal) * f k := by
  induction s using Finset.cons_induction with
  | empty => simp
  | cons a s ha ih =>
    rw [Finset.sum_cons, Finset.sum_cons, EReal.left_distrib_of_nonneg_of_ne_top (by exact_mod_cast h) (EReal.coe_ne_top _), ih]

/-- The closed form is the chain rule's sum. -/
theorem dInput_eq {c e : ℝ} (hc : 0 < c) (he : 0 < e) (x d : Fin n → EReal) (j : Fin n) :
    dInput c e x d j = d j * scale c e x + x j * viaScale c e x d + viaScale c e x d * x j := by
  unfold viaScale dInput
  obtain ⟨ρ, hρ, e1, e2⟩ := scale_real hc he x
  rw [e2, e1, div_real _ hc, div_real _ hc]
  have hS : (∑ k, d k * (x k * (ρ : EReal))) = (ρ : EReal) * ∑ k, x k * d k := by
    rw [real_mul_sum hρ]
    exact Finset.sum_congr rfl fun k _ => by rw [mul_comm (d k), mul_comm (x k), mul_assoc]
  rw [hS]
  generalize (∑ k, x k * d k) = S
  rw [sub_eq_add_neg, EReal.left_distrib_of_nonneg_of_ne_top (by exact_mod_cast hρ) (EReal.coe_ne_top _), mul_comm (ρ : EReal) (d j), add_assoc]
  congr 1
  have hκ : 0 ≤ ρ * ρ * ρ * c⁻¹ / 2 := by positivity
  have hk : (0 : EReal) ≤ ((ρ * ρ * ρ * c⁻¹ / 2 : ℝ) : EReal) := by exact_mod_cast hκ
  have one : x j * (S * (((-(1 / 2) : ℝ) : EReal) * ((ρ * ρ * ρ : ℝ) : EReal)) * ((c⁻¹ : ℝ) : EReal))
      = ((ρ * ρ * ρ * c⁻¹ / 2 : ℝ) : EReal) * (-(x j * S)) := by
    have : ((-(1 / 2) : ℝ) : EReal) * ((ρ * ρ * ρ : ℝ) : EReal) * ((c⁻¹ : ℝ) : EReal) = -((ρ * ρ * ρ * c⁻¹ / 2 : ℝ) : EReal) := by
      rw [← EReal.coe_mul, ← EReal.coe_mul, ← EReal.coe_neg]; congr 1; ring
    rw [mul_assoc S, this, ← mul_assoc, mul_neg, mul_neg, mul_comm]
  rw [mul_comm _ (x j), one, ← EReal.right_distrib_of_nonneg hk hk, ← EReal.coe_add, mul_neg, mul_neg]
  have h2 : (ρ * ρ * ρ * c⁻¹ / 2 + ρ * ρ * ρ * c⁻¹ / 2 : ℝ) = ρ * ρ * ρ * c⁻¹ := by ring
  rw [h2, EReal.coe_mul, EReal.coe_mul, EReal.coe_mul]
  congr 1
  ac_rfl

/-- The constants of the two programs. -/
theorem ofBits_2048 : Ideal.ofBits .f32 0x45000000#32 = ((2048 : ℝ) : EReal) := by
  simp [Ideal.ofBits, Ideal.ieee]
  rw [← EReal.coe_mul]
  norm_num

theorem ofBits_neg_half : Ideal.ofBits .f32 0xBF000000#32 = ((-(1 / 2) : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  simp [Ideal.ofBits, Ideal.ieee]
  refine ⟨8796093 * (1 / 8796093022208), by norm_num, ?_⟩
  rw [← EReal.coe_mul]
  norm_num

end Cert.NormRow

end
-- ==== Proof.NormBwdBlock.lean ====
/- The gradient of the feed-forward norm: what one point computes from its 512 rows. -/
module

public import proofs.«01_k».proof.Proof.Gen.Kernel24Ideal.Value
public import proofs.«01_k».proof.Proof.NormRow
public import Idealize.ShloMosaic.Lib.Pointwise

@[expose] public section

set_option maxRecDepth 16384

noncomputable section

namespace Cert.Kernel24Ideal.Hand

open Cert.Kernel24Ideal Cert.Kernel24Ideal.Gen Cert.Kernel24Ideal.Value Idealize.ShloMosaic Idealize.ShloMosaic.TcCoe Idealize.SL.Sem

theorem hz : (![0, 0] : Fin 2 → Nat) = fun _ => 0 := funext fun a => by fin_cases a <;> rfl

/-- The length of a row and the number added to its mean square. -/
abbrev len : EReal := Ideal.ofBits .f32 0x45000000#32
abbrev eps : EReal := Ideal.ofBits .f32 0x358637BD#32

/-- The row's factor. -/
theorem scale_apply (x0 : Vec Ideal S512x2048 .f32) (r : Fin 512) (z : Fin 1) :
    k0_pay2 (F := Ideal) x0 (ix2 r z) = Cert.NormRow.scale len eps fun k : Fin 2048 => x0 (ix2 r k) := by
  unfold k0_pay2 Cert.NormRow.scale Cert.NormRow.meanSq
  pointwise []

/-- The scaled row. -/
theorem scaled_apply (x0 : Vec Ideal S512x2048 .f32) (r : Fin 512) (q : Fin 2048) :
    k0_pay3 (F := Ideal) x0 (ix2 r q) = x0 (ix2 r q) * Cert.NormRow.scale len eps fun k : Fin 2048 => x0 (ix2 r k) := by
  unfold k0_pay3
  have e := scale_apply x0 r 0
  generalize k0_pay2 (F := Ideal) x0 = y at e ⊢
  pointwise [e]

/-- The input's gradient, and the gradient added to it. -/
theorem dInput_apply (x0 : Vec Ideal S512x2048 .f32) (x1 : Vec Ideal S1x2048 .f32) (x2 x3 : Vec Ideal S512x2048 .f32) (r : Fin 512) (q : Fin 2048) :
    k0_pay4 (F := Ideal) x0 x1 x2 x3 (ix2 r q)
      = Cert.NormRow.dInput len eps (fun k : Fin 2048 => x0 (ix2 r k)) (fun k => x2 (ix2 r k) * x1 (ix2 0 k)) q + x3 (ix2 r q) := by
  unfold k0_pay4 Cert.NormRow.dInput
  have e2 := scale_apply x0 r 0
  have e3 := scaled_apply x0 r
  generalize k0_pay2 (F := Ideal) x0 = y2 at e2 ⊢
  generalize k0_pay3 (F := Ideal) x0 = y3 at e3 ⊢
  pointwise [e2, e3]

/-- The 512 rows' part of the weights' gradient. -/
theorem part_apply (x0 x2 : Vec Ideal S512x2048 .f32) (z : Fin 1) (q : Fin 2048) :
    k0_pay6 (F := Ideal) x0 x2 (ix2 z q)
      = ∑ r : Fin 512, (x2 (ix2 r q) * (x0 (ix2 r q) * Cert.NormRow.scale len eps fun k : Fin 2048 => x0 (ix2 r k)) : EReal) := by
  unfold k0_pay6
  have e3 := fun r => scaled_apply x0 r q
  generalize k0_pay3 (F := Ideal) x0 = y3 at e3 ⊢
  pointwise [e3]

variable (c : Dev nD) (i : grid0.Coords) (a1 : Memref sig .tc .vmem S512x2048 .f32) (h1 : a1.IsWhole) (a2 : Memref sig .tc .vmem S1x2048 .f32) (h2 : a2.IsWhole)
    (a3 : Memref sig .tc .vmem S512x2048 .f32) (h3 : a3.IsWhole) (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (x0 : Vec Ideal S512x2048 .f32) (x1 : Vec Ideal S1x2048 .f32) (x2 x3 : Vec Ideal S512x2048 .f32) (acc : Vec Ideal S1x2048 .f32)

/-- The first point's three blocks. -/
theorem first4 (hc0 : cond0_0 i) (hc1 : ¬cond0_1 i) :
    out0_A_4 (F := Ideal) c i a1 h1 a2 h2 a3 h3 a4 h4 a5 h5 a6 h6 a7 h7 hc0 hc1 x0 x1 x2 x3 = k0_pay4 (F := Ideal) x0 x1 x2 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  rw [View.canon_unit_zero hz]
  simp only [View.readAt_eq_ld, h1.read_unread, h2.read_unread, h3.read_unread, h4.read_unread, View.ld_unit_zero (S := S512x2048) hz, View.ld_unit_zero (S := S1x2048) hz]

theorem first5 (hc0 : cond0_0 i) (hc1 : ¬cond0_1 i) :
    out0_A_5 (F := Ideal) c i a1 h1 a2 h2 a3 h3 a4 h4 a5 h5 a6 h6 a7 h7 hc0 hc1 x0 x1 x2 x3 = k0_pay5 (F := Ideal) x0 x1 x2 x3 := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  rw [View.canon_unit_zero hz]
  simp only [View.readAt_eq_ld, h1.read_unread, h2.read_unread, h3.read_unread, h4.read_unread, View.ld_unit_zero (S := S512x2048) hz, View.ld_unit_zero (S := S1x2048) hz]

theorem first6 (hc0 : cond0_0 i) (hc1 : ¬cond0_1 i) :
    out0_A_6 (F := Ideal) c i a1 h1 a2 h2 a3 h3 a4 h4 a5 h5 a6 h6 a7 h7 hc0 hc1 x0 x1 x2 x3 = k0_pay6 (F := Ideal) x0 x2 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  rw [View.canon_unit_zero hz]
  simp only [View.readAt_eq_ld, h1.read_unread, h3.read_unread, View.ld_unit_zero (S := S512x2048) hz]

/-- A later point's three blocks: it adds to the weights' gradient. -/
theorem later4 (hc0 : ¬cond0_0 i) (hc1 : cond0_1 i) :
    out0_B_4 (F := Ideal) c i a1 h1 a2 h2 a3 h3 a4 h4 a5 h5 a6 h6 a7 h7 hc0 hc1 x0 x1 x2 x3 acc = k0_pay4 (F := Ideal) x0 x1 x2 x3 := by
  unfold out0_B_4
  rw [View.read_writes_eq_canon _ _ _ (cover0_B_4 c i a1 h1 a2 h2 a3 h3 a4 h4 a5 h5 a6 h6 a7 h7 hc0 hc1 x0 x1 x2 x3 acc)]
  unfold kernelRun0_B
  dsimp only
  rw [View.canon_unit_zero hz]
  simp only [View.readAt_eq_ld, h1.read_unread, h2.read_unread, h3.read_unread, h4.read_unread, View.ld_unit_zero (S := S512x2048) hz, View.ld_unit_zero (S := S1x2048) hz]

theorem later5 (hc0 : ¬cond0_0 i) (hc1 : cond0_1 i) :
    out0_B_5 (F := Ideal) c i a1 h1 a2 h2 a3 h3 a4 h4 a5 h5 a6 h6 a7 h7 hc0 hc1 x0 x1 x2 x3 acc = k0_pay5 (F := Ideal) x0 x1 x2 x3 := by
  unfold out0_B_5
  rw [View.read_writes_eq_canon _ _ _ (cover0_B_5 c i a1 h1 a2 h2 a3 h3 a4 h4 a5 h5 a6 h6 a7 h7 hc0 hc1 x0 x1 x2 x3 acc)]
  unfold kernelRun0_B
  dsimp only
  rw [View.canon_unit_zero hz]
  simp only [View.readAt_eq_ld, h1.read_unread, h2.read_unread, h3.read_unread, h4.read_unread, View.ld_unit_zero (S := S512x2048) hz, View.ld_unit_zero (S := S1x2048) hz]

theorem later6 (hc0 : ¬cond0_0 i) (hc1 : cond0_1 i) :
    out0_B_6 (F := Ideal) c i a1 h1 a2 h2 a3 h3 a4 h4 a5 h5 a6 h6 a7 h7 hc0 hc1 x0 x1 x2 x3 acc = addf acc (k0_pay6 (F := Ideal) x0 x2) := by
  unfold out0_B_6
  rw [View.read_writes_eq_canon _ _ _ (cover0_B_6 c i a1 h1 a2 h2 a3 h3 a4 h4 a5 h5 a6 h6 a7 h7 hc0 hc1 x0 x1 x2 x3 acc)]
  unfold kernelRun0_B
  dsimp only
  rw [View.canon_unit_zero hz]
  unfold k0_pay1 kernelRun0_B.sl.r
  simp only [View.readAt_eq_ld, h1.read_unread, h3.read_unread, h7.read_unread, View.ld_unit_zero (S := S512x2048) hz, View.ld_unit_zero (S := S1x2048) hz, shapeCast_self]

end Cert.Kernel24Ideal.Hand

end
-- ==== Proof.NormBwd.lean ====
/- The gradient of the feed-forward norm: the three arrays that the kernel's blocks make up. -/
module

public import proofs.«01_k».proof.Proof.NormBwdBlock
public import Mathlib.Algebra.BigOperators.Fin
public import Mathlib.Logic.Equiv.Fin.Basic

@[expose] public section

set_option maxRecDepth 16384

noncomputable section

namespace Cert.Kernel24Ideal.Hand

open Cert.Kernel24Ideal Cert.Kernel24Ideal.Gen Cert.Kernel24Ideal.Value Idealize.ShloMosaic Idealize.ShloMosaic.TcCoe Idealize.SL.Sem

/-- Row `r` of an array. -/
def row (x : Vec Ideal S2048x2048 .f32) (r : Fin 2048) (k : Fin 2048) : EReal := x (ix2 r k)

/-- The gradient of the scaled row `r`. -/
def dRow (w : Vec Ideal S1x2048 .f32) (dy : Vec Ideal S2048x2048 .f32) (r : Fin 2048) (k : Fin 2048) : EReal := dy (ix2 r k) * w (ix2 0 k)

/-- The gradient of the input, and the gradient added to it. -/
def dx (x : Vec Ideal S2048x2048 .f32) (w : Vec Ideal S1x2048 .f32) (dy a : Vec Ideal S2048x2048 .f32) (i : S2048x2048.Idx) : EReal :=
  Cert.NormRow.dInput len eps (row x (i 0)) (dRow w dy (i 0)) (i 1) + a i

/-- Row `r`'s term of the weights' gradient. -/
def dwTerm (x dy : Vec Ideal S2048x2048 .f32) (q : Fin 2048) (r : Fin 2048) : EReal := dy (ix2 r q) * (x (ix2 r q) * Cert.NormRow.scale len eps (row x r))

/-- The gradient of the weights. -/
def dw (x dy : Vec Ideal S2048x2048 .f32) (i : S1x2048.Idx) : EReal := ∑ r : Fin 2048, dwTerm x dy (i 1) r

/-- Four blocks of 512. -/
theorem sum_four (f : Fin 2048 → EReal) :
    ∑ k, f k = (((∑ q : Fin 512, f ⟨512 * 0 + q.val, by omega⟩) + ∑ q : Fin 512, f ⟨512 * 1 + q.val, by omega⟩)
      + ∑ q : Fin 512, f ⟨512 * 2 + q.val, by omega⟩) + ∑ q : Fin 512, f ⟨512 * 3 + q.val, by omega⟩ := by
  rw [← Equiv.sum_comp (finProdFinEquiv : Fin 4 × Fin 512 ≃ Fin (4 * 512)) f, Fintype.sum_prod_type, Fin.sum_univ_four]
  refine congrArg₂ (fun a b : EReal => a + b) (congrArg₂ (fun a b : EReal => a + b) (congrArg₂ (fun a b : EReal => a + b) ?_ ?_) ?_) ?_ <;>
    refine Finset.sum_congr rfl fun q _ => congrArg f (Fin.ext ?_)
  · show q.val + 512 * 0 = 512 * 0 + q.val; omega
  · show q.val + 512 * 1 = 512 * 1 + q.val; omega
  · show q.val + 512 * 2 = 512 * 2 + q.val; omega
  · show q.val + 512 * 3 = 512 * 3 + q.val; omega

/-- A block of rows gives its block of the input's gradient, and its rows' terms of the weights'. -/
theorem pay4_block (x0 : Vec Ideal S512x2048 .f32) (x1 : Vec Ideal S1x2048 .f32) (x2 x3 : Vec Ideal S512x2048 .f32) (x : Vec Ideal S2048x2048 .f32) (w : Vec Ideal S1x2048 .f32)
    (dy a : Vec Ideal S2048x2048 .f32) (p : Fin 512 → Fin 2048) (e0 : ∀ n k, x0 (ix2 n k) = x (ix2 (p n) k)) (e1 : ∀ k, x1 (ix2 0 k) = w (ix2 0 k))
    (e2 : ∀ n k, x2 (ix2 n k) = dy (ix2 (p n) k)) (e3 : ∀ n k, x3 (ix2 n k) = a (ix2 (p n) k)) (n : Fin 512) (q : Fin 2048) :
    k0_pay4 (F := Ideal) x0 x1 x2 x3 (ix2 n q) = dx x w dy a (ix2 (p n) q) := by
  refine (dInput_apply _ _ _ _ n q).trans ?_
  simp only [e0, e1, e2, e3]
  rfl

theorem pay6_block (x0 x2 : Vec Ideal S512x2048 .f32) (x dy : Vec Ideal S2048x2048 .f32) (p : Fin 512 → Fin 2048) (e0 : ∀ n k, x0 (ix2 n k) = x (ix2 (p n) k))
    (e2 : ∀ n k, x2 (ix2 n k) = dy (ix2 (p n) k)) (z : Fin 1) (q : Fin 2048) :
    k0_pay6 (F := Ideal) x0 x2 (ix2 z q) = ∑ r : Fin 512, dwTerm x dy q (p r) := by
  refine (part_apply _ _ z q).trans (Finset.sum_congr rfl fun r _ => ?_)
  simp only [e0, e2]
  rfl

variable (m : (ℓ : Loc nD τ sig) → Buf (Elt Ideal) ℓ) (ρ : Dev nD → PrngReg) (c : Dev nD)

/-- Device `c`'s arguments and results. -/
abbrev argX : Vec Ideal S2048x2048 .f32 := m ((c : Thread nD τ).loc main_arg0)
abbrev argW : Vec Ideal S1x2048 .f32 := m ((c : Thread nD τ).loc main_arg1)
abbrev argDy : Vec Ideal S2048x2048 .f32 := m ((c : Thread nD τ).loc main_arg2)
abbrev argAdd : Vec Ideal S2048x2048 .f32 := m ((c : Thread nD τ).loc main_arg3)
def dxOf : S2048x2048.Idx → EReal := dx (argX m c) (argW m c) (argDy m c) (argAdd m c)
def dwOf : S1x2048.Idx → EReal := dw (argX m c) (argDy m c)

/-- The block indices: point `t` takes the 512 rows from `512 t`, and the whole weights. -/
theorem lt_points (t : Fin cfg0.N) : t.val < 4 := N_0 ▸ t.isLt
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)

/-- Row `n` of point `t`'s block. -/
def at_ (t : Fin cfg0.N) (n : Fin 512) : Fin 2048 := ⟨512 * t.val + n.val, by have := lt_points t; omega⟩

theorem emb (t : Fin cfg0.N) (n : Fin 512) (k : Fin 2048) : (((cfg0.win 0).blk t).view.emb (ix2 n k) : S2048x2048.Idx) = ix2 (at_ t n) k := by
  obtain ⟨e0, e1⟩ := index0 t
  refine funext fun a => Fin.ext ?_
  match a with
  | ⟨0, _⟩ => show win0_0.index t (0 : Fin 2) * 512 + 1 * n.val = 512 * t.val + n.val; omega
  | ⟨1, _⟩ => show win0_0.index t (1 : Fin 2) * 2048 + 1 * k.val = k.val; omega

theorem embW (t : Fin cfg0.N) (k : Fin 2048) (z : Fin 1) : (((cfg0.win 1).blk t).view.emb (ix2 z k) : S1x2048.Idx) = ix2 z k := by
  obtain ⟨e0, e1⟩ := index1 t
  refine funext fun a => Fin.ext ?_
  match a with
  | ⟨0, _⟩ => show win0_1.index t (0 : Fin 2) * 1 + 1 * z.val = z.val; omega
  | ⟨1, _⟩ => show win0_1.index t (1 : Fin 2) * 2048 + 1 * k.val = k.val; omega

/-- Each input block, read at an index. -/
theorem iblk0_apply (t : Fin cfg0.N) (n : Fin 512) (k : Fin 2048) : iblk m c 0 t (ix2 n k) = argX m c (ix2 (at_ t n) k) := by
  unfold argX
  rw [← V_main_arg0 m c]
  exact congrArg (V m c main_arg0 : Vec Ideal S2048x2048 .f32) (emb t n k)

theorem iblk2_apply (t : Fin cfg0.N) (n : Fin 512) (k : Fin 2048) : iblk m c 2 t (ix2 n k) = argDy m c (ix2 (at_ t n) k) := by
  unfold argDy
  rw [← V_main_arg2 m c]
  exact congrArg (V m c main_arg2 : Vec Ideal S2048x2048 .f32) (emb t n k)

theorem iblk3_apply (t : Fin cfg0.N) (n : Fin 512) (k : Fin 2048) : iblk m c 3 t (ix2 n k) = argAdd m c (ix2 (at_ t n) k) := by
  unfold argAdd
  rw [← V_main_arg3 m c]
  exact congrArg (V m c main_arg3 : Vec Ideal S2048x2048 .f32) (emb t n k)

theorem iblk1_apply (t : Fin cfg0.N) (k : Fin 2048) : iblk m c 1 t (ix2 0 k) = argW m c (ix2 0 k) := by
  unfold argW
  rw [← V_main_arg1 m c]
  exact congrArg (V m c main_arg1 : Vec Ideal S1x2048 .f32) (embW t k 0)

/-- What point `t` computes of the input's gradient is its block of it. -/
theorem block_dx (t : Fin cfg0.N) (n : Fin 512) (q : Fin 2048) :
    k0_pay4 (F := Ideal) (iblk m c 0 t) (iblk m c 1 t) (iblk m c 2 t) (iblk m c 3 t) (ix2 n q) = dxOf m c (ix2 (at_ t n) q) :=
  pay4_block _ _ _ _ _ _ _ _ (at_ t) (iblk0_apply m c t) (iblk1_apply m c t) (iblk2_apply m c t) (iblk3_apply m c t) n q

/-- What point `t` computes of the weights' gradient is the sum over its 512 rows. -/
theorem block_dw (t : Fin cfg0.N) (j : ℕ) (hj : t.val = j) (hl : j < 4) (z : Fin 1) (q : Fin 2048) :
    k0_pay6 (F := Ideal) (iblk m c 0 t) (iblk m c 2 t) (ix2 z q) = ∑ r : Fin 512, dwTerm (argX m c) (argDy m c) q ⟨512 * j + r.val, by omega⟩ := by
  subst hj
  exact pay6_block _ _ _ _ (at_ t) (iblk0_apply m c t) (iblk2_apply m c t) z q

/-- What the three result blocks hold after a point. -/
theorem after4 (t : Fin cfg0.N) : (outsAt0 m c t.val t.isLt).1 = k0_pay4 (F := Ideal) (iblk m c 0 t) (iblk m c 1 t) (iblk m c 2 t) (iblk m c 3 t) := by
  have ht := lt_points t
  by_cases h : t.val = 0
  · have e := congrArg Prod.fst (outsAt0_A m c t (by omega) (by omega))
    dsimp only at e
    rw [first4] at e
    exact e
  · have e := congrArg Prod.fst (outsAt0_B m c t (by omega) (by omega))
    dsimp only at e
    rw [later4] at e
    exact e

theorem after5 (t : Fin cfg0.N) : (outsAt0 m c t.val t.isLt).2.1 = k0_pay5 (F := Ideal) (iblk m c 0 t) (iblk m c 1 t) (iblk m c 2 t) (iblk m c 3 t) := by
  have ht := lt_points t
  by_cases h : t.val = 0
  · have e := congrArg (fun p => p.2.1) (outsAt0_A m c t (by omega) (by omega))
    dsimp only at e
    rw [first5] at e
    exact e
  · have e := congrArg (fun p => p.2.1) (outsAt0_B m c t (by omega) (by omega))
    dsimp only at e
    rw [later5] at e
    exact e

theorem after_first (t : Fin cfg0.N) (h : t.val = 0) : (outsAt0 m c t.val t.isLt).2.2 = k0_pay6 (F := Ideal) (iblk m c 0 t) (iblk m c 2 t) := by
  have e := congrArg (fun p => p.2.2) (outsAt0_A m c t (by omega) (by omega))
  dsimp only at e
  rw [first6] at e
  exact e

theorem after_later (t : Fin cfg0.N) (h : 1 ≤ t.val) : (outsAt0 m c t.val t.isLt).2.2
    = addf (outsAt0 m c (t.val - 1) (Nat.lt_of_le_of_lt (Nat.sub_le _ _) t.isLt)).2.2 (k0_pay6 (F := Ideal) (iblk m c 0 t) (iblk m c 2 t)) := by
  have ht := lt_points t
  have e := congrArg (fun p => p.2.2) (outsAt0_B m c t (by omega) h)
  dsimp only at e
  rw [later6] at e
  exact e

/-- After the last point the weights' gradient is whole. -/
theorem after_last (t : Fin cfg0.N) (h : t.val = 3) (z : Fin 1) (q : Fin 2048) :
    ((outsAt0 m c t.val t.isLt).2.2 : Vec Ideal S1x2048 .f32) (ix2 z q) = dwOf m c (ix2 z q) := by
  let t2 : Fin cfg0.N := ⟨t.val - 1, Nat.lt_of_le_of_lt (Nat.sub_le _ _) t.isLt⟩
  let t1 : Fin cfg0.N := ⟨t.val - 1 - 1, Nat.lt_of_le_of_lt (Nat.sub_le _ _) t2.isLt⟩
  let t0 : Fin cfg0.N := ⟨t.val - 1 - 1 - 1, Nat.lt_of_le_of_lt (Nat.sub_le _ _) t1.isLt⟩
  have e2 : t2.val = t.val - 1 := rfl
  have e1 : t1.val = t.val - 1 - 1 := rfl
  have e0 : t0.val = t.val - 1 - 1 - 1 := rfl
  have s3 := after_later m c t (by omega)
  have s2 := after_later m c t2 (by omega)
  have s1 := after_later m c t1 (by omega)
  have s0 := after_first m c t0 (by omega)
  have p3 := block_dw m c t 3 h (by omega) z q
  have p2 := block_dw m c t2 2 (by omega) (by omega) z q
  have p1 := block_dw m c t1 1 (by omega) (by omega) z q
  have p0 := block_dw m c t0 0 (by omega) (by omega) z q
  unfold dwOf dw
  rw [sum_four]
  refine (congrFun s3 (ix2 z q)).trans (congrArg₂ (fun a b : EReal => a + b) ?_ p3)
  refine (congrFun s2 (ix2 z q)).trans (congrArg₂ (fun a b : EReal => a + b) ?_ p2)
  exact (congrFun s1 (ix2 z q)).trans (congrArg₂ (fun a b : EReal => a + b) ((congrFun s0 (ix2 z q)).trans p0) p1)

/-- What a point writes back is its block of the whole array. -/
theorem flushed_dx (t : Fin cfg0.N) : (dats m 0 c).flushed 4 t = ((cfg0.win 4).blk t).view.read (Elt Ideal) (dxOf m c) := by
  rw [flushed4, after4]
  funext y
  obtain ⟨n, q, rfl⟩ : ∃ (n : Fin 512) (q : Fin 2048), y = ix2 n q := ⟨y 0, y 1, funext fun a => by match a with | ⟨0, _⟩ => rfl | ⟨1, _⟩ => rfl⟩
  exact (block_dx m c t n q).trans (congrArg (dxOf m c) (emb t n q).symm)

theorem flushed_dx_cast (t : Fin cfg0.N) : (dats m 0 c).flushed 5 t = ((cfg0.win 5).blk t).view.read (Elt Ideal) (dxOf m c) := by
  have e := flushed_dx m c t
  rw [flushed4, after4] at e
  rw [flushed5, after5]
  exact e

theorem flushed_dw (t : Fin cfg0.N) (h : t.val = 3) : (dats m 0 c).flushed 6 t = ((cfg0.win 6).blk t).view.read (Elt Ideal) (dwOf m c) := by
  rw [flushed6]
  funext y
  obtain ⟨z, q, rfl⟩ : ∃ (z : Fin 1) (q : Fin 2048), y = ix2 z q := ⟨y 0, y 1, funext fun a => by match a with | ⟨0, _⟩ => rfl | ⟨1, _⟩ => rfl⟩
  exact (after_last m c t h z q).trans (congrArg (dwOf m c) (embW t q z).symm)

/-- The written blocks cover the arrays. -/
theorem covered_dx (i : S2048x2048.Idx) : ∃ t : Fin cfg0.N, (cfg0.win 4).flush t = true ∧ i ∈ ((cfg0.win 4).blk t).view.set := by
  have hi : (i (0 : Fin 2)).val < 2048 := (i (0 : Fin 2)).isLt
  let t : Fin cfg0.N := ⟨(i (0 : Fin 2)).val / 512, by show _ < grid0.N; rw [N_0]; omega⟩
  refine ⟨t, flush0_4 t, (congrArg (· ∈ ((cfg0.win 4).blk t).view.set) ((emb t ⟨(i (0 : Fin 2)).val % 512, Nat.mod_lt _ (by decide)⟩ (i (1 : Fin 2))).trans
    (funext fun a => Fin.ext ?_))).mp (((cfg0.win 4).blk t).view.emb_mem_set _)⟩
  match a with
  | ⟨0, _⟩ => exact Nat.div_add_mod _ _
  | ⟨1, _⟩ => rfl

theorem covered_dx_cast (i : S2048x2048.Idx) : ∃ t : Fin cfg0.N, (cfg0.win 5).flush t = true ∧ i ∈ ((cfg0.win 5).blk t).view.set :=
  (covered_dx i).imp fun t h => ⟨flush0_5 t, h.2⟩

theorem covered_dw (i : S1x2048.Idx) : ∃ t : Fin cfg0.N, (cfg0.win 6).flush t = true ∧ i ∈ ((cfg0.win 6).blk t).view.set := by
  let t : Fin cfg0.N := ⟨3, by show _ < grid0.N; rw [N_0]; omega⟩
  refine ⟨t, (flush0_6 t).mpr (by decide), (congrArg (· ∈ ((cfg0.win 6).blk t).view.set) ((embW t (i (1 : Fin 2)) (i (0 : Fin 2))).trans
    (funext fun a => ?_))).mp (((cfg0.win 6).blk t).view.emb_mem_set _)⟩
  match a with
  | ⟨0, _⟩ => rfl
  | ⟨1, _⟩ => rfl

/-- The run, its results as functions of the arguments. -/
theorem run : θ_run defs (onTc (τ := τ) (main (F := Ideal))) ⟨m, fun _ => 0, ρ⟩ fun r => ∀ c : Dev nD,
      r.2.mem ((c : Thread nD τ).loc main_v0_0) = dxOf m c
      ∧ r.2.mem ((c : Thread nD τ).loc main_v0_1) = dxOf m c
      ∧ r.2.mem ((c : Thread nD τ).loc main_v0_2) = dwOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (dxOf m c) (fun t _ => flushed_dx m c t) covered_dx),
    (h c).2.1.trans ((dats m 0 c).arrAt_eq_of_cover 5 (dxOf m c) (fun t _ => flushed_dx_cast m c t) covered_dx_cast),
    (h c).2.2.1.trans ((dats m 0 c).arrAt_eq_of_cover 6 (dwOf m c) (fun t h => flushed_dw m c t (by have := (flush0_6 t).mp h; have := lt_points t; omega)) covered_dw),
    (h c).2.2.2⟩) (run_blocks m ρ)

end Cert.Kernel24Ideal.Hand

end
-- ==== Proof.NormBwdEqual.lean ====
/- The gradient of the feed-forward norm: the reference's arrays, and the two programs' equal results. -/
module

public import proofs.«01_k».proof.Defs
public import proofs.«01_k».proof.Proof.NormBwd
public import proofs.«01_k».proof.Proof.Gen.Reference24Ideal.Read
public import Idealize.ShloMosaic.Lib.Pointwise
public import Idealize.ShloMosaic.Lib.Quiescent

@[expose] public section

set_option maxRecDepth 16384

noncomputable section

namespace Cert.Reference24Ideal.Hand

open Cert.Reference24Ideal Cert.Reference24Ideal.Gen Idealize.ShloMosaic Idealize.ShloMosaic.TcCoe Idealize.SL.Sem
open Cert.Kernel24Ideal.Hand (len eps row dRow dx dw dwTerm)

/-- The reference's frame: it has no semaphore at all. -/
theorem frame : Cert.quiescent_Reference24Ideal (hReference24Ideal := Gen.facts) := fun m ρ _ =>
  (θ_run defs _ _).mono (fun r h => ⟨fun c => (h c).2.2.2, sem_eq_zero_of_no_sems rfl r.2⟩) (Value.run m ρ)

variable (x : Vec Ideal S2048x2048 .f32) (w : Vec Ideal S1x2048 .f32) (dy a : Vec Ideal S2048x2048 .f32) (r q : Fin 2048)

/-- A row's mean square, and its factor. -/
theorem meanSq_apply (z : Fin 1) : Read.val_main_v6 (F := Ideal) x (ix2 r z) = Cert.NormRow.meanSq len eps (row x r) := by
  unfold Read.val_main_v6 Read.val_main_v5 Read.val_main_v4 Read.val_main_v3 Read.val_main_v2 Read.val_main_v1 Read.val_main_v0 Read.val_main_cst Read.val_main_cst_0 Read.val_main_cst_1
    Cert.NormRow.meanSq row
  pointwise []

theorem scale_apply (z : Fin 1) : Read.val_main_v7 (F := Ideal) x (ix2 r z) = Cert.NormRow.scale len eps (row x r) := by
  unfold Read.val_main_v7 Cert.NormRow.scale
  have e := meanSq_apply x r z
  generalize Read.val_main_v6 (F := Ideal) x = y at e ⊢
  pointwise [e]

/-- The scaled row. -/
theorem scaled_apply : Read.val_main_v12 (F := Ideal) x (ix2 r q) = x (ix2 r q) * Cert.NormRow.scale len eps (row x r) := by
  unfold Read.val_main_v12 Read.val_main_v11
  have e := scale_apply x r 0
  generalize Read.val_main_v7 (F := Ideal) x = y at e ⊢
  pointwise [e]

/-- The weights' gradient. -/
theorem dw_eq : Read.val_main_v17 (F := Ideal) x dy = dw x dy := by
  funext i
  obtain ⟨z, q, rfl⟩ : ∃ (z : Fin 1) (q : Fin 2048), i = ix2 z q := ⟨i 0, i 1, funext fun a => by match a with | ⟨0, _⟩ => rfl | ⟨1, _⟩ => rfl⟩
  refine Eq.trans ?_ (Finset.sum_congr rfl fun r _ => mul_comm (x (ix2 r q) * Cert.NormRow.scale len eps (row x r)) (dy (ix2 r q)) : _ = ∑ r : Fin 2048, dwTerm x dy q r)
  unfold Read.val_main_v17 Read.val_main_v16 Read.val_main_v15 Read.val_main_cst_3
  have e := fun r => scaled_apply x r q
  generalize Read.val_main_v12 (F := Ideal) x = y at e ⊢
  pointwise [e]

/-- The gradient of the scaled row. -/
theorem dRow_apply : Read.val_main_v19 (F := Ideal) w dy (ix2 r q) = dRow w dy r q := by
  unfold Read.val_main_v19 Read.val_main_v18 dRow
  pointwise []

/-- The gradient that the factor passes on. -/
theorem viaScale_apply : Read.val_main_v29 (F := Ideal) x w dy (ix2 r q) = Cert.NormRow.viaScale len eps (row x r) (dRow w dy r) := by
  unfold Read.val_main_v29 Read.val_main_v28 Read.val_main_v27 Read.val_main_v26 Read.val_main_v25 Read.val_main_v22 Read.val_main_v21 Read.val_main_v20 Read.val_main_v10 Read.val_main_v9
    Read.val_main_v8 Read.val_main_cst_2 Read.val_main_cst_4 Read.val_main_cst_5 Read.val_main_cst_6 Cert.NormRow.viaScale
  have e6 := meanSq_apply x r 0
  have e7 := scale_apply x r 0
  have e19 := fun k => dRow_apply w dy r k
  generalize Read.val_main_v6 (F := Ideal) x = y6 at e6 ⊢
  generalize Read.val_main_v7 (F := Ideal) x = y7 at e7 ⊢
  generalize Read.val_main_v19 (F := Ideal) w dy = y19 at e19 ⊢
  rw [← Cert.NormRow.ofBits_neg_half]
  pointwise [e19]
  refine (Fin.sum_univ_one _).trans ?_
  rw [e6, e7]
  rfl

/-- The input's gradient. -/
theorem dx_eq : Read.val_main_v34 (F := Ideal) x w dy a = dx x w dy a := by
  funext i
  obtain ⟨r, q, rfl⟩ : ∃ (r q : Fin 2048), i = ix2 r q := ⟨i 0, i 1, funext fun a => by match a with | ⟨0, _⟩ => rfl | ⟨1, _⟩ => rfl⟩
  obtain ⟨e, he, h⟩ := Cert.NormRow.ofBits_eps
  have key := Cert.NormRow.dInput_eq (c := 2048) (by norm_num) he (row x r) (dRow w dy r) q
  rw [← h, ← Cert.NormRow.ofBits_2048] at key
  refine Eq.trans ?_ (congrArg (fun b : EReal => b + a (ix2 r q)) key.symm)
  unfold Read.val_main_v34 Read.val_main_v33 Read.val_main_v32 Read.val_main_v31 Read.val_main_v30 Read.val_main_v24 Read.val_main_v23
  have e7 := scale_apply x r 0
  have e19 := dRow_apply w dy r q
  have e29 := viaScale_apply x w dy r q
  generalize Read.val_main_v7 (F := Ideal) x = y7 at e7 ⊢
  generalize Read.val_main_v19 (F := Ideal) w dy = y19 at e19 ⊢
  generalize Read.val_main_v29 (F := Ideal) x w dy = y29 at e29 ⊢
  pointwise [e7, e19, e29]
  rfl

/-- Equal results. -/
theorem equal : Cert.algebraic_Kernel24Ideal_Reference24Ideal (hKernel24Ideal := Cert.Kernel24Ideal.Gen.facts) (hReference24Ideal := Gen.facts) := by
  intro m g m' g' _ hagree
  refine ⟨fun c => Cert.Kernel24Ideal.Hand.dxOf m c, fun c => Cert.Kernel24Ideal.Hand.dxOf m c, fun c => Cert.Kernel24Ideal.Hand.dwOf m c, Cert.Kernel24Ideal.Hand.run m g,
    (θ_run _ _ _).mono (fun r hr c => ?_) (Value.run m' g')⟩
  obtain ⟨h0, h1, h2, h3⟩ := hagree c
  have hc := hr c
  rw [h0, h1, h2, h3] at hc ⊢
  exact ⟨(hc.1.trans (Read.val_main_v34_eq _ _ _ _)).trans (dx_eq _ _ _ _),
    (hc.2.1.trans (Read.val_main_v35_eq _ _ _ _)).trans (dx_eq _ _ _ _),
    (hc.2.2.1.trans (Read.val_main_v17_eq _ _)).trans (dw_eq _ _), hc.2.2.2⟩

end Cert.Reference24Ideal.Hand

end
-- ==== Proof.Adam.lean ====
/- One AdamW step of one entry, on the extended reals: what the optimiser's kernels and their references both compute. -/
module

public import Idealize.ShloMosaic.PureOps.Ideal.Laws
public import Idealize.ShloMosaic.Lib.Pointwise

@[expose] public section

noncomputable section

namespace Cert.Adam

open Idealize.ShloMosaic

/-- The number that a pattern of bits stands for. -/
abbrev num (b : BitVec 32) : EReal := Ideal.ofBits .f32 b

/-- The new first moment, `0.9 m + 0.1 g`. -/
def moment (g m : EReal) : EReal := num 0x3F666666#32 * m + num 0x3DCCCCCD#32 * g

/-- The new second moment, `0.999 v + 0.001 g²`. -/
def square (g v : EReal) : EReal := num 0x3F7FBE77#32 * v + num 0x3A83126F#32 * (g * g)

/-- The step of the weight `w`: the corrected first moment over the root of the corrected second, and the weight's decay. -/
def step (w g m v : EReal) : EReal :=
  num 0xBA83126F#32 * (Ideal.div (Ideal.div (moment g m) (num 0x3F26BD02#32)) (Ideal.sqrt (Ideal.div (square g v) (num 0x3C231ACC#32)) + num 0x322BCC77#32)
    + num 0x3C23D70A#32 * w)

theorem hz : (![0, 0] : Fin 2 → Nat) = fun _ => 0 := funext fun a => by fin_cases a <;> rfl
theorem hz3 : (![0, 0, 0] : Fin 3 → Nat) = fun _ => 0 := funext fun a => by fin_cases a <;> rfl

end Cert.Adam

end
-- ==== Proof.AdamUp.lean ====
/- The optimiser's step of the up product's weights: the blocks, the arrays they make up, and the reference's. -/
module

public import proofs.«01_k».proof.Defs
public import proofs.«01_k».proof.Proof.Adam
public import proofs.«01_k».proof.Proof.Gen.Kernel25Ideal.Value
public import proofs.«01_k».proof.Proof.Gen.Reference25Ideal.Read
public import Idealize.ShloMosaic.Lib.Pointwise
public import Idealize.ShloMosaic.Lib.Quiescent

@[expose] public section

set_option maxRecDepth 16384

noncomputable section

namespace Cert.Kernel25Ideal.Hand

open Cert.Kernel25Ideal Cert.Kernel25Ideal.Gen Cert.Kernel25Ideal.Value Idealize.ShloMosaic Idealize.ShloMosaic.TcCoe Idealize.SL.Sem

variable (m : (ℓ : Loc nD τ sig) → Buf (Elt Ideal) ℓ) (c : Dev nD)

/-- The weights, their gradient and the two moments. -/
abbrev w : Vec Ideal S2048x2816 .f32 := m ((c : Thread nD τ).loc main_arg0)
abbrev g : Vec Ideal S2048x2816 .f32 := m ((c : Thread nD τ).loc main_arg1)
abbrev mo : Vec Ideal S2048x2816 .f32 := m ((c : Thread nD τ).loc main_arg2)
abbrev vo : Vec Ideal S2048x2816 .f32 := m ((c : Thread nD τ).loc main_arg3)

/-- The step and the new moments. -/
def step : Vec Ideal S2048x2816 .f32 := fun i => Adam.step (w m c i) (g m c i) (mo m c i) (vo m c i)
def moment : Vec Ideal S2048x2816 .f32 := fun i => Adam.moment (g m c i) (mo m c i)
def square : Vec Ideal S2048x2816 .f32 := fun i => Adam.square (g m c i) (vo m c i)

/-- The blocks cover the arrays. -/
theorem covered (i : S2048x2816.Idx) : ∃ t : Fin cfg0.N, (cfg0.win 4).flush t = true ∧ i ∈ ((cfg0.win 4).blk t).view.set := by
  have hi : (i (0 : Fin 2)).val < 2048 := (i (0 : Fin 2)).isLt
  have hj : (i (1 : Fin 2)).val < 2816 := (i (1 : Fin 2)).isLt
  have e : ∀ t : Fin cfg0.N, win0_4.index t (0 : Fin 2) = t.val / 1 ∧ win0_4.index t (1 : Fin 2) = t.val % 1 := (by decide +kernel : ∀ t : Fin grid0.N, _)
  let t : Fin cfg0.N := ⟨(i (0 : Fin 2)).val / 256 * 1 + (i (1 : Fin 2)).val / 2816, by show _ < grid0.N; rw [N_0]; omega⟩
  have ht : t.val = (i (0 : Fin 2)).val / 256 * 1 + (i (1 : Fin 2)).val / 2816 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 256, Nat.mod_lt _ (by decide)⟩ ⟨(i (1 : Fin 2)).val % 2816, Nat.mod_lt _ (by decide)⟩))⟩
  match a with
  | ⟨0, _⟩ => show win0_4.index t (0 : Fin 2) * 256 + 1 * ((i (0 : Fin 2)).val % 256) = (i (0 : Fin 2)).val; omega
  | ⟨1, _⟩ => show win0_4.index t (1 : Fin 2) * 2816 + 1 * ((i (1 : Fin 2)).val % 2816) = (i (1 : Fin 2)).val; omega

/-- The four results. -/
theorem final4 : (dats m 0 c).arrAt 4 cfg0.N = step m c :=
  (dats m 0 c).arrAt_eq_of_cover 4 (step m c) (fun t _ => by
    rw [flushed4, out0_4, View.canon_unit_zero Adam.hz]; simp only [View.ld_unit_zero (S := S256x2816) Adam.hz]; rfl) covered
theorem final5 : (dats m 0 c).arrAt 5 cfg0.N = moment m c :=
  (dats m 0 c).arrAt_eq_of_cover 5 (moment m c) (fun t _ => by
    rw [flushed5, out0_5, View.canon_unit_zero Adam.hz]; simp only [View.ld_unit_zero (S := S256x2816) Adam.hz]; rfl) covered
theorem final6 : (dats m 0 c).arrAt 6 cfg0.N = square m c :=
  (dats m 0 c).arrAt_eq_of_cover 6 (square m c) (fun t _ => by
    rw [flushed6, out0_6, View.canon_unit_zero Adam.hz]; simp only [View.ld_unit_zero (S := S256x2816) Adam.hz]; rfl) covered
theorem final7 : (dats m 0 c).arrAt 7 cfg0.N = g m c :=
  (dats m 0 c).arrAt_eq_of_cover 7 (g m c) (fun t _ => by
    rw [flushed7, out0_7, View.canon_unit_zero Adam.hz]; simp only [View.ld_unit_zero (S := S256x2816) Adam.hz]; rfl) covered

/-- The reference's frame: it has no semaphore at all. -/
theorem frame : Cert.quiescent_Reference25Ideal (hReference25Ideal := Cert.Reference25Ideal.Gen.facts) := fun m ρ _ =>
  (θ_run (Cert.Reference25Ideal.defs (F := Ideal)) _ _).mono (fun r h => ⟨fun c => (h c).2.2.2.2, sem_eq_zero_of_no_sems rfl r.2⟩) (Cert.Reference25Ideal.Value.run m ρ)

/-- The two programs' results are equal. -/
theorem equal : Cert.algebraic_Kernel25Ideal_Reference25Ideal (hKernel25Ideal := Gen.facts) (hReference25Ideal := Cert.Reference25Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference25Ideal.Value.run m' p')⟩
  obtain ⟨h0, h1, h2, h3⟩ := hagree c
  have hc := hr c
  rw [h0, h1, h2, h3] at hc ⊢
  exact hc

end Cert.Kernel25Ideal.Hand

end
-- ==== Proof.AdamDown.lean ====
/- The optimiser's step of the down product's weights: the blocks, the arrays they make up, and the reference's. -/
module

public import proofs.«01_k».proof.Defs
public import proofs.«01_k».proof.Proof.Adam
public import proofs.«01_k».proof.Proof.Gen.Kernel26Ideal.Value
public import proofs.«01_k».proof.Proof.Gen.Reference26Ideal.Read
public import Idealize.ShloMosaic.Lib.Pointwise
public import Idealize.ShloMosaic.Lib.Quiescent

@[expose] public section

set_option maxRecDepth 16384

noncomputable section

namespace Cert.Kernel26Ideal.Hand

open Cert.Kernel26Ideal Cert.Kernel26Ideal.Gen Cert.Kernel26Ideal.Value Idealize.ShloMosaic Idealize.ShloMosaic.TcCoe Idealize.SL.Sem

variable (m : (ℓ : Loc nD τ sig) → Buf (Elt Ideal) ℓ) (c : Dev nD)

/-- The weights, the array that holds their gradient and the two moments. -/
abbrev w : Vec Ideal S1408x2048 .f32 := m ((c : Thread nD τ).loc main_arg0)
abbrev gs : Vec Ideal S2x1408x1024 .f32 := m ((c : Thread nD τ).loc main_arg1)
abbrev mo : Vec Ideal S1408x2048 .f32 := m ((c : Thread nD τ).loc main_arg2)
abbrev vo : Vec Ideal S1408x2048 .f32 := m ((c : Thread nD τ).loc main_arg3)

/-- The gradient: the two halves of its columns side by side. -/
def g : Vec Ideal S1408x2048 .f32 := fun i => gs m c (ix3 ⟨(i (1 : Fin 2)).val / 1024, Nat.div_lt_of_lt_mul (i (1 : Fin 2)).isLt⟩ (i 0) ⟨(i (1 : Fin 2)).val % 1024, Nat.mod_lt _ (by decide)⟩)

/-- The step and the new moments. -/
def step : Vec Ideal S1408x2048 .f32 := fun i => Adam.step (w m c i) (g m c i) (mo m c i) (vo m c i)
def moment : Vec Ideal S1408x2048 .f32 := fun i => Adam.moment (g m c i) (mo m c i)
def square : Vec Ideal S1408x2048 .f32 := fun i => Adam.square (g m c i) (vo m c i)

/-- The blocks cover the arrays. -/
theorem covered (i : S1408x2048.Idx) : ∃ t : Fin cfg0.N, (cfg0.win 4).flush t = true ∧ i ∈ ((cfg0.win 4).blk t).view.set := by
  have hi : (i (0 : Fin 2)).val < 1408 := (i (0 : Fin 2)).isLt
  have hj : (i (1 : Fin 2)).val < 2048 := (i (1 : Fin 2)).isLt
  have e : ∀ t : Fin cfg0.N, win0_4.index t (0 : Fin 2) = t.val / 2 ∧ win0_4.index t (1 : Fin 2) = t.val % 2 := (by decide +kernel : ∀ t : Fin grid0.N, _)
  let t : Fin cfg0.N := ⟨(i (0 : Fin 2)).val / 704 * 2 + (i (1 : Fin 2)).val / 1024, by show _ < grid0.N; rw [N_0]; omega⟩
  have ht : t.val = (i (0 : Fin 2)).val / 704 * 2 + (i (1 : Fin 2)).val / 1024 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 704, Nat.mod_lt _ (by decide)⟩ ⟨(i (1 : Fin 2)).val % 1024, Nat.mod_lt _ (by decide)⟩))⟩
  match a with
  | ⟨0, _⟩ => show win0_4.index t (0 : Fin 2) * 704 + 1 * ((i (0 : Fin 2)).val % 704) = (i (0 : Fin 2)).val; omega
  | ⟨1, _⟩ => show win0_4.index t (1 : Fin 2) * 1024 + 1 * ((i (1 : Fin 2)).val % 1024) = (i (1 : Fin 2)).val; omega

/-- The gradient's entry that a block reads. -/
theorem grad_at (t : Fin cfg0.N) (y : S704x1024.Idx) : k0_pay1 (iblk m c 1 t) y = g m c (((cfg0.win 7).blk t).view.emb y) := by
  have e : ∀ t : Fin cfg0.N, win0_7.index t (1 : Fin 2) = win0_1.index t (0 : Fin 3) ∧ win0_1.index t (1 : Fin 3) = win0_7.index t (0 : Fin 2) ∧ win0_1.index t (2 : Fin 3) = 0 :=
    (by decide +kernel : ∀ t : Fin grid0.N, _)
  obtain ⟨e0, e1, e2⟩ := e t
  have hy : (y (1 : Fin 2)).val < 1024 := (y (1 : Fin 2)).isLt
  refine (piece7_0 _ y).trans (congrArg (gs m c) (funext fun a => Fin.ext ?_))
  match a with
  | ⟨0, _⟩ => show win0_1.index t (0 : Fin 3) * 1 + 1 * 0 = (win0_7.index t (1 : Fin 2) * 1024 + 1 * (y (1 : Fin 2)).val) / 1024; omega
  | ⟨1, _⟩ => show win0_1.index t (1 : Fin 3) * 704 + 1 * (0 + 1 * (y (0 : Fin 2)).val) = win0_7.index t (0 : Fin 2) * 704 + 1 * (y (0 : Fin 2)).val; omega
  | ⟨2, _⟩ => show win0_1.index t (2 : Fin 3) * 1024 + 1 * (0 + 1 * (y (1 : Fin 2)).val) = (win0_7.index t (1 : Fin 2) * 1024 + 1 * (y (1 : Fin 2)).val) % 1024; omega

open Cert.Reference26Ideal.Read in
/-- The reference's gradient is the same. -/
theorem taken : g m c = val_main_v4 (F := Ideal) (gs m c) := by
  funext i
  obtain ⟨r, k, rfl⟩ : ∃ (r : Fin 1408) (k : Fin 2048), i = ix2 r k := ⟨i 0, i 1, funext fun a => match a with | ⟨0, _⟩ => rfl | ⟨1, _⟩ => rfl⟩
  unfold val_main_v4
  have e1 : ∀ q : Fin 1024, (val_main_v1 (F := Ideal) (gs m c) : Vec Ideal Cert.Reference26Ideal.S1408x1024 .f32) (ix2 r q) = gs m c (ix3 0 r q) := fun q => by
    unfold val_main_v1 val_main_v0; pointwise []
  have e3 : ∀ q : Fin 1024, (val_main_v3 (F := Ideal) (gs m c) : Vec Ideal Cert.Reference26Ideal.S1408x1024 .f32) (ix2 r q) = gs m c (ix3 1 r q) := fun q => by
    unfold val_main_v3 val_main_v2; pointwise []
  generalize val_main_v1 (F := Ideal) (gs m c) = y1 at e1 ⊢
  generalize val_main_v3 (F := Ideal) (gs m c) = y3 at e3 ⊢
  pointwise []
  have hk := k.isLt
  by_cases h : k.val < 1024
  · refine ((dif_pos h).trans ((e1 _).trans (congrArg (gs m c) (funext fun a => Fin.ext ?_)))).symm
    match a with
    | ⟨0, _⟩ => show 0 = k.val / 1024; omega
    | ⟨1, _⟩ => rfl
    | ⟨2, _⟩ => show k.val = k.val % 1024; omega
  · refine ((dif_neg h).trans ((e3 _).trans (congrArg (gs m c) (funext fun a => Fin.ext ?_)))).symm
    match a with
    | ⟨0, _⟩ => show 1 = k.val / 1024; omega
    | ⟨1, _⟩ => rfl
    | ⟨2, _⟩ => show k.val - 1024 = k.val % 1024; omega

/-- The four results. -/
theorem final4 : (dats m 0 c).arrAt 4 cfg0.N = step m c :=
  (dats m 0 c).arrAt_eq_of_cover 4 (step m c) (fun t _ => by
    rw [flushed4, out0_4, View.canon_unit_zero Adam.hz]; simp only [View.ld_unit_zero (S := S704x1024) Adam.hz, View.ld_unit_zero (S := S1x704x1024) Adam.hz3]; funext y; exact congrArg (fun x => Adam.step ((iblk m c 0 t : Vec Ideal S704x1024 .f32) y) x ((iblk m c 2 t : Vec Ideal S704x1024 .f32) y) ((iblk m c 3 t : Vec Ideal S704x1024 .f32) y)) (grad_at m c t y)) covered
theorem final5 : (dats m 0 c).arrAt 5 cfg0.N = moment m c :=
  (dats m 0 c).arrAt_eq_of_cover 5 (moment m c) (fun t _ => by
    rw [flushed5, out0_5, View.canon_unit_zero Adam.hz]; simp only [View.ld_unit_zero (S := S704x1024) Adam.hz, View.ld_unit_zero (S := S1x704x1024) Adam.hz3]; funext y; exact congrArg (fun x => Adam.moment x ((iblk m c 2 t : Vec Ideal S704x1024 .f32) y)) (grad_at m c t y)) covered
theorem final6 : (dats m 0 c).arrAt 6 cfg0.N = square m c :=
  (dats m 0 c).arrAt_eq_of_cover 6 (square m c) (fun t _ => by
    rw [flushed6, out0_6, View.canon_unit_zero Adam.hz]; simp only [View.ld_unit_zero (S := S704x1024) Adam.hz, View.ld_unit_zero (S := S1x704x1024) Adam.hz3]; funext y; exact congrArg (fun x => Adam.square x ((iblk m c 3 t : Vec Ideal S704x1024 .f32) y)) (grad_at m c t y)) covered
theorem final7 : (dats m 0 c).arrAt 7 cfg0.N = g m c :=
  (dats m 0 c).arrAt_eq_of_cover 7 (g m c) (fun t _ => by
    rw [flushed7, out0_7, View.canon_unit_zero Adam.hz]; simp only [View.ld_unit_zero (S := S1x704x1024) Adam.hz3]; funext y; exact grad_at m c t y) covered

/-- The reference's frame: it has no semaphore at all. -/
theorem frame : Cert.quiescent_Reference26Ideal (hReference26Ideal := Cert.Reference26Ideal.Gen.facts) := fun m ρ _ =>
  (θ_run (Cert.Reference26Ideal.defs (F := Ideal)) _ _).mono (fun r h => ⟨fun c => (h c).2.2.2.2, sem_eq_zero_of_no_sems rfl r.2⟩) (Cert.Reference26Ideal.Value.run m ρ)

/-- The two programs' results are equal. -/
theorem equal : Cert.algebraic_Kernel26Ideal_Reference26Ideal (hKernel26Ideal := Gen.facts) (hReference26Ideal := Cert.Reference26Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference26Ideal.Value.run m' p')⟩
  obtain ⟨h0, h1, h2, h3⟩ := hagree c
  have hc := hr c
  rw [h0, h1, h2, h3] at hc ⊢
  unfold step moment square; beta_reduce; rw [taken m c]; exact hc

end Cert.Kernel26Ideal.Hand

end
-- ==== Proof.AdamIn.lean ====
/- The optimiser's step of the input projection's weights: the blocks, the arrays they make up, and the reference's. -/
module

public import proofs.«01_k».proof.Defs
public import proofs.«01_k».proof.Proof.Adam
public import proofs.«01_k».proof.Proof.Gen.Kernel27Ideal.Value
public import proofs.«01_k».proof.Proof.Gen.Reference27Ideal.Read
public import Idealize.ShloMosaic.Lib.Pointwise
public import Idealize.ShloMosaic.Lib.Quiescent

@[expose] public section

set_option maxRecDepth 16384

noncomputable section

namespace Cert.Kernel27Ideal.Hand

open Cert.Kernel27Ideal Cert.Kernel27Ideal.Gen Cert.Kernel27Ideal.Value Idealize.ShloMosaic Idealize.ShloMosaic.TcCoe Idealize.SL.Sem

variable (m : (ℓ : Loc nD τ sig) → Buf (Elt Ideal) ℓ) (c : Dev nD)

/-- The weights, the array that holds their gradient and the two moments. -/
abbrev w : Vec Ideal S1856x512 .f32 := m ((c : Thread nD τ).loc main_arg0)
abbrev gs : Vec Ideal S2048x512 .f32 := m ((c : Thread nD τ).loc main_arg1)
abbrev mo : Vec Ideal S1856x512 .f32 := m ((c : Thread nD τ).loc main_arg2)
abbrev vo : Vec Ideal S1856x512 .f32 := m ((c : Thread nD τ).loc main_arg3)

/-- The gradient: the array's first rows. -/
def g : Vec Ideal S1856x512 .f32 := fun i => gs m c (ix2 ⟨(i (0 : Fin 2)).val, Nat.lt_of_lt_of_le (i (0 : Fin 2)).isLt (by decide : 1856 ≤ 2048)⟩ (i 1))

/-- The step and the new moments. -/
def step : Vec Ideal S1856x512 .f32 := fun i => Adam.step (w m c i) (g m c i) (mo m c i) (vo m c i)
def moment : Vec Ideal S1856x512 .f32 := fun i => Adam.moment (g m c i) (mo m c i)
def square : Vec Ideal S1856x512 .f32 := fun i => Adam.square (g m c i) (vo m c i)

/-- The blocks cover the arrays. -/
theorem covered (i : S1856x512.Idx) : ∃ t : Fin cfg0.N, (cfg0.win 4).flush t = true ∧ i ∈ ((cfg0.win 4).blk t).view.set := by
  have hi : (i (0 : Fin 2)).val < 1856 := (i (0 : Fin 2)).isLt
  have hj : (i (1 : Fin 2)).val < 512 := (i (1 : Fin 2)).isLt
  have e : ∀ t : Fin cfg0.N, win0_4.index t (0 : Fin 2) = t.val / 1 ∧ win0_4.index t (1 : Fin 2) = t.val % 1 := (by decide +kernel : ∀ t : Fin grid0.N, _)
  let t : Fin cfg0.N := ⟨(i (0 : Fin 2)).val / 1856 * 1 + (i (1 : Fin 2)).val / 512, by show _ < grid0.N; rw [N_0]; omega⟩
  have ht : t.val = (i (0 : Fin 2)).val / 1856 * 1 + (i (1 : Fin 2)).val / 512 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 1856, Nat.mod_lt _ (by decide)⟩ ⟨(i (1 : Fin 2)).val % 512, Nat.mod_lt _ (by decide)⟩))⟩
  match a with
  | ⟨0, _⟩ => show win0_4.index t (0 : Fin 2) * 1856 + 1 * ((i (0 : Fin 2)).val % 1856) = (i (0 : Fin 2)).val; omega
  | ⟨1, _⟩ => show win0_4.index t (1 : Fin 2) * 512 + 1 * ((i (1 : Fin 2)).val % 512) = (i (1 : Fin 2)).val; omega

/-- The gradient's entry that a block reads. -/
theorem grad_at (t : Fin cfg0.N) (y : S1856x512.Idx) : X0_1 m c t y = g m c (((cfg0.win 7).blk t).view.emb y) :=
  (dif_pos (moved0_1 t y)).trans (congrArg (gs m c) (funext fun a => match a with | ⟨0, _⟩ => rfl | ⟨1, _⟩ => rfl))

/-- The reference's gradient is the same. -/
theorem taken : g m c = Cert.Reference27Ideal.Read.val_main_v0 (F := Ideal) (gs m c) := by
  funext i
  unfold Cert.Reference27Ideal.Read.val_main_v0 g
  exact congrArg (gs m c) (funext fun a => Fin.ext (match a with | ⟨0, _⟩ => (Nat.zero_add _).symm | ⟨1, _⟩ => (Nat.zero_add _).symm))

/-- The four results. -/
theorem final4 : (dats m 0 c).arrAt 4 cfg0.N = step m c :=
  (dats m 0 c).arrAt_eq_of_cover 4 (step m c) (fun t _ => by
    rw [flushed4_A]; unfold out0_A_4; rw [View.read_writes_eq_canon _ _ _ (cover0_A_4 c _ _ _ _ _ _ _ _ _ _ _ _ _ _ _ _ _ _ _ _ _)]
    unfold kernelRun0_A; dsimp only; rw [View.canon_unit_zero Adam.hz]
    simp only [View.readAt_eq_ld, (hs0_0 t).read_unread, (hs0_1 t).read_unread, (hs0_2 t).read_unread, (hs0_3 t).read_unread, View.ld_unit_zero (S := S1856x512) Adam.hz]; funext y; exact congrArg (fun x => Adam.step ((iblk m c 0 t : Vec Ideal S1856x512 .f32) y) x ((iblk m c 2 t : Vec Ideal S1856x512 .f32) y) ((iblk m c 3 t : Vec Ideal S1856x512 .f32) y)) (grad_at m c t y)) covered
theorem final5 : (dats m 0 c).arrAt 5 cfg0.N = moment m c :=
  (dats m 0 c).arrAt_eq_of_cover 5 (moment m c) (fun t _ => by
    rw [flushed5_A]; unfold out0_A_5; rw [View.read_writes_eq_canon _ _ _ (cover0_A_5 c _ _ _ _ _ _ _ _ _ _ _ _ _ _ _ _ _ _ _ _ _)]
    unfold kernelRun0_A; dsimp only; rw [View.canon_unit_zero Adam.hz]
    simp only [View.readAt_eq_ld, (hs0_1 t).read_unread, (hs0_2 t).read_unread, View.ld_unit_zero (S := S1856x512) Adam.hz]; funext y; exact congrArg (fun x => Adam.moment x ((iblk m c 2 t : Vec Ideal S1856x512 .f32) y)) (grad_at m c t y)) covered
theorem final6 : (dats m 0 c).arrAt 6 cfg0.N = square m c :=
  (dats m 0 c).arrAt_eq_of_cover 6 (square m c) (fun t _ => by
    rw [flushed6_A]; unfold out0_A_6; rw [View.read_writes_eq_canon _ _ _ (cover0_A_6 c _ _ _ _ _ _ _ _ _ _ _ _ _ _ _ _ _ _ _ _ _)]
    unfold kernelRun0_A; dsimp only; rw [View.canon_unit_zero Adam.hz]
    simp only [View.readAt_eq_ld, (hs0_1 t).read_unread, (hs0_3 t).read_unread, View.ld_unit_zero (S := S1856x512) Adam.hz]; funext y; exact congrArg (fun x => Adam.square x ((iblk m c 3 t : Vec Ideal S1856x512 .f32) y)) (grad_at m c t y)) covered
theorem final7 : (dats m 0 c).arrAt 7 cfg0.N = g m c :=
  (dats m 0 c).arrAt_eq_of_cover 7 (g m c) (fun t _ => by
    rw [flushed7_A]; unfold out0_A_7; rw [View.read_writes_eq_canon _ _ _ (cover0_A_7 c _ _ _ _ _ _ _ _ _ _ _ _ _ _ _ _ _ _ _ _ _)]
    unfold kernelRun0_A; dsimp only; rw [View.canon_unit_zero Adam.hz]
    unfold kernelRun0_A.sl.r; simp only [View.readAt_eq_ld, (hs0_1 t).read_unread, View.ld_unit_zero (S := S1856x512) Adam.hz]; funext y; exact grad_at m c t y) covered

/-- The reference's frame: it has no semaphore at all. -/
theorem frame : Cert.quiescent_Reference27Ideal (hReference27Ideal := Cert.Reference27Ideal.Gen.facts) := fun m ρ _ =>
  (θ_run (Cert.Reference27Ideal.defs (F := Ideal)) _ _).mono (fun r h => ⟨fun c => (h c).2.2.2.2, sem_eq_zero_of_no_sems rfl r.2⟩) (Cert.Reference27Ideal.Value.run m ρ)

/-- The two programs' results are equal. -/
theorem equal : Cert.algebraic_Kernel27Ideal_Reference27Ideal (hKernel27Ideal := Gen.facts) (hReference27Ideal := Cert.Reference27Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference27Ideal.Value.run m' p')⟩
  obtain ⟨h0, h1, h2, h3⟩ := hagree c
  have hc := hr c
  rw [h0, h1, h2, h3] at hc ⊢
  unfold step moment square; beta_reduce; rw [taken m c]; exact hc

end Cert.Kernel27Ideal.Hand

end
-- ==== Proof.AdamOut.lean ====
/- The optimiser's step of the output projection's weights: the blocks, the arrays they make up, and the reference's. -/
module

public import proofs.«01_k».proof.Defs
public import proofs.«01_k».proof.Proof.Adam
public import proofs.«01_k».proof.Proof.Gen.Kernel28Ideal.Value
public import proofs.«01_k».proof.Proof.Gen.Reference28Ideal.Read
public import Idealize.ShloMosaic.Lib.Pointwise
public import Idealize.ShloMosaic.Lib.Quiescent

@[expose] public section

set_option maxRecDepth 16384

noncomputable section

namespace Cert.Kernel28Ideal.Hand

open Cert.Kernel28Ideal Cert.Kernel28Ideal.Gen Cert.Kernel28Ideal.Value Idealize.ShloMosaic Idealize.ShloMosaic.TcCoe Idealize.SL.Sem

variable (m : (ℓ : Loc nD τ sig) → Buf (Elt Ideal) ℓ) (c : Dev nD)

/-- The weights, the array that holds their gradient and the two moments. -/
abbrev w : Vec Ideal S512x2048 .f32 := m ((c : Thread nD τ).loc main_arg0)
abbrev gs : Vec Ideal S2x512x1024 .f32 := m ((c : Thread nD τ).loc main_arg1)
abbrev mo : Vec Ideal S512x2048 .f32 := m ((c : Thread nD τ).loc main_arg2)
abbrev vo : Vec Ideal S512x2048 .f32 := m ((c : Thread nD τ).loc main_arg3)

/-- The gradient: the two halves of its columns side by side. -/
def g : Vec Ideal S512x2048 .f32 := fun i => gs m c (ix3 ⟨(i (1 : Fin 2)).val / 1024, Nat.div_lt_of_lt_mul (i (1 : Fin 2)).isLt⟩ (i 0) ⟨(i (1 : Fin 2)).val % 1024, Nat.mod_lt _ (by decide)⟩)

/-- The step and the new moments. -/
def step : Vec Ideal S512x2048 .f32 := fun i => Adam.step (w m c i) (g m c i) (mo m c i) (vo m c i)
def moment : Vec Ideal S512x2048 .f32 := fun i => Adam.moment (g m c i) (mo m c i)
def square : Vec Ideal S512x2048 .f32 := fun i => Adam.square (g m c i) (vo m c i)

/-- The blocks cover the arrays. -/
theorem covered (i : S512x2048.Idx) : ∃ t : Fin cfg0.N, (cfg0.win 4).flush t = true ∧ i ∈ ((cfg0.win 4).blk t).view.set := by
  have hi : (i (0 : Fin 2)).val < 512 := (i (0 : Fin 2)).isLt
  have hj : (i (1 : Fin 2)).val < 2048 := (i (1 : Fin 2)).isLt
  have e : ∀ t : Fin cfg0.N, win0_4.index t (0 : Fin 2) = t.val / 2 ∧ win0_4.index t (1 : Fin 2) = t.val % 2 := (by decide +kernel : ∀ t : Fin grid0.N, _)
  let t : Fin cfg0.N := ⟨(i (0 : Fin 2)).val / 512 * 2 + (i (1 : Fin 2)).val / 1024, by show _ < grid0.N; rw [N_0]; omega⟩
  have ht : t.val = (i (0 : Fin 2)).val / 512 * 2 + (i (1 : Fin 2)).val / 1024 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 512, Nat.mod_lt _ (by decide)⟩ ⟨(i (1 : Fin 2)).val % 1024, Nat.mod_lt _ (by decide)⟩))⟩
  match a with
  | ⟨0, _⟩ => show win0_4.index t (0 : Fin 2) * 512 + 1 * ((i (0 : Fin 2)).val % 512) = (i (0 : Fin 2)).val; omega
  | ⟨1, _⟩ => show win0_4.index t (1 : Fin 2) * 1024 + 1 * ((i (1 : Fin 2)).val % 1024) = (i (1 : Fin 2)).val; omega

/-- The gradient's entry that a block reads. -/
theorem grad_at (t : Fin cfg0.N) (y : S512x1024.Idx) : k0_pay1 (iblk m c 1 t) y = g m c (((cfg0.win 7).blk t).view.emb y) := by
  have e : ∀ t : Fin cfg0.N, win0_7.index t (1 : Fin 2) = win0_1.index t (0 : Fin 3) ∧ win0_1.index t (1 : Fin 3) = win0_7.index t (0 : Fin 2) ∧ win0_1.index t (2 : Fin 3) = 0 :=
    (by decide +kernel : ∀ t : Fin grid0.N, _)
  obtain ⟨e0, e1, e2⟩ := e t
  have hy : (y (1 : Fin 2)).val < 1024 := (y (1 : Fin 2)).isLt
  refine (piece7_0 _ y).trans (congrArg (gs m c) (funext fun a => Fin.ext ?_))
  match a with
  | ⟨0, _⟩ => show win0_1.index t (0 : Fin 3) * 1 + 1 * 0 = (win0_7.index t (1 : Fin 2) * 1024 + 1 * (y (1 : Fin 2)).val) / 1024; omega
  | ⟨1, _⟩ => show win0_1.index t (1 : Fin 3) * 512 + 1 * (0 + 1 * (y (0 : Fin 2)).val) = win0_7.index t (0 : Fin 2) * 512 + 1 * (y (0 : Fin 2)).val; omega
  | ⟨2, _⟩ => show win0_1.index t (2 : Fin 3) * 1024 + 1 * (0 + 1 * (y (1 : Fin 2)).val) = (win0_7.index t (1 : Fin 2) * 1024 + 1 * (y (1 : Fin 2)).val) % 1024; omega

open Cert.Reference28Ideal.Read in
/-- The reference's gradient is the same. -/
theorem taken : g m c = val_main_v4 (F := Ideal) (gs m c) := by
  funext i
  obtain ⟨r, k, rfl⟩ : ∃ (r : Fin 512) (k : Fin 2048), i = ix2 r k := ⟨i 0, i 1, funext fun a => match a with | ⟨0, _⟩ => rfl | ⟨1, _⟩ => rfl⟩
  unfold val_main_v4
  have e1 : ∀ q : Fin 1024, (val_main_v1 (F := Ideal) (gs m c) : Vec Ideal Cert.Reference28Ideal.S512x1024 .f32) (ix2 r q) = gs m c (ix3 0 r q) := fun q => by
    unfold val_main_v1 val_main_v0; pointwise []
  have e3 : ∀ q : Fin 1024, (val_main_v3 (F := Ideal) (gs m c) : Vec Ideal Cert.Reference28Ideal.S512x1024 .f32) (ix2 r q) = gs m c (ix3 1 r q) := fun q => by
    unfold val_main_v3 val_main_v2; pointwise []
  generalize val_main_v1 (F := Ideal) (gs m c) = y1 at e1 ⊢
  generalize val_main_v3 (F := Ideal) (gs m c) = y3 at e3 ⊢
  pointwise []
  have hk := k.isLt
  by_cases h : k.val < 1024
  · refine ((dif_pos h).trans ((e1 _).trans (congrArg (gs m c) (funext fun a => Fin.ext ?_)))).symm
    match a with
    | ⟨0, _⟩ => show 0 = k.val / 1024; omega
    | ⟨1, _⟩ => rfl
    | ⟨2, _⟩ => show k.val = k.val % 1024; omega
  · refine ((dif_neg h).trans ((e3 _).trans (congrArg (gs m c) (funext fun a => Fin.ext ?_)))).symm
    match a with
    | ⟨0, _⟩ => show 1 = k.val / 1024; omega
    | ⟨1, _⟩ => rfl
    | ⟨2, _⟩ => show k.val - 1024 = k.val % 1024; omega

/-- The four results. -/
theorem final4 : (dats m 0 c).arrAt 4 cfg0.N = step m c :=
  (dats m 0 c).arrAt_eq_of_cover 4 (step m c) (fun t _ => by
    rw [flushed4, out0_4, View.canon_unit_zero Adam.hz]; simp only [View.ld_unit_zero (S := S512x1024) Adam.hz, View.ld_unit_zero (S := S1x512x1024) Adam.hz3]; funext y; exact congrArg (fun x => Adam.step ((iblk m c 0 t : Vec Ideal S512x1024 .f32) y) x ((iblk m c 2 t : Vec Ideal S512x1024 .f32) y) ((iblk m c 3 t : Vec Ideal S512x1024 .f32) y)) (grad_at m c t y)) covered
theorem final5 : (dats m 0 c).arrAt 5 cfg0.N = moment m c :=
  (dats m 0 c).arrAt_eq_of_cover 5 (moment m c) (fun t _ => by
    rw [flushed5, out0_5, View.canon_unit_zero Adam.hz]; simp only [View.ld_unit_zero (S := S512x1024) Adam.hz, View.ld_unit_zero (S := S1x512x1024) Adam.hz3]; funext y; exact congrArg (fun x => Adam.moment x ((iblk m c 2 t : Vec Ideal S512x1024 .f32) y)) (grad_at m c t y)) covered
theorem final6 : (dats m 0 c).arrAt 6 cfg0.N = square m c :=
  (dats m 0 c).arrAt_eq_of_cover 6 (square m c) (fun t _ => by
    rw [flushed6, out0_6, View.canon_unit_zero Adam.hz]; simp only [View.ld_unit_zero (S := S512x1024) Adam.hz, View.ld_unit_zero (S := S1x512x1024) Adam.hz3]; funext y; exact congrArg (fun x => Adam.square x ((iblk m c 3 t : Vec Ideal S512x1024 .f32) y)) (grad_at m c t y)) covered
theorem final7 : (dats m 0 c).arrAt 7 cfg0.N = g m c :=
  (dats m 0 c).arrAt_eq_of_cover 7 (g m c) (fun t _ => by
    rw [flushed7, out0_7, View.canon_unit_zero Adam.hz]; simp only [View.ld_unit_zero (S := S1x512x1024) Adam.hz3]; funext y; exact grad_at m c t y) covered

/-- The reference's frame: it has no semaphore at all. -/
theorem frame : Cert.quiescent_Reference28Ideal (hReference28Ideal := Cert.Reference28Ideal.Gen.facts) := fun m ρ _ =>
  (θ_run (Cert.Reference28Ideal.defs (F := Ideal)) _ _).mono (fun r h => ⟨fun c => (h c).2.2.2.2, sem_eq_zero_of_no_sems rfl r.2⟩) (Cert.Reference28Ideal.Value.run m ρ)

/-- The two programs' results are equal. -/
theorem equal : Cert.algebraic_Kernel28Ideal_Reference28Ideal (hKernel28Ideal := Gen.facts) (hReference28Ideal := Cert.Reference28Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference28Ideal.Value.run m' p')⟩
  obtain ⟨h0, h1, h2, h3⟩ := hagree c
  have hc := hr c
  rw [h0, h1, h2, h3] at hc ⊢
  unfold step moment square; beta_reduce; rw [taken m c]; exact hc

end Cert.Kernel28Ideal.Hand

end
-- ==== Proof.AdamQ.lean ====
/- The optimiser's step of the queries' weights: the blocks, the arrays they make up, and the reference's. -/
module

public import proofs.«01_k».proof.Defs
public import proofs.«01_k».proof.Proof.Adam
public import proofs.«01_k».proof.Proof.Gen.Kernel29Ideal.Value
public import proofs.«01_k».proof.Proof.Gen.Reference29Ideal.Read
public import Idealize.ShloMosaic.Lib.Pointwise
public import Idealize.ShloMosaic.Lib.Quiescent

@[expose] public section

set_option maxRecDepth 16384

noncomputable section

namespace Cert.Kernel29Ideal.Hand

open Cert.Kernel29Ideal Cert.Kernel29Ideal.Gen Cert.Kernel29Ideal.Value Idealize.ShloMosaic Idealize.ShloMosaic.TcCoe Idealize.SL.Sem

variable (m : (ℓ : Loc nD τ sig) → Buf (Elt Ideal) ℓ) (c : Dev nD)

/-- The weights, their gradient and the two moments. -/
abbrev w : Vec Ideal S512x384 .f32 := m ((c : Thread nD τ).loc main_arg0)
abbrev g : Vec Ideal S512x384 .f32 := m ((c : Thread nD τ).loc main_arg1)
abbrev mo : Vec Ideal S512x384 .f32 := m ((c : Thread nD τ).loc main_arg2)
abbrev vo : Vec Ideal S512x384 .f32 := m ((c : Thread nD τ).loc main_arg3)

/-- The step and the new moments. -/
def step : Vec Ideal S512x384 .f32 := fun i => Adam.step (w m c i) (g m c i) (mo m c i) (vo m c i)
def moment : Vec Ideal S512x384 .f32 := fun i => Adam.moment (g m c i) (mo m c i)
def square : Vec Ideal S512x384 .f32 := fun i => Adam.square (g m c i) (vo m c i)

/-- The blocks cover the arrays. -/
theorem covered (i : S512x384.Idx) : ∃ t : Fin cfg0.N, (cfg0.win 4).flush t = true ∧ i ∈ ((cfg0.win 4).blk t).view.set := by
  have hi : (i (0 : Fin 2)).val < 512 := (i (0 : Fin 2)).isLt
  have hj : (i (1 : Fin 2)).val < 384 := (i (1 : Fin 2)).isLt
  have e : ∀ t : Fin cfg0.N, win0_4.index t (0 : Fin 2) = t.val / 1 ∧ win0_4.index t (1 : Fin 2) = t.val % 1 := (by decide +kernel : ∀ t : Fin grid0.N, _)
  let t : Fin cfg0.N := ⟨(i (0 : Fin 2)).val / 512 * 1 + (i (1 : Fin 2)).val / 384, by show _ < grid0.N; rw [N_0]; omega⟩
  have ht : t.val = (i (0 : Fin 2)).val / 512 * 1 + (i (1 : Fin 2)).val / 384 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 512, Nat.mod_lt _ (by decide)⟩ ⟨(i (1 : Fin 2)).val % 384, Nat.mod_lt _ (by decide)⟩))⟩
  match a with
  | ⟨0, _⟩ => show win0_4.index t (0 : Fin 2) * 512 + 1 * ((i (0 : Fin 2)).val % 512) = (i (0 : Fin 2)).val; omega
  | ⟨1, _⟩ => show win0_4.index t (1 : Fin 2) * 384 + 1 * ((i (1 : Fin 2)).val % 384) = (i (1 : Fin 2)).val; omega

/-- The four results. -/
theorem final4 : (dats m 0 c).arrAt 4 cfg0.N = step m c :=
  (dats m 0 c).arrAt_eq_of_cover 4 (step m c) (fun t _ => by
    rw [flushed4, out0_4, View.canon_unit_zero Adam.hz]; simp only [View.ld_unit_zero (S := S512x384) Adam.hz]; rfl) covered
theorem final5 : (dats m 0 c).arrAt 5 cfg0.N = moment m c :=
  (dats m 0 c).arrAt_eq_of_cover 5 (moment m c) (fun t _ => by
    rw [flushed5, out0_5, View.canon_unit_zero Adam.hz]; simp only [View.ld_unit_zero (S := S512x384) Adam.hz]; rfl) covered
theorem final6 : (dats m 0 c).arrAt 6 cfg0.N = square m c :=
  (dats m 0 c).arrAt_eq_of_cover 6 (square m c) (fun t _ => by
    rw [flushed6, out0_6, View.canon_unit_zero Adam.hz]; simp only [View.ld_unit_zero (S := S512x384) Adam.hz]; rfl) covered
theorem final7 : (dats m 0 c).arrAt 7 cfg0.N = g m c :=
  (dats m 0 c).arrAt_eq_of_cover 7 (g m c) (fun t _ => by
    rw [flushed7, out0_7, View.canon_unit_zero Adam.hz]; simp only [View.ld_unit_zero (S := S512x384) Adam.hz]; rfl) covered

/-- The reference's frame: it has no semaphore at all. -/
theorem frame : Cert.quiescent_Reference29Ideal (hReference29Ideal := Cert.Reference29Ideal.Gen.facts) := fun m ρ _ =>
  (θ_run (Cert.Reference29Ideal.defs (F := Ideal)) _ _).mono (fun r h => ⟨fun c => (h c).2.2.2.2, sem_eq_zero_of_no_sems rfl r.2⟩) (Cert.Reference29Ideal.Value.run m ρ)

/-- The two programs' results are equal. -/
theorem equal : Cert.algebraic_Kernel29Ideal_Reference29Ideal (hKernel29Ideal := Gen.facts) (hReference29Ideal := Cert.Reference29Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference29Ideal.Value.run m' p')⟩
  obtain ⟨h0, h1, h2, h3⟩ := hagree c
  have hc := hr c
  rw [h0, h1, h2, h3] at hc ⊢
  exact hc

end Cert.Kernel29Ideal.Hand

end
-- ==== Proof.AdamKv.lean ====
/- The optimiser's step of the keys' and values' weights: the blocks, the arrays they make up, and the reference's. -/
module

public import proofs.«01_k».proof.Defs
public import proofs.«01_k».proof.Proof.Adam
public import proofs.«01_k».proof.Proof.Gen.Kernel30Ideal.Value
public import proofs.«01_k».proof.Proof.Gen.Reference30Ideal.Read
public import Idealize.ShloMosaic.Lib.Pointwise
public import Idealize.ShloMosaic.Lib.Quiescent

@[expose] public section

set_option maxRecDepth 16384

noncomputable section

namespace Cert.Kernel30Ideal.Hand

open Cert.Kernel30Ideal Cert.Kernel30Ideal.Gen Cert.Kernel30Ideal.Value Idealize.ShloMosaic Idealize.ShloMosaic.TcCoe Idealize.SL.Sem

variable (m : (ℓ : Loc nD τ sig) → Buf (Elt Ideal) ℓ) (c : Dev nD)

/-- The weights, their gradient and the two moments. -/
abbrev w : Vec Ideal S256x512 .f32 := m ((c : Thread nD τ).loc main_arg0)
abbrev g : Vec Ideal S256x512 .f32 := m ((c : Thread nD τ).loc main_arg1)
abbrev mo : Vec Ideal S256x512 .f32 := m ((c : Thread nD τ).loc main_arg2)
abbrev vo : Vec Ideal S256x512 .f32 := m ((c : Thread nD τ).loc main_arg3)

/-- The step and the new moments. -/
def step : Vec Ideal S256x512 .f32 := fun i => Adam.step (w m c i) (g m c i) (mo m c i) (vo m c i)
def moment : Vec Ideal S256x512 .f32 := fun i => Adam.moment (g m c i) (mo m c i)
def square : Vec Ideal S256x512 .f32 := fun i => Adam.square (g m c i) (vo m c i)

/-- The blocks cover the arrays. -/
theorem covered (i : S256x512.Idx) : ∃ t : Fin cfg0.N, (cfg0.win 4).flush t = true ∧ i ∈ ((cfg0.win 4).blk t).view.set := by
  have hi : (i (0 : Fin 2)).val < 256 := (i (0 : Fin 2)).isLt
  have hj : (i (1 : Fin 2)).val < 512 := (i (1 : Fin 2)).isLt
  have e : ∀ t : Fin cfg0.N, win0_4.index t (0 : Fin 2) = t.val / 1 ∧ win0_4.index t (1 : Fin 2) = t.val % 1 := (by decide +kernel : ∀ t : Fin grid0.N, _)
  let t : Fin cfg0.N := ⟨(i (0 : Fin 2)).val / 256 * 1 + (i (1 : Fin 2)).val / 512, by show _ < grid0.N; rw [N_0]; omega⟩
  have ht : t.val = (i (0 : Fin 2)).val / 256 * 1 + (i (1 : Fin 2)).val / 512 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 256, Nat.mod_lt _ (by decide)⟩ ⟨(i (1 : Fin 2)).val % 512, Nat.mod_lt _ (by decide)⟩))⟩
  match a with
  | ⟨0, _⟩ => show win0_4.index t (0 : Fin 2) * 256 + 1 * ((i (0 : Fin 2)).val % 256) = (i (0 : Fin 2)).val; omega
  | ⟨1, _⟩ => show win0_4.index t (1 : Fin 2) * 512 + 1 * ((i (1 : Fin 2)).val % 512) = (i (1 : Fin 2)).val; omega

/-- The four results. -/
theorem final4 : (dats m 0 c).arrAt 4 cfg0.N = step m c :=
  (dats m 0 c).arrAt_eq_of_cover 4 (step m c) (fun t _ => by
    rw [flushed4, out0_4, View.canon_unit_zero Adam.hz]; simp only [View.ld_unit_zero (S := S256x512) Adam.hz]; rfl) covered
theorem final5 : (dats m 0 c).arrAt 5 cfg0.N = moment m c :=
  (dats m 0 c).arrAt_eq_of_cover 5 (moment m c) (fun t _ => by
    rw [flushed5, out0_5, View.canon_unit_zero Adam.hz]; simp only [View.ld_unit_zero (S := S256x512) Adam.hz]; rfl) covered
theorem final6 : (dats m 0 c).arrAt 6 cfg0.N = square m c :=
  (dats m 0 c).arrAt_eq_of_cover 6 (square m c) (fun t _ => by
    rw [flushed6, out0_6, View.canon_unit_zero Adam.hz]; simp only [View.ld_unit_zero (S := S256x512) Adam.hz]; rfl) covered
theorem final7 : (dats m 0 c).arrAt 7 cfg0.N = g m c :=
  (dats m 0 c).arrAt_eq_of_cover 7 (g m c) (fun t _ => by
    rw [flushed7, out0_7, View.canon_unit_zero Adam.hz]; simp only [View.ld_unit_zero (S := S256x512) Adam.hz]; rfl) covered

/-- The reference's frame: it has no semaphore at all. -/
theorem frame : Cert.quiescent_Reference30Ideal (hReference30Ideal := Cert.Reference30Ideal.Gen.facts) := fun m ρ _ =>
  (θ_run (Cert.Reference30Ideal.defs (F := Ideal)) _ _).mono (fun r h => ⟨fun c => (h c).2.2.2.2, sem_eq_zero_of_no_sems rfl r.2⟩) (Cert.Reference30Ideal.Value.run m ρ)

/-- The two programs' results are equal. -/
theorem equal : Cert.algebraic_Kernel30Ideal_Reference30Ideal (hKernel30Ideal := Gen.facts) (hReference30Ideal := Cert.Reference30Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference30Ideal.Value.run m' p')⟩
  obtain ⟨h0, h1, h2, h3⟩ := hagree c
  have hc := hr c
  rw [h0, h1, h2, h3] at hc ⊢
  exact hc

end Cert.Kernel30Ideal.Hand

end
-- ==== Proof.AdamGlu.lean ====
/- The optimiser's step of the gate's weights: the blocks, the arrays they make up, and the reference's. -/
module

public import proofs.«01_k».proof.Defs
public import proofs.«01_k».proof.Proof.Adam
public import proofs.«01_k».proof.Proof.Gen.Kernel31Ideal.Value
public import proofs.«01_k».proof.Proof.Gen.Reference31Ideal.Read
public import Idealize.ShloMosaic.Lib.Pointwise
public import Idealize.ShloMosaic.Lib.Quiescent

@[expose] public section

set_option maxRecDepth 16384

noncomputable section

namespace Cert.Kernel31Ideal.Hand

open Cert.Kernel31Ideal Cert.Kernel31Ideal.Gen Cert.Kernel31Ideal.Value Idealize.ShloMosaic Idealize.ShloMosaic.TcCoe Idealize.SL.Sem

variable (m : (ℓ : Loc nD τ sig) → Buf (Elt Ideal) ℓ) (c : Dev nD)

/-- The weights, the array that holds their gradient and the two moments. -/
abbrev w : Vec Ideal S256x1024 .f32 := m ((c : Thread nD τ).loc main_arg0)
abbrev gs : Vec Ideal S2x256x512 .f32 := m ((c : Thread nD τ).loc main_arg1)
abbrev mo : Vec Ideal S256x1024 .f32 := m ((c : Thread nD τ).loc main_arg2)
abbrev vo : Vec Ideal S256x1024 .f32 := m ((c : Thread nD τ).loc main_arg3)

/-- The gradient: the two halves of its columns side by side. -/
def g : Vec Ideal S256x1024 .f32 := fun i => gs m c (ix3 ⟨(i (1 : Fin 2)).val / 512, Nat.div_lt_of_lt_mul (i (1 : Fin 2)).isLt⟩ (i 0) ⟨(i (1 : Fin 2)).val % 512, Nat.mod_lt _ (by decide)⟩)

/-- The step and the new moments. -/
def step : Vec Ideal S256x1024 .f32 := fun i => Adam.step (w m c i) (g m c i) (mo m c i) (vo m c i)
def moment : Vec Ideal S256x1024 .f32 := fun i => Adam.moment (g m c i) (mo m c i)
def square : Vec Ideal S256x1024 .f32 := fun i => Adam.square (g m c i) (vo m c i)

/-- The blocks cover the arrays. -/
theorem covered (i : S256x1024.Idx) : ∃ t : Fin cfg0.N, (cfg0.win 4).flush t = true ∧ i ∈ ((cfg0.win 4).blk t).view.set := by
  have hi : (i (0 : Fin 2)).val < 256 := (i (0 : Fin 2)).isLt
  have hj : (i (1 : Fin 2)).val < 1024 := (i (1 : Fin 2)).isLt
  have e : ∀ t : Fin cfg0.N, win0_4.index t (0 : Fin 2) = t.val / 2 ∧ win0_4.index t (1 : Fin 2) = t.val % 2 := (by decide +kernel : ∀ t : Fin grid0.N, _)
  let t : Fin cfg0.N := ⟨(i (0 : Fin 2)).val / 256 * 2 + (i (1 : Fin 2)).val / 512, by show _ < grid0.N; rw [N_0]; omega⟩
  have ht : t.val = (i (0 : Fin 2)).val / 256 * 2 + (i (1 : Fin 2)).val / 512 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 256, Nat.mod_lt _ (by decide)⟩ ⟨(i (1 : Fin 2)).val % 512, Nat.mod_lt _ (by decide)⟩))⟩
  match a with
  | ⟨0, _⟩ => show win0_4.index t (0 : Fin 2) * 256 + 1 * ((i (0 : Fin 2)).val % 256) = (i (0 : Fin 2)).val; omega
  | ⟨1, _⟩ => show win0_4.index t (1 : Fin 2) * 512 + 1 * ((i (1 : Fin 2)).val % 512) = (i (1 : Fin 2)).val; omega

/-- The gradient's entry that a block reads. -/
theorem grad_at (t : Fin cfg0.N) (y : S256x512.Idx) : k0_pay1 (iblk m c 1 t) y = g m c (((cfg0.win 7).blk t).view.emb y) := by
  have e : ∀ t : Fin cfg0.N, win0_7.index t (1 : Fin 2) = win0_1.index t (0 : Fin 3) ∧ win0_1.index t (1 : Fin 3) = win0_7.index t (0 : Fin 2) ∧ win0_1.index t (2 : Fin 3) = 0 :=
    (by decide +kernel : ∀ t : Fin grid0.N, _)
  obtain ⟨e0, e1, e2⟩ := e t
  have hy : (y (1 : Fin 2)).val < 512 := (y (1 : Fin 2)).isLt
  refine (piece7_0 _ y).trans (congrArg (gs m c) (funext fun a => Fin.ext ?_))
  match a with
  | ⟨0, _⟩ => show win0_1.index t (0 : Fin 3) * 1 + 1 * 0 = (win0_7.index t (1 : Fin 2) * 512 + 1 * (y (1 : Fin 2)).val) / 512; omega
  | ⟨1, _⟩ => show win0_1.index t (1 : Fin 3) * 256 + 1 * (0 + 1 * (y (0 : Fin 2)).val) = win0_7.index t (0 : Fin 2) * 256 + 1 * (y (0 : Fin 2)).val; omega
  | ⟨2, _⟩ => show win0_1.index t (2 : Fin 3) * 512 + 1 * (0 + 1 * (y (1 : Fin 2)).val) = (win0_7.index t (1 : Fin 2) * 512 + 1 * (y (1 : Fin 2)).val) % 512; omega

open Cert.Reference31Ideal.Read in
/-- The reference's gradient is the same. -/
theorem taken : g m c = val_main_v4 (F := Ideal) (gs m c) := by
  funext i
  obtain ⟨r, k, rfl⟩ : ∃ (r : Fin 256) (k : Fin 1024), i = ix2 r k := ⟨i 0, i 1, funext fun a => match a with | ⟨0, _⟩ => rfl | ⟨1, _⟩ => rfl⟩
  unfold val_main_v4
  have e1 : ∀ q : Fin 512, (val_main_v1 (F := Ideal) (gs m c) : Vec Ideal Cert.Reference31Ideal.S256x512 .f32) (ix2 r q) = gs m c (ix3 0 r q) := fun q => by
    unfold val_main_v1 val_main_v0; pointwise []
  have e3 : ∀ q : Fin 512, (val_main_v3 (F := Ideal) (gs m c) : Vec Ideal Cert.Reference31Ideal.S256x512 .f32) (ix2 r q) = gs m c (ix3 1 r q) := fun q => by
    unfold val_main_v3 val_main_v2; pointwise []
  generalize val_main_v1 (F := Ideal) (gs m c) = y1 at e1 ⊢
  generalize val_main_v3 (F := Ideal) (gs m c) = y3 at e3 ⊢
  pointwise []
  have hk := k.isLt
  by_cases h : k.val < 512
  · refine ((dif_pos h).trans ((e1 _).trans (congrArg (gs m c) (funext fun a => Fin.ext ?_)))).symm
    match a with
    | ⟨0, _⟩ => show 0 = k.val / 512; omega
    | ⟨1, _⟩ => rfl
    | ⟨2, _⟩ => show k.val = k.val % 512; omega
  · refine ((dif_neg h).trans ((e3 _).trans (congrArg (gs m c) (funext fun a => Fin.ext ?_)))).symm
    match a with
    | ⟨0, _⟩ => show 1 = k.val / 512; omega
    | ⟨1, _⟩ => rfl
    | ⟨2, _⟩ => show k.val - 512 = k.val % 512; omega

/-- The four results. -/
theorem final4 : (dats m 0 c).arrAt 4 cfg0.N = step m c :=
  (dats m 0 c).arrAt_eq_of_cover 4 (step m c) (fun t _ => by
    rw [flushed4, out0_4, View.canon_unit_zero Adam.hz]; simp only [View.ld_unit_zero (S := S256x512) Adam.hz, View.ld_unit_zero (S := S1x256x512) Adam.hz3]; funext y; exact congrArg (fun x => Adam.step ((iblk m c 0 t : Vec Ideal S256x512 .f32) y) x ((iblk m c 2 t : Vec Ideal S256x512 .f32) y) ((iblk m c 3 t : Vec Ideal S256x512 .f32) y)) (grad_at m c t y)) covered
theorem final5 : (dats m 0 c).arrAt 5 cfg0.N = moment m c :=
  (dats m 0 c).arrAt_eq_of_cover 5 (moment m c) (fun t _ => by
    rw [flushed5, out0_5, View.canon_unit_zero Adam.hz]; simp only [View.ld_unit_zero (S := S256x512) Adam.hz, View.ld_unit_zero (S := S1x256x512) Adam.hz3]; funext y; exact congrArg (fun x => Adam.moment x ((iblk m c 2 t : Vec Ideal S256x512 .f32) y)) (grad_at m c t y)) covered
theorem final6 : (dats m 0 c).arrAt 6 cfg0.N = square m c :=
  (dats m 0 c).arrAt_eq_of_cover 6 (square m c) (fun t _ => by
    rw [flushed6, out0_6, View.canon_unit_zero Adam.hz]; simp only [View.ld_unit_zero (S := S256x512) Adam.hz, View.ld_unit_zero (S := S1x256x512) Adam.hz3]; funext y; exact congrArg (fun x => Adam.square x ((iblk m c 3 t : Vec Ideal S256x512 .f32) y)) (grad_at m c t y)) covered
theorem final7 : (dats m 0 c).arrAt 7 cfg0.N = g m c :=
  (dats m 0 c).arrAt_eq_of_cover 7 (g m c) (fun t _ => by
    rw [flushed7, out0_7, View.canon_unit_zero Adam.hz]; simp only [View.ld_unit_zero (S := S1x256x512) Adam.hz3]; funext y; exact grad_at m c t y) covered

/-- The reference's frame: it has no semaphore at all. -/
theorem frame : Cert.quiescent_Reference31Ideal (hReference31Ideal := Cert.Reference31Ideal.Gen.facts) := fun m ρ _ =>
  (θ_run (Cert.Reference31Ideal.defs (F := Ideal)) _ _).mono (fun r h => ⟨fun c => (h c).2.2.2.2, sem_eq_zero_of_no_sems rfl r.2⟩) (Cert.Reference31Ideal.Value.run m ρ)

/-- The two programs' results are equal. -/
theorem equal : Cert.algebraic_Kernel31Ideal_Reference31Ideal (hKernel31Ideal := Gen.facts) (hReference31Ideal := Cert.Reference31Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference31Ideal.Value.run m' p')⟩
  obtain ⟨h0, h1, h2, h3⟩ := hagree c
  have hc := hr c
  rw [h0, h1, h2, h3] at hc ⊢
  unfold step moment square; beta_reduce; rw [taken m c]; exact hc

end Cert.Kernel31Ideal.Hand

end
-- ==== Proof.AdamConv.lean ====
/- The optimiser's step of the gated convolution's taps: the blocks, the arrays they make up, and the reference's. -/
module

public import proofs.«01_k».proof.Defs
public import proofs.«01_k».proof.Proof.Adam
public import proofs.«01_k».proof.Proof.Gen.Kernel32Ideal.Value
public import proofs.«01_k».proof.Proof.Gen.Reference32Ideal.Read
public import Idealize.ShloMosaic.Lib.Pointwise
public import Idealize.ShloMosaic.Lib.Quiescent

@[expose] public section

set_option maxRecDepth 16384

noncomputable section

namespace Cert.Kernel32Ideal.Hand

open Cert.Kernel32Ideal Cert.Kernel32Ideal.Gen Cert.Kernel32Ideal.Value Idealize.ShloMosaic Idealize.ShloMosaic.TcCoe Idealize.SL.Sem

variable (m : (ℓ : Loc nD τ sig) → Buf (Elt Ideal) ℓ) (c : Dev nD)

/-- The weights, their gradient and the two moments. -/
abbrev w : Vec Ideal S3x2816 .f32 := m ((c : Thread nD τ).loc main_arg0)
abbrev g : Vec Ideal S3x2816 .f32 := m ((c : Thread nD τ).loc main_arg1)
abbrev mo : Vec Ideal S3x2816 .f32 := m ((c : Thread nD τ).loc main_arg2)
abbrev vo : Vec Ideal S3x2816 .f32 := m ((c : Thread nD τ).loc main_arg3)

/-- The step and the new moments. -/
def step : Vec Ideal S3x2816 .f32 := fun i => Adam.step (w m c i) (g m c i) (mo m c i) (vo m c i)
def moment : Vec Ideal S3x2816 .f32 := fun i => Adam.moment (g m c i) (mo m c i)
def square : Vec Ideal S3x2816 .f32 := fun i => Adam.square (g m c i) (vo m c i)

/-- The blocks cover the arrays. -/
theorem covered (i : S3x2816.Idx) : ∃ t : Fin cfg0.N, (cfg0.win 4).flush t = true ∧ i ∈ ((cfg0.win 4).blk t).view.set := by
  have hi : (i (0 : Fin 2)).val < 3 := (i (0 : Fin 2)).isLt
  have hj : (i (1 : Fin 2)).val < 2816 := (i (1 : Fin 2)).isLt
  have e : ∀ t : Fin cfg0.N, win0_4.index t (0 : Fin 2) = t.val / 1 ∧ win0_4.index t (1 : Fin 2) = t.val % 1 := (by decide +kernel : ∀ t : Fin grid0.N, _)
  let t : Fin cfg0.N := ⟨(i (0 : Fin 2)).val / 3 * 1 + (i (1 : Fin 2)).val / 2816, by show _ < grid0.N; rw [N_0]; omega⟩
  have ht : t.val = (i (0 : Fin 2)).val / 3 * 1 + (i (1 : Fin 2)).val / 2816 := rfl
  obtain ⟨e0, e1⟩ := e t
  refine ⟨t, flush0_4 t, (congrArg (· ∈ ((cfg0.win 4).blk t).view.set) (funext fun a => Fin.ext ?_)).mp (((cfg0.win 4).blk t).view.emb_mem_set
    (ix2 ⟨(i (0 : Fin 2)).val % 3, Nat.mod_lt _ (by decide)⟩ ⟨(i (1 : Fin 2)).val % 2816, Nat.mod_lt _ (by decide)⟩))⟩
  match a with
  | ⟨0, _⟩ => show win0_4.index t (0 : Fin 2) * 3 + 1 * ((i (0 : Fin 2)).val % 3) = (i (0 : Fin 2)).val; omega
  | ⟨1, _⟩ => show win0_4.index t (1 : Fin 2) * 2816 + 1 * ((i (1 : Fin 2)).val % 2816) = (i (1 : Fin 2)).val; omega

/-- The four results. -/
theorem final4 : (dats m 0 c).arrAt 4 cfg0.N = step m c :=
  (dats m 0 c).arrAt_eq_of_cover 4 (step m c) (fun t _ => by
    rw [flushed4, out0_4, View.canon_unit_zero Adam.hz]; simp only [View.ld_unit_zero (S := S3x2816) Adam.hz]; rfl) covered
theorem final5 : (dats m 0 c).arrAt 5 cfg0.N = moment m c :=
  (dats m 0 c).arrAt_eq_of_cover 5 (moment m c) (fun t _ => by
    rw [flushed5, out0_5, View.canon_unit_zero Adam.hz]; simp only [View.ld_unit_zero (S := S3x2816) Adam.hz]; rfl) covered
theorem final6 : (dats m 0 c).arrAt 6 cfg0.N = square m c :=
  (dats m 0 c).arrAt_eq_of_cover 6 (square m c) (fun t _ => by
    rw [flushed6, out0_6, View.canon_unit_zero Adam.hz]; simp only [View.ld_unit_zero (S := S3x2816) Adam.hz]; rfl) covered
theorem final7 : (dats m 0 c).arrAt 7 cfg0.N = g m c :=
  (dats m 0 c).arrAt_eq_of_cover 7 (g m c) (fun t _ => by
    rw [flushed7, out0_7, View.canon_unit_zero Adam.hz]; simp only [View.ld_unit_zero (S := S3x2816) Adam.hz]; rfl) covered

/-- The reference's frame: it has no semaphore at all. -/
theorem frame : Cert.quiescent_Reference32Ideal (hReference32Ideal := Cert.Reference32Ideal.Gen.facts) := fun m ρ _ =>
  (θ_run (Cert.Reference32Ideal.defs (F := Ideal)) _ _).mono (fun r h => ⟨fun c => (h c).2.2.2.2, sem_eq_zero_of_no_sems rfl r.2⟩) (Cert.Reference32Ideal.Value.run m ρ)

/-- The two programs' results are equal. -/
theorem equal : Cert.algebraic_Kernel32Ideal_Reference32Ideal (hKernel32Ideal := Gen.facts) (hReference32Ideal := Cert.Reference32Ideal.Gen.facts) := by
  intro m p m' p' _ hagree
  refine ⟨fun c => step m c, fun c => moment m c, fun c => square m c, fun c => g m c,
    (θ_run _ _ _).mono (fun _ h c => ⟨(h c).1.trans (final4 m c), (h c).2.1.trans (final5 m c), (h c).2.2.1.trans (final6 m c),
      (h c).2.2.2.1.trans (final7 m c), (h c).2.2.2.2⟩) (run_blocks m p), (θ_run _ _ _).mono (fun r hr c => ?_) (Cert.Reference32Ideal.Value.run m' p')⟩
  obtain ⟨h0, h1, h2, h3⟩ := hagree c
  have hc := hr c
  rw [h0, h1, h2, h3] at hc ⊢
  exact hc

end Cert.Kernel32Ideal.Hand

end
-- ==== Proof.AttnNormBwd.lean ====
/- The gradient of the norm before the heads: the two arrays that the kernel's blocks make up, and the reference's equal ones. A
   point's arithmetic and the reference's are those of the norm before the channel mixer. -/
module

public import proofs.«01_k».proof.Proof.NormBwdEqual
public import proofs.«01_k».proof.Proof.Gen.Kernel33.Frame
public import proofs.«01_k».proof.Proof.Gen.Kernel33Ideal.Value
public import proofs.«01_k».proof.Proof.Gen.Reference33Ideal.Read

@[expose] public section

set_option maxRecDepth 16384

noncomputable section

namespace Cert.Kernel33Ideal.Hand

open Cert.Kernel33Ideal Cert.Kernel33Ideal.Gen Cert.Kernel33Ideal.Value Idealize.ShloMosaic Idealize.ShloMosaic.TcCoe Idealize.SL.Sem
open Cert.Kernel24Ideal.Hand (hz dx dw dwTerm sum_four pay4_block pay6_block)

section Points

variable (c : Dev nD) (i : grid0.Coords) (a1 : Memref sig .tc .vmem S512x2048 .f32) (h1 : a1.IsWhole) (a2 : Memref sig .tc .vmem S1x2048 .f32) (h2 : a2.IsWhole)
    (a3 : Memref sig .tc .vmem S512x2048 .f32) (h3 : a3.IsWhole) (a4 : Memref sig .tc .vmem S512x2048 .f32) (h4 : a4.IsWhole) (a5 : Memref sig .tc .vmem S512x2048 .f32) (h5 : a5.IsWhole)
    (a6 : Memref sig .tc .vmem S1x2048 .f32) (h6 : a6.IsWhole)
    (x0 : Vec Ideal S512x2048 .f32) (x1 : Vec Ideal S1x2048 .f32) (x2 x3 : Vec Ideal S512x2048 .f32) (acc : Vec Ideal S1x2048 .f32)

/-- What the first point computes of the two results. -/
theorem first4 (hc0 : cond0_0 i) (hc1 : ¬cond0_1 i) :
    out0_A_4 (F := Ideal) c i a1 h1 a2 h2 a3 h3 a4 h4 a5 h5 a6 h6 hc0 hc1 x0 x1 x2 x3 = k0_pay4 (F := Ideal) x0 x1 x2 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  rw [View.canon_unit_zero hz]
  simp only [View.readAt_eq_ld, h1.read_unread, h2.read_unread, h3.read_unread, h4.read_unread, View.ld_unit_zero (S := S512x2048) hz, View.ld_unit_zero (S := S1x2048) hz]

theorem first5 (hc0 : cond0_0 i) (hc1 : ¬cond0_1 i) :
    out0_A_5 (F := Ideal) c i a1 h1 a2 h2 a3 h3 a4 h4 a5 h5 a6 h6 hc0 hc1 x0 x1 x2 x3 = k0_pay5 (F := Ideal) x0 x2 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  rw [View.canon_unit_zero hz]
  simp only [View.readAt_eq_ld, h1.read_unread, h3.read_unread, View.ld_unit_zero (S := S512x2048) hz]

/-- What a later point computes: it adds to the weights' gradient. -/
theorem later4 (hc0 : ¬cond0_0 i) (hc1 : cond0_1 i) :
    out0_B_4 (F := Ideal) c i a1 h1 a2 h2 a3 h3 a4 h4 a5 h5 a6 h6 hc0 hc1 x0 x1 x2 x3 acc = k0_pay4 (F := Ideal) x0 x1 x2 x3 := by
  unfold out0_B_4
  rw [View.read_writes_eq_canon _ _ _ (cover0_B_4 c i a1 h1 a2 h2 a3 h3 a4 h4 a5 h5 a6 h6 hc0 hc1 x0 x1 x2 x3 acc)]
  unfold kernelRun0_B
  dsimp only
  rw [View.canon_unit_zero hz]
  simp only [View.readAt_eq_ld, h1.read_unread, h2.read_unread, h3.read_unread, h4.read_unread, View.ld_unit_zero (S := S512x2048) hz, View.ld_unit_zero (S := S1x2048) hz]

theorem later5 (hc0 : ¬cond0_0 i) (hc1 : cond0_1 i) :
    out0_B_5 (F := Ideal) c i a1 h1 a2 h2 a3 h3 a4 h4 a5 h5 a6 h6 hc0 hc1 x0 x1 x2 x3 acc = addf acc (k0_pay5 (F := Ideal) x0 x2) := by
  unfold out0_B_5
  rw [View.read_writes_eq_canon _ _ _ (cover0_B_5 c i a1 h1 a2 h2 a3 h3 a4 h4 a5 h5 a6 h6 hc0 hc1 x0 x1 x2 x3 acc)]
  unfold kernelRun0_B
  dsimp only
  rw [View.canon_unit_zero hz]
  unfold k0_pay1 kernelRun0_B.sl.r
  simp only [View.readAt_eq_ld, h1.read_unread, h3.read_unread, h6.read_unread, View.ld_unit_zero (S := S512x2048) hz, View.ld_unit_zero (S := S1x2048) hz, shapeCast_self]

end Points

variable (m : (ℓ : Loc nD τ sig) → Buf (Elt Ideal) ℓ) (ρ : Dev nD → PrngReg) (c : Dev nD) (t : Fin cfg0.N)

/-- Device `c`'s arguments and results. -/
abbrev argX : Vec Ideal S2048x2048 .f32 := m ((c : Thread nD τ).loc main_arg0)
abbrev argW : Vec Ideal S1x2048 .f32 := m ((c : Thread nD τ).loc main_arg1)
abbrev argDy : Vec Ideal S2048x2048 .f32 := m ((c : Thread nD τ).loc main_arg2)
abbrev argAdd : Vec Ideal S2048x2048 .f32 := m ((c : Thread nD τ).loc main_arg3)
def dxOf : S2048x2048.Idx → EReal := dx (argX m c) (argW m c) (argDy m c) (argAdd m c)
def dwOf : S1x2048.Idx → EReal := dw (argX m c) (argDy m c)

/-- Point `t` takes the 512 rows from `512 t`, and the whole weights. -/
theorem lt_points : t.val < 4 := N_0 ▸ t.isLt
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)

/-- Row `n` of point `t`'s block. -/
def at_ (n : Fin 512) : Fin 2048 := ⟨512 * t.val + n.val, by have := lt_points t; omega⟩

theorem emb (n : Fin 512) (k : Fin 2048) : (((cfg0.win 0).blk t).view.emb (ix2 n k) : S2048x2048.Idx) = ix2 (at_ t n) k := by
  obtain ⟨e0, e1⟩ := index0 t
  refine funext fun a => Fin.ext ?_
  match a with
  | ⟨0, _⟩ => show win0_0.index t (0 : Fin 2) * 512 + 1 * n.val = 512 * t.val + n.val; omega
  | ⟨1, _⟩ => show win0_0.index t (1 : Fin 2) * 2048 + 1 * k.val = k.val; omega

theorem embW (k : Fin 2048) (z : Fin 1) : (((cfg0.win 1).blk t).view.emb (ix2 z k) : S1x2048.Idx) = ix2 z k := by
  obtain ⟨e0, e1⟩ := index1 t
  refine funext fun a => Fin.ext ?_
  match a with
  | ⟨0, _⟩ => show win0_1.index t (0 : Fin 2) * 1 + 1 * z.val = z.val; omega
  | ⟨1, _⟩ => show win0_1.index t (1 : Fin 2) * 2048 + 1 * k.val = k.val; omega

/-- Each input block, read at an index. -/
theorem iblk0_apply (n : Fin 512) (k : Fin 2048) : iblk m c 0 t (ix2 n k) = argX m c (ix2 (at_ t n) k) := by
  unfold argX
  rw [← V_main_arg0 m c]
  exact congrArg (V m c main_arg0 : Vec Ideal S2048x2048 .f32) (emb t n k)

theorem iblk2_apply (n : Fin 512) (k : Fin 2048) : iblk m c 2 t (ix2 n k) = argDy m c (ix2 (at_ t n) k) := by
  unfold argDy
  rw [← V_main_arg2 m c]
  exact congrArg (V m c main_arg2 : Vec Ideal S2048x2048 .f32) (emb t n k)

theorem iblk3_apply (n : Fin 512) (k : Fin 2048) : iblk m c 3 t (ix2 n k) = argAdd m c (ix2 (at_ t n) k) := by
  unfold argAdd
  rw [← V_main_arg3 m c]
  exact congrArg (V m c main_arg3 : Vec Ideal S2048x2048 .f32) (emb t n k)

theorem iblk1_apply (k : Fin 2048) : iblk m c 1 t (ix2 0 k) = argW m c (ix2 0 k) := by
  unfold argW
  rw [← V_main_arg1 m c]
  exact congrArg (V m c main_arg1 : Vec Ideal S1x2048 .f32) (embW t k 0)

/-- What the two result blocks hold after a point. -/
theorem after4 : (outsAt0 m c t.val t.isLt).1 = k0_pay4 (F := Ideal) (iblk m c 0 t) (iblk m c 1 t) (iblk m c 2 t) (iblk m c 3 t) := by
  have ht := lt_points t
  by_cases h : t.val = 0
  · have e := congrArg Prod.fst (outsAt0_A m c t (by omega) (by omega))
    dsimp only at e
    rw [first4] at e
    exact e
  · have e := congrArg Prod.fst (outsAt0_B m c t (by omega) (by omega))
    dsimp only at e
    rw [later4] at e
    exact e

theorem after_first (h : t.val = 0) : (outsAt0 m c t.val t.isLt).2 = k0_pay5 (F := Ideal) (iblk m c 0 t) (iblk m c 2 t) := by
  have e := congrArg Prod.snd (outsAt0_A m c t (by omega) (by omega))
  dsimp only at e
  rw [first5] at e
  exact e

theorem after_later (h : 1 ≤ t.val) : (outsAt0 m c t.val t.isLt).2
    = addf (outsAt0 m c (t.val - 1) (Nat.lt_of_le_of_lt (Nat.sub_le _ _) t.isLt)).2 (k0_pay5 (F := Ideal) (iblk m c 0 t) (iblk m c 2 t)) := by
  have ht := lt_points t
  have e := congrArg Prod.snd (outsAt0_B m c t (by omega) h)
  dsimp only at e
  rw [later5] at e
  exact e

/-- A point's part of the weights' gradient is the sum over its 512 rows. -/
theorem block_dw (j : ℕ) (hj : t.val = j) (hl : j < 4) (z : Fin 1) (q : Fin 2048) :
    k0_pay5 (F := Ideal) (iblk m c 0 t) (iblk m c 2 t) (ix2 z q) = ∑ r : Fin 512, dwTerm (argX m c) (argDy m c) q ⟨512 * j + r.val, by omega⟩ := by
  subst hj
  exact pay6_block _ _ _ _ (at_ t) (iblk0_apply m c t) (iblk2_apply m c t) z q

/-- After the last point the weights' gradient is whole. -/
theorem after_last (h : t.val = 3) (z : Fin 1) (q : Fin 2048) : ((outsAt0 m c t.val t.isLt).2 : Vec Ideal S1x2048 .f32) (ix2 z q) = dwOf m c (ix2 z q) := by
  let t2 : Fin cfg0.N := ⟨t.val - 1, Nat.lt_of_le_of_lt (Nat.sub_le _ _) t.isLt⟩
  let t1 : Fin cfg0.N := ⟨t.val - 1 - 1, Nat.lt_of_le_of_lt (Nat.sub_le _ _) t2.isLt⟩
  let t0 : Fin cfg0.N := ⟨t.val - 1 - 1 - 1, Nat.lt_of_le_of_lt (Nat.sub_le _ _) t1.isLt⟩
  have e2 : t2.val = t.val - 1 := rfl
  have e1 : t1.val = t.val - 1 - 1 := rfl
  have e0 : t0.val = t.val - 1 - 1 - 1 := rfl
  unfold dwOf dw
  rw [sum_four]
  refine (congrFun (after_later m c t (by omega)) (ix2 z q)).trans (congrArg₂ (fun a b : EReal => a + b) ?_ (block_dw m c t 3 h (by omega) z q))
  refine (congrFun (after_later m c t2 (by omega)) (ix2 z q)).trans (congrArg₂ (fun a b : EReal => a + b) ?_ (block_dw m c t2 2 (by omega) (by omega) z q))
  exact (congrFun (after_later m c t1 (by omega)) (ix2 z q)).trans (congrArg₂ (fun a b : EReal => a + b)
    ((congrFun (after_first m c t0 (by omega)) (ix2 z q)).trans (block_dw m c t0 0 (by omega) (by omega) z q)) (block_dw m c t1 1 (by omega) (by omega) z q))

/-- What a point writes back is its block of the whole array. -/
theorem flushed_dx : (dats m 0 c).flushed 4 t = ((cfg0.win 4).blk t).view.read (Elt Ideal) (dxOf m c) := by
  rw [flushed4, after4]
  funext y
  obtain ⟨n, q, rfl⟩ : ∃ (n : Fin 512) (q : Fin 2048), y = ix2 n q := ⟨y 0, y 1, funext fun a => by match a with | ⟨0, _⟩ => rfl | ⟨1, _⟩ => rfl⟩
  exact (pay4_block _ _ _ _ _ _ _ _ (at_ t) (iblk0_apply m c t) (iblk1_apply m c t) (iblk2_apply m c t) (iblk3_apply m c t) n q).trans (congrArg (dxOf m c) (emb t n q).symm)

theorem flushed_dw (h : t.val = 3) : (dats m 0 c).flushed 5 t = ((cfg0.win 5).blk t).view.read (Elt Ideal) (dwOf m c) := by
  rw [flushed5]
  funext y
  obtain ⟨z, q, rfl⟩ : ∃ (z : Fin 1) (q : Fin 2048), y = ix2 z q := ⟨y 0, y 1, funext fun a => by match a with | ⟨0, _⟩ => rfl | ⟨1, _⟩ => rfl⟩
  exact (after_last m c t h z q).trans (congrArg (dwOf m c) (embW t q z).symm)

/-- The written blocks cover the arrays. -/
theorem covered_dx (i : S2048x2048.Idx) : ∃ t : Fin cfg0.N, (cfg0.win 4).flush t = true ∧ i ∈ ((cfg0.win 4).blk t).view.set := by
  have hi : (i (0 : Fin 2)).val < 2048 := (i (0 : Fin 2)).isLt
  let t : Fin cfg0.N := ⟨(i (0 : Fin 2)).val / 512, by show _ < grid0.N; rw [N_0]; omega⟩
  refine ⟨t, flush0_4 t, (congrArg (· ∈ ((cfg0.win 4).blk t).view.set) ((emb t ⟨(i (0 : Fin 2)).val % 512, Nat.mod_lt _ (by decide)⟩ (i (1 : Fin 2))).trans
    (funext fun a => Fin.ext ?_))).mp (((cfg0.win 4).blk t).view.emb_mem_set _)⟩
  match a with
  | ⟨0, _⟩ => exact Nat.div_add_mod _ _
  | ⟨1, _⟩ => rfl

theorem covered_dw (i : S1x2048.Idx) : ∃ t : Fin cfg0.N, (cfg0.win 5).flush t = true ∧ i ∈ ((cfg0.win 5).blk t).view.set := by
  let t : Fin cfg0.N := ⟨3, by show _ < grid0.N; rw [N_0]; omega⟩
  refine ⟨t, (flush0_5 t).mpr (by decide), (congrArg (· ∈ ((cfg0.win 5).blk t).view.set) ((embW t (i (1 : Fin 2)) (i (0 : Fin 2))).trans
    (funext fun a => ?_))).mp (((cfg0.win 5).blk t).view.emb_mem_set _)⟩
  match a with
  | ⟨0, _⟩ => rfl
  | ⟨1, _⟩ => rfl

/-- The run, its results as functions of the arguments. -/
theorem run : θ_run defs (onTc (τ := τ) (main (F := Ideal))) ⟨m, fun _ => 0, ρ⟩ fun r => ∀ c : Dev nD,
      r.2.mem ((c : Thread nD τ).loc main_v0_0) = dxOf m c
      ∧ r.2.mem ((c : Thread nD τ).loc main_v0_1) = dwOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (dxOf m c) (fun t _ => flushed_dx m c t) covered_dx),
    (h c).2.1.trans ((dats m 0 c).arrAt_eq_of_cover 5 (dwOf m c) (fun t h => flushed_dw m c t (by have := (flush0_5 t).mp h; have := lt_points t; omega)) covered_dw),
    (h c).2.2⟩) (run_blocks m ρ)

end Cert.Kernel33Ideal.Hand

namespace Cert.Reference33Ideal.Hand

open Cert.Reference33Ideal Cert.Reference33Ideal.Gen Idealize.ShloMosaic Idealize.ShloMosaic.TcCoe Idealize.SL.Sem

/-- The reference's frame: it has no semaphore at all. -/
theorem frame : Cert.quiescent_Reference33Ideal (hReference33Ideal := Gen.facts) := fun m ρ _ =>
  (θ_run defs _ _).mono (fun r h => ⟨fun c => (h c).2.2, sem_eq_zero_of_no_sems rfl r.2⟩) (Value.run m ρ)

/-- Equal results. -/
theorem equal : Cert.algebraic_Kernel33Ideal_Reference33Ideal (hKernel33Ideal := Cert.Kernel33Ideal.Gen.facts) (hReference33Ideal := Gen.facts) := by
  intro m g m' g' _ hagree
  refine ⟨fun c => Cert.Kernel33Ideal.Hand.dxOf m c, fun c => Cert.Kernel33Ideal.Hand.dwOf m c, Cert.Kernel33Ideal.Hand.run m g,
    (θ_run _ _ _).mono (fun r hr c => ?_) (Value.run m' g')⟩
  obtain ⟨h0, h1, h2, h3⟩ := hagree c
  have hc := hr c
  rw [h0, h1, h2, h3] at hc ⊢
  exact ⟨(hc.1.trans (Read.val_main_v34_eq _ _ _ _)).trans (Cert.Reference24Ideal.Hand.dx_eq _ _ _ _),
    (hc.2.1.trans (Read.val_main_v17_eq _ _)).trans (Cert.Reference24Ideal.Hand.dw_eq _ _), hc.2.2⟩

end Cert.Reference33Ideal.Hand

end
-- ==== Proof.lean ====
/- The certificate: the gradient of the gated convolution (Proof/Equal.lean, at finite arguments), the eight calls of the channel
   mixer's two products (forward, the cotangents of their inputs, and their weights' gradients in the half that is sent and the
   half that is kept), and the projections into and out of the two groups of heads with the cotangents of their inputs and
   their weights' gradients in the same two halves, and the products inside the two groups of heads with the cotangents of
   their inputs, and the gradients of the norms before the channel mixer and before the heads, and the
   optimiser's calls, each a program of its own (the modules named …Equal, Adam… and AttnNormBwd). The kernels' frames are the generated ones, at a word that is 0 or 1 where a word chooses the half (the modules named …Word); the references
   have no semaphores, and nothing was rewritten. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import proofs.«01_k».proof.Proof.Gen.Kernel2.Frame
public import proofs.«01_k».proof.Proof.DownDxEqual
public import proofs.«01_k».proof.Proof.Gen.Kernel3.Frame
public import proofs.«01_k».proof.Proof.UpDxEqual
public import proofs.«01_k».proof.Proof.DownDwGiveEqual
public import proofs.«01_k».proof.Proof.UpDwGiveEqual
public import proofs.«01_k».proof.Proof.Gen.Kernel6.Frame
public import proofs.«01_k».proof.Proof.UpEqual
public import proofs.«01_k».proof.Proof.Gen.Kernel7.Frame
public import proofs.«01_k».proof.Proof.DownEqual
public import proofs.«01_k».proof.Proof.DownDwKeepEqual
public import proofs.«01_k».proof.Proof.UpDwKeepEqual
public import proofs.«01_k».proof.Proof.Gen.Kernel10.Frame
public import proofs.«01_k».proof.Proof.OutProjEqual
public import proofs.«01_k».proof.Proof.Gen.Kernel11.Frame
public import proofs.«01_k».proof.Proof.OutProjDxEqual
public import proofs.«01_k».proof.Proof.Gen.Kernel12.Frame
public import proofs.«01_k».proof.Proof.InProjEqual
public import proofs.«01_k».proof.Proof.Gen.Kernel13.Frame
public import proofs.«01_k».proof.Proof.InProjDxEqual
public import proofs.«01_k».proof.Proof.OutProjDwGiveEqual
public import proofs.«01_k».proof.Proof.OutProjDwKeepEqual
public import proofs.«01_k».proof.Proof.InProjDwGiveEqual
public import proofs.«01_k».proof.Proof.InProjDwKeepEqual
public import proofs.«01_k».proof.Proof.Gen.Kernel18.Frame
public import proofs.«01_k».proof.Proof.QProjEqual
public import proofs.«01_k».proof.Proof.Gen.Kernel19.Frame
public import proofs.«01_k».proof.Proof.KvProjEqual
public import proofs.«01_k».proof.Proof.Gen.Kernel20.Frame
public import proofs.«01_k».proof.Proof.QProjDxEqual
public import proofs.«01_k».proof.Proof.Gen.Kernel21.Frame
public import proofs.«01_k».proof.Proof.KvProjDxEqual
public import proofs.«01_k».proof.Proof.Gen.Kernel22.Frame
public import proofs.«01_k».proof.Proof.GluProjEqual
public import proofs.«01_k».proof.Proof.Gen.Kernel23.Frame
public import proofs.«01_k».proof.Proof.GluProjDxEqual
public import proofs.«01_k».proof.Proof.Gen.Kernel24.Frame
public import proofs.«01_k».proof.Proof.NormBwdEqual
public import proofs.«01_k».proof.Proof.Gen.Kernel25.Frame
public import proofs.«01_k».proof.Proof.AdamUp
public import proofs.«01_k».proof.Proof.Gen.Kernel26.Frame
public import proofs.«01_k».proof.Proof.AdamDown
public import proofs.«01_k».proof.Proof.Gen.Kernel27.Frame
public import proofs.«01_k».proof.Proof.AdamIn
public import proofs.«01_k».proof.Proof.Gen.Kernel28.Frame
public import proofs.«01_k».proof.Proof.AdamOut
public import proofs.«01_k».proof.Proof.Gen.Kernel29.Frame
public import proofs.«01_k».proof.Proof.AdamQ
public import proofs.«01_k».proof.Proof.Gen.Kernel30.Frame
public import proofs.«01_k».proof.Proof.AdamKv
public import proofs.«01_k».proof.Proof.Gen.Kernel31.Frame
public import proofs.«01_k».proof.Proof.AdamGlu
public import proofs.«01_k».proof.Proof.Gen.Kernel32.Frame
public import proofs.«01_k».proof.Proof.AdamConv
public import proofs.«01_k».proof.Proof.AttnNormBwd

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Pre_finite.Gen.facts,
  Cert.Pre_core4.Gen.facts,
  Cert.Pre_core5.Gen.facts,
  Cert.Pre_core8.Gen.facts,
  Cert.Pre_core9.Gen.facts,
  Cert.Pre_core14.Gen.facts,
  Cert.Pre_core15.Gen.facts,
  Cert.Pre_core16.Gen.facts,
  Cert.Pre_core17.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Hand.frame m ρ,
  fun m ρ _ => Cert.ReferenceIdeal.Hand.frame m ρ,
  fun m ρ _ => Cert.Kernel2.Gen.frame m ρ,
  fun m ρ _ => Cert.Kernel2Ideal.Gen.frame m ρ,
  Cert.Reference2Ideal.Hand.frame,
  fun m ρ _ => Cert.Kernel3.Gen.frame m ρ,
  fun m ρ _ => Cert.Kernel3Ideal.Gen.frame m ρ,
  Cert.Reference3Ideal.Hand.frame,
  fun m ρ h => Cert.Kernel4.Gen.frame m ρ (Cert.Kernel4.Hand.ok_of_pre m h),
  fun m ρ h => Cert.Kernel4Ideal.Gen.frame m ρ (Cert.Kernel4Ideal.Hand.ok_of_pre m h),
  fun m ρ _ => Cert.Reference4Ideal.Hand.frame m ρ,
  fun m ρ _ => Cert.Reference4Ideal.Hand.frame m ρ,
  fun m ρ h => Cert.Kernel5.Gen.frame m ρ (Cert.Kernel5.Hand.ok_of_pre m h),
  fun m ρ h => Cert.Kernel5Ideal.Gen.frame m ρ (Cert.Kernel5Ideal.Hand.ok_of_pre m h),
  fun m ρ _ => Cert.Reference5Ideal.Hand.frame m ρ,
  fun m ρ _ => Cert.Reference5Ideal.Hand.frame m ρ,
  fun m ρ _ => Cert.Kernel6.Gen.frame m ρ,
  fun m ρ _ => Cert.Kernel6Ideal.Gen.frame m ρ,
  Cert.Reference6Ideal.Hand.frame,
  fun m ρ _ => Cert.Kernel7.Gen.frame m ρ,
  fun m ρ _ => Cert.Kernel7Ideal.Gen.frame m ρ,
  Cert.Reference7Ideal.Hand.frame,
  fun m ρ h => Cert.Kernel8.Gen.frame m ρ (Cert.Kernel8.Hand.ok_of_pre m h),
  fun m ρ h => Cert.Kernel8Ideal.Gen.frame m ρ (Cert.Kernel8Ideal.Hand.ok_of_pre m h),
  fun m ρ _ => Cert.Reference8Ideal.Hand.frame m ρ,
  fun m ρ _ => Cert.Reference8Ideal.Hand.frame m ρ,
  fun m ρ h => Cert.Kernel9.Gen.frame m ρ (Cert.Kernel9.Hand.ok_of_pre m h),
  fun m ρ h => Cert.Kernel9Ideal.Gen.frame m ρ (Cert.Kernel9Ideal.Hand.ok_of_pre m h),
  fun m ρ _ => Cert.Reference9Ideal.Hand.frame m ρ,
  fun m ρ _ => Cert.Reference9Ideal.Hand.frame m ρ,
  fun m ρ _ => Cert.Kernel10.Gen.frame m ρ,
  fun m ρ _ => Cert.Kernel10Ideal.Gen.frame m ρ,
  Cert.Reference10Ideal.Hand.frame,
  fun m ρ _ => Cert.Kernel11.Gen.frame m ρ,
  fun m ρ _ => Cert.Kernel11Ideal.Gen.frame m ρ,
  Cert.Reference11Ideal.Hand.frame,
  fun m ρ _ => Cert.Kernel12.Gen.frame m ρ,
  fun m ρ _ => Cert.Kernel12Ideal.Gen.frame m ρ,
  Cert.Reference12Ideal.Hand.frame,
  fun m ρ _ => Cert.Kernel13.Gen.frame m ρ,
  fun m ρ _ => Cert.Kernel13Ideal.Gen.frame m ρ,
  Cert.Reference13Ideal.Hand.frame,
  fun m ρ h => Cert.Kernel14.Gen.frame m ρ (Cert.Kernel14.Hand.ok_of_pre m h),
  fun m ρ h => Cert.Kernel14Ideal.Gen.frame m ρ (Cert.Kernel14Ideal.Hand.ok_of_pre m h),
  fun m ρ _ => Cert.Reference14Ideal.Hand.frame m ρ,
  fun m ρ _ => Cert.Reference14Ideal.Hand.frame m ρ,
  fun m ρ h => Cert.Kernel15.Gen.frame m ρ (Cert.Kernel15.Hand.ok_of_pre m h),
  fun m ρ h => Cert.Kernel15Ideal.Gen.frame m ρ (Cert.Kernel15Ideal.Hand.ok_of_pre m h),
  fun m ρ _ => Cert.Reference15Ideal.Hand.frame m ρ,
  fun m ρ _ => Cert.Reference15Ideal.Hand.frame m ρ,
  fun m ρ h => Cert.Kernel16.Gen.frame m ρ (Cert.Kernel16.Hand.ok_of_pre m h),
  fun m ρ h => Cert.Kernel16Ideal.Gen.frame m ρ (Cert.Kernel16Ideal.Hand.ok_of_pre m h),
  fun m ρ _ => Cert.Reference16Ideal.Hand.frame m ρ,
  fun m ρ _ => Cert.Reference16Ideal.Hand.frame m ρ,
  fun m ρ h => Cert.Kernel17.Gen.frame m ρ (Cert.Kernel17.Hand.ok_of_pre m h),
  fun m ρ h => Cert.Kernel17Ideal.Gen.frame m ρ (Cert.Kernel17Ideal.Hand.ok_of_pre m h),
  fun m ρ _ => Cert.Reference17Ideal.Hand.frame m ρ,
  fun m ρ _ => Cert.Reference17Ideal.Hand.frame m ρ,
  fun m ρ _ => Cert.Kernel18.Gen.frame m ρ,
  fun m ρ _ => Cert.Kernel18Ideal.Gen.frame m ρ,
  Cert.Reference18Ideal.Hand.frame,
  fun m ρ _ => Cert.Kernel19.Gen.frame m ρ,
  fun m ρ _ => Cert.Kernel19Ideal.Gen.frame m ρ,
  Cert.Reference19Ideal.Hand.frame,
  fun m ρ _ => Cert.Kernel20.Gen.frame m ρ,
  fun m ρ _ => Cert.Kernel20Ideal.Gen.frame m ρ,
  Cert.Reference20Ideal.Hand.frame,
  fun m ρ _ => Cert.Kernel21.Gen.frame m ρ,
  fun m ρ _ => Cert.Kernel21Ideal.Gen.frame m ρ,
  Cert.Reference21Ideal.Hand.frame,
  fun m ρ _ => Cert.Kernel22.Gen.frame m ρ,
  fun m ρ _ => Cert.Kernel22Ideal.Gen.frame m ρ,
  Cert.Reference22Ideal.Hand.frame,
  fun m ρ _ => Cert.Kernel23.Gen.frame m ρ,
  fun m ρ _ => Cert.Kernel23Ideal.Gen.frame m ρ,
  Cert.Reference23Ideal.Hand.frame,
  fun m ρ _ => Cert.Kernel24.Gen.frame m ρ,
  fun m ρ _ => Cert.Kernel24Ideal.Gen.frame m ρ,
  Cert.Reference24Ideal.Hand.frame,
  fun m ρ _ => Cert.Kernel25.Gen.frame m ρ,
  fun m ρ _ => Cert.Kernel25Ideal.Gen.frame m ρ,
  Cert.Kernel25Ideal.Hand.frame,
  fun m ρ _ => Cert.Kernel26.Gen.frame m ρ,
  fun m ρ _ => Cert.Kernel26Ideal.Gen.frame m ρ,
  Cert.Kernel26Ideal.Hand.frame,
  fun m ρ _ => Cert.Kernel27.Gen.frame m ρ,
  fun m ρ _ => Cert.Kernel27Ideal.Gen.frame m ρ,
  Cert.Kernel27Ideal.Hand.frame,
  fun m ρ _ => Cert.Kernel28.Gen.frame m ρ,
  fun m ρ _ => Cert.Kernel28Ideal.Gen.frame m ρ,
  Cert.Kernel28Ideal.Hand.frame,
  fun m ρ _ => Cert.Kernel29.Gen.frame m ρ,
  fun m ρ _ => Cert.Kernel29Ideal.Gen.frame m ρ,
  Cert.Kernel29Ideal.Hand.frame,
  fun m ρ _ => Cert.Kernel30.Gen.frame m ρ,
  fun m ρ _ => Cert.Kernel30Ideal.Gen.frame m ρ,
  Cert.Kernel30Ideal.Hand.frame,
  fun m ρ _ => Cert.Kernel31.Gen.frame m ρ,
  fun m ρ _ => Cert.Kernel31Ideal.Gen.frame m ρ,
  Cert.Kernel31Ideal.Hand.frame,
  fun m ρ _ => Cert.Kernel32.Gen.frame m ρ,
  fun m ρ _ => Cert.Kernel32Ideal.Gen.frame m ρ,
  Cert.Kernel32Ideal.Hand.frame,
  fun m ρ _ => Cert.Kernel33.Gen.frame m ρ,
  fun m ρ _ => Cert.Kernel33Ideal.Gen.frame m ρ,
  Cert.Reference33Ideal.Hand.frame,
  trivial,
  Cert.Hand.algebraic,
  trivial,
  Cert.Reference2Ideal.Hand.equal,
  trivial,
  Cert.Reference3Ideal.Hand.equal,
  trivial,
  Cert.Reference4Ideal.Hand.equal,
  trivial,
  Cert.Reference5Ideal.Hand.equal,
  trivial,
  Cert.Reference6Ideal.Hand.equal,
  trivial,
  Cert.Reference7Ideal.Hand.equal,
  trivial,
  Cert.Reference8Ideal.Hand.equal,
  trivial,
  Cert.Reference9Ideal.Hand.equal,
  trivial,
  Cert.Reference10Ideal.Hand.equal,
  trivial,
  Cert.Reference11Ideal.Hand.equal,
  trivial,
  Cert.Reference12Ideal.Hand.equal,
  trivial,
  Cert.Reference13Ideal.Hand.equal,
  trivial,
  Cert.Reference14Ideal.Hand.equal,
  trivial,
  Cert.Reference15Ideal.Hand.equal,
  trivial,
  Cert.Reference16Ideal.Hand.equal,
  trivial,
  Cert.Reference17Ideal.Hand.equal,
  trivial,
  Cert.Reference18Ideal.Hand.equal,
  trivial,
  Cert.Reference19Ideal.Hand.equal,
  trivial,
  Cert.Reference20Ideal.Hand.equal,
  trivial,
  Cert.Reference21Ideal.Hand.equal,
  trivial,
  Cert.Reference22Ideal.Hand.equal,
  trivial,
  Cert.Reference23Ideal.Hand.equal,
  trivial,
  Cert.Reference24Ideal.Hand.equal,
  trivial,
  Cert.Kernel25Ideal.Hand.equal,
  trivial,
  Cert.Kernel26Ideal.Hand.equal,
  trivial,
  Cert.Kernel27Ideal.Hand.equal,
  trivial,
  Cert.Kernel28Ideal.Hand.equal,
  trivial,
  Cert.Kernel29Ideal.Hand.equal,
  trivial,
  Cert.Kernel30Ideal.Hand.equal,
  trivial,
  Cert.Kernel31Ideal.Hand.equal,
  trivial,
  Cert.Kernel32Ideal.Hand.equal,
  trivial,
  Cert.Reference33Ideal.Hand.equal⟩

end Cert.Proof

end
